-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def holds_Kernel_later_tiles_empty [hKernel : Cert.Kernel.Facts] [hPost_later_tiles_empty : Cert.Post_later_tiles_empty.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ (Cert.Post_later_tiles_empty.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (r.2.mem ((c.tc : Thread Cert.Kernel.nD Cert.Kernel.τ).loc Cert.Kernel.main_v0))) = (fun _ => 1#1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "q_scale" .f32 0x3E0293EE#32 ((143571859112449 / 1125899906842624 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_5)) (v6 : (c : Dev Cert.Kernel3Ideal.nD) → Buf (Elt Ideal) ((c.tc : Thread Cert.Kernel3Ideal.nD Cert.Kernel3Ideal.τ).loc Cert.Kernel3Ideal.main_v4_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_v4_5) = v5 c
          ∧ r.2.mem ((c.tc : Thread Cert.Kernel3Ideal.nD Cert.Kernel3Ideal.τ).loc Cert.Kernel3Ideal.main_v4_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_v20) = v3 c
          ∧ r.2.mem ((c.tc : Thread Cert.Reference3Ideal.nD Cert.Reference3Ideal.τ).loc Cert.Reference3Ideal.main_v41) = v4 c
          ∧ r.2.mem ((c.tc : Thread Cert.Reference3Ideal.nD Cert.Reference3Ideal.τ).loc Cert.Reference3Ideal.main_v42) = v5 c
          ∧ r.2.mem ((c.tc : Thread Cert.Reference3Ideal.nD Cert.Reference3Ideal.τ).loc Cert.Reference3Ideal.main_v43) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPost_later_tiles_empty : Cert.Post_later_tiles_empty.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ holds_Kernel_later_tiles_empty (hKernel := hKernel) (hPost_later_tiles_empty := hPost_later_tiles_empty)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Post_later_tiles_empty.lean ====
abbrev S2x16384x64 : Shape := ⟨3, ![2, 16384, 64]⟩
abbrev S2x8x64x16384 : Shape := ⟨4, ![2, 8, 64, 16384]⟩
abbrev S2x8x16384 : Shape := ⟨3, ![2, 8, 16384]⟩
abbrev S2x128x32x2x8x128 : Shape := ⟨6, ![2, 128, 32, 2, 8, 128]⟩
abbrev S_ : Shape := ⟨0, ![]⟩

class Facts : Prop where
  bcast_S_S2x128x32x2x8x128 : S_.BroadcastsInDim S2x128x32x2x8x128 (![] : Fin 0 → Fin S2x128x32x2x8x128.rank)

variable [Facts]

def fn_where {F : FTy → Type} [FloatOps F] (arg0 : IVec S2x128x32x2x8x128 1) (arg1 : IVec S2x128x32x2x8x128 32) (arg2 : IVec S_ 32) : IVec S2x128x32x2x8x128 32 :=
  let v0 : IVec S_ 32 := id arg2
  let v1 : IVec S2x128x32x2x8x128 32 := broadcastInDim S2x128x32x2x8x128 ![] bcast_S_S2x128x32x2x8x128 v0
  let v2 : IVec S2x128x32x2x8x128 32 := select arg0 arg1 v1
  v2

def fn {F : FTy → Type} [FloatOps F] (main_arg0 : FVec F S2x16384x64 .bf16) (main_arg1 : FVec F S2x8x64x16384 .bf16) (main_arg2 : FVec F S2x8x16384 .f32) (main_arg3 : IVec S2x128x32x2x8x128 32) : IVec S2x128x32x2x8x128 1 :=
  let main_v0 : IVec S2x128x32x2x8x128 32 := iotaInDim S2x128x32x2x8x128 32 1
  let main_v1 : IVec S2x128x32x2x8x128 32 := iotaInDim S2x128x32x2x8x128 32 2
  let main_c : IVec S_ 32 := constantI S_ 32 4#32
  let main_v2 : IVec S2x128x32x2x8x128 32 := broadcastInDim S2x128x32x2x8x128 ![] bcast_S_S2x128x32x2x8x128 main_c
  let main_v3 : IVec S2x128x32x2x8x128 32 := muli main_v1 main_v2
  let main_v4 : IVec S2x128x32x2x8x128 1 := cmpi .sgt main_v3 main_v0
  let main_c_0 : IVec S_ 32 := constantI S_ 32 0#32
  let main_v5 : IVec S2x128x32x2x8x128 32 := fn_where (F := F) main_v4 main_arg3 main_c_0
  let main_c_1 : IVec S_ 32 := constantI S_ 32 0#32
  let main_v6 : IVec S2x128x32x2x8x128 32 := broadcastInDim S2x128x32x2x8x128 ![] bcast_S_S2x128x32x2x8x128 main_c_1
  let main_v7 : IVec S2x128x32x2x8x128 1 := cmpi .eq main_v5 main_v6
  main_v7
-- ==== Kernel.lean ====
abbrev S2x16384x64 : Shape := ⟨3, ![2, 16384, 64]⟩
abbrev S2x8x64x16384 : Shape := ⟨4, ![2, 8, 64, 16384]⟩
abbrev S2x8x16384 : Shape := ⟨3, ![2, 8, 16384]⟩
abbrev S2x128x32x2x8x128 : Shape := ⟨6, ![2, 128, 32, 2, 8, 128]⟩
abbrev S1x16384x64 : Shape := ⟨3, ![1, 16384, 64]⟩
abbrev S1x8x64x512 : Shape := ⟨4, ![1, 8, 64, 512]⟩
abbrev S1x8x512 : Shape := ⟨3, ![1, 8, 512]⟩
abbrev S1x4x32x2x8x128 : Shape := ⟨6, ![1, 4, 32, 2, 8, 128]⟩
abbrev S32x2x4x256x128 : Shape := ⟨5, ![32, 2, 4, 256, 128]⟩
abbrev S32x2x4x8x128 : Shape := ⟨5, ![32, 2, 4, 8, 128]⟩
abbrev S2x2x4x8x128 : Shape := ⟨5, ![2, 2, 4, 8, 128]⟩
abbrev S264x512 : Shape := ⟨2, ![264, 512]⟩
abbrev S8x512 : Shape := ⟨2, ![8, 512]⟩
abbrev S2x4x256x128 : Shape := ⟨4, ![2, 4, 256, 128]⟩
abbrev S1x2x4x256x128 : Shape := ⟨5, ![1, 2, 4, 256, 128]⟩
abbrev S8x128 : Shape := ⟨2, ![8, 128]⟩
abbrev S1x1x1x8x128 : Shape := ⟨5, ![1, 1, 1, 8, 128]⟩
abbrev S1x64x64 : Shape := ⟨3, ![1, 64, 64]⟩
abbrev S64x64 : Shape := ⟨2, ![64, 64]⟩
abbrev S64x512 : Shape := ⟨2, ![64, 512]⟩
abbrev S1x1x64x512 : Shape := ⟨4, ![1, 1, 64, 512]⟩
abbrev S1x512 : Shape := ⟨2, ![1, 512]⟩
abbrev S2x4x8x128 : Shape := ⟨4, ![2, 4, 8, 128]⟩
abbrev S1x2x4x8x128 : Shape := ⟨5, ![1, 2, 4, 8, 128]⟩
abbrev S128 : Shape := ⟨1, ![128]⟩
abbrev S1x128 : Shape := ⟨2, ![1, 128]⟩
abbrev S1x8x128 : Shape := ⟨3, ![1, 8, 128]⟩
abbrev S1 : Shape := ⟨1, ![1]⟩
abbrev S1x1x1 : Shape := ⟨3, ![1, 1, 1]⟩
abbrev S1x1x1x1x8x128 : Shape := ⟨6, ![1, 1, 1, 1, 8, 128]⟩
abbrev S2x8x128 : Shape := ⟨3, ![2, 8, 128]⟩
abbrev S1x1x1x2x8x128 : Shape := ⟨6, ![1, 1, 1, 2, 8, 128]⟩

abbrev nBuf : Space → Nat
  | .hbm => 4
  | .vmem => 15
  | .smem => 0
  | _ => 0

abbrev bufTy : (tb : Table) → Fin (tcTables nBuf tb) → BufTy
  | .hbm, ⟨0, _⟩ => ⟨S2x16384x64, .bf16⟩
  | .hbm, ⟨1, _⟩ => ⟨S2x8x64x16384, .bf16⟩
  | .hbm, ⟨2, _⟩ => ⟨S2x8x16384, .f32⟩
  | .hbm, ⟨3, _⟩ => ⟨S2x128x32x2x8x128, .i32⟩
  | .local _ .vmem, ⟨0, _⟩ => ⟨S1x16384x64, .bf16⟩
  | .local _ .vmem, ⟨1, _⟩ => ⟨S1x8x64x512, .bf16⟩
  | .local _ .vmem, ⟨2, _⟩ => ⟨S1x8x64x512, .bf16⟩
  | .local _ .vmem, ⟨3, _⟩ => ⟨S1x8x512, .f32⟩
  | .local _ .vmem, ⟨4, _⟩ => ⟨S1x8x512, .f32⟩
  | .local _ .vmem, ⟨5, _⟩ => ⟨S1x4x32x2x8x128, .i32⟩
  | .local _ .vmem, ⟨6, _⟩ => ⟨S1x4x32x2x8x128, .i32⟩
  | .local _ .vmem, ⟨7, _⟩ => ⟨S32x2x4x256x128, .i32⟩
  | .local _ .vmem, ⟨8, _⟩ => ⟨S32x2x4x8x128, .i32⟩
  | .local _ .vmem, ⟨9, _⟩ => ⟨S32x2x4x8x128, .i32⟩
  | .local _ .vmem, ⟨10, _⟩ => ⟨S2x2x4x8x128, .i32⟩
  | .local _ .vmem, ⟨11, _⟩ => ⟨S264x512, .i32⟩
  | .local _ .vmem, ⟨12, _⟩ => ⟨S264x512, .i32⟩
  | .local _ .vmem, ⟨13, _⟩ => ⟨S264x512, .i32⟩
  | .local _ .vmem, ⟨14, _⟩ => ⟨S264x512, .i32⟩
  | _, _ => ⟨S2x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨2, ![2, 32], ![false, false]⟩

def k0_mult1 (i : grid0.Coords) : BitVec 32 :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  v6
def k0_cond1 (i : grid0.Coords) : BitVec 1 :=
  let arg0 : BitVec 32 := BitVec.ofNat 32 (i 0).val
  let c0_i32_2 : BitVec 32 := 0#32
  let v8 : BitVec 1 := Scalar.cmpi .eq arg0 c0_i32_2
  let arg1 : BitVec 32 := BitVec.ofNat 32 (i 1).val
  let c0_i32_3 : BitVec 32 := 0#32
  let v9 : BitVec 1 := Scalar.cmpi .eq arg1 c0_i32_3
  let v10 : BitVec 1 := Scalar.andi v8 v9
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_496 : BitVec 32 := 0#32
  let c32_i32_497 : BitVec 32 := 32#32
  let v819 : BitVec 32 := Scalar.addi c0_i32_496 c32_i32_497
  let c1_i32_498 : BitVec 32 := 1#32
  ⟨c0_i32_496, v819, c1_i32_498⟩
def k0_off1 (k0_t1 : Fin k0_t1_loop.trips) : Fin 5 → Nat :=
  let c0_i32_496 : BitVec 32 := 0#32
  let c1_i32_498 : BitVec 32 := 1#32
  let arg14 : BitVec 32 := Scf.iv c0_i32_496 c1_i32_498 k0_t1
  let v9031 : Index := Scalar.indexCast arg14
  let c0_3143 : Index := 0#32
  let c0_3144 : Index := 0#32
  let c0_3145 : Index := 0#32
  let c0_3146 : Index := 0#32
  ![v9031.toNat, 0, 0, 0, 0]
def k0_mult2 : BitVec 32 :=
  let c0_i32_5 : BitVec 32 := 0#32
  c0_i32_5
def k0_off2 (c0_i32_6 : BitVec 32) : Fin 3 → Nat :=
  let c0_7 : Index := 0#32
  let c0_i32_5 : BitVec 32 := 0#32
  let v13 : BitVec 32 := c0_i32_5
  let v14 : BitVec 32 := Scalar.addi v13 c0_i32_6
  let v15 : Index := Scalar.indexCast v14
  let c0_8 : Index := 0#32
  ![0, v15.toNat, 0]
def k0_off3 (i : grid0.Coords) (c0_i32_51 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v92 : BitVec 32 := Scalar.addi v7 c0_i32_51
  let v93 : Index := Scalar.indexCast v92
  let c0_52 : Index := 0#32
  ![v93.toNat, 0]
@[reducible] def k0_t2_loop (i : grid0.Coords) : Scf.Loop 32 :=
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_428 : BitVec 32 := 1#32
  ⟨c0_i32_426, v684, c1_i32_428⟩
def k0_mult3 (i : grid0.Coords) (k0_t2 : Fin (k0_t2_loop i).trips) : BitVec 32 :=
  let c2_i32_496 : BitVec 32 := 2#32
  let c0_i32_426 : BitVec 32 := 0#32
  let c1_i32_428 : BitVec 32 := 1#32
  let arg14 : BitVec 32 := Scf.iv c0_i32_426 c1_i32_428 k0_t2
  let v819 : BitVec 32 := Scalar.muli c2_i32_496 arg14
  let c1_i32_497 : BitVec 32 := 1#32
  let v820 : BitVec 32 := Scalar.addi v819 c1_i32_497
  let c512_i32 : BitVec 32 := 512#32
  let v821 : BitVec 32 := Scalar.muli v820 c512_i32
  v821
def k0_off4 (i : grid0.Coords) (k0_t2 : Fin (k0_t2_loop i).trips) (c1_i32_497 : BitVec 32) (c0_i32_498 : BitVec 32) : Fin 3 → Nat :=
  let c0_499 : Index := 0#32
  let c2_i32_496 : BitVec 32 := 2#32
  let c0_i32_426 : BitVec 32 := 0#32
  let c1_i32_428 : BitVec 32 := 1#32
  let arg14 : BitVec 32 := Scf.iv c0_i32_426 c1_i32_428 k0_t2
  let v819 : BitVec 32 := Scalar.muli c2_i32_496 arg14
  let v820 : BitVec 32 := Scalar.addi v819 c1_i32_497
  let c512_i32 : BitVec 32 := 512#32
  let v821 : BitVec 32 := Scalar.muli v820 c512_i32
  let v822 : BitVec 32 := v821
  let v823 : BitVec 32 := Scalar.addi v822 c0_i32_498
  let v824 : Index := Scalar.indexCast v823
  let c0_500 : Index := 0#32
  ![0, v824.toNat, 0]
def k0_off5 (i : grid0.Coords) (c0_i32_550 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v901 : BitVec 32 := Scalar.addi v7 c0_i32_550
  let v902 : Index := Scalar.indexCast v901
  let c0_551 : Index := 0#32
  ![v902.toNat, 0]
def k0_off6 (i : grid0.Coords) (c0_i32_933 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v1490 : BitVec 32 := Scalar.addi v7 c0_i32_933
  let v1491 : Index := Scalar.indexCast v1490
  let c0_934 : Index := 0#32
  ![v1491.toNat, 0]
def k0_off7 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let arg1 : BitVec 32 := BitVec.ofNat 32 (i 1).val
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v2306 : Index := Scalar.indexCast v1489
  let c0_1206 : Index := 0#32
  let c0_1207 : Index := 0#32
  let c0_1208 : Index := 0#32
  let c0_1209 : Index := 0#32
  ![v2306.toNat, 0, 0, 0, 0]
def k0_off8 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2311 : Index := Scalar.indexCast v1487
  let c0_1210 : Index := 0#32
  let c0_1211 : Index := 0#32
  let c0_1212 : Index := 0#32
  let c0_1213 : Index := 0#32
  ![v2311.toNat, 0, 0, 0, 0]
def k0_off9 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2317 : Index := Scalar.indexCast v1487
  let c0_1214 : Index := 0#32
  let c0_1215 : Index := 0#32
  let c8 : Index := 8#32
  let c0_1216 : Index := 0#32
  ![v2317.toNat, 0, 0, 8, 0]
def k0_off10 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2323 : Index := Scalar.indexCast v1487
  let c0_1217 : Index := 0#32
  let c0_1218 : Index := 0#32
  let c16 : Index := 16#32
  let c0_1219 : Index := 0#32
  ![v2323.toNat, 0, 0, 16, 0]
def k0_off11 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2329 : Index := Scalar.indexCast v1487
  let c0_1220 : Index := 0#32
  let c0_1221 : Index := 0#32
  let c24 : Index := 24#32
  let c0_1222 : Index := 0#32
  ![v2329.toNat, 0, 0, 24, 0]
def k0_off12 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2335 : Index := Scalar.indexCast v1487
  let c0_1223 : Index := 0#32
  let c0_1224 : Index := 0#32
  let c32 : Index := 32#32
  let c0_1225 : Index := 0#32
  ![v2335.toNat, 0, 0, 32, 0]
def k0_off13 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2341 : Index := Scalar.indexCast v1487
  let c0_1226 : Index := 0#32
  let c0_1227 : Index := 0#32
  let c40 : Index := 40#32
  let c0_1228 : Index := 0#32
  ![v2341.toNat, 0, 0, 40, 0]
def k0_off14 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2347 : Index := Scalar.indexCast v1487
  let c0_1229 : Index := 0#32
  let c0_1230 : Index := 0#32
  let c48 : Index := 48#32
  let c0_1231 : Index := 0#32
  ![v2347.toNat, 0, 0, 48, 0]
def k0_off15 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2353 : Index := Scalar.indexCast v1487
  let c0_1232 : Index := 0#32
  let c0_1233 : Index := 0#32
  let c56 : Index := 56#32
  let c0_1234 : Index := 0#32
  ![v2353.toNat, 0, 0, 56, 0]
def k0_off16 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2359 : Index := Scalar.indexCast v1487
  let c0_1235 : Index := 0#32
  let c0_1236 : Index := 0#32
  let c64 : Index := 64#32
  let c0_1237 : Index := 0#32
  ![v2359.toNat, 0, 0, 64, 0]
def k0_off17 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2365 : Index := Scalar.indexCast v1487
  let c0_1238 : Index := 0#32
  let c0_1239 : Index := 0#32
  let c72 : Index := 72#32
  let c0_1240 : Index := 0#32
  ![v2365.toNat, 0, 0, 72, 0]
def k0_off18 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2371 : Index := Scalar.indexCast v1487
  let c0_1241 : Index := 0#32
  let c0_1242 : Index := 0#32
  let c80 : Index := 80#32
  let c0_1243 : Index := 0#32
  ![v2371.toNat, 0, 0, 80, 0]
def k0_off19 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2377 : Index := Scalar.indexCast v1487
  let c0_1244 : Index := 0#32
  let c0_1245 : Index := 0#32
  let c88 : Index := 88#32
  let c0_1246 : Index := 0#32
  ![v2377.toNat, 0, 0, 88, 0]
def k0_off20 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2383 : Index := Scalar.indexCast v1487
  let c0_1247 : Index := 0#32
  let c0_1248 : Index := 0#32
  let c96 : Index := 96#32
  let c0_1249 : Index := 0#32
  ![v2383.toNat, 0, 0, 96, 0]
def k0_off21 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2389 : Index := Scalar.indexCast v1487
  let c0_1250 : Index := 0#32
  let c0_1251 : Index := 0#32
  let c104 : Index := 104#32
  let c0_1252 : Index := 0#32
  ![v2389.toNat, 0, 0, 104, 0]
def k0_off22 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2395 : Index := Scalar.indexCast v1487
  let c0_1253 : Index := 0#32
  let c0_1254 : Index := 0#32
  let c112 : Index := 112#32
  let c0_1255 : Index := 0#32
  ![v2395.toNat, 0, 0, 112, 0]
def k0_off23 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2401 : Index := Scalar.indexCast v1487
  let c0_1256 : Index := 0#32
  let c0_1257 : Index := 0#32
  let c120 : Index := 120#32
  let c0_1258 : Index := 0#32
  ![v2401.toNat, 0, 0, 120, 0]
def k0_off24 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2407 : Index := Scalar.indexCast v1487
  let c0_1259 : Index := 0#32
  let c0_1260 : Index := 0#32
  let c128 : Index := 128#32
  let c0_1261 : Index := 0#32
  ![v2407.toNat, 0, 0, 128, 0]
def k0_off25 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2413 : Index := Scalar.indexCast v1487
  let c0_1262 : Index := 0#32
  let c0_1263 : Index := 0#32
  let c136 : Index := 136#32
  let c0_1264 : Index := 0#32
  ![v2413.toNat, 0, 0, 136, 0]
def k0_off26 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2419 : Index := Scalar.indexCast v1487
  let c0_1265 : Index := 0#32
  let c0_1266 : Index := 0#32
  let c144 : Index := 144#32
  let c0_1267 : Index := 0#32
  ![v2419.toNat, 0, 0, 144, 0]
def k0_off27 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2425 : Index := Scalar.indexCast v1487
  let c0_1268 : Index := 0#32
  let c0_1269 : Index := 0#32
  let c152 : Index := 152#32
  let c0_1270 : Index := 0#32
  ![v2425.toNat, 0, 0, 152, 0]
def k0_off28 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2431 : Index := Scalar.indexCast v1487
  let c0_1271 : Index := 0#32
  let c0_1272 : Index := 0#32
  let c160 : Index := 160#32
  let c0_1273 : Index := 0#32
  ![v2431.toNat, 0, 0, 160, 0]
def k0_off29 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2437 : Index := Scalar.indexCast v1487
  let c0_1274 : Index := 0#32
  let c0_1275 : Index := 0#32
  let c168 : Index := 168#32
  let c0_1276 : Index := 0#32
  ![v2437.toNat, 0, 0, 168, 0]
def k0_off30 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2443 : Index := Scalar.indexCast v1487
  let c0_1277 : Index := 0#32
  let c0_1278 : Index := 0#32
  let c176 : Index := 176#32
  let c0_1279 : Index := 0#32
  ![v2443.toNat, 0, 0, 176, 0]
def k0_off31 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2449 : Index := Scalar.indexCast v1487
  let c0_1280 : Index := 0#32
  let c0_1281 : Index := 0#32
  let c184 : Index := 184#32
  let c0_1282 : Index := 0#32
  ![v2449.toNat, 0, 0, 184, 0]
def k0_off32 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2455 : Index := Scalar.indexCast v1487
  let c0_1283 : Index := 0#32
  let c0_1284 : Index := 0#32
  let c192 : Index := 192#32
  let c0_1285 : Index := 0#32
  ![v2455.toNat, 0, 0, 192, 0]
def k0_off33 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2461 : Index := Scalar.indexCast v1487
  let c0_1286 : Index := 0#32
  let c0_1287 : Index := 0#32
  let c200 : Index := 200#32
  let c0_1288 : Index := 0#32
  ![v2461.toNat, 0, 0, 200, 0]
def k0_off34 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2467 : Index := Scalar.indexCast v1487
  let c0_1289 : Index := 0#32
  let c0_1290 : Index := 0#32
  let c208 : Index := 208#32
  let c0_1291 : Index := 0#32
  ![v2467.toNat, 0, 0, 208, 0]
def k0_off35 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2473 : Index := Scalar.indexCast v1487
  let c0_1292 : Index := 0#32
  let c0_1293 : Index := 0#32
  let c216 : Index := 216#32
  let c0_1294 : Index := 0#32
  ![v2473.toNat, 0, 0, 216, 0]
def k0_off36 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2479 : Index := Scalar.indexCast v1487
  let c0_1295 : Index := 0#32
  let c0_1296 : Index := 0#32
  let c224 : Index := 224#32
  let c0_1297 : Index := 0#32
  ![v2479.toNat, 0, 0, 224, 0]
def k0_off37 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2485 : Index := Scalar.indexCast v1487
  let c0_1298 : Index := 0#32
  let c0_1299 : Index := 0#32
  let c232 : Index := 232#32
  let c0_1300 : Index := 0#32
  ![v2485.toNat, 0, 0, 232, 0]
def k0_off38 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2491 : Index := Scalar.indexCast v1487
  let c0_1301 : Index := 0#32
  let c0_1302 : Index := 0#32
  let c240 : Index := 240#32
  let c0_1303 : Index := 0#32
  ![v2491.toNat, 0, 0, 240, 0]
def k0_off39 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v2497 : Index := Scalar.indexCast v1487
  let c0_1305 : Index := 0#32
  let c0_1306 : Index := 0#32
  let c248 : Index := 248#32
  let c0_1307 : Index := 0#32
  ![v2497.toNat, 0, 0, 248, 0]
def k0_off40 (i : grid0.Coords) (c0_i32_1308 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v2501 : BitVec 32 := Scalar.addi v7 c0_i32_1308
  let v2502 : Index := Scalar.indexCast v2501
  let c128_1309 : Index := 128#32
  ![v2502.toNat, 128]
def k0_off41 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let arg1 : BitVec 32 := BitVec.ofNat 32 (i 1).val
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v3317 : Index := Scalar.indexCast v1489
  let c0_1612 : Index := 0#32
  let c1_1613 : Index := 1#32
  let c0_1614 : Index := 0#32
  let c0_1615 : Index := 0#32
  ![v3317.toNat, 0, 1, 0, 0]
def k0_off42 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3322 : Index := Scalar.indexCast v1487
  let c0_1616 : Index := 0#32
  let c1_1617 : Index := 1#32
  let c0_1618 : Index := 0#32
  let c0_1619 : Index := 0#32
  ![v3322.toNat, 0, 1, 0, 0]
def k0_off43 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3328 : Index := Scalar.indexCast v1487
  let c0_1620 : Index := 0#32
  let c1_1621 : Index := 1#32
  let c8_1622 : Index := 8#32
  let c0_1623 : Index := 0#32
  ![v3328.toNat, 0, 1, 8, 0]
def k0_off44 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3334 : Index := Scalar.indexCast v1487
  let c0_1624 : Index := 0#32
  let c1_1625 : Index := 1#32
  let c16_1626 : Index := 16#32
  let c0_1627 : Index := 0#32
  ![v3334.toNat, 0, 1, 16, 0]
def k0_off45 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3340 : Index := Scalar.indexCast v1487
  let c0_1628 : Index := 0#32
  let c1_1629 : Index := 1#32
  let c24_1630 : Index := 24#32
  let c0_1631 : Index := 0#32
  ![v3340.toNat, 0, 1, 24, 0]
def k0_off46 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3346 : Index := Scalar.indexCast v1487
  let c0_1632 : Index := 0#32
  let c1_1633 : Index := 1#32
  let c32_1634 : Index := 32#32
  let c0_1635 : Index := 0#32
  ![v3346.toNat, 0, 1, 32, 0]
def k0_off47 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3352 : Index := Scalar.indexCast v1487
  let c0_1636 : Index := 0#32
  let c1_1637 : Index := 1#32
  let c40_1638 : Index := 40#32
  let c0_1639 : Index := 0#32
  ![v3352.toNat, 0, 1, 40, 0]
def k0_off48 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3358 : Index := Scalar.indexCast v1487
  let c0_1640 : Index := 0#32
  let c1_1641 : Index := 1#32
  let c48_1642 : Index := 48#32
  let c0_1643 : Index := 0#32
  ![v3358.toNat, 0, 1, 48, 0]
def k0_off49 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3364 : Index := Scalar.indexCast v1487
  let c0_1644 : Index := 0#32
  let c1_1645 : Index := 1#32
  let c56_1646 : Index := 56#32
  let c0_1647 : Index := 0#32
  ![v3364.toNat, 0, 1, 56, 0]
def k0_off50 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3370 : Index := Scalar.indexCast v1487
  let c0_1648 : Index := 0#32
  let c1_1649 : Index := 1#32
  let c64_1650 : Index := 64#32
  let c0_1651 : Index := 0#32
  ![v3370.toNat, 0, 1, 64, 0]
def k0_off51 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3376 : Index := Scalar.indexCast v1487
  let c0_1652 : Index := 0#32
  let c1_1653 : Index := 1#32
  let c72_1654 : Index := 72#32
  let c0_1655 : Index := 0#32
  ![v3376.toNat, 0, 1, 72, 0]
def k0_off52 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3382 : Index := Scalar.indexCast v1487
  let c0_1656 : Index := 0#32
  let c1_1657 : Index := 1#32
  let c80_1658 : Index := 80#32
  let c0_1659 : Index := 0#32
  ![v3382.toNat, 0, 1, 80, 0]
def k0_off53 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3388 : Index := Scalar.indexCast v1487
  let c0_1660 : Index := 0#32
  let c1_1661 : Index := 1#32
  let c88_1662 : Index := 88#32
  let c0_1663 : Index := 0#32
  ![v3388.toNat, 0, 1, 88, 0]
def k0_off54 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3394 : Index := Scalar.indexCast v1487
  let c0_1664 : Index := 0#32
  let c1_1665 : Index := 1#32
  let c96_1666 : Index := 96#32
  let c0_1667 : Index := 0#32
  ![v3394.toNat, 0, 1, 96, 0]
def k0_off55 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3400 : Index := Scalar.indexCast v1487
  let c0_1668 : Index := 0#32
  let c1_1669 : Index := 1#32
  let c104_1670 : Index := 104#32
  let c0_1671 : Index := 0#32
  ![v3400.toNat, 0, 1, 104, 0]
def k0_off56 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3406 : Index := Scalar.indexCast v1487
  let c0_1672 : Index := 0#32
  let c1_1673 : Index := 1#32
  let c112_1674 : Index := 112#32
  let c0_1675 : Index := 0#32
  ![v3406.toNat, 0, 1, 112, 0]
def k0_off57 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3412 : Index := Scalar.indexCast v1487
  let c0_1676 : Index := 0#32
  let c1_1677 : Index := 1#32
  let c120_1678 : Index := 120#32
  let c0_1679 : Index := 0#32
  ![v3412.toNat, 0, 1, 120, 0]
def k0_off58 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3418 : Index := Scalar.indexCast v1487
  let c0_1680 : Index := 0#32
  let c1_1681 : Index := 1#32
  let c128_1682 : Index := 128#32
  let c0_1683 : Index := 0#32
  ![v3418.toNat, 0, 1, 128, 0]
def k0_off59 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3424 : Index := Scalar.indexCast v1487
  let c0_1684 : Index := 0#32
  let c1_1685 : Index := 1#32
  let c136_1686 : Index := 136#32
  let c0_1687 : Index := 0#32
  ![v3424.toNat, 0, 1, 136, 0]
def k0_off60 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3430 : Index := Scalar.indexCast v1487
  let c0_1688 : Index := 0#32
  let c1_1689 : Index := 1#32
  let c144_1690 : Index := 144#32
  let c0_1691 : Index := 0#32
  ![v3430.toNat, 0, 1, 144, 0]
def k0_off61 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3436 : Index := Scalar.indexCast v1487
  let c0_1692 : Index := 0#32
  let c1_1693 : Index := 1#32
  let c152_1694 : Index := 152#32
  let c0_1695 : Index := 0#32
  ![v3436.toNat, 0, 1, 152, 0]
def k0_off62 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3442 : Index := Scalar.indexCast v1487
  let c0_1696 : Index := 0#32
  let c1_1697 : Index := 1#32
  let c160_1698 : Index := 160#32
  let c0_1699 : Index := 0#32
  ![v3442.toNat, 0, 1, 160, 0]
def k0_off63 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3448 : Index := Scalar.indexCast v1487
  let c0_1700 : Index := 0#32
  let c1_1701 : Index := 1#32
  let c168_1702 : Index := 168#32
  let c0_1703 : Index := 0#32
  ![v3448.toNat, 0, 1, 168, 0]
def k0_off64 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3454 : Index := Scalar.indexCast v1487
  let c0_1704 : Index := 0#32
  let c1_1705 : Index := 1#32
  let c176_1706 : Index := 176#32
  let c0_1707 : Index := 0#32
  ![v3454.toNat, 0, 1, 176, 0]
def k0_off65 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3460 : Index := Scalar.indexCast v1487
  let c0_1708 : Index := 0#32
  let c1_1709 : Index := 1#32
  let c184_1710 : Index := 184#32
  let c0_1711 : Index := 0#32
  ![v3460.toNat, 0, 1, 184, 0]
def k0_off66 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3466 : Index := Scalar.indexCast v1487
  let c0_1712 : Index := 0#32
  let c1_1713 : Index := 1#32
  let c192_1714 : Index := 192#32
  let c0_1715 : Index := 0#32
  ![v3466.toNat, 0, 1, 192, 0]
def k0_off67 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3472 : Index := Scalar.indexCast v1487
  let c0_1716 : Index := 0#32
  let c1_1717 : Index := 1#32
  let c200_1718 : Index := 200#32
  let c0_1719 : Index := 0#32
  ![v3472.toNat, 0, 1, 200, 0]
def k0_off68 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3478 : Index := Scalar.indexCast v1487
  let c0_1720 : Index := 0#32
  let c1_1721 : Index := 1#32
  let c208_1722 : Index := 208#32
  let c0_1723 : Index := 0#32
  ![v3478.toNat, 0, 1, 208, 0]
def k0_off69 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3484 : Index := Scalar.indexCast v1487
  let c0_1724 : Index := 0#32
  let c1_1725 : Index := 1#32
  let c216_1726 : Index := 216#32
  let c0_1727 : Index := 0#32
  ![v3484.toNat, 0, 1, 216, 0]
def k0_off70 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3490 : Index := Scalar.indexCast v1487
  let c0_1728 : Index := 0#32
  let c1_1729 : Index := 1#32
  let c224_1730 : Index := 224#32
  let c0_1731 : Index := 0#32
  ![v3490.toNat, 0, 1, 224, 0]
def k0_off71 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3496 : Index := Scalar.indexCast v1487
  let c0_1732 : Index := 0#32
  let c1_1733 : Index := 1#32
  let c232_1734 : Index := 232#32
  let c0_1735 : Index := 0#32
  ![v3496.toNat, 0, 1, 232, 0]
def k0_off72 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3502 : Index := Scalar.indexCast v1487
  let c0_1736 : Index := 0#32
  let c1_1737 : Index := 1#32
  let c240_1738 : Index := 240#32
  let c0_1739 : Index := 0#32
  ![v3502.toNat, 0, 1, 240, 0]
def k0_off73 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v3508 : Index := Scalar.indexCast v1487
  let c0_1741 : Index := 0#32
  let c1_1742 : Index := 1#32
  let c248_1743 : Index := 248#32
  let c0_1744 : Index := 0#32
  ![v3508.toNat, 0, 1, 248, 0]
def k0_off74 (i : grid0.Coords) (c0_i32_1745 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v3512 : BitVec 32 := Scalar.addi v7 c0_i32_1745
  let v3513 : Index := Scalar.indexCast v3512
  let c256 : Index := 256#32
  ![v3513.toNat, 256]
def k0_off75 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let arg1 : BitVec 32 := BitVec.ofNat 32 (i 1).val
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v4328 : Index := Scalar.indexCast v1489
  let c0_2048 : Index := 0#32
  let c2_2049 : Index := 2#32
  let c0_2050 : Index := 0#32
  let c0_2051 : Index := 0#32
  ![v4328.toNat, 0, 2, 0, 0]
def k0_off76 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4333 : Index := Scalar.indexCast v1487
  let c0_2052 : Index := 0#32
  let c2_2053 : Index := 2#32
  let c0_2054 : Index := 0#32
  let c0_2055 : Index := 0#32
  ![v4333.toNat, 0, 2, 0, 0]
def k0_off77 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4339 : Index := Scalar.indexCast v1487
  let c0_2056 : Index := 0#32
  let c2_2057 : Index := 2#32
  let c8_2058 : Index := 8#32
  let c0_2059 : Index := 0#32
  ![v4339.toNat, 0, 2, 8, 0]
def k0_off78 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4345 : Index := Scalar.indexCast v1487
  let c0_2060 : Index := 0#32
  let c2_2061 : Index := 2#32
  let c16_2062 : Index := 16#32
  let c0_2063 : Index := 0#32
  ![v4345.toNat, 0, 2, 16, 0]
def k0_off79 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4351 : Index := Scalar.indexCast v1487
  let c0_2064 : Index := 0#32
  let c2_2065 : Index := 2#32
  let c24_2066 : Index := 24#32
  let c0_2067 : Index := 0#32
  ![v4351.toNat, 0, 2, 24, 0]
def k0_off80 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4357 : Index := Scalar.indexCast v1487
  let c0_2068 : Index := 0#32
  let c2_2069 : Index := 2#32
  let c32_2070 : Index := 32#32
  let c0_2071 : Index := 0#32
  ![v4357.toNat, 0, 2, 32, 0]
def k0_off81 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4363 : Index := Scalar.indexCast v1487
  let c0_2072 : Index := 0#32
  let c2_2073 : Index := 2#32
  let c40_2074 : Index := 40#32
  let c0_2075 : Index := 0#32
  ![v4363.toNat, 0, 2, 40, 0]
def k0_off82 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4369 : Index := Scalar.indexCast v1487
  let c0_2076 : Index := 0#32
  let c2_2077 : Index := 2#32
  let c48_2078 : Index := 48#32
  let c0_2079 : Index := 0#32
  ![v4369.toNat, 0, 2, 48, 0]
def k0_off83 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4375 : Index := Scalar.indexCast v1487
  let c0_2080 : Index := 0#32
  let c2_2081 : Index := 2#32
  let c56_2082 : Index := 56#32
  let c0_2083 : Index := 0#32
  ![v4375.toNat, 0, 2, 56, 0]
def k0_off84 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4381 : Index := Scalar.indexCast v1487
  let c0_2084 : Index := 0#32
  let c2_2085 : Index := 2#32
  let c64_2086 : Index := 64#32
  let c0_2087 : Index := 0#32
  ![v4381.toNat, 0, 2, 64, 0]
def k0_off85 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4387 : Index := Scalar.indexCast v1487
  let c0_2088 : Index := 0#32
  let c2_2089 : Index := 2#32
  let c72_2090 : Index := 72#32
  let c0_2091 : Index := 0#32
  ![v4387.toNat, 0, 2, 72, 0]
def k0_off86 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4393 : Index := Scalar.indexCast v1487
  let c0_2092 : Index := 0#32
  let c2_2093 : Index := 2#32
  let c80_2094 : Index := 80#32
  let c0_2095 : Index := 0#32
  ![v4393.toNat, 0, 2, 80, 0]
def k0_off87 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4399 : Index := Scalar.indexCast v1487
  let c0_2096 : Index := 0#32
  let c2_2097 : Index := 2#32
  let c88_2098 : Index := 88#32
  let c0_2099 : Index := 0#32
  ![v4399.toNat, 0, 2, 88, 0]
def k0_off88 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4405 : Index := Scalar.indexCast v1487
  let c0_2100 : Index := 0#32
  let c2_2101 : Index := 2#32
  let c96_2102 : Index := 96#32
  let c0_2103 : Index := 0#32
  ![v4405.toNat, 0, 2, 96, 0]
def k0_off89 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4411 : Index := Scalar.indexCast v1487
  let c0_2104 : Index := 0#32
  let c2_2105 : Index := 2#32
  let c104_2106 : Index := 104#32
  let c0_2107 : Index := 0#32
  ![v4411.toNat, 0, 2, 104, 0]
def k0_off90 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4417 : Index := Scalar.indexCast v1487
  let c0_2108 : Index := 0#32
  let c2_2109 : Index := 2#32
  let c112_2110 : Index := 112#32
  let c0_2111 : Index := 0#32
  ![v4417.toNat, 0, 2, 112, 0]
def k0_off91 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4423 : Index := Scalar.indexCast v1487
  let c0_2112 : Index := 0#32
  let c2_2113 : Index := 2#32
  let c120_2114 : Index := 120#32
  let c0_2115 : Index := 0#32
  ![v4423.toNat, 0, 2, 120, 0]
def k0_off92 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4429 : Index := Scalar.indexCast v1487
  let c0_2116 : Index := 0#32
  let c2_2117 : Index := 2#32
  let c128_2118 : Index := 128#32
  let c0_2119 : Index := 0#32
  ![v4429.toNat, 0, 2, 128, 0]
def k0_off93 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4435 : Index := Scalar.indexCast v1487
  let c0_2120 : Index := 0#32
  let c2_2121 : Index := 2#32
  let c136_2122 : Index := 136#32
  let c0_2123 : Index := 0#32
  ![v4435.toNat, 0, 2, 136, 0]
def k0_off94 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4441 : Index := Scalar.indexCast v1487
  let c0_2124 : Index := 0#32
  let c2_2125 : Index := 2#32
  let c144_2126 : Index := 144#32
  let c0_2127 : Index := 0#32
  ![v4441.toNat, 0, 2, 144, 0]
def k0_off95 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4447 : Index := Scalar.indexCast v1487
  let c0_2128 : Index := 0#32
  let c2_2129 : Index := 2#32
  let c152_2130 : Index := 152#32
  let c0_2131 : Index := 0#32
  ![v4447.toNat, 0, 2, 152, 0]
def k0_off96 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4453 : Index := Scalar.indexCast v1487
  let c0_2132 : Index := 0#32
  let c2_2133 : Index := 2#32
  let c160_2134 : Index := 160#32
  let c0_2135 : Index := 0#32
  ![v4453.toNat, 0, 2, 160, 0]
def k0_off97 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4459 : Index := Scalar.indexCast v1487
  let c0_2136 : Index := 0#32
  let c2_2137 : Index := 2#32
  let c168_2138 : Index := 168#32
  let c0_2139 : Index := 0#32
  ![v4459.toNat, 0, 2, 168, 0]
def k0_off98 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4465 : Index := Scalar.indexCast v1487
  let c0_2140 : Index := 0#32
  let c2_2141 : Index := 2#32
  let c176_2142 : Index := 176#32
  let c0_2143 : Index := 0#32
  ![v4465.toNat, 0, 2, 176, 0]
def k0_off99 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4471 : Index := Scalar.indexCast v1487
  let c0_2144 : Index := 0#32
  let c2_2145 : Index := 2#32
  let c184_2146 : Index := 184#32
  let c0_2147 : Index := 0#32
  ![v4471.toNat, 0, 2, 184, 0]
def k0_off100 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4477 : Index := Scalar.indexCast v1487
  let c0_2148 : Index := 0#32
  let c2_2149 : Index := 2#32
  let c192_2150 : Index := 192#32
  let c0_2151 : Index := 0#32
  ![v4477.toNat, 0, 2, 192, 0]
def k0_off101 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4483 : Index := Scalar.indexCast v1487
  let c0_2152 : Index := 0#32
  let c2_2153 : Index := 2#32
  let c200_2154 : Index := 200#32
  let c0_2155 : Index := 0#32
  ![v4483.toNat, 0, 2, 200, 0]
def k0_off102 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4489 : Index := Scalar.indexCast v1487
  let c0_2156 : Index := 0#32
  let c2_2157 : Index := 2#32
  let c208_2158 : Index := 208#32
  let c0_2159 : Index := 0#32
  ![v4489.toNat, 0, 2, 208, 0]
def k0_off103 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4495 : Index := Scalar.indexCast v1487
  let c0_2160 : Index := 0#32
  let c2_2161 : Index := 2#32
  let c216_2162 : Index := 216#32
  let c0_2163 : Index := 0#32
  ![v4495.toNat, 0, 2, 216, 0]
def k0_off104 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4501 : Index := Scalar.indexCast v1487
  let c0_2164 : Index := 0#32
  let c2_2165 : Index := 2#32
  let c224_2166 : Index := 224#32
  let c0_2167 : Index := 0#32
  ![v4501.toNat, 0, 2, 224, 0]
def k0_off105 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4507 : Index := Scalar.indexCast v1487
  let c0_2168 : Index := 0#32
  let c2_2169 : Index := 2#32
  let c232_2170 : Index := 232#32
  let c0_2171 : Index := 0#32
  ![v4507.toNat, 0, 2, 232, 0]
def k0_off106 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4513 : Index := Scalar.indexCast v1487
  let c0_2172 : Index := 0#32
  let c2_2173 : Index := 2#32
  let c240_2174 : Index := 240#32
  let c0_2175 : Index := 0#32
  ![v4513.toNat, 0, 2, 240, 0]
def k0_off107 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v4519 : Index := Scalar.indexCast v1487
  let c0_2177 : Index := 0#32
  let c2_2178 : Index := 2#32
  let c248_2179 : Index := 248#32
  let c0_2180 : Index := 0#32
  ![v4519.toNat, 0, 2, 248, 0]
def k0_off108 (i : grid0.Coords) (c0_i32_2181 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v4523 : BitVec 32 := Scalar.addi v7 c0_i32_2181
  let v4524 : Index := Scalar.indexCast v4523
  let c384 : Index := 384#32
  ![v4524.toNat, 384]
def k0_off109 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let arg1 : BitVec 32 := BitVec.ofNat 32 (i 1).val
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v5339 : Index := Scalar.indexCast v1489
  let c0_2484 : Index := 0#32
  let c3_2485 : Index := 3#32
  let c0_2486 : Index := 0#32
  let c0_2487 : Index := 0#32
  ![v5339.toNat, 0, 3, 0, 0]
def k0_off110 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5344 : Index := Scalar.indexCast v1487
  let c0_2488 : Index := 0#32
  let c3_2489 : Index := 3#32
  let c0_2490 : Index := 0#32
  let c0_2491 : Index := 0#32
  ![v5344.toNat, 0, 3, 0, 0]
def k0_off111 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5350 : Index := Scalar.indexCast v1487
  let c0_2492 : Index := 0#32
  let c3_2493 : Index := 3#32
  let c8_2494 : Index := 8#32
  let c0_2495 : Index := 0#32
  ![v5350.toNat, 0, 3, 8, 0]
def k0_off112 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5356 : Index := Scalar.indexCast v1487
  let c0_2496 : Index := 0#32
  let c3_2497 : Index := 3#32
  let c16_2498 : Index := 16#32
  let c0_2499 : Index := 0#32
  ![v5356.toNat, 0, 3, 16, 0]
def k0_off113 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5362 : Index := Scalar.indexCast v1487
  let c0_2500 : Index := 0#32
  let c3_2501 : Index := 3#32
  let c24_2502 : Index := 24#32
  let c0_2503 : Index := 0#32
  ![v5362.toNat, 0, 3, 24, 0]
def k0_off114 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5368 : Index := Scalar.indexCast v1487
  let c0_2504 : Index := 0#32
  let c3_2505 : Index := 3#32
  let c32_2506 : Index := 32#32
  let c0_2507 : Index := 0#32
  ![v5368.toNat, 0, 3, 32, 0]
def k0_off115 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5374 : Index := Scalar.indexCast v1487
  let c0_2508 : Index := 0#32
  let c3_2509 : Index := 3#32
  let c40_2510 : Index := 40#32
  let c0_2511 : Index := 0#32
  ![v5374.toNat, 0, 3, 40, 0]
def k0_off116 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5380 : Index := Scalar.indexCast v1487
  let c0_2512 : Index := 0#32
  let c3_2513 : Index := 3#32
  let c48_2514 : Index := 48#32
  let c0_2515 : Index := 0#32
  ![v5380.toNat, 0, 3, 48, 0]
def k0_off117 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5386 : Index := Scalar.indexCast v1487
  let c0_2516 : Index := 0#32
  let c3_2517 : Index := 3#32
  let c56_2518 : Index := 56#32
  let c0_2519 : Index := 0#32
  ![v5386.toNat, 0, 3, 56, 0]
def k0_off118 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5392 : Index := Scalar.indexCast v1487
  let c0_2520 : Index := 0#32
  let c3_2521 : Index := 3#32
  let c64_2522 : Index := 64#32
  let c0_2523 : Index := 0#32
  ![v5392.toNat, 0, 3, 64, 0]
def k0_off119 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5398 : Index := Scalar.indexCast v1487
  let c0_2524 : Index := 0#32
  let c3_2525 : Index := 3#32
  let c72_2526 : Index := 72#32
  let c0_2527 : Index := 0#32
  ![v5398.toNat, 0, 3, 72, 0]
def k0_off120 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5404 : Index := Scalar.indexCast v1487
  let c0_2528 : Index := 0#32
  let c3_2529 : Index := 3#32
  let c80_2530 : Index := 80#32
  let c0_2531 : Index := 0#32
  ![v5404.toNat, 0, 3, 80, 0]
def k0_off121 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5410 : Index := Scalar.indexCast v1487
  let c0_2532 : Index := 0#32
  let c3_2533 : Index := 3#32
  let c88_2534 : Index := 88#32
  let c0_2535 : Index := 0#32
  ![v5410.toNat, 0, 3, 88, 0]
def k0_off122 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5416 : Index := Scalar.indexCast v1487
  let c0_2536 : Index := 0#32
  let c3_2537 : Index := 3#32
  let c96_2538 : Index := 96#32
  let c0_2539 : Index := 0#32
  ![v5416.toNat, 0, 3, 96, 0]
def k0_off123 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5422 : Index := Scalar.indexCast v1487
  let c0_2540 : Index := 0#32
  let c3_2541 : Index := 3#32
  let c104_2542 : Index := 104#32
  let c0_2543 : Index := 0#32
  ![v5422.toNat, 0, 3, 104, 0]
def k0_off124 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5428 : Index := Scalar.indexCast v1487
  let c0_2544 : Index := 0#32
  let c3_2545 : Index := 3#32
  let c112_2546 : Index := 112#32
  let c0_2547 : Index := 0#32
  ![v5428.toNat, 0, 3, 112, 0]
def k0_off125 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5434 : Index := Scalar.indexCast v1487
  let c0_2548 : Index := 0#32
  let c3_2549 : Index := 3#32
  let c120_2550 : Index := 120#32
  let c0_2551 : Index := 0#32
  ![v5434.toNat, 0, 3, 120, 0]
def k0_off126 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5440 : Index := Scalar.indexCast v1487
  let c0_2552 : Index := 0#32
  let c3_2553 : Index := 3#32
  let c128_2554 : Index := 128#32
  let c0_2555 : Index := 0#32
  ![v5440.toNat, 0, 3, 128, 0]
def k0_off127 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5446 : Index := Scalar.indexCast v1487
  let c0_2556 : Index := 0#32
  let c3_2557 : Index := 3#32
  let c136_2558 : Index := 136#32
  let c0_2559 : Index := 0#32
  ![v5446.toNat, 0, 3, 136, 0]
def k0_off128 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5452 : Index := Scalar.indexCast v1487
  let c0_2560 : Index := 0#32
  let c3_2561 : Index := 3#32
  let c144_2562 : Index := 144#32
  let c0_2563 : Index := 0#32
  ![v5452.toNat, 0, 3, 144, 0]
def k0_off129 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5458 : Index := Scalar.indexCast v1487
  let c0_2564 : Index := 0#32
  let c3_2565 : Index := 3#32
  let c152_2566 : Index := 152#32
  let c0_2567 : Index := 0#32
  ![v5458.toNat, 0, 3, 152, 0]
def k0_off130 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5464 : Index := Scalar.indexCast v1487
  let c0_2568 : Index := 0#32
  let c3_2569 : Index := 3#32
  let c160_2570 : Index := 160#32
  let c0_2571 : Index := 0#32
  ![v5464.toNat, 0, 3, 160, 0]
def k0_off131 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5470 : Index := Scalar.indexCast v1487
  let c0_2572 : Index := 0#32
  let c3_2573 : Index := 3#32
  let c168_2574 : Index := 168#32
  let c0_2575 : Index := 0#32
  ![v5470.toNat, 0, 3, 168, 0]
def k0_off132 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5476 : Index := Scalar.indexCast v1487
  let c0_2576 : Index := 0#32
  let c3_2577 : Index := 3#32
  let c176_2578 : Index := 176#32
  let c0_2579 : Index := 0#32
  ![v5476.toNat, 0, 3, 176, 0]
def k0_off133 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5482 : Index := Scalar.indexCast v1487
  let c0_2580 : Index := 0#32
  let c3_2581 : Index := 3#32
  let c184_2582 : Index := 184#32
  let c0_2583 : Index := 0#32
  ![v5482.toNat, 0, 3, 184, 0]
def k0_off134 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5488 : Index := Scalar.indexCast v1487
  let c0_2584 : Index := 0#32
  let c3_2585 : Index := 3#32
  let c192_2586 : Index := 192#32
  let c0_2587 : Index := 0#32
  ![v5488.toNat, 0, 3, 192, 0]
def k0_off135 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5494 : Index := Scalar.indexCast v1487
  let c0_2588 : Index := 0#32
  let c3_2589 : Index := 3#32
  let c200_2590 : Index := 200#32
  let c0_2591 : Index := 0#32
  ![v5494.toNat, 0, 3, 200, 0]
def k0_off136 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5500 : Index := Scalar.indexCast v1487
  let c0_2592 : Index := 0#32
  let c3_2593 : Index := 3#32
  let c208_2594 : Index := 208#32
  let c0_2595 : Index := 0#32
  ![v5500.toNat, 0, 3, 208, 0]
def k0_off137 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5506 : Index := Scalar.indexCast v1487
  let c0_2596 : Index := 0#32
  let c3_2597 : Index := 3#32
  let c216_2598 : Index := 216#32
  let c0_2599 : Index := 0#32
  ![v5506.toNat, 0, 3, 216, 0]
def k0_off138 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5512 : Index := Scalar.indexCast v1487
  let c0_2600 : Index := 0#32
  let c3_2601 : Index := 3#32
  let c224_2602 : Index := 224#32
  let c0_2603 : Index := 0#32
  ![v5512.toNat, 0, 3, 224, 0]
def k0_off139 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5518 : Index := Scalar.indexCast v1487
  let c0_2604 : Index := 0#32
  let c3_2605 : Index := 3#32
  let c232_2606 : Index := 232#32
  let c0_2607 : Index := 0#32
  ![v5518.toNat, 0, 3, 232, 0]
def k0_off140 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5524 : Index := Scalar.indexCast v1487
  let c0_2608 : Index := 0#32
  let c3_2609 : Index := 3#32
  let c240_2610 : Index := 240#32
  let c0_2611 : Index := 0#32
  ![v5524.toNat, 0, 3, 240, 0]
def k0_off141 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v5530 : Index := Scalar.indexCast v1487
  let c0_2613 : Index := 0#32
  let c3_2614 : Index := 3#32
  let c248_2615 : Index := 248#32
  let c0_2616 : Index := 0#32
  ![v5530.toNat, 0, 3, 248, 0]
def k0_off142 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let arg1 : BitVec 32 := BitVec.ofNat 32 (i 1).val
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v6350 : Index := Scalar.indexCast v1489
  let c1_2921 : Index := 1#32
  let c0_2922 : Index := 0#32
  let c0_2923 : Index := 0#32
  let c0_2924 : Index := 0#32
  ![v6350.toNat, 1, 0, 0, 0]
def k0_off143 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6355 : Index := Scalar.indexCast v1487
  let c1_2925 : Index := 1#32
  let c0_2926 : Index := 0#32
  let c0_2927 : Index := 0#32
  let c0_2928 : Index := 0#32
  ![v6355.toNat, 1, 0, 0, 0]
def k0_off144 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6361 : Index := Scalar.indexCast v1487
  let c1_2929 : Index := 1#32
  let c0_2930 : Index := 0#32
  let c8_2931 : Index := 8#32
  let c0_2932 : Index := 0#32
  ![v6361.toNat, 1, 0, 8, 0]
def k0_off145 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6367 : Index := Scalar.indexCast v1487
  let c1_2933 : Index := 1#32
  let c0_2934 : Index := 0#32
  let c16_2935 : Index := 16#32
  let c0_2936 : Index := 0#32
  ![v6367.toNat, 1, 0, 16, 0]
def k0_off146 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6373 : Index := Scalar.indexCast v1487
  let c1_2937 : Index := 1#32
  let c0_2938 : Index := 0#32
  let c24_2939 : Index := 24#32
  let c0_2940 : Index := 0#32
  ![v6373.toNat, 1, 0, 24, 0]
def k0_off147 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6379 : Index := Scalar.indexCast v1487
  let c1_2941 : Index := 1#32
  let c0_2942 : Index := 0#32
  let c32_2943 : Index := 32#32
  let c0_2944 : Index := 0#32
  ![v6379.toNat, 1, 0, 32, 0]
def k0_off148 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6385 : Index := Scalar.indexCast v1487
  let c1_2945 : Index := 1#32
  let c0_2946 : Index := 0#32
  let c40_2947 : Index := 40#32
  let c0_2948 : Index := 0#32
  ![v6385.toNat, 1, 0, 40, 0]
def k0_off149 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6391 : Index := Scalar.indexCast v1487
  let c1_2949 : Index := 1#32
  let c0_2950 : Index := 0#32
  let c48_2951 : Index := 48#32
  let c0_2952 : Index := 0#32
  ![v6391.toNat, 1, 0, 48, 0]
def k0_off150 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6397 : Index := Scalar.indexCast v1487
  let c1_2953 : Index := 1#32
  let c0_2954 : Index := 0#32
  let c56_2955 : Index := 56#32
  let c0_2956 : Index := 0#32
  ![v6397.toNat, 1, 0, 56, 0]
def k0_off151 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6403 : Index := Scalar.indexCast v1487
  let c1_2957 : Index := 1#32
  let c0_2958 : Index := 0#32
  let c64_2959 : Index := 64#32
  let c0_2960 : Index := 0#32
  ![v6403.toNat, 1, 0, 64, 0]
def k0_off152 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6409 : Index := Scalar.indexCast v1487
  let c1_2961 : Index := 1#32
  let c0_2962 : Index := 0#32
  let c72_2963 : Index := 72#32
  let c0_2964 : Index := 0#32
  ![v6409.toNat, 1, 0, 72, 0]
def k0_off153 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6415 : Index := Scalar.indexCast v1487
  let c1_2965 : Index := 1#32
  let c0_2966 : Index := 0#32
  let c80_2967 : Index := 80#32
  let c0_2968 : Index := 0#32
  ![v6415.toNat, 1, 0, 80, 0]
def k0_off154 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6421 : Index := Scalar.indexCast v1487
  let c1_2969 : Index := 1#32
  let c0_2970 : Index := 0#32
  let c88_2971 : Index := 88#32
  let c0_2972 : Index := 0#32
  ![v6421.toNat, 1, 0, 88, 0]
def k0_off155 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6427 : Index := Scalar.indexCast v1487
  let c1_2973 : Index := 1#32
  let c0_2974 : Index := 0#32
  let c96_2975 : Index := 96#32
  let c0_2976 : Index := 0#32
  ![v6427.toNat, 1, 0, 96, 0]
def k0_off156 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6433 : Index := Scalar.indexCast v1487
  let c1_2977 : Index := 1#32
  let c0_2978 : Index := 0#32
  let c104_2979 : Index := 104#32
  let c0_2980 : Index := 0#32
  ![v6433.toNat, 1, 0, 104, 0]
def k0_off157 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6439 : Index := Scalar.indexCast v1487
  let c1_2981 : Index := 1#32
  let c0_2982 : Index := 0#32
  let c112_2983 : Index := 112#32
  let c0_2984 : Index := 0#32
  ![v6439.toNat, 1, 0, 112, 0]
def k0_off158 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6445 : Index := Scalar.indexCast v1487
  let c1_2985 : Index := 1#32
  let c0_2986 : Index := 0#32
  let c120_2987 : Index := 120#32
  let c0_2988 : Index := 0#32
  ![v6445.toNat, 1, 0, 120, 0]
def k0_off159 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6451 : Index := Scalar.indexCast v1487
  let c1_2989 : Index := 1#32
  let c0_2990 : Index := 0#32
  let c128_2991 : Index := 128#32
  let c0_2992 : Index := 0#32
  ![v6451.toNat, 1, 0, 128, 0]
def k0_off160 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6457 : Index := Scalar.indexCast v1487
  let c1_2993 : Index := 1#32
  let c0_2994 : Index := 0#32
  let c136_2995 : Index := 136#32
  let c0_2996 : Index := 0#32
  ![v6457.toNat, 1, 0, 136, 0]
def k0_off161 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6463 : Index := Scalar.indexCast v1487
  let c1_2997 : Index := 1#32
  let c0_2998 : Index := 0#32
  let c144_2999 : Index := 144#32
  let c0_3000 : Index := 0#32
  ![v6463.toNat, 1, 0, 144, 0]
def k0_off162 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6469 : Index := Scalar.indexCast v1487
  let c1_3001 : Index := 1#32
  let c0_3002 : Index := 0#32
  let c152_3003 : Index := 152#32
  let c0_3004 : Index := 0#32
  ![v6469.toNat, 1, 0, 152, 0]
def k0_off163 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6475 : Index := Scalar.indexCast v1487
  let c1_3005 : Index := 1#32
  let c0_3006 : Index := 0#32
  let c160_3007 : Index := 160#32
  let c0_3008 : Index := 0#32
  ![v6475.toNat, 1, 0, 160, 0]
def k0_off164 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6481 : Index := Scalar.indexCast v1487
  let c1_3009 : Index := 1#32
  let c0_3010 : Index := 0#32
  let c168_3011 : Index := 168#32
  let c0_3012 : Index := 0#32
  ![v6481.toNat, 1, 0, 168, 0]
def k0_off165 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6487 : Index := Scalar.indexCast v1487
  let c1_3013 : Index := 1#32
  let c0_3014 : Index := 0#32
  let c176_3015 : Index := 176#32
  let c0_3016 : Index := 0#32
  ![v6487.toNat, 1, 0, 176, 0]
def k0_off166 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6493 : Index := Scalar.indexCast v1487
  let c1_3017 : Index := 1#32
  let c0_3018 : Index := 0#32
  let c184_3019 : Index := 184#32
  let c0_3020 : Index := 0#32
  ![v6493.toNat, 1, 0, 184, 0]
def k0_off167 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6499 : Index := Scalar.indexCast v1487
  let c1_3021 : Index := 1#32
  let c0_3022 : Index := 0#32
  let c192_3023 : Index := 192#32
  let c0_3024 : Index := 0#32
  ![v6499.toNat, 1, 0, 192, 0]
def k0_off168 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6505 : Index := Scalar.indexCast v1487
  let c1_3025 : Index := 1#32
  let c0_3026 : Index := 0#32
  let c200_3027 : Index := 200#32
  let c0_3028 : Index := 0#32
  ![v6505.toNat, 1, 0, 200, 0]
def k0_off169 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6511 : Index := Scalar.indexCast v1487
  let c1_3029 : Index := 1#32
  let c0_3030 : Index := 0#32
  let c208_3031 : Index := 208#32
  let c0_3032 : Index := 0#32
  ![v6511.toNat, 1, 0, 208, 0]
def k0_off170 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6517 : Index := Scalar.indexCast v1487
  let c1_3033 : Index := 1#32
  let c0_3034 : Index := 0#32
  let c216_3035 : Index := 216#32
  let c0_3036 : Index := 0#32
  ![v6517.toNat, 1, 0, 216, 0]
def k0_off171 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6523 : Index := Scalar.indexCast v1487
  let c1_3037 : Index := 1#32
  let c0_3038 : Index := 0#32
  let c224_3039 : Index := 224#32
  let c0_3040 : Index := 0#32
  ![v6523.toNat, 1, 0, 224, 0]
def k0_off172 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6529 : Index := Scalar.indexCast v1487
  let c1_3041 : Index := 1#32
  let c0_3042 : Index := 0#32
  let c232_3043 : Index := 232#32
  let c0_3044 : Index := 0#32
  ![v6529.toNat, 1, 0, 232, 0]
def k0_off173 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6535 : Index := Scalar.indexCast v1487
  let c1_3045 : Index := 1#32
  let c0_3046 : Index := 0#32
  let c240_3047 : Index := 240#32
  let c0_3048 : Index := 0#32
  ![v6535.toNat, 1, 0, 240, 0]
def k0_off174 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v6541 : Index := Scalar.indexCast v1487
  let c1_3050 : Index := 1#32
  let c0_3051 : Index := 0#32
  let c248_3052 : Index := 248#32
  let c0_3053 : Index := 0#32
  ![v6541.toNat, 1, 0, 248, 0]
def k0_off175 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let arg1 : BitVec 32 := BitVec.ofNat 32 (i 1).val
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v7361 : Index := Scalar.indexCast v1489
  let c1_3358 : Index := 1#32
  let c1_3359 : Index := 1#32
  let c0_3360 : Index := 0#32
  let c0_3361 : Index := 0#32
  ![v7361.toNat, 1, 1, 0, 0]
def k0_off176 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7366 : Index := Scalar.indexCast v1487
  let c1_3362 : Index := 1#32
  let c1_3363 : Index := 1#32
  let c0_3364 : Index := 0#32
  let c0_3365 : Index := 0#32
  ![v7366.toNat, 1, 1, 0, 0]
def k0_off177 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7372 : Index := Scalar.indexCast v1487
  let c1_3366 : Index := 1#32
  let c1_3367 : Index := 1#32
  let c8_3368 : Index := 8#32
  let c0_3369 : Index := 0#32
  ![v7372.toNat, 1, 1, 8, 0]
def k0_off178 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7378 : Index := Scalar.indexCast v1487
  let c1_3370 : Index := 1#32
  let c1_3371 : Index := 1#32
  let c16_3372 : Index := 16#32
  let c0_3373 : Index := 0#32
  ![v7378.toNat, 1, 1, 16, 0]
def k0_off179 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7384 : Index := Scalar.indexCast v1487
  let c1_3374 : Index := 1#32
  let c1_3375 : Index := 1#32
  let c24_3376 : Index := 24#32
  let c0_3377 : Index := 0#32
  ![v7384.toNat, 1, 1, 24, 0]
def k0_off180 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7390 : Index := Scalar.indexCast v1487
  let c1_3378 : Index := 1#32
  let c1_3379 : Index := 1#32
  let c32_3380 : Index := 32#32
  let c0_3381 : Index := 0#32
  ![v7390.toNat, 1, 1, 32, 0]
def k0_off181 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7396 : Index := Scalar.indexCast v1487
  let c1_3382 : Index := 1#32
  let c1_3383 : Index := 1#32
  let c40_3384 : Index := 40#32
  let c0_3385 : Index := 0#32
  ![v7396.toNat, 1, 1, 40, 0]
def k0_off182 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7402 : Index := Scalar.indexCast v1487
  let c1_3386 : Index := 1#32
  let c1_3387 : Index := 1#32
  let c48_3388 : Index := 48#32
  let c0_3389 : Index := 0#32
  ![v7402.toNat, 1, 1, 48, 0]
def k0_off183 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7408 : Index := Scalar.indexCast v1487
  let c1_3390 : Index := 1#32
  let c1_3391 : Index := 1#32
  let c56_3392 : Index := 56#32
  let c0_3393 : Index := 0#32
  ![v7408.toNat, 1, 1, 56, 0]
def k0_off184 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7414 : Index := Scalar.indexCast v1487
  let c1_3394 : Index := 1#32
  let c1_3395 : Index := 1#32
  let c64_3396 : Index := 64#32
  let c0_3397 : Index := 0#32
  ![v7414.toNat, 1, 1, 64, 0]
def k0_off185 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7420 : Index := Scalar.indexCast v1487
  let c1_3398 : Index := 1#32
  let c1_3399 : Index := 1#32
  let c72_3400 : Index := 72#32
  let c0_3401 : Index := 0#32
  ![v7420.toNat, 1, 1, 72, 0]
def k0_off186 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7426 : Index := Scalar.indexCast v1487
  let c1_3402 : Index := 1#32
  let c1_3403 : Index := 1#32
  let c80_3404 : Index := 80#32
  let c0_3405 : Index := 0#32
  ![v7426.toNat, 1, 1, 80, 0]
def k0_off187 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7432 : Index := Scalar.indexCast v1487
  let c1_3406 : Index := 1#32
  let c1_3407 : Index := 1#32
  let c88_3408 : Index := 88#32
  let c0_3409 : Index := 0#32
  ![v7432.toNat, 1, 1, 88, 0]
def k0_off188 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7438 : Index := Scalar.indexCast v1487
  let c1_3410 : Index := 1#32
  let c1_3411 : Index := 1#32
  let c96_3412 : Index := 96#32
  let c0_3413 : Index := 0#32
  ![v7438.toNat, 1, 1, 96, 0]
def k0_off189 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7444 : Index := Scalar.indexCast v1487
  let c1_3414 : Index := 1#32
  let c1_3415 : Index := 1#32
  let c104_3416 : Index := 104#32
  let c0_3417 : Index := 0#32
  ![v7444.toNat, 1, 1, 104, 0]
def k0_off190 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7450 : Index := Scalar.indexCast v1487
  let c1_3418 : Index := 1#32
  let c1_3419 : Index := 1#32
  let c112_3420 : Index := 112#32
  let c0_3421 : Index := 0#32
  ![v7450.toNat, 1, 1, 112, 0]
def k0_off191 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7456 : Index := Scalar.indexCast v1487
  let c1_3422 : Index := 1#32
  let c1_3423 : Index := 1#32
  let c120_3424 : Index := 120#32
  let c0_3425 : Index := 0#32
  ![v7456.toNat, 1, 1, 120, 0]
def k0_off192 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7462 : Index := Scalar.indexCast v1487
  let c1_3426 : Index := 1#32
  let c1_3427 : Index := 1#32
  let c128_3428 : Index := 128#32
  let c0_3429 : Index := 0#32
  ![v7462.toNat, 1, 1, 128, 0]
def k0_off193 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7468 : Index := Scalar.indexCast v1487
  let c1_3430 : Index := 1#32
  let c1_3431 : Index := 1#32
  let c136_3432 : Index := 136#32
  let c0_3433 : Index := 0#32
  ![v7468.toNat, 1, 1, 136, 0]
def k0_off194 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7474 : Index := Scalar.indexCast v1487
  let c1_3434 : Index := 1#32
  let c1_3435 : Index := 1#32
  let c144_3436 : Index := 144#32
  let c0_3437 : Index := 0#32
  ![v7474.toNat, 1, 1, 144, 0]
def k0_off195 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7480 : Index := Scalar.indexCast v1487
  let c1_3438 : Index := 1#32
  let c1_3439 : Index := 1#32
  let c152_3440 : Index := 152#32
  let c0_3441 : Index := 0#32
  ![v7480.toNat, 1, 1, 152, 0]
def k0_off196 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7486 : Index := Scalar.indexCast v1487
  let c1_3442 : Index := 1#32
  let c1_3443 : Index := 1#32
  let c160_3444 : Index := 160#32
  let c0_3445 : Index := 0#32
  ![v7486.toNat, 1, 1, 160, 0]
def k0_off197 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7492 : Index := Scalar.indexCast v1487
  let c1_3446 : Index := 1#32
  let c1_3447 : Index := 1#32
  let c168_3448 : Index := 168#32
  let c0_3449 : Index := 0#32
  ![v7492.toNat, 1, 1, 168, 0]
def k0_off198 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7498 : Index := Scalar.indexCast v1487
  let c1_3450 : Index := 1#32
  let c1_3451 : Index := 1#32
  let c176_3452 : Index := 176#32
  let c0_3453 : Index := 0#32
  ![v7498.toNat, 1, 1, 176, 0]
def k0_off199 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7504 : Index := Scalar.indexCast v1487
  let c1_3454 : Index := 1#32
  let c1_3455 : Index := 1#32
  let c184_3456 : Index := 184#32
  let c0_3457 : Index := 0#32
  ![v7504.toNat, 1, 1, 184, 0]
def k0_off200 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7510 : Index := Scalar.indexCast v1487
  let c1_3458 : Index := 1#32
  let c1_3459 : Index := 1#32
  let c192_3460 : Index := 192#32
  let c0_3461 : Index := 0#32
  ![v7510.toNat, 1, 1, 192, 0]
def k0_off201 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7516 : Index := Scalar.indexCast v1487
  let c1_3462 : Index := 1#32
  let c1_3463 : Index := 1#32
  let c200_3464 : Index := 200#32
  let c0_3465 : Index := 0#32
  ![v7516.toNat, 1, 1, 200, 0]
def k0_off202 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7522 : Index := Scalar.indexCast v1487
  let c1_3466 : Index := 1#32
  let c1_3467 : Index := 1#32
  let c208_3468 : Index := 208#32
  let c0_3469 : Index := 0#32
  ![v7522.toNat, 1, 1, 208, 0]
def k0_off203 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7528 : Index := Scalar.indexCast v1487
  let c1_3470 : Index := 1#32
  let c1_3471 : Index := 1#32
  let c216_3472 : Index := 216#32
  let c0_3473 : Index := 0#32
  ![v7528.toNat, 1, 1, 216, 0]
def k0_off204 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7534 : Index := Scalar.indexCast v1487
  let c1_3474 : Index := 1#32
  let c1_3475 : Index := 1#32
  let c224_3476 : Index := 224#32
  let c0_3477 : Index := 0#32
  ![v7534.toNat, 1, 1, 224, 0]
def k0_off205 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7540 : Index := Scalar.indexCast v1487
  let c1_3478 : Index := 1#32
  let c1_3479 : Index := 1#32
  let c232_3480 : Index := 232#32
  let c0_3481 : Index := 0#32
  ![v7540.toNat, 1, 1, 232, 0]
def k0_off206 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7546 : Index := Scalar.indexCast v1487
  let c1_3482 : Index := 1#32
  let c1_3483 : Index := 1#32
  let c240_3484 : Index := 240#32
  let c0_3485 : Index := 0#32
  ![v7546.toNat, 1, 1, 240, 0]
def k0_off207 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v7552 : Index := Scalar.indexCast v1487
  let c1_3487 : Index := 1#32
  let c1_3488 : Index := 1#32
  let c248_3489 : Index := 248#32
  let c0_3490 : Index := 0#32
  ![v7552.toNat, 1, 1, 248, 0]
def k0_off208 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let arg1 : BitVec 32 := BitVec.ofNat 32 (i 1).val
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v8372 : Index := Scalar.indexCast v1489
  let c1_3795 : Index := 1#32
  let c2_3796 : Index := 2#32
  let c0_3797 : Index := 0#32
  let c0_3798 : Index := 0#32
  ![v8372.toNat, 1, 2, 0, 0]
def k0_off209 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8377 : Index := Scalar.indexCast v1487
  let c1_3799 : Index := 1#32
  let c2_3800 : Index := 2#32
  let c0_3801 : Index := 0#32
  let c0_3802 : Index := 0#32
  ![v8377.toNat, 1, 2, 0, 0]
def k0_off210 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8383 : Index := Scalar.indexCast v1487
  let c1_3803 : Index := 1#32
  let c2_3804 : Index := 2#32
  let c8_3805 : Index := 8#32
  let c0_3806 : Index := 0#32
  ![v8383.toNat, 1, 2, 8, 0]
def k0_off211 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8389 : Index := Scalar.indexCast v1487
  let c1_3807 : Index := 1#32
  let c2_3808 : Index := 2#32
  let c16_3809 : Index := 16#32
  let c0_3810 : Index := 0#32
  ![v8389.toNat, 1, 2, 16, 0]
def k0_off212 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8395 : Index := Scalar.indexCast v1487
  let c1_3811 : Index := 1#32
  let c2_3812 : Index := 2#32
  let c24_3813 : Index := 24#32
  let c0_3814 : Index := 0#32
  ![v8395.toNat, 1, 2, 24, 0]
def k0_off213 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8401 : Index := Scalar.indexCast v1487
  let c1_3815 : Index := 1#32
  let c2_3816 : Index := 2#32
  let c32_3817 : Index := 32#32
  let c0_3818 : Index := 0#32
  ![v8401.toNat, 1, 2, 32, 0]
def k0_off214 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8407 : Index := Scalar.indexCast v1487
  let c1_3819 : Index := 1#32
  let c2_3820 : Index := 2#32
  let c40_3821 : Index := 40#32
  let c0_3822 : Index := 0#32
  ![v8407.toNat, 1, 2, 40, 0]
def k0_off215 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8413 : Index := Scalar.indexCast v1487
  let c1_3823 : Index := 1#32
  let c2_3824 : Index := 2#32
  let c48_3825 : Index := 48#32
  let c0_3826 : Index := 0#32
  ![v8413.toNat, 1, 2, 48, 0]
def k0_off216 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8419 : Index := Scalar.indexCast v1487
  let c1_3827 : Index := 1#32
  let c2_3828 : Index := 2#32
  let c56_3829 : Index := 56#32
  let c0_3830 : Index := 0#32
  ![v8419.toNat, 1, 2, 56, 0]
def k0_off217 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8425 : Index := Scalar.indexCast v1487
  let c1_3831 : Index := 1#32
  let c2_3832 : Index := 2#32
  let c64_3833 : Index := 64#32
  let c0_3834 : Index := 0#32
  ![v8425.toNat, 1, 2, 64, 0]
def k0_off218 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8431 : Index := Scalar.indexCast v1487
  let c1_3835 : Index := 1#32
  let c2_3836 : Index := 2#32
  let c72_3837 : Index := 72#32
  let c0_3838 : Index := 0#32
  ![v8431.toNat, 1, 2, 72, 0]
def k0_off219 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8437 : Index := Scalar.indexCast v1487
  let c1_3839 : Index := 1#32
  let c2_3840 : Index := 2#32
  let c80_3841 : Index := 80#32
  let c0_3842 : Index := 0#32
  ![v8437.toNat, 1, 2, 80, 0]
def k0_off220 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8443 : Index := Scalar.indexCast v1487
  let c1_3843 : Index := 1#32
  let c2_3844 : Index := 2#32
  let c88_3845 : Index := 88#32
  let c0_3846 : Index := 0#32
  ![v8443.toNat, 1, 2, 88, 0]
def k0_off221 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8449 : Index := Scalar.indexCast v1487
  let c1_3847 : Index := 1#32
  let c2_3848 : Index := 2#32
  let c96_3849 : Index := 96#32
  let c0_3850 : Index := 0#32
  ![v8449.toNat, 1, 2, 96, 0]
def k0_off222 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8455 : Index := Scalar.indexCast v1487
  let c1_3851 : Index := 1#32
  let c2_3852 : Index := 2#32
  let c104_3853 : Index := 104#32
  let c0_3854 : Index := 0#32
  ![v8455.toNat, 1, 2, 104, 0]
def k0_off223 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8461 : Index := Scalar.indexCast v1487
  let c1_3855 : Index := 1#32
  let c2_3856 : Index := 2#32
  let c112_3857 : Index := 112#32
  let c0_3858 : Index := 0#32
  ![v8461.toNat, 1, 2, 112, 0]
def k0_off224 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8467 : Index := Scalar.indexCast v1487
  let c1_3859 : Index := 1#32
  let c2_3860 : Index := 2#32
  let c120_3861 : Index := 120#32
  let c0_3862 : Index := 0#32
  ![v8467.toNat, 1, 2, 120, 0]
def k0_off225 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8473 : Index := Scalar.indexCast v1487
  let c1_3863 : Index := 1#32
  let c2_3864 : Index := 2#32
  let c128_3865 : Index := 128#32
  let c0_3866 : Index := 0#32
  ![v8473.toNat, 1, 2, 128, 0]
def k0_off226 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8479 : Index := Scalar.indexCast v1487
  let c1_3867 : Index := 1#32
  let c2_3868 : Index := 2#32
  let c136_3869 : Index := 136#32
  let c0_3870 : Index := 0#32
  ![v8479.toNat, 1, 2, 136, 0]
def k0_off227 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8485 : Index := Scalar.indexCast v1487
  let c1_3871 : Index := 1#32
  let c2_3872 : Index := 2#32
  let c144_3873 : Index := 144#32
  let c0_3874 : Index := 0#32
  ![v8485.toNat, 1, 2, 144, 0]
def k0_off228 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8491 : Index := Scalar.indexCast v1487
  let c1_3875 : Index := 1#32
  let c2_3876 : Index := 2#32
  let c152_3877 : Index := 152#32
  let c0_3878 : Index := 0#32
  ![v8491.toNat, 1, 2, 152, 0]
def k0_off229 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8497 : Index := Scalar.indexCast v1487
  let c1_3879 : Index := 1#32
  let c2_3880 : Index := 2#32
  let c160_3881 : Index := 160#32
  let c0_3882 : Index := 0#32
  ![v8497.toNat, 1, 2, 160, 0]
def k0_off230 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8503 : Index := Scalar.indexCast v1487
  let c1_3883 : Index := 1#32
  let c2_3884 : Index := 2#32
  let c168_3885 : Index := 168#32
  let c0_3886 : Index := 0#32
  ![v8503.toNat, 1, 2, 168, 0]
def k0_off231 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8509 : Index := Scalar.indexCast v1487
  let c1_3887 : Index := 1#32
  let c2_3888 : Index := 2#32
  let c176_3889 : Index := 176#32
  let c0_3890 : Index := 0#32
  ![v8509.toNat, 1, 2, 176, 0]
def k0_off232 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8515 : Index := Scalar.indexCast v1487
  let c1_3891 : Index := 1#32
  let c2_3892 : Index := 2#32
  let c184_3893 : Index := 184#32
  let c0_3894 : Index := 0#32
  ![v8515.toNat, 1, 2, 184, 0]
def k0_off233 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8521 : Index := Scalar.indexCast v1487
  let c1_3895 : Index := 1#32
  let c2_3896 : Index := 2#32
  let c192_3897 : Index := 192#32
  let c0_3898 : Index := 0#32
  ![v8521.toNat, 1, 2, 192, 0]
def k0_off234 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8527 : Index := Scalar.indexCast v1487
  let c1_3899 : Index := 1#32
  let c2_3900 : Index := 2#32
  let c200_3901 : Index := 200#32
  let c0_3902 : Index := 0#32
  ![v8527.toNat, 1, 2, 200, 0]
def k0_off235 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8533 : Index := Scalar.indexCast v1487
  let c1_3903 : Index := 1#32
  let c2_3904 : Index := 2#32
  let c208_3905 : Index := 208#32
  let c0_3906 : Index := 0#32
  ![v8533.toNat, 1, 2, 208, 0]
def k0_off236 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8539 : Index := Scalar.indexCast v1487
  let c1_3907 : Index := 1#32
  let c2_3908 : Index := 2#32
  let c216_3909 : Index := 216#32
  let c0_3910 : Index := 0#32
  ![v8539.toNat, 1, 2, 216, 0]
def k0_off237 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8545 : Index := Scalar.indexCast v1487
  let c1_3911 : Index := 1#32
  let c2_3912 : Index := 2#32
  let c224_3913 : Index := 224#32
  let c0_3914 : Index := 0#32
  ![v8545.toNat, 1, 2, 224, 0]
def k0_off238 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8551 : Index := Scalar.indexCast v1487
  let c1_3915 : Index := 1#32
  let c2_3916 : Index := 2#32
  let c232_3917 : Index := 232#32
  let c0_3918 : Index := 0#32
  ![v8551.toNat, 1, 2, 232, 0]
def k0_off239 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8557 : Index := Scalar.indexCast v1487
  let c1_3919 : Index := 1#32
  let c2_3920 : Index := 2#32
  let c240_3921 : Index := 240#32
  let c0_3922 : Index := 0#32
  ![v8557.toNat, 1, 2, 240, 0]
def k0_off240 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v8563 : Index := Scalar.indexCast v1487
  let c1_3924 : Index := 1#32
  let c2_3925 : Index := 2#32
  let c248_3926 : Index := 248#32
  let c0_3927 : Index := 0#32
  ![v8563.toNat, 1, 2, 248, 0]
def k0_off241 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let arg1 : BitVec 32 := BitVec.ofNat 32 (i 1).val
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v9383 : Index := Scalar.indexCast v1489
  let c1_4232 : Index := 1#32
  let c3_4233 : Index := 3#32
  let c0_4234 : Index := 0#32
  let c0_4235 : Index := 0#32
  ![v9383.toNat, 1, 3, 0, 0]
def k0_off242 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9388 : Index := Scalar.indexCast v1487
  let c1_4236 : Index := 1#32
  let c3_4237 : Index := 3#32
  let c0_4238 : Index := 0#32
  let c0_4239 : Index := 0#32
  ![v9388.toNat, 1, 3, 0, 0]
def k0_off243 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9394 : Index := Scalar.indexCast v1487
  let c1_4240 : Index := 1#32
  let c3_4241 : Index := 3#32
  let c8_4242 : Index := 8#32
  let c0_4243 : Index := 0#32
  ![v9394.toNat, 1, 3, 8, 0]
def k0_off244 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9400 : Index := Scalar.indexCast v1487
  let c1_4244 : Index := 1#32
  let c3_4245 : Index := 3#32
  let c16_4246 : Index := 16#32
  let c0_4247 : Index := 0#32
  ![v9400.toNat, 1, 3, 16, 0]
def k0_off245 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9406 : Index := Scalar.indexCast v1487
  let c1_4248 : Index := 1#32
  let c3_4249 : Index := 3#32
  let c24_4250 : Index := 24#32
  let c0_4251 : Index := 0#32
  ![v9406.toNat, 1, 3, 24, 0]
def k0_off246 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9412 : Index := Scalar.indexCast v1487
  let c1_4252 : Index := 1#32
  let c3_4253 : Index := 3#32
  let c32_4254 : Index := 32#32
  let c0_4255 : Index := 0#32
  ![v9412.toNat, 1, 3, 32, 0]
def k0_off247 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9418 : Index := Scalar.indexCast v1487
  let c1_4256 : Index := 1#32
  let c3_4257 : Index := 3#32
  let c40_4258 : Index := 40#32
  let c0_4259 : Index := 0#32
  ![v9418.toNat, 1, 3, 40, 0]
def k0_off248 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9424 : Index := Scalar.indexCast v1487
  let c1_4260 : Index := 1#32
  let c3_4261 : Index := 3#32
  let c48_4262 : Index := 48#32
  let c0_4263 : Index := 0#32
  ![v9424.toNat, 1, 3, 48, 0]
def k0_off249 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9430 : Index := Scalar.indexCast v1487
  let c1_4264 : Index := 1#32
  let c3_4265 : Index := 3#32
  let c56_4266 : Index := 56#32
  let c0_4267 : Index := 0#32
  ![v9430.toNat, 1, 3, 56, 0]
def k0_off250 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9436 : Index := Scalar.indexCast v1487
  let c1_4268 : Index := 1#32
  let c3_4269 : Index := 3#32
  let c64_4270 : Index := 64#32
  let c0_4271 : Index := 0#32
  ![v9436.toNat, 1, 3, 64, 0]
def k0_off251 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9442 : Index := Scalar.indexCast v1487
  let c1_4272 : Index := 1#32
  let c3_4273 : Index := 3#32
  let c72_4274 : Index := 72#32
  let c0_4275 : Index := 0#32
  ![v9442.toNat, 1, 3, 72, 0]
def k0_off252 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9448 : Index := Scalar.indexCast v1487
  let c1_4276 : Index := 1#32
  let c3_4277 : Index := 3#32
  let c80_4278 : Index := 80#32
  let c0_4279 : Index := 0#32
  ![v9448.toNat, 1, 3, 80, 0]
def k0_off253 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9454 : Index := Scalar.indexCast v1487
  let c1_4280 : Index := 1#32
  let c3_4281 : Index := 3#32
  let c88_4282 : Index := 88#32
  let c0_4283 : Index := 0#32
  ![v9454.toNat, 1, 3, 88, 0]
def k0_off254 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9460 : Index := Scalar.indexCast v1487
  let c1_4284 : Index := 1#32
  let c3_4285 : Index := 3#32
  let c96_4286 : Index := 96#32
  let c0_4287 : Index := 0#32
  ![v9460.toNat, 1, 3, 96, 0]
def k0_off255 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9466 : Index := Scalar.indexCast v1487
  let c1_4288 : Index := 1#32
  let c3_4289 : Index := 3#32
  let c104_4290 : Index := 104#32
  let c0_4291 : Index := 0#32
  ![v9466.toNat, 1, 3, 104, 0]
def k0_off256 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9472 : Index := Scalar.indexCast v1487
  let c1_4292 : Index := 1#32
  let c3_4293 : Index := 3#32
  let c112_4294 : Index := 112#32
  let c0_4295 : Index := 0#32
  ![v9472.toNat, 1, 3, 112, 0]
def k0_off257 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9478 : Index := Scalar.indexCast v1487
  let c1_4296 : Index := 1#32
  let c3_4297 : Index := 3#32
  let c120_4298 : Index := 120#32
  let c0_4299 : Index := 0#32
  ![v9478.toNat, 1, 3, 120, 0]
def k0_off258 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9484 : Index := Scalar.indexCast v1487
  let c1_4300 : Index := 1#32
  let c3_4301 : Index := 3#32
  let c128_4302 : Index := 128#32
  let c0_4303 : Index := 0#32
  ![v9484.toNat, 1, 3, 128, 0]
def k0_off259 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9490 : Index := Scalar.indexCast v1487
  let c1_4304 : Index := 1#32
  let c3_4305 : Index := 3#32
  let c136_4306 : Index := 136#32
  let c0_4307 : Index := 0#32
  ![v9490.toNat, 1, 3, 136, 0]
def k0_off260 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9496 : Index := Scalar.indexCast v1487
  let c1_4308 : Index := 1#32
  let c3_4309 : Index := 3#32
  let c144_4310 : Index := 144#32
  let c0_4311 : Index := 0#32
  ![v9496.toNat, 1, 3, 144, 0]
def k0_off261 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9502 : Index := Scalar.indexCast v1487
  let c1_4312 : Index := 1#32
  let c3_4313 : Index := 3#32
  let c152_4314 : Index := 152#32
  let c0_4315 : Index := 0#32
  ![v9502.toNat, 1, 3, 152, 0]
def k0_off262 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9508 : Index := Scalar.indexCast v1487
  let c1_4316 : Index := 1#32
  let c3_4317 : Index := 3#32
  let c160_4318 : Index := 160#32
  let c0_4319 : Index := 0#32
  ![v9508.toNat, 1, 3, 160, 0]
def k0_off263 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9514 : Index := Scalar.indexCast v1487
  let c1_4320 : Index := 1#32
  let c3_4321 : Index := 3#32
  let c168_4322 : Index := 168#32
  let c0_4323 : Index := 0#32
  ![v9514.toNat, 1, 3, 168, 0]
def k0_off264 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9520 : Index := Scalar.indexCast v1487
  let c1_4324 : Index := 1#32
  let c3_4325 : Index := 3#32
  let c176_4326 : Index := 176#32
  let c0_4327 : Index := 0#32
  ![v9520.toNat, 1, 3, 176, 0]
def k0_off265 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9526 : Index := Scalar.indexCast v1487
  let c1_4328 : Index := 1#32
  let c3_4329 : Index := 3#32
  let c184_4330 : Index := 184#32
  let c0_4331 : Index := 0#32
  ![v9526.toNat, 1, 3, 184, 0]
def k0_off266 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9532 : Index := Scalar.indexCast v1487
  let c1_4332 : Index := 1#32
  let c3_4333 : Index := 3#32
  let c192_4334 : Index := 192#32
  let c0_4335 : Index := 0#32
  ![v9532.toNat, 1, 3, 192, 0]
def k0_off267 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9538 : Index := Scalar.indexCast v1487
  let c1_4336 : Index := 1#32
  let c3_4337 : Index := 3#32
  let c200_4338 : Index := 200#32
  let c0_4339 : Index := 0#32
  ![v9538.toNat, 1, 3, 200, 0]
def k0_off268 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9544 : Index := Scalar.indexCast v1487
  let c1_4340 : Index := 1#32
  let c3_4341 : Index := 3#32
  let c208_4342 : Index := 208#32
  let c0_4343 : Index := 0#32
  ![v9544.toNat, 1, 3, 208, 0]
def k0_off269 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9550 : Index := Scalar.indexCast v1487
  let c1_4344 : Index := 1#32
  let c3_4345 : Index := 3#32
  let c216_4346 : Index := 216#32
  let c0_4347 : Index := 0#32
  ![v9550.toNat, 1, 3, 216, 0]
def k0_off270 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9556 : Index := Scalar.indexCast v1487
  let c1_4348 : Index := 1#32
  let c3_4349 : Index := 3#32
  let c224_4350 : Index := 224#32
  let c0_4351 : Index := 0#32
  ![v9556.toNat, 1, 3, 224, 0]
def k0_off271 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9562 : Index := Scalar.indexCast v1487
  let c1_4352 : Index := 1#32
  let c3_4353 : Index := 3#32
  let c232_4354 : Index := 232#32
  let c0_4355 : Index := 0#32
  ![v9562.toNat, 1, 3, 232, 0]
def k0_off272 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9568 : Index := Scalar.indexCast v1487
  let c1_4356 : Index := 1#32
  let c3_4357 : Index := 3#32
  let c240_4358 : Index := 240#32
  let c0_4359 : Index := 0#32
  ![v9568.toNat, 1, 3, 240, 0]
def k0_off273 (i : grid0.Coords) (k0_t2 : Fin (k0_t2_loop i).trips) : Fin 5 → Nat :=
  let c2_i32_930 : BitVec 32 := 2#32
  let c0_i32_426 : BitVec 32 := 0#32
  let c1_i32_428 : BitVec 32 := 1#32
  let arg14 : BitVec 32 := Scf.iv c0_i32_426 c1_i32_428 k0_t2
  let v1487 : BitVec 32 := Scalar.muli c2_i32_930 arg14
  let v9574 : Index := Scalar.indexCast v1487
  let c1_4361 : Index := 1#32
  let c3_4362 : Index := 3#32
  let c248_4363 : Index := 248#32
  let c0_4364 : Index := 0#32
  ![v9574.toNat, 1, 3, 248, 0]
def k0_mult4 (i : grid0.Coords) (k0_t2 : Fin (k0_t2_loop i).trips) : BitVec 32 :=
  let c2_i32_4365 : BitVec 32 := 2#32
  let c0_i32_426 : BitVec 32 := 0#32
  let c1_i32_428 : BitVec 32 := 1#32
  let arg14 : BitVec 32 := Scf.iv c0_i32_426 c1_i32_428 k0_t2
  let v9578 : BitVec 32 := Scalar.muli c2_i32_4365 arg14
  let c2_i32_4366 : BitVec 32 := 2#32
  let v9579 : BitVec 32 := Scalar.addi v9578 c2_i32_4366
  let c512_i32_4367 : BitVec 32 := 512#32
  let v9580 : BitVec 32 := Scalar.muli v9579 c512_i32_4367
  v9580
def k0_off274 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let arg1 : BitVec 32 := BitVec.ofNat 32 (i 1).val
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v11066 : Index := Scalar.indexCast v10249
  let c0_5108 : Index := 0#32
  let c0_5109 : Index := 0#32
  let c0_5110 : Index := 0#32
  let c0_5111 : Index := 0#32
  ![v11066.toNat, 0, 0, 0, 0]
def k0_off275 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11071 : Index := Scalar.indexCast v10247
  let c0_5112 : Index := 0#32
  let c0_5113 : Index := 0#32
  let c0_5114 : Index := 0#32
  let c0_5115 : Index := 0#32
  ![v11071.toNat, 0, 0, 0, 0]
def k0_off276 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11077 : Index := Scalar.indexCast v10247
  let c0_5116 : Index := 0#32
  let c0_5117 : Index := 0#32
  let c8_5118 : Index := 8#32
  let c0_5119 : Index := 0#32
  ![v11077.toNat, 0, 0, 8, 0]
def k0_off277 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11083 : Index := Scalar.indexCast v10247
  let c0_5120 : Index := 0#32
  let c0_5121 : Index := 0#32
  let c16_5122 : Index := 16#32
  let c0_5123 : Index := 0#32
  ![v11083.toNat, 0, 0, 16, 0]
def k0_off278 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11089 : Index := Scalar.indexCast v10247
  let c0_5124 : Index := 0#32
  let c0_5125 : Index := 0#32
  let c24_5126 : Index := 24#32
  let c0_5127 : Index := 0#32
  ![v11089.toNat, 0, 0, 24, 0]
def k0_off279 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11095 : Index := Scalar.indexCast v10247
  let c0_5128 : Index := 0#32
  let c0_5129 : Index := 0#32
  let c32_5130 : Index := 32#32
  let c0_5131 : Index := 0#32
  ![v11095.toNat, 0, 0, 32, 0]
def k0_off280 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11101 : Index := Scalar.indexCast v10247
  let c0_5132 : Index := 0#32
  let c0_5133 : Index := 0#32
  let c40_5134 : Index := 40#32
  let c0_5135 : Index := 0#32
  ![v11101.toNat, 0, 0, 40, 0]
def k0_off281 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11107 : Index := Scalar.indexCast v10247
  let c0_5136 : Index := 0#32
  let c0_5137 : Index := 0#32
  let c48_5138 : Index := 48#32
  let c0_5139 : Index := 0#32
  ![v11107.toNat, 0, 0, 48, 0]
def k0_off282 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11113 : Index := Scalar.indexCast v10247
  let c0_5140 : Index := 0#32
  let c0_5141 : Index := 0#32
  let c56_5142 : Index := 56#32
  let c0_5143 : Index := 0#32
  ![v11113.toNat, 0, 0, 56, 0]
def k0_off283 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11119 : Index := Scalar.indexCast v10247
  let c0_5144 : Index := 0#32
  let c0_5145 : Index := 0#32
  let c64_5146 : Index := 64#32
  let c0_5147 : Index := 0#32
  ![v11119.toNat, 0, 0, 64, 0]
def k0_off284 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11125 : Index := Scalar.indexCast v10247
  let c0_5148 : Index := 0#32
  let c0_5149 : Index := 0#32
  let c72_5150 : Index := 72#32
  let c0_5151 : Index := 0#32
  ![v11125.toNat, 0, 0, 72, 0]
def k0_off285 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11131 : Index := Scalar.indexCast v10247
  let c0_5152 : Index := 0#32
  let c0_5153 : Index := 0#32
  let c80_5154 : Index := 80#32
  let c0_5155 : Index := 0#32
  ![v11131.toNat, 0, 0, 80, 0]
def k0_off286 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11137 : Index := Scalar.indexCast v10247
  let c0_5156 : Index := 0#32
  let c0_5157 : Index := 0#32
  let c88_5158 : Index := 88#32
  let c0_5159 : Index := 0#32
  ![v11137.toNat, 0, 0, 88, 0]
def k0_off287 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11143 : Index := Scalar.indexCast v10247
  let c0_5160 : Index := 0#32
  let c0_5161 : Index := 0#32
  let c96_5162 : Index := 96#32
  let c0_5163 : Index := 0#32
  ![v11143.toNat, 0, 0, 96, 0]
def k0_off288 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11149 : Index := Scalar.indexCast v10247
  let c0_5164 : Index := 0#32
  let c0_5165 : Index := 0#32
  let c104_5166 : Index := 104#32
  let c0_5167 : Index := 0#32
  ![v11149.toNat, 0, 0, 104, 0]
def k0_off289 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11155 : Index := Scalar.indexCast v10247
  let c0_5168 : Index := 0#32
  let c0_5169 : Index := 0#32
  let c112_5170 : Index := 112#32
  let c0_5171 : Index := 0#32
  ![v11155.toNat, 0, 0, 112, 0]
def k0_off290 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11161 : Index := Scalar.indexCast v10247
  let c0_5172 : Index := 0#32
  let c0_5173 : Index := 0#32
  let c120_5174 : Index := 120#32
  let c0_5175 : Index := 0#32
  ![v11161.toNat, 0, 0, 120, 0]
def k0_off291 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11167 : Index := Scalar.indexCast v10247
  let c0_5176 : Index := 0#32
  let c0_5177 : Index := 0#32
  let c128_5178 : Index := 128#32
  let c0_5179 : Index := 0#32
  ![v11167.toNat, 0, 0, 128, 0]
def k0_off292 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11173 : Index := Scalar.indexCast v10247
  let c0_5180 : Index := 0#32
  let c0_5181 : Index := 0#32
  let c136_5182 : Index := 136#32
  let c0_5183 : Index := 0#32
  ![v11173.toNat, 0, 0, 136, 0]
def k0_off293 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11179 : Index := Scalar.indexCast v10247
  let c0_5184 : Index := 0#32
  let c0_5185 : Index := 0#32
  let c144_5186 : Index := 144#32
  let c0_5187 : Index := 0#32
  ![v11179.toNat, 0, 0, 144, 0]
def k0_off294 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11185 : Index := Scalar.indexCast v10247
  let c0_5188 : Index := 0#32
  let c0_5189 : Index := 0#32
  let c152_5190 : Index := 152#32
  let c0_5191 : Index := 0#32
  ![v11185.toNat, 0, 0, 152, 0]
def k0_off295 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11191 : Index := Scalar.indexCast v10247
  let c0_5192 : Index := 0#32
  let c0_5193 : Index := 0#32
  let c160_5194 : Index := 160#32
  let c0_5195 : Index := 0#32
  ![v11191.toNat, 0, 0, 160, 0]
def k0_off296 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11197 : Index := Scalar.indexCast v10247
  let c0_5196 : Index := 0#32
  let c0_5197 : Index := 0#32
  let c168_5198 : Index := 168#32
  let c0_5199 : Index := 0#32
  ![v11197.toNat, 0, 0, 168, 0]
def k0_off297 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11203 : Index := Scalar.indexCast v10247
  let c0_5200 : Index := 0#32
  let c0_5201 : Index := 0#32
  let c176_5202 : Index := 176#32
  let c0_5203 : Index := 0#32
  ![v11203.toNat, 0, 0, 176, 0]
def k0_off298 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11209 : Index := Scalar.indexCast v10247
  let c0_5204 : Index := 0#32
  let c0_5205 : Index := 0#32
  let c184_5206 : Index := 184#32
  let c0_5207 : Index := 0#32
  ![v11209.toNat, 0, 0, 184, 0]
def k0_off299 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11215 : Index := Scalar.indexCast v10247
  let c0_5208 : Index := 0#32
  let c0_5209 : Index := 0#32
  let c192_5210 : Index := 192#32
  let c0_5211 : Index := 0#32
  ![v11215.toNat, 0, 0, 192, 0]
def k0_off300 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11221 : Index := Scalar.indexCast v10247
  let c0_5212 : Index := 0#32
  let c0_5213 : Index := 0#32
  let c200_5214 : Index := 200#32
  let c0_5215 : Index := 0#32
  ![v11221.toNat, 0, 0, 200, 0]
def k0_off301 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11227 : Index := Scalar.indexCast v10247
  let c0_5216 : Index := 0#32
  let c0_5217 : Index := 0#32
  let c208_5218 : Index := 208#32
  let c0_5219 : Index := 0#32
  ![v11227.toNat, 0, 0, 208, 0]
def k0_off302 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11233 : Index := Scalar.indexCast v10247
  let c0_5220 : Index := 0#32
  let c0_5221 : Index := 0#32
  let c216_5222 : Index := 216#32
  let c0_5223 : Index := 0#32
  ![v11233.toNat, 0, 0, 216, 0]
def k0_off303 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11239 : Index := Scalar.indexCast v10247
  let c0_5224 : Index := 0#32
  let c0_5225 : Index := 0#32
  let c224_5226 : Index := 224#32
  let c0_5227 : Index := 0#32
  ![v11239.toNat, 0, 0, 224, 0]
def k0_off304 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11245 : Index := Scalar.indexCast v10247
  let c0_5228 : Index := 0#32
  let c0_5229 : Index := 0#32
  let c232_5230 : Index := 232#32
  let c0_5231 : Index := 0#32
  ![v11245.toNat, 0, 0, 232, 0]
def k0_off305 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11251 : Index := Scalar.indexCast v10247
  let c0_5232 : Index := 0#32
  let c0_5233 : Index := 0#32
  let c240_5234 : Index := 240#32
  let c0_5235 : Index := 0#32
  ![v11251.toNat, 0, 0, 240, 0]
def k0_off306 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v11257 : Index := Scalar.indexCast v10247
  let c0_5237 : Index := 0#32
  let c0_5238 : Index := 0#32
  let c248_5239 : Index := 248#32
  let c0_5240 : Index := 0#32
  ![v11257.toNat, 0, 0, 248, 0]
def k0_off307 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let arg1 : BitVec 32 := BitVec.ofNat 32 (i 1).val
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v12077 : Index := Scalar.indexCast v10249
  let c0_5545 : Index := 0#32
  let c1_5546 : Index := 1#32
  let c0_5547 : Index := 0#32
  let c0_5548 : Index := 0#32
  ![v12077.toNat, 0, 1, 0, 0]
def k0_off308 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12082 : Index := Scalar.indexCast v10247
  let c0_5549 : Index := 0#32
  let c1_5550 : Index := 1#32
  let c0_5551 : Index := 0#32
  let c0_5552 : Index := 0#32
  ![v12082.toNat, 0, 1, 0, 0]
def k0_off309 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12088 : Index := Scalar.indexCast v10247
  let c0_5553 : Index := 0#32
  let c1_5554 : Index := 1#32
  let c8_5555 : Index := 8#32
  let c0_5556 : Index := 0#32
  ![v12088.toNat, 0, 1, 8, 0]
def k0_off310 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12094 : Index := Scalar.indexCast v10247
  let c0_5557 : Index := 0#32
  let c1_5558 : Index := 1#32
  let c16_5559 : Index := 16#32
  let c0_5560 : Index := 0#32
  ![v12094.toNat, 0, 1, 16, 0]
def k0_off311 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12100 : Index := Scalar.indexCast v10247
  let c0_5561 : Index := 0#32
  let c1_5562 : Index := 1#32
  let c24_5563 : Index := 24#32
  let c0_5564 : Index := 0#32
  ![v12100.toNat, 0, 1, 24, 0]
def k0_off312 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12106 : Index := Scalar.indexCast v10247
  let c0_5565 : Index := 0#32
  let c1_5566 : Index := 1#32
  let c32_5567 : Index := 32#32
  let c0_5568 : Index := 0#32
  ![v12106.toNat, 0, 1, 32, 0]
def k0_off313 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12112 : Index := Scalar.indexCast v10247
  let c0_5569 : Index := 0#32
  let c1_5570 : Index := 1#32
  let c40_5571 : Index := 40#32
  let c0_5572 : Index := 0#32
  ![v12112.toNat, 0, 1, 40, 0]
def k0_off314 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12118 : Index := Scalar.indexCast v10247
  let c0_5573 : Index := 0#32
  let c1_5574 : Index := 1#32
  let c48_5575 : Index := 48#32
  let c0_5576 : Index := 0#32
  ![v12118.toNat, 0, 1, 48, 0]
def k0_off315 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12124 : Index := Scalar.indexCast v10247
  let c0_5577 : Index := 0#32
  let c1_5578 : Index := 1#32
  let c56_5579 : Index := 56#32
  let c0_5580 : Index := 0#32
  ![v12124.toNat, 0, 1, 56, 0]
def k0_off316 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12130 : Index := Scalar.indexCast v10247
  let c0_5581 : Index := 0#32
  let c1_5582 : Index := 1#32
  let c64_5583 : Index := 64#32
  let c0_5584 : Index := 0#32
  ![v12130.toNat, 0, 1, 64, 0]
def k0_off317 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12136 : Index := Scalar.indexCast v10247
  let c0_5585 : Index := 0#32
  let c1_5586 : Index := 1#32
  let c72_5587 : Index := 72#32
  let c0_5588 : Index := 0#32
  ![v12136.toNat, 0, 1, 72, 0]
def k0_off318 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12142 : Index := Scalar.indexCast v10247
  let c0_5589 : Index := 0#32
  let c1_5590 : Index := 1#32
  let c80_5591 : Index := 80#32
  let c0_5592 : Index := 0#32
  ![v12142.toNat, 0, 1, 80, 0]
def k0_off319 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12148 : Index := Scalar.indexCast v10247
  let c0_5593 : Index := 0#32
  let c1_5594 : Index := 1#32
  let c88_5595 : Index := 88#32
  let c0_5596 : Index := 0#32
  ![v12148.toNat, 0, 1, 88, 0]
def k0_off320 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12154 : Index := Scalar.indexCast v10247
  let c0_5597 : Index := 0#32
  let c1_5598 : Index := 1#32
  let c96_5599 : Index := 96#32
  let c0_5600 : Index := 0#32
  ![v12154.toNat, 0, 1, 96, 0]
def k0_off321 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12160 : Index := Scalar.indexCast v10247
  let c0_5601 : Index := 0#32
  let c1_5602 : Index := 1#32
  let c104_5603 : Index := 104#32
  let c0_5604 : Index := 0#32
  ![v12160.toNat, 0, 1, 104, 0]
def k0_off322 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12166 : Index := Scalar.indexCast v10247
  let c0_5605 : Index := 0#32
  let c1_5606 : Index := 1#32
  let c112_5607 : Index := 112#32
  let c0_5608 : Index := 0#32
  ![v12166.toNat, 0, 1, 112, 0]
def k0_off323 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12172 : Index := Scalar.indexCast v10247
  let c0_5609 : Index := 0#32
  let c1_5610 : Index := 1#32
  let c120_5611 : Index := 120#32
  let c0_5612 : Index := 0#32
  ![v12172.toNat, 0, 1, 120, 0]
def k0_off324 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12178 : Index := Scalar.indexCast v10247
  let c0_5613 : Index := 0#32
  let c1_5614 : Index := 1#32
  let c128_5615 : Index := 128#32
  let c0_5616 : Index := 0#32
  ![v12178.toNat, 0, 1, 128, 0]
def k0_off325 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12184 : Index := Scalar.indexCast v10247
  let c0_5617 : Index := 0#32
  let c1_5618 : Index := 1#32
  let c136_5619 : Index := 136#32
  let c0_5620 : Index := 0#32
  ![v12184.toNat, 0, 1, 136, 0]
def k0_off326 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12190 : Index := Scalar.indexCast v10247
  let c0_5621 : Index := 0#32
  let c1_5622 : Index := 1#32
  let c144_5623 : Index := 144#32
  let c0_5624 : Index := 0#32
  ![v12190.toNat, 0, 1, 144, 0]
def k0_off327 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12196 : Index := Scalar.indexCast v10247
  let c0_5625 : Index := 0#32
  let c1_5626 : Index := 1#32
  let c152_5627 : Index := 152#32
  let c0_5628 : Index := 0#32
  ![v12196.toNat, 0, 1, 152, 0]
def k0_off328 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12202 : Index := Scalar.indexCast v10247
  let c0_5629 : Index := 0#32
  let c1_5630 : Index := 1#32
  let c160_5631 : Index := 160#32
  let c0_5632 : Index := 0#32
  ![v12202.toNat, 0, 1, 160, 0]
def k0_off329 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12208 : Index := Scalar.indexCast v10247
  let c0_5633 : Index := 0#32
  let c1_5634 : Index := 1#32
  let c168_5635 : Index := 168#32
  let c0_5636 : Index := 0#32
  ![v12208.toNat, 0, 1, 168, 0]
def k0_off330 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12214 : Index := Scalar.indexCast v10247
  let c0_5637 : Index := 0#32
  let c1_5638 : Index := 1#32
  let c176_5639 : Index := 176#32
  let c0_5640 : Index := 0#32
  ![v12214.toNat, 0, 1, 176, 0]
def k0_off331 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12220 : Index := Scalar.indexCast v10247
  let c0_5641 : Index := 0#32
  let c1_5642 : Index := 1#32
  let c184_5643 : Index := 184#32
  let c0_5644 : Index := 0#32
  ![v12220.toNat, 0, 1, 184, 0]
def k0_off332 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12226 : Index := Scalar.indexCast v10247
  let c0_5645 : Index := 0#32
  let c1_5646 : Index := 1#32
  let c192_5647 : Index := 192#32
  let c0_5648 : Index := 0#32
  ![v12226.toNat, 0, 1, 192, 0]
def k0_off333 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12232 : Index := Scalar.indexCast v10247
  let c0_5649 : Index := 0#32
  let c1_5650 : Index := 1#32
  let c200_5651 : Index := 200#32
  let c0_5652 : Index := 0#32
  ![v12232.toNat, 0, 1, 200, 0]
def k0_off334 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12238 : Index := Scalar.indexCast v10247
  let c0_5653 : Index := 0#32
  let c1_5654 : Index := 1#32
  let c208_5655 : Index := 208#32
  let c0_5656 : Index := 0#32
  ![v12238.toNat, 0, 1, 208, 0]
def k0_off335 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12244 : Index := Scalar.indexCast v10247
  let c0_5657 : Index := 0#32
  let c1_5658 : Index := 1#32
  let c216_5659 : Index := 216#32
  let c0_5660 : Index := 0#32
  ![v12244.toNat, 0, 1, 216, 0]
def k0_off336 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12250 : Index := Scalar.indexCast v10247
  let c0_5661 : Index := 0#32
  let c1_5662 : Index := 1#32
  let c224_5663 : Index := 224#32
  let c0_5664 : Index := 0#32
  ![v12250.toNat, 0, 1, 224, 0]
def k0_off337 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12256 : Index := Scalar.indexCast v10247
  let c0_5665 : Index := 0#32
  let c1_5666 : Index := 1#32
  let c232_5667 : Index := 232#32
  let c0_5668 : Index := 0#32
  ![v12256.toNat, 0, 1, 232, 0]
def k0_off338 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12262 : Index := Scalar.indexCast v10247
  let c0_5669 : Index := 0#32
  let c1_5670 : Index := 1#32
  let c240_5671 : Index := 240#32
  let c0_5672 : Index := 0#32
  ![v12262.toNat, 0, 1, 240, 0]
def k0_off339 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v12268 : Index := Scalar.indexCast v10247
  let c0_5674 : Index := 0#32
  let c1_5675 : Index := 1#32
  let c248_5676 : Index := 248#32
  let c0_5677 : Index := 0#32
  ![v12268.toNat, 0, 1, 248, 0]
def k0_off340 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let arg1 : BitVec 32 := BitVec.ofNat 32 (i 1).val
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v13088 : Index := Scalar.indexCast v10249
  let c0_5982 : Index := 0#32
  let c2_5983 : Index := 2#32
  let c0_5984 : Index := 0#32
  let c0_5985 : Index := 0#32
  ![v13088.toNat, 0, 2, 0, 0]
def k0_off341 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13093 : Index := Scalar.indexCast v10247
  let c0_5986 : Index := 0#32
  let c2_5987 : Index := 2#32
  let c0_5988 : Index := 0#32
  let c0_5989 : Index := 0#32
  ![v13093.toNat, 0, 2, 0, 0]
def k0_off342 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13099 : Index := Scalar.indexCast v10247
  let c0_5990 : Index := 0#32
  let c2_5991 : Index := 2#32
  let c8_5992 : Index := 8#32
  let c0_5993 : Index := 0#32
  ![v13099.toNat, 0, 2, 8, 0]
def k0_off343 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13105 : Index := Scalar.indexCast v10247
  let c0_5994 : Index := 0#32
  let c2_5995 : Index := 2#32
  let c16_5996 : Index := 16#32
  let c0_5997 : Index := 0#32
  ![v13105.toNat, 0, 2, 16, 0]
def k0_off344 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13111 : Index := Scalar.indexCast v10247
  let c0_5998 : Index := 0#32
  let c2_5999 : Index := 2#32
  let c24_6000 : Index := 24#32
  let c0_6001 : Index := 0#32
  ![v13111.toNat, 0, 2, 24, 0]
def k0_off345 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13117 : Index := Scalar.indexCast v10247
  let c0_6002 : Index := 0#32
  let c2_6003 : Index := 2#32
  let c32_6004 : Index := 32#32
  let c0_6005 : Index := 0#32
  ![v13117.toNat, 0, 2, 32, 0]
def k0_off346 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13123 : Index := Scalar.indexCast v10247
  let c0_6006 : Index := 0#32
  let c2_6007 : Index := 2#32
  let c40_6008 : Index := 40#32
  let c0_6009 : Index := 0#32
  ![v13123.toNat, 0, 2, 40, 0]
def k0_off347 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13129 : Index := Scalar.indexCast v10247
  let c0_6010 : Index := 0#32
  let c2_6011 : Index := 2#32
  let c48_6012 : Index := 48#32
  let c0_6013 : Index := 0#32
  ![v13129.toNat, 0, 2, 48, 0]
def k0_off348 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13135 : Index := Scalar.indexCast v10247
  let c0_6014 : Index := 0#32
  let c2_6015 : Index := 2#32
  let c56_6016 : Index := 56#32
  let c0_6017 : Index := 0#32
  ![v13135.toNat, 0, 2, 56, 0]
def k0_off349 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13141 : Index := Scalar.indexCast v10247
  let c0_6018 : Index := 0#32
  let c2_6019 : Index := 2#32
  let c64_6020 : Index := 64#32
  let c0_6021 : Index := 0#32
  ![v13141.toNat, 0, 2, 64, 0]
def k0_off350 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13147 : Index := Scalar.indexCast v10247
  let c0_6022 : Index := 0#32
  let c2_6023 : Index := 2#32
  let c72_6024 : Index := 72#32
  let c0_6025 : Index := 0#32
  ![v13147.toNat, 0, 2, 72, 0]
def k0_off351 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13153 : Index := Scalar.indexCast v10247
  let c0_6026 : Index := 0#32
  let c2_6027 : Index := 2#32
  let c80_6028 : Index := 80#32
  let c0_6029 : Index := 0#32
  ![v13153.toNat, 0, 2, 80, 0]
def k0_off352 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13159 : Index := Scalar.indexCast v10247
  let c0_6030 : Index := 0#32
  let c2_6031 : Index := 2#32
  let c88_6032 : Index := 88#32
  let c0_6033 : Index := 0#32
  ![v13159.toNat, 0, 2, 88, 0]
def k0_off353 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13165 : Index := Scalar.indexCast v10247
  let c0_6034 : Index := 0#32
  let c2_6035 : Index := 2#32
  let c96_6036 : Index := 96#32
  let c0_6037 : Index := 0#32
  ![v13165.toNat, 0, 2, 96, 0]
def k0_off354 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13171 : Index := Scalar.indexCast v10247
  let c0_6038 : Index := 0#32
  let c2_6039 : Index := 2#32
  let c104_6040 : Index := 104#32
  let c0_6041 : Index := 0#32
  ![v13171.toNat, 0, 2, 104, 0]
def k0_off355 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13177 : Index := Scalar.indexCast v10247
  let c0_6042 : Index := 0#32
  let c2_6043 : Index := 2#32
  let c112_6044 : Index := 112#32
  let c0_6045 : Index := 0#32
  ![v13177.toNat, 0, 2, 112, 0]
def k0_off356 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13183 : Index := Scalar.indexCast v10247
  let c0_6046 : Index := 0#32
  let c2_6047 : Index := 2#32
  let c120_6048 : Index := 120#32
  let c0_6049 : Index := 0#32
  ![v13183.toNat, 0, 2, 120, 0]
def k0_off357 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13189 : Index := Scalar.indexCast v10247
  let c0_6050 : Index := 0#32
  let c2_6051 : Index := 2#32
  let c128_6052 : Index := 128#32
  let c0_6053 : Index := 0#32
  ![v13189.toNat, 0, 2, 128, 0]
def k0_off358 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13195 : Index := Scalar.indexCast v10247
  let c0_6054 : Index := 0#32
  let c2_6055 : Index := 2#32
  let c136_6056 : Index := 136#32
  let c0_6057 : Index := 0#32
  ![v13195.toNat, 0, 2, 136, 0]
def k0_off359 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13201 : Index := Scalar.indexCast v10247
  let c0_6058 : Index := 0#32
  let c2_6059 : Index := 2#32
  let c144_6060 : Index := 144#32
  let c0_6061 : Index := 0#32
  ![v13201.toNat, 0, 2, 144, 0]
def k0_off360 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13207 : Index := Scalar.indexCast v10247
  let c0_6062 : Index := 0#32
  let c2_6063 : Index := 2#32
  let c152_6064 : Index := 152#32
  let c0_6065 : Index := 0#32
  ![v13207.toNat, 0, 2, 152, 0]
def k0_off361 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13213 : Index := Scalar.indexCast v10247
  let c0_6066 : Index := 0#32
  let c2_6067 : Index := 2#32
  let c160_6068 : Index := 160#32
  let c0_6069 : Index := 0#32
  ![v13213.toNat, 0, 2, 160, 0]
def k0_off362 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13219 : Index := Scalar.indexCast v10247
  let c0_6070 : Index := 0#32
  let c2_6071 : Index := 2#32
  let c168_6072 : Index := 168#32
  let c0_6073 : Index := 0#32
  ![v13219.toNat, 0, 2, 168, 0]
def k0_off363 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13225 : Index := Scalar.indexCast v10247
  let c0_6074 : Index := 0#32
  let c2_6075 : Index := 2#32
  let c176_6076 : Index := 176#32
  let c0_6077 : Index := 0#32
  ![v13225.toNat, 0, 2, 176, 0]
def k0_off364 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13231 : Index := Scalar.indexCast v10247
  let c0_6078 : Index := 0#32
  let c2_6079 : Index := 2#32
  let c184_6080 : Index := 184#32
  let c0_6081 : Index := 0#32
  ![v13231.toNat, 0, 2, 184, 0]
def k0_off365 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13237 : Index := Scalar.indexCast v10247
  let c0_6082 : Index := 0#32
  let c2_6083 : Index := 2#32
  let c192_6084 : Index := 192#32
  let c0_6085 : Index := 0#32
  ![v13237.toNat, 0, 2, 192, 0]
def k0_off366 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13243 : Index := Scalar.indexCast v10247
  let c0_6086 : Index := 0#32
  let c2_6087 : Index := 2#32
  let c200_6088 : Index := 200#32
  let c0_6089 : Index := 0#32
  ![v13243.toNat, 0, 2, 200, 0]
def k0_off367 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13249 : Index := Scalar.indexCast v10247
  let c0_6090 : Index := 0#32
  let c2_6091 : Index := 2#32
  let c208_6092 : Index := 208#32
  let c0_6093 : Index := 0#32
  ![v13249.toNat, 0, 2, 208, 0]
def k0_off368 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13255 : Index := Scalar.indexCast v10247
  let c0_6094 : Index := 0#32
  let c2_6095 : Index := 2#32
  let c216_6096 : Index := 216#32
  let c0_6097 : Index := 0#32
  ![v13255.toNat, 0, 2, 216, 0]
def k0_off369 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13261 : Index := Scalar.indexCast v10247
  let c0_6098 : Index := 0#32
  let c2_6099 : Index := 2#32
  let c224_6100 : Index := 224#32
  let c0_6101 : Index := 0#32
  ![v13261.toNat, 0, 2, 224, 0]
def k0_off370 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13267 : Index := Scalar.indexCast v10247
  let c0_6102 : Index := 0#32
  let c2_6103 : Index := 2#32
  let c232_6104 : Index := 232#32
  let c0_6105 : Index := 0#32
  ![v13267.toNat, 0, 2, 232, 0]
def k0_off371 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13273 : Index := Scalar.indexCast v10247
  let c0_6106 : Index := 0#32
  let c2_6107 : Index := 2#32
  let c240_6108 : Index := 240#32
  let c0_6109 : Index := 0#32
  ![v13273.toNat, 0, 2, 240, 0]
def k0_off372 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v13279 : Index := Scalar.indexCast v10247
  let c0_6111 : Index := 0#32
  let c2_6112 : Index := 2#32
  let c248_6113 : Index := 248#32
  let c0_6114 : Index := 0#32
  ![v13279.toNat, 0, 2, 248, 0]
def k0_off373 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let arg1 : BitVec 32 := BitVec.ofNat 32 (i 1).val
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v14099 : Index := Scalar.indexCast v10249
  let c0_6419 : Index := 0#32
  let c3_6420 : Index := 3#32
  let c0_6421 : Index := 0#32
  let c0_6422 : Index := 0#32
  ![v14099.toNat, 0, 3, 0, 0]
def k0_off374 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14104 : Index := Scalar.indexCast v10247
  let c0_6423 : Index := 0#32
  let c3_6424 : Index := 3#32
  let c0_6425 : Index := 0#32
  let c0_6426 : Index := 0#32
  ![v14104.toNat, 0, 3, 0, 0]
def k0_off375 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14110 : Index := Scalar.indexCast v10247
  let c0_6427 : Index := 0#32
  let c3_6428 : Index := 3#32
  let c8_6429 : Index := 8#32
  let c0_6430 : Index := 0#32
  ![v14110.toNat, 0, 3, 8, 0]
def k0_off376 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14116 : Index := Scalar.indexCast v10247
  let c0_6431 : Index := 0#32
  let c3_6432 : Index := 3#32
  let c16_6433 : Index := 16#32
  let c0_6434 : Index := 0#32
  ![v14116.toNat, 0, 3, 16, 0]
def k0_off377 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14122 : Index := Scalar.indexCast v10247
  let c0_6435 : Index := 0#32
  let c3_6436 : Index := 3#32
  let c24_6437 : Index := 24#32
  let c0_6438 : Index := 0#32
  ![v14122.toNat, 0, 3, 24, 0]
def k0_off378 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14128 : Index := Scalar.indexCast v10247
  let c0_6439 : Index := 0#32
  let c3_6440 : Index := 3#32
  let c32_6441 : Index := 32#32
  let c0_6442 : Index := 0#32
  ![v14128.toNat, 0, 3, 32, 0]
def k0_off379 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14134 : Index := Scalar.indexCast v10247
  let c0_6443 : Index := 0#32
  let c3_6444 : Index := 3#32
  let c40_6445 : Index := 40#32
  let c0_6446 : Index := 0#32
  ![v14134.toNat, 0, 3, 40, 0]
def k0_off380 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14140 : Index := Scalar.indexCast v10247
  let c0_6447 : Index := 0#32
  let c3_6448 : Index := 3#32
  let c48_6449 : Index := 48#32
  let c0_6450 : Index := 0#32
  ![v14140.toNat, 0, 3, 48, 0]
def k0_off381 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14146 : Index := Scalar.indexCast v10247
  let c0_6451 : Index := 0#32
  let c3_6452 : Index := 3#32
  let c56_6453 : Index := 56#32
  let c0_6454 : Index := 0#32
  ![v14146.toNat, 0, 3, 56, 0]
def k0_off382 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14152 : Index := Scalar.indexCast v10247
  let c0_6455 : Index := 0#32
  let c3_6456 : Index := 3#32
  let c64_6457 : Index := 64#32
  let c0_6458 : Index := 0#32
  ![v14152.toNat, 0, 3, 64, 0]
def k0_off383 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14158 : Index := Scalar.indexCast v10247
  let c0_6459 : Index := 0#32
  let c3_6460 : Index := 3#32
  let c72_6461 : Index := 72#32
  let c0_6462 : Index := 0#32
  ![v14158.toNat, 0, 3, 72, 0]
def k0_off384 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14164 : Index := Scalar.indexCast v10247
  let c0_6463 : Index := 0#32
  let c3_6464 : Index := 3#32
  let c80_6465 : Index := 80#32
  let c0_6466 : Index := 0#32
  ![v14164.toNat, 0, 3, 80, 0]
def k0_off385 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14170 : Index := Scalar.indexCast v10247
  let c0_6467 : Index := 0#32
  let c3_6468 : Index := 3#32
  let c88_6469 : Index := 88#32
  let c0_6470 : Index := 0#32
  ![v14170.toNat, 0, 3, 88, 0]
def k0_off386 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14176 : Index := Scalar.indexCast v10247
  let c0_6471 : Index := 0#32
  let c3_6472 : Index := 3#32
  let c96_6473 : Index := 96#32
  let c0_6474 : Index := 0#32
  ![v14176.toNat, 0, 3, 96, 0]
def k0_off387 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14182 : Index := Scalar.indexCast v10247
  let c0_6475 : Index := 0#32
  let c3_6476 : Index := 3#32
  let c104_6477 : Index := 104#32
  let c0_6478 : Index := 0#32
  ![v14182.toNat, 0, 3, 104, 0]
def k0_off388 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14188 : Index := Scalar.indexCast v10247
  let c0_6479 : Index := 0#32
  let c3_6480 : Index := 3#32
  let c112_6481 : Index := 112#32
  let c0_6482 : Index := 0#32
  ![v14188.toNat, 0, 3, 112, 0]
def k0_off389 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14194 : Index := Scalar.indexCast v10247
  let c0_6483 : Index := 0#32
  let c3_6484 : Index := 3#32
  let c120_6485 : Index := 120#32
  let c0_6486 : Index := 0#32
  ![v14194.toNat, 0, 3, 120, 0]
def k0_off390 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14200 : Index := Scalar.indexCast v10247
  let c0_6487 : Index := 0#32
  let c3_6488 : Index := 3#32
  let c128_6489 : Index := 128#32
  let c0_6490 : Index := 0#32
  ![v14200.toNat, 0, 3, 128, 0]
def k0_off391 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14206 : Index := Scalar.indexCast v10247
  let c0_6491 : Index := 0#32
  let c3_6492 : Index := 3#32
  let c136_6493 : Index := 136#32
  let c0_6494 : Index := 0#32
  ![v14206.toNat, 0, 3, 136, 0]
def k0_off392 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14212 : Index := Scalar.indexCast v10247
  let c0_6495 : Index := 0#32
  let c3_6496 : Index := 3#32
  let c144_6497 : Index := 144#32
  let c0_6498 : Index := 0#32
  ![v14212.toNat, 0, 3, 144, 0]
def k0_off393 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14218 : Index := Scalar.indexCast v10247
  let c0_6499 : Index := 0#32
  let c3_6500 : Index := 3#32
  let c152_6501 : Index := 152#32
  let c0_6502 : Index := 0#32
  ![v14218.toNat, 0, 3, 152, 0]
def k0_off394 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14224 : Index := Scalar.indexCast v10247
  let c0_6503 : Index := 0#32
  let c3_6504 : Index := 3#32
  let c160_6505 : Index := 160#32
  let c0_6506 : Index := 0#32
  ![v14224.toNat, 0, 3, 160, 0]
def k0_off395 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14230 : Index := Scalar.indexCast v10247
  let c0_6507 : Index := 0#32
  let c3_6508 : Index := 3#32
  let c168_6509 : Index := 168#32
  let c0_6510 : Index := 0#32
  ![v14230.toNat, 0, 3, 168, 0]
def k0_off396 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14236 : Index := Scalar.indexCast v10247
  let c0_6511 : Index := 0#32
  let c3_6512 : Index := 3#32
  let c176_6513 : Index := 176#32
  let c0_6514 : Index := 0#32
  ![v14236.toNat, 0, 3, 176, 0]
def k0_off397 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14242 : Index := Scalar.indexCast v10247
  let c0_6515 : Index := 0#32
  let c3_6516 : Index := 3#32
  let c184_6517 : Index := 184#32
  let c0_6518 : Index := 0#32
  ![v14242.toNat, 0, 3, 184, 0]
def k0_off398 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14248 : Index := Scalar.indexCast v10247
  let c0_6519 : Index := 0#32
  let c3_6520 : Index := 3#32
  let c192_6521 : Index := 192#32
  let c0_6522 : Index := 0#32
  ![v14248.toNat, 0, 3, 192, 0]
def k0_off399 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14254 : Index := Scalar.indexCast v10247
  let c0_6523 : Index := 0#32
  let c3_6524 : Index := 3#32
  let c200_6525 : Index := 200#32
  let c0_6526 : Index := 0#32
  ![v14254.toNat, 0, 3, 200, 0]
def k0_off400 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14260 : Index := Scalar.indexCast v10247
  let c0_6527 : Index := 0#32
  let c3_6528 : Index := 3#32
  let c208_6529 : Index := 208#32
  let c0_6530 : Index := 0#32
  ![v14260.toNat, 0, 3, 208, 0]
def k0_off401 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14266 : Index := Scalar.indexCast v10247
  let c0_6531 : Index := 0#32
  let c3_6532 : Index := 3#32
  let c216_6533 : Index := 216#32
  let c0_6534 : Index := 0#32
  ![v14266.toNat, 0, 3, 216, 0]
def k0_off402 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14272 : Index := Scalar.indexCast v10247
  let c0_6535 : Index := 0#32
  let c3_6536 : Index := 3#32
  let c224_6537 : Index := 224#32
  let c0_6538 : Index := 0#32
  ![v14272.toNat, 0, 3, 224, 0]
def k0_off403 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14278 : Index := Scalar.indexCast v10247
  let c0_6539 : Index := 0#32
  let c3_6540 : Index := 3#32
  let c232_6541 : Index := 232#32
  let c0_6542 : Index := 0#32
  ![v14278.toNat, 0, 3, 232, 0]
def k0_off404 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14284 : Index := Scalar.indexCast v10247
  let c0_6543 : Index := 0#32
  let c3_6544 : Index := 3#32
  let c240_6545 : Index := 240#32
  let c0_6546 : Index := 0#32
  ![v14284.toNat, 0, 3, 240, 0]
def k0_off405 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v14290 : Index := Scalar.indexCast v10247
  let c0_6548 : Index := 0#32
  let c3_6549 : Index := 3#32
  let c248_6550 : Index := 248#32
  let c0_6551 : Index := 0#32
  ![v14290.toNat, 0, 3, 248, 0]
def k0_off406 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let arg1 : BitVec 32 := BitVec.ofNat 32 (i 1).val
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v15110 : Index := Scalar.indexCast v10249
  let c1_6856 : Index := 1#32
  let c0_6857 : Index := 0#32
  let c0_6858 : Index := 0#32
  let c0_6859 : Index := 0#32
  ![v15110.toNat, 1, 0, 0, 0]
def k0_off407 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15115 : Index := Scalar.indexCast v10247
  let c1_6860 : Index := 1#32
  let c0_6861 : Index := 0#32
  let c0_6862 : Index := 0#32
  let c0_6863 : Index := 0#32
  ![v15115.toNat, 1, 0, 0, 0]
def k0_off408 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15121 : Index := Scalar.indexCast v10247
  let c1_6864 : Index := 1#32
  let c0_6865 : Index := 0#32
  let c8_6866 : Index := 8#32
  let c0_6867 : Index := 0#32
  ![v15121.toNat, 1, 0, 8, 0]
def k0_off409 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15127 : Index := Scalar.indexCast v10247
  let c1_6868 : Index := 1#32
  let c0_6869 : Index := 0#32
  let c16_6870 : Index := 16#32
  let c0_6871 : Index := 0#32
  ![v15127.toNat, 1, 0, 16, 0]
def k0_off410 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15133 : Index := Scalar.indexCast v10247
  let c1_6872 : Index := 1#32
  let c0_6873 : Index := 0#32
  let c24_6874 : Index := 24#32
  let c0_6875 : Index := 0#32
  ![v15133.toNat, 1, 0, 24, 0]
def k0_off411 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15139 : Index := Scalar.indexCast v10247
  let c1_6876 : Index := 1#32
  let c0_6877 : Index := 0#32
  let c32_6878 : Index := 32#32
  let c0_6879 : Index := 0#32
  ![v15139.toNat, 1, 0, 32, 0]
def k0_off412 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15145 : Index := Scalar.indexCast v10247
  let c1_6880 : Index := 1#32
  let c0_6881 : Index := 0#32
  let c40_6882 : Index := 40#32
  let c0_6883 : Index := 0#32
  ![v15145.toNat, 1, 0, 40, 0]
def k0_off413 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15151 : Index := Scalar.indexCast v10247
  let c1_6884 : Index := 1#32
  let c0_6885 : Index := 0#32
  let c48_6886 : Index := 48#32
  let c0_6887 : Index := 0#32
  ![v15151.toNat, 1, 0, 48, 0]
def k0_off414 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15157 : Index := Scalar.indexCast v10247
  let c1_6888 : Index := 1#32
  let c0_6889 : Index := 0#32
  let c56_6890 : Index := 56#32
  let c0_6891 : Index := 0#32
  ![v15157.toNat, 1, 0, 56, 0]
def k0_off415 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15163 : Index := Scalar.indexCast v10247
  let c1_6892 : Index := 1#32
  let c0_6893 : Index := 0#32
  let c64_6894 : Index := 64#32
  let c0_6895 : Index := 0#32
  ![v15163.toNat, 1, 0, 64, 0]
def k0_off416 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15169 : Index := Scalar.indexCast v10247
  let c1_6896 : Index := 1#32
  let c0_6897 : Index := 0#32
  let c72_6898 : Index := 72#32
  let c0_6899 : Index := 0#32
  ![v15169.toNat, 1, 0, 72, 0]
def k0_off417 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15175 : Index := Scalar.indexCast v10247
  let c1_6900 : Index := 1#32
  let c0_6901 : Index := 0#32
  let c80_6902 : Index := 80#32
  let c0_6903 : Index := 0#32
  ![v15175.toNat, 1, 0, 80, 0]
def k0_off418 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15181 : Index := Scalar.indexCast v10247
  let c1_6904 : Index := 1#32
  let c0_6905 : Index := 0#32
  let c88_6906 : Index := 88#32
  let c0_6907 : Index := 0#32
  ![v15181.toNat, 1, 0, 88, 0]
def k0_off419 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15187 : Index := Scalar.indexCast v10247
  let c1_6908 : Index := 1#32
  let c0_6909 : Index := 0#32
  let c96_6910 : Index := 96#32
  let c0_6911 : Index := 0#32
  ![v15187.toNat, 1, 0, 96, 0]
def k0_off420 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15193 : Index := Scalar.indexCast v10247
  let c1_6912 : Index := 1#32
  let c0_6913 : Index := 0#32
  let c104_6914 : Index := 104#32
  let c0_6915 : Index := 0#32
  ![v15193.toNat, 1, 0, 104, 0]
def k0_off421 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15199 : Index := Scalar.indexCast v10247
  let c1_6916 : Index := 1#32
  let c0_6917 : Index := 0#32
  let c112_6918 : Index := 112#32
  let c0_6919 : Index := 0#32
  ![v15199.toNat, 1, 0, 112, 0]
def k0_off422 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15205 : Index := Scalar.indexCast v10247
  let c1_6920 : Index := 1#32
  let c0_6921 : Index := 0#32
  let c120_6922 : Index := 120#32
  let c0_6923 : Index := 0#32
  ![v15205.toNat, 1, 0, 120, 0]
def k0_off423 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15211 : Index := Scalar.indexCast v10247
  let c1_6924 : Index := 1#32
  let c0_6925 : Index := 0#32
  let c128_6926 : Index := 128#32
  let c0_6927 : Index := 0#32
  ![v15211.toNat, 1, 0, 128, 0]
def k0_off424 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15217 : Index := Scalar.indexCast v10247
  let c1_6928 : Index := 1#32
  let c0_6929 : Index := 0#32
  let c136_6930 : Index := 136#32
  let c0_6931 : Index := 0#32
  ![v15217.toNat, 1, 0, 136, 0]
def k0_off425 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15223 : Index := Scalar.indexCast v10247
  let c1_6932 : Index := 1#32
  let c0_6933 : Index := 0#32
  let c144_6934 : Index := 144#32
  let c0_6935 : Index := 0#32
  ![v15223.toNat, 1, 0, 144, 0]
def k0_off426 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15229 : Index := Scalar.indexCast v10247
  let c1_6936 : Index := 1#32
  let c0_6937 : Index := 0#32
  let c152_6938 : Index := 152#32
  let c0_6939 : Index := 0#32
  ![v15229.toNat, 1, 0, 152, 0]
def k0_off427 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15235 : Index := Scalar.indexCast v10247
  let c1_6940 : Index := 1#32
  let c0_6941 : Index := 0#32
  let c160_6942 : Index := 160#32
  let c0_6943 : Index := 0#32
  ![v15235.toNat, 1, 0, 160, 0]
def k0_off428 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15241 : Index := Scalar.indexCast v10247
  let c1_6944 : Index := 1#32
  let c0_6945 : Index := 0#32
  let c168_6946 : Index := 168#32
  let c0_6947 : Index := 0#32
  ![v15241.toNat, 1, 0, 168, 0]
def k0_off429 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15247 : Index := Scalar.indexCast v10247
  let c1_6948 : Index := 1#32
  let c0_6949 : Index := 0#32
  let c176_6950 : Index := 176#32
  let c0_6951 : Index := 0#32
  ![v15247.toNat, 1, 0, 176, 0]
def k0_off430 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15253 : Index := Scalar.indexCast v10247
  let c1_6952 : Index := 1#32
  let c0_6953 : Index := 0#32
  let c184_6954 : Index := 184#32
  let c0_6955 : Index := 0#32
  ![v15253.toNat, 1, 0, 184, 0]
def k0_off431 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15259 : Index := Scalar.indexCast v10247
  let c1_6956 : Index := 1#32
  let c0_6957 : Index := 0#32
  let c192_6958 : Index := 192#32
  let c0_6959 : Index := 0#32
  ![v15259.toNat, 1, 0, 192, 0]
def k0_off432 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15265 : Index := Scalar.indexCast v10247
  let c1_6960 : Index := 1#32
  let c0_6961 : Index := 0#32
  let c200_6962 : Index := 200#32
  let c0_6963 : Index := 0#32
  ![v15265.toNat, 1, 0, 200, 0]
def k0_off433 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15271 : Index := Scalar.indexCast v10247
  let c1_6964 : Index := 1#32
  let c0_6965 : Index := 0#32
  let c208_6966 : Index := 208#32
  let c0_6967 : Index := 0#32
  ![v15271.toNat, 1, 0, 208, 0]
def k0_off434 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15277 : Index := Scalar.indexCast v10247
  let c1_6968 : Index := 1#32
  let c0_6969 : Index := 0#32
  let c216_6970 : Index := 216#32
  let c0_6971 : Index := 0#32
  ![v15277.toNat, 1, 0, 216, 0]
def k0_off435 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15283 : Index := Scalar.indexCast v10247
  let c1_6972 : Index := 1#32
  let c0_6973 : Index := 0#32
  let c224_6974 : Index := 224#32
  let c0_6975 : Index := 0#32
  ![v15283.toNat, 1, 0, 224, 0]
def k0_off436 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15289 : Index := Scalar.indexCast v10247
  let c1_6976 : Index := 1#32
  let c0_6977 : Index := 0#32
  let c232_6978 : Index := 232#32
  let c0_6979 : Index := 0#32
  ![v15289.toNat, 1, 0, 232, 0]
def k0_off437 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15295 : Index := Scalar.indexCast v10247
  let c1_6980 : Index := 1#32
  let c0_6981 : Index := 0#32
  let c240_6982 : Index := 240#32
  let c0_6983 : Index := 0#32
  ![v15295.toNat, 1, 0, 240, 0]
def k0_off438 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v15301 : Index := Scalar.indexCast v10247
  let c1_6985 : Index := 1#32
  let c0_6986 : Index := 0#32
  let c248_6987 : Index := 248#32
  let c0_6988 : Index := 0#32
  ![v15301.toNat, 1, 0, 248, 0]
def k0_off439 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let arg1 : BitVec 32 := BitVec.ofNat 32 (i 1).val
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v16121 : Index := Scalar.indexCast v10249
  let c1_7293 : Index := 1#32
  let c1_7294 : Index := 1#32
  let c0_7295 : Index := 0#32
  let c0_7296 : Index := 0#32
  ![v16121.toNat, 1, 1, 0, 0]
def k0_off440 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16126 : Index := Scalar.indexCast v10247
  let c1_7297 : Index := 1#32
  let c1_7298 : Index := 1#32
  let c0_7299 : Index := 0#32
  let c0_7300 : Index := 0#32
  ![v16126.toNat, 1, 1, 0, 0]
def k0_off441 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16132 : Index := Scalar.indexCast v10247
  let c1_7301 : Index := 1#32
  let c1_7302 : Index := 1#32
  let c8_7303 : Index := 8#32
  let c0_7304 : Index := 0#32
  ![v16132.toNat, 1, 1, 8, 0]
def k0_off442 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16138 : Index := Scalar.indexCast v10247
  let c1_7305 : Index := 1#32
  let c1_7306 : Index := 1#32
  let c16_7307 : Index := 16#32
  let c0_7308 : Index := 0#32
  ![v16138.toNat, 1, 1, 16, 0]
def k0_off443 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16144 : Index := Scalar.indexCast v10247
  let c1_7309 : Index := 1#32
  let c1_7310 : Index := 1#32
  let c24_7311 : Index := 24#32
  let c0_7312 : Index := 0#32
  ![v16144.toNat, 1, 1, 24, 0]
def k0_off444 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16150 : Index := Scalar.indexCast v10247
  let c1_7313 : Index := 1#32
  let c1_7314 : Index := 1#32
  let c32_7315 : Index := 32#32
  let c0_7316 : Index := 0#32
  ![v16150.toNat, 1, 1, 32, 0]
def k0_off445 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16156 : Index := Scalar.indexCast v10247
  let c1_7317 : Index := 1#32
  let c1_7318 : Index := 1#32
  let c40_7319 : Index := 40#32
  let c0_7320 : Index := 0#32
  ![v16156.toNat, 1, 1, 40, 0]
def k0_off446 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16162 : Index := Scalar.indexCast v10247
  let c1_7321 : Index := 1#32
  let c1_7322 : Index := 1#32
  let c48_7323 : Index := 48#32
  let c0_7324 : Index := 0#32
  ![v16162.toNat, 1, 1, 48, 0]
def k0_off447 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16168 : Index := Scalar.indexCast v10247
  let c1_7325 : Index := 1#32
  let c1_7326 : Index := 1#32
  let c56_7327 : Index := 56#32
  let c0_7328 : Index := 0#32
  ![v16168.toNat, 1, 1, 56, 0]
def k0_off448 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16174 : Index := Scalar.indexCast v10247
  let c1_7329 : Index := 1#32
  let c1_7330 : Index := 1#32
  let c64_7331 : Index := 64#32
  let c0_7332 : Index := 0#32
  ![v16174.toNat, 1, 1, 64, 0]
def k0_off449 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16180 : Index := Scalar.indexCast v10247
  let c1_7333 : Index := 1#32
  let c1_7334 : Index := 1#32
  let c72_7335 : Index := 72#32
  let c0_7336 : Index := 0#32
  ![v16180.toNat, 1, 1, 72, 0]
def k0_off450 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16186 : Index := Scalar.indexCast v10247
  let c1_7337 : Index := 1#32
  let c1_7338 : Index := 1#32
  let c80_7339 : Index := 80#32
  let c0_7340 : Index := 0#32
  ![v16186.toNat, 1, 1, 80, 0]
def k0_off451 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16192 : Index := Scalar.indexCast v10247
  let c1_7341 : Index := 1#32
  let c1_7342 : Index := 1#32
  let c88_7343 : Index := 88#32
  let c0_7344 : Index := 0#32
  ![v16192.toNat, 1, 1, 88, 0]
def k0_off452 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16198 : Index := Scalar.indexCast v10247
  let c1_7345 : Index := 1#32
  let c1_7346 : Index := 1#32
  let c96_7347 : Index := 96#32
  let c0_7348 : Index := 0#32
  ![v16198.toNat, 1, 1, 96, 0]
def k0_off453 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16204 : Index := Scalar.indexCast v10247
  let c1_7349 : Index := 1#32
  let c1_7350 : Index := 1#32
  let c104_7351 : Index := 104#32
  let c0_7352 : Index := 0#32
  ![v16204.toNat, 1, 1, 104, 0]
def k0_off454 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16210 : Index := Scalar.indexCast v10247
  let c1_7353 : Index := 1#32
  let c1_7354 : Index := 1#32
  let c112_7355 : Index := 112#32
  let c0_7356 : Index := 0#32
  ![v16210.toNat, 1, 1, 112, 0]
def k0_off455 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16216 : Index := Scalar.indexCast v10247
  let c1_7357 : Index := 1#32
  let c1_7358 : Index := 1#32
  let c120_7359 : Index := 120#32
  let c0_7360 : Index := 0#32
  ![v16216.toNat, 1, 1, 120, 0]
def k0_off456 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16222 : Index := Scalar.indexCast v10247
  let c1_7361 : Index := 1#32
  let c1_7362 : Index := 1#32
  let c128_7363 : Index := 128#32
  let c0_7364 : Index := 0#32
  ![v16222.toNat, 1, 1, 128, 0]
def k0_off457 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16228 : Index := Scalar.indexCast v10247
  let c1_7365 : Index := 1#32
  let c1_7366 : Index := 1#32
  let c136_7367 : Index := 136#32
  let c0_7368 : Index := 0#32
  ![v16228.toNat, 1, 1, 136, 0]
def k0_off458 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16234 : Index := Scalar.indexCast v10247
  let c1_7369 : Index := 1#32
  let c1_7370 : Index := 1#32
  let c144_7371 : Index := 144#32
  let c0_7372 : Index := 0#32
  ![v16234.toNat, 1, 1, 144, 0]
def k0_off459 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16240 : Index := Scalar.indexCast v10247
  let c1_7373 : Index := 1#32
  let c1_7374 : Index := 1#32
  let c152_7375 : Index := 152#32
  let c0_7376 : Index := 0#32
  ![v16240.toNat, 1, 1, 152, 0]
def k0_off460 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16246 : Index := Scalar.indexCast v10247
  let c1_7377 : Index := 1#32
  let c1_7378 : Index := 1#32
  let c160_7379 : Index := 160#32
  let c0_7380 : Index := 0#32
  ![v16246.toNat, 1, 1, 160, 0]
def k0_off461 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16252 : Index := Scalar.indexCast v10247
  let c1_7381 : Index := 1#32
  let c1_7382 : Index := 1#32
  let c168_7383 : Index := 168#32
  let c0_7384 : Index := 0#32
  ![v16252.toNat, 1, 1, 168, 0]
def k0_off462 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16258 : Index := Scalar.indexCast v10247
  let c1_7385 : Index := 1#32
  let c1_7386 : Index := 1#32
  let c176_7387 : Index := 176#32
  let c0_7388 : Index := 0#32
  ![v16258.toNat, 1, 1, 176, 0]
def k0_off463 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16264 : Index := Scalar.indexCast v10247
  let c1_7389 : Index := 1#32
  let c1_7390 : Index := 1#32
  let c184_7391 : Index := 184#32
  let c0_7392 : Index := 0#32
  ![v16264.toNat, 1, 1, 184, 0]
def k0_off464 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16270 : Index := Scalar.indexCast v10247
  let c1_7393 : Index := 1#32
  let c1_7394 : Index := 1#32
  let c192_7395 : Index := 192#32
  let c0_7396 : Index := 0#32
  ![v16270.toNat, 1, 1, 192, 0]
def k0_off465 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16276 : Index := Scalar.indexCast v10247
  let c1_7397 : Index := 1#32
  let c1_7398 : Index := 1#32
  let c200_7399 : Index := 200#32
  let c0_7400 : Index := 0#32
  ![v16276.toNat, 1, 1, 200, 0]
def k0_off466 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16282 : Index := Scalar.indexCast v10247
  let c1_7401 : Index := 1#32
  let c1_7402 : Index := 1#32
  let c208_7403 : Index := 208#32
  let c0_7404 : Index := 0#32
  ![v16282.toNat, 1, 1, 208, 0]
def k0_off467 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16288 : Index := Scalar.indexCast v10247
  let c1_7405 : Index := 1#32
  let c1_7406 : Index := 1#32
  let c216_7407 : Index := 216#32
  let c0_7408 : Index := 0#32
  ![v16288.toNat, 1, 1, 216, 0]
def k0_off468 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16294 : Index := Scalar.indexCast v10247
  let c1_7409 : Index := 1#32
  let c1_7410 : Index := 1#32
  let c224_7411 : Index := 224#32
  let c0_7412 : Index := 0#32
  ![v16294.toNat, 1, 1, 224, 0]
def k0_off469 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16300 : Index := Scalar.indexCast v10247
  let c1_7413 : Index := 1#32
  let c1_7414 : Index := 1#32
  let c232_7415 : Index := 232#32
  let c0_7416 : Index := 0#32
  ![v16300.toNat, 1, 1, 232, 0]
def k0_off470 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16306 : Index := Scalar.indexCast v10247
  let c1_7417 : Index := 1#32
  let c1_7418 : Index := 1#32
  let c240_7419 : Index := 240#32
  let c0_7420 : Index := 0#32
  ![v16306.toNat, 1, 1, 240, 0]
def k0_off471 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v16312 : Index := Scalar.indexCast v10247
  let c1_7422 : Index := 1#32
  let c1_7423 : Index := 1#32
  let c248_7424 : Index := 248#32
  let c0_7425 : Index := 0#32
  ![v16312.toNat, 1, 1, 248, 0]
def k0_off472 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let arg1 : BitVec 32 := BitVec.ofNat 32 (i 1).val
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v17132 : Index := Scalar.indexCast v10249
  let c1_7730 : Index := 1#32
  let c2_7731 : Index := 2#32
  let c0_7732 : Index := 0#32
  let c0_7733 : Index := 0#32
  ![v17132.toNat, 1, 2, 0, 0]
def k0_off473 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17137 : Index := Scalar.indexCast v10247
  let c1_7734 : Index := 1#32
  let c2_7735 : Index := 2#32
  let c0_7736 : Index := 0#32
  let c0_7737 : Index := 0#32
  ![v17137.toNat, 1, 2, 0, 0]
def k0_off474 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17143 : Index := Scalar.indexCast v10247
  let c1_7738 : Index := 1#32
  let c2_7739 : Index := 2#32
  let c8_7740 : Index := 8#32
  let c0_7741 : Index := 0#32
  ![v17143.toNat, 1, 2, 8, 0]
def k0_off475 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17149 : Index := Scalar.indexCast v10247
  let c1_7742 : Index := 1#32
  let c2_7743 : Index := 2#32
  let c16_7744 : Index := 16#32
  let c0_7745 : Index := 0#32
  ![v17149.toNat, 1, 2, 16, 0]
def k0_off476 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17155 : Index := Scalar.indexCast v10247
  let c1_7746 : Index := 1#32
  let c2_7747 : Index := 2#32
  let c24_7748 : Index := 24#32
  let c0_7749 : Index := 0#32
  ![v17155.toNat, 1, 2, 24, 0]
def k0_off477 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17161 : Index := Scalar.indexCast v10247
  let c1_7750 : Index := 1#32
  let c2_7751 : Index := 2#32
  let c32_7752 : Index := 32#32
  let c0_7753 : Index := 0#32
  ![v17161.toNat, 1, 2, 32, 0]
def k0_off478 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17167 : Index := Scalar.indexCast v10247
  let c1_7754 : Index := 1#32
  let c2_7755 : Index := 2#32
  let c40_7756 : Index := 40#32
  let c0_7757 : Index := 0#32
  ![v17167.toNat, 1, 2, 40, 0]
def k0_off479 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17173 : Index := Scalar.indexCast v10247
  let c1_7758 : Index := 1#32
  let c2_7759 : Index := 2#32
  let c48_7760 : Index := 48#32
  let c0_7761 : Index := 0#32
  ![v17173.toNat, 1, 2, 48, 0]
def k0_off480 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17179 : Index := Scalar.indexCast v10247
  let c1_7762 : Index := 1#32
  let c2_7763 : Index := 2#32
  let c56_7764 : Index := 56#32
  let c0_7765 : Index := 0#32
  ![v17179.toNat, 1, 2, 56, 0]
def k0_off481 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17185 : Index := Scalar.indexCast v10247
  let c1_7766 : Index := 1#32
  let c2_7767 : Index := 2#32
  let c64_7768 : Index := 64#32
  let c0_7769 : Index := 0#32
  ![v17185.toNat, 1, 2, 64, 0]
def k0_off482 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17191 : Index := Scalar.indexCast v10247
  let c1_7770 : Index := 1#32
  let c2_7771 : Index := 2#32
  let c72_7772 : Index := 72#32
  let c0_7773 : Index := 0#32
  ![v17191.toNat, 1, 2, 72, 0]
def k0_off483 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17197 : Index := Scalar.indexCast v10247
  let c1_7774 : Index := 1#32
  let c2_7775 : Index := 2#32
  let c80_7776 : Index := 80#32
  let c0_7777 : Index := 0#32
  ![v17197.toNat, 1, 2, 80, 0]
def k0_off484 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17203 : Index := Scalar.indexCast v10247
  let c1_7778 : Index := 1#32
  let c2_7779 : Index := 2#32
  let c88_7780 : Index := 88#32
  let c0_7781 : Index := 0#32
  ![v17203.toNat, 1, 2, 88, 0]
def k0_off485 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17209 : Index := Scalar.indexCast v10247
  let c1_7782 : Index := 1#32
  let c2_7783 : Index := 2#32
  let c96_7784 : Index := 96#32
  let c0_7785 : Index := 0#32
  ![v17209.toNat, 1, 2, 96, 0]
def k0_off486 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17215 : Index := Scalar.indexCast v10247
  let c1_7786 : Index := 1#32
  let c2_7787 : Index := 2#32
  let c104_7788 : Index := 104#32
  let c0_7789 : Index := 0#32
  ![v17215.toNat, 1, 2, 104, 0]
def k0_off487 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17221 : Index := Scalar.indexCast v10247
  let c1_7790 : Index := 1#32
  let c2_7791 : Index := 2#32
  let c112_7792 : Index := 112#32
  let c0_7793 : Index := 0#32
  ![v17221.toNat, 1, 2, 112, 0]
def k0_off488 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17227 : Index := Scalar.indexCast v10247
  let c1_7794 : Index := 1#32
  let c2_7795 : Index := 2#32
  let c120_7796 : Index := 120#32
  let c0_7797 : Index := 0#32
  ![v17227.toNat, 1, 2, 120, 0]
def k0_off489 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17233 : Index := Scalar.indexCast v10247
  let c1_7798 : Index := 1#32
  let c2_7799 : Index := 2#32
  let c128_7800 : Index := 128#32
  let c0_7801 : Index := 0#32
  ![v17233.toNat, 1, 2, 128, 0]
def k0_off490 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17239 : Index := Scalar.indexCast v10247
  let c1_7802 : Index := 1#32
  let c2_7803 : Index := 2#32
  let c136_7804 : Index := 136#32
  let c0_7805 : Index := 0#32
  ![v17239.toNat, 1, 2, 136, 0]
def k0_off491 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17245 : Index := Scalar.indexCast v10247
  let c1_7806 : Index := 1#32
  let c2_7807 : Index := 2#32
  let c144_7808 : Index := 144#32
  let c0_7809 : Index := 0#32
  ![v17245.toNat, 1, 2, 144, 0]
def k0_off492 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17251 : Index := Scalar.indexCast v10247
  let c1_7810 : Index := 1#32
  let c2_7811 : Index := 2#32
  let c152_7812 : Index := 152#32
  let c0_7813 : Index := 0#32
  ![v17251.toNat, 1, 2, 152, 0]
def k0_off493 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17257 : Index := Scalar.indexCast v10247
  let c1_7814 : Index := 1#32
  let c2_7815 : Index := 2#32
  let c160_7816 : Index := 160#32
  let c0_7817 : Index := 0#32
  ![v17257.toNat, 1, 2, 160, 0]
def k0_off494 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17263 : Index := Scalar.indexCast v10247
  let c1_7818 : Index := 1#32
  let c2_7819 : Index := 2#32
  let c168_7820 : Index := 168#32
  let c0_7821 : Index := 0#32
  ![v17263.toNat, 1, 2, 168, 0]
def k0_off495 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17269 : Index := Scalar.indexCast v10247
  let c1_7822 : Index := 1#32
  let c2_7823 : Index := 2#32
  let c176_7824 : Index := 176#32
  let c0_7825 : Index := 0#32
  ![v17269.toNat, 1, 2, 176, 0]
def k0_off496 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17275 : Index := Scalar.indexCast v10247
  let c1_7826 : Index := 1#32
  let c2_7827 : Index := 2#32
  let c184_7828 : Index := 184#32
  let c0_7829 : Index := 0#32
  ![v17275.toNat, 1, 2, 184, 0]
def k0_off497 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17281 : Index := Scalar.indexCast v10247
  let c1_7830 : Index := 1#32
  let c2_7831 : Index := 2#32
  let c192_7832 : Index := 192#32
  let c0_7833 : Index := 0#32
  ![v17281.toNat, 1, 2, 192, 0]
def k0_off498 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17287 : Index := Scalar.indexCast v10247
  let c1_7834 : Index := 1#32
  let c2_7835 : Index := 2#32
  let c200_7836 : Index := 200#32
  let c0_7837 : Index := 0#32
  ![v17287.toNat, 1, 2, 200, 0]
def k0_off499 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17293 : Index := Scalar.indexCast v10247
  let c1_7838 : Index := 1#32
  let c2_7839 : Index := 2#32
  let c208_7840 : Index := 208#32
  let c0_7841 : Index := 0#32
  ![v17293.toNat, 1, 2, 208, 0]
def k0_off500 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17299 : Index := Scalar.indexCast v10247
  let c1_7842 : Index := 1#32
  let c2_7843 : Index := 2#32
  let c216_7844 : Index := 216#32
  let c0_7845 : Index := 0#32
  ![v17299.toNat, 1, 2, 216, 0]
def k0_off501 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17305 : Index := Scalar.indexCast v10247
  let c1_7846 : Index := 1#32
  let c2_7847 : Index := 2#32
  let c224_7848 : Index := 224#32
  let c0_7849 : Index := 0#32
  ![v17305.toNat, 1, 2, 224, 0]
def k0_off502 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17311 : Index := Scalar.indexCast v10247
  let c1_7850 : Index := 1#32
  let c2_7851 : Index := 2#32
  let c232_7852 : Index := 232#32
  let c0_7853 : Index := 0#32
  ![v17311.toNat, 1, 2, 232, 0]
def k0_off503 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17317 : Index := Scalar.indexCast v10247
  let c1_7854 : Index := 1#32
  let c2_7855 : Index := 2#32
  let c240_7856 : Index := 240#32
  let c0_7857 : Index := 0#32
  ![v17317.toNat, 1, 2, 240, 0]
def k0_off504 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v17323 : Index := Scalar.indexCast v10247
  let c1_7859 : Index := 1#32
  let c2_7860 : Index := 2#32
  let c248_7861 : Index := 248#32
  let c0_7862 : Index := 0#32
  ![v17323.toNat, 1, 2, 248, 0]
def k0_off505 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let arg1 : BitVec 32 := BitVec.ofNat 32 (i 1).val
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v18143 : Index := Scalar.indexCast v10249
  let c1_8167 : Index := 1#32
  let c3_8168 : Index := 3#32
  let c0_8169 : Index := 0#32
  let c0_8170 : Index := 0#32
  ![v18143.toNat, 1, 3, 0, 0]
def k0_off506 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18148 : Index := Scalar.indexCast v10247
  let c1_8171 : Index := 1#32
  let c3_8172 : Index := 3#32
  let c0_8173 : Index := 0#32
  let c0_8174 : Index := 0#32
  ![v18148.toNat, 1, 3, 0, 0]
def k0_off507 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18154 : Index := Scalar.indexCast v10247
  let c1_8175 : Index := 1#32
  let c3_8176 : Index := 3#32
  let c8_8177 : Index := 8#32
  let c0_8178 : Index := 0#32
  ![v18154.toNat, 1, 3, 8, 0]
def k0_off508 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18160 : Index := Scalar.indexCast v10247
  let c1_8179 : Index := 1#32
  let c3_8180 : Index := 3#32
  let c16_8181 : Index := 16#32
  let c0_8182 : Index := 0#32
  ![v18160.toNat, 1, 3, 16, 0]
def k0_off509 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18166 : Index := Scalar.indexCast v10247
  let c1_8183 : Index := 1#32
  let c3_8184 : Index := 3#32
  let c24_8185 : Index := 24#32
  let c0_8186 : Index := 0#32
  ![v18166.toNat, 1, 3, 24, 0]
def k0_off510 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18172 : Index := Scalar.indexCast v10247
  let c1_8187 : Index := 1#32
  let c3_8188 : Index := 3#32
  let c32_8189 : Index := 32#32
  let c0_8190 : Index := 0#32
  ![v18172.toNat, 1, 3, 32, 0]
def k0_off511 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18178 : Index := Scalar.indexCast v10247
  let c1_8191 : Index := 1#32
  let c3_8192 : Index := 3#32
  let c40_8193 : Index := 40#32
  let c0_8194 : Index := 0#32
  ![v18178.toNat, 1, 3, 40, 0]
def k0_off512 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18184 : Index := Scalar.indexCast v10247
  let c1_8195 : Index := 1#32
  let c3_8196 : Index := 3#32
  let c48_8197 : Index := 48#32
  let c0_8198 : Index := 0#32
  ![v18184.toNat, 1, 3, 48, 0]
def k0_off513 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18190 : Index := Scalar.indexCast v10247
  let c1_8199 : Index := 1#32
  let c3_8200 : Index := 3#32
  let c56_8201 : Index := 56#32
  let c0_8202 : Index := 0#32
  ![v18190.toNat, 1, 3, 56, 0]
def k0_off514 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18196 : Index := Scalar.indexCast v10247
  let c1_8203 : Index := 1#32
  let c3_8204 : Index := 3#32
  let c64_8205 : Index := 64#32
  let c0_8206 : Index := 0#32
  ![v18196.toNat, 1, 3, 64, 0]
def k0_off515 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18202 : Index := Scalar.indexCast v10247
  let c1_8207 : Index := 1#32
  let c3_8208 : Index := 3#32
  let c72_8209 : Index := 72#32
  let c0_8210 : Index := 0#32
  ![v18202.toNat, 1, 3, 72, 0]
def k0_off516 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18208 : Index := Scalar.indexCast v10247
  let c1_8211 : Index := 1#32
  let c3_8212 : Index := 3#32
  let c80_8213 : Index := 80#32
  let c0_8214 : Index := 0#32
  ![v18208.toNat, 1, 3, 80, 0]
def k0_off517 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18214 : Index := Scalar.indexCast v10247
  let c1_8215 : Index := 1#32
  let c3_8216 : Index := 3#32
  let c88_8217 : Index := 88#32
  let c0_8218 : Index := 0#32
  ![v18214.toNat, 1, 3, 88, 0]
def k0_off518 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18220 : Index := Scalar.indexCast v10247
  let c1_8219 : Index := 1#32
  let c3_8220 : Index := 3#32
  let c96_8221 : Index := 96#32
  let c0_8222 : Index := 0#32
  ![v18220.toNat, 1, 3, 96, 0]
def k0_off519 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18226 : Index := Scalar.indexCast v10247
  let c1_8223 : Index := 1#32
  let c3_8224 : Index := 3#32
  let c104_8225 : Index := 104#32
  let c0_8226 : Index := 0#32
  ![v18226.toNat, 1, 3, 104, 0]
def k0_off520 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18232 : Index := Scalar.indexCast v10247
  let c1_8227 : Index := 1#32
  let c3_8228 : Index := 3#32
  let c112_8229 : Index := 112#32
  let c0_8230 : Index := 0#32
  ![v18232.toNat, 1, 3, 112, 0]
def k0_off521 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18238 : Index := Scalar.indexCast v10247
  let c1_8231 : Index := 1#32
  let c3_8232 : Index := 3#32
  let c120_8233 : Index := 120#32
  let c0_8234 : Index := 0#32
  ![v18238.toNat, 1, 3, 120, 0]
def k0_off522 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18244 : Index := Scalar.indexCast v10247
  let c1_8235 : Index := 1#32
  let c3_8236 : Index := 3#32
  let c128_8237 : Index := 128#32
  let c0_8238 : Index := 0#32
  ![v18244.toNat, 1, 3, 128, 0]
def k0_off523 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18250 : Index := Scalar.indexCast v10247
  let c1_8239 : Index := 1#32
  let c3_8240 : Index := 3#32
  let c136_8241 : Index := 136#32
  let c0_8242 : Index := 0#32
  ![v18250.toNat, 1, 3, 136, 0]
def k0_off524 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18256 : Index := Scalar.indexCast v10247
  let c1_8243 : Index := 1#32
  let c3_8244 : Index := 3#32
  let c144_8245 : Index := 144#32
  let c0_8246 : Index := 0#32
  ![v18256.toNat, 1, 3, 144, 0]
def k0_off525 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18262 : Index := Scalar.indexCast v10247
  let c1_8247 : Index := 1#32
  let c3_8248 : Index := 3#32
  let c152_8249 : Index := 152#32
  let c0_8250 : Index := 0#32
  ![v18262.toNat, 1, 3, 152, 0]
def k0_off526 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18268 : Index := Scalar.indexCast v10247
  let c1_8251 : Index := 1#32
  let c3_8252 : Index := 3#32
  let c160_8253 : Index := 160#32
  let c0_8254 : Index := 0#32
  ![v18268.toNat, 1, 3, 160, 0]
def k0_off527 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18274 : Index := Scalar.indexCast v10247
  let c1_8255 : Index := 1#32
  let c3_8256 : Index := 3#32
  let c168_8257 : Index := 168#32
  let c0_8258 : Index := 0#32
  ![v18274.toNat, 1, 3, 168, 0]
def k0_off528 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18280 : Index := Scalar.indexCast v10247
  let c1_8259 : Index := 1#32
  let c3_8260 : Index := 3#32
  let c176_8261 : Index := 176#32
  let c0_8262 : Index := 0#32
  ![v18280.toNat, 1, 3, 176, 0]
def k0_off529 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18286 : Index := Scalar.indexCast v10247
  let c1_8263 : Index := 1#32
  let c3_8264 : Index := 3#32
  let c184_8265 : Index := 184#32
  let c0_8266 : Index := 0#32
  ![v18286.toNat, 1, 3, 184, 0]
def k0_off530 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18292 : Index := Scalar.indexCast v10247
  let c1_8267 : Index := 1#32
  let c3_8268 : Index := 3#32
  let c192_8269 : Index := 192#32
  let c0_8270 : Index := 0#32
  ![v18292.toNat, 1, 3, 192, 0]
def k0_off531 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18298 : Index := Scalar.indexCast v10247
  let c1_8271 : Index := 1#32
  let c3_8272 : Index := 3#32
  let c200_8273 : Index := 200#32
  let c0_8274 : Index := 0#32
  ![v18298.toNat, 1, 3, 200, 0]
def k0_off532 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18304 : Index := Scalar.indexCast v10247
  let c1_8275 : Index := 1#32
  let c3_8276 : Index := 3#32
  let c208_8277 : Index := 208#32
  let c0_8278 : Index := 0#32
  ![v18304.toNat, 1, 3, 208, 0]
def k0_off533 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18310 : Index := Scalar.indexCast v10247
  let c1_8279 : Index := 1#32
  let c3_8280 : Index := 3#32
  let c216_8281 : Index := 216#32
  let c0_8282 : Index := 0#32
  ![v18310.toNat, 1, 3, 216, 0]
def k0_off534 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18316 : Index := Scalar.indexCast v10247
  let c1_8283 : Index := 1#32
  let c3_8284 : Index := 3#32
  let c224_8285 : Index := 224#32
  let c0_8286 : Index := 0#32
  ![v18316.toNat, 1, 3, 224, 0]
def k0_off535 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18322 : Index := Scalar.indexCast v10247
  let c1_8287 : Index := 1#32
  let c3_8288 : Index := 3#32
  let c232_8289 : Index := 232#32
  let c0_8290 : Index := 0#32
  ![v18322.toNat, 1, 3, 232, 0]
def k0_off536 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18328 : Index := Scalar.indexCast v10247
  let c1_8291 : Index := 1#32
  let c3_8292 : Index := 3#32
  let c240_8293 : Index := 240#32
  let c0_8294 : Index := 0#32
  ![v18328.toNat, 1, 3, 240, 0]
def k0_off537 (i : grid0.Coords) (k0_t2 : Fin (k0_t2_loop i).trips) : Fin 5 → Nat :=
  let c2_i32_4800 : BitVec 32 := 2#32
  let c0_i32_426 : BitVec 32 := 0#32
  let c1_i32_428 : BitVec 32 := 1#32
  let arg14 : BitVec 32 := Scf.iv c0_i32_426 c1_i32_428 k0_t2
  let v10246 : BitVec 32 := Scalar.muli c2_i32_4800 arg14
  let c1_i32_4801 : BitVec 32 := 1#32
  let v10247 : BitVec 32 := Scalar.addi v10246 c1_i32_4801
  let v18334 : Index := Scalar.indexCast v10247
  let c1_8296 : Index := 1#32
  let c3_8297 : Index := 3#32
  let c248_8298 : Index := 248#32
  let c0_8299 : Index := 0#32
  ![v18334.toNat, 1, 3, 248, 0]
@[reducible] def k0_t3_loop (i : grid0.Coords) : Scf.Loop 32 :=
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let v681 : BitVec 32 := Scalar.addi c0_i32_426 v680
  let c1_i32_429 : BitVec 32 := 1#32
  ⟨v684, v681, c1_i32_429⟩
def k0_mult5 (i : grid0.Coords) (k0_t3 : Fin (k0_t3_loop i).trips) : BitVec 32 :=
  let c2_i32_496 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v819 : BitVec 32 := Scalar.muli c2_i32_496 arg14
  let c1_i32_497 : BitVec 32 := 1#32
  let v820 : BitVec 32 := Scalar.addi v819 c1_i32_497
  let c512_i32 : BitVec 32 := 512#32
  let v821 : BitVec 32 := Scalar.muli v820 c512_i32
  v821
def k0_off538 (i : grid0.Coords) (k0_t3 : Fin (k0_t3_loop i).trips) (c1_i32_497 : BitVec 32) (c0_i32_498 : BitVec 32) : Fin 3 → Nat :=
  let c0_499 : Index := 0#32
  let c2_i32_496 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v819 : BitVec 32 := Scalar.muli c2_i32_496 arg14
  let v820 : BitVec 32 := Scalar.addi v819 c1_i32_497
  let c512_i32 : BitVec 32 := 512#32
  let v821 : BitVec 32 := Scalar.muli v820 c512_i32
  let v822 : BitVec 32 := v821
  let v823 : BitVec 32 := Scalar.addi v822 c0_i32_498
  let v824 : Index := Scalar.indexCast v823
  let c0_500 : Index := 0#32
  ![0, v824.toNat, 0]
def k0_off539 (i : grid0.Coords) (c0_i32_550 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v901 : BitVec 32 := Scalar.addi v7 c0_i32_550
  let v902 : Index := Scalar.indexCast v901
  let c0_551 : Index := 0#32
  ![v902.toNat, 0]
def k0_off540 (i : grid0.Coords) (c0_i32_933 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v1490 : BitVec 32 := Scalar.addi v7 c0_i32_933
  let v1491 : Index := Scalar.indexCast v1490
  let c0_934 : Index := 0#32
  ![v1491.toNat, 0]
def k0_off541 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v2306 : Index := Scalar.indexCast v1489
  let c0_1206 : Index := 0#32
  let c0_1207 : Index := 0#32
  let c0_1208 : Index := 0#32
  let c0_1209 : Index := 0#32
  ![v2306.toNat, 0, 0, 0, 0]
def k0_off542 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2311 : Index := Scalar.indexCast v1487
  let c0_1210 : Index := 0#32
  let c0_1211 : Index := 0#32
  let c0_1212 : Index := 0#32
  let c0_1213 : Index := 0#32
  ![v2311.toNat, 0, 0, 0, 0]
def k0_off543 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2317 : Index := Scalar.indexCast v1487
  let c0_1214 : Index := 0#32
  let c0_1215 : Index := 0#32
  let c8 : Index := 8#32
  let c0_1216 : Index := 0#32
  ![v2317.toNat, 0, 0, 8, 0]
def k0_off544 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2323 : Index := Scalar.indexCast v1487
  let c0_1217 : Index := 0#32
  let c0_1218 : Index := 0#32
  let c16 : Index := 16#32
  let c0_1219 : Index := 0#32
  ![v2323.toNat, 0, 0, 16, 0]
def k0_off545 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2329 : Index := Scalar.indexCast v1487
  let c0_1220 : Index := 0#32
  let c0_1221 : Index := 0#32
  let c24 : Index := 24#32
  let c0_1222 : Index := 0#32
  ![v2329.toNat, 0, 0, 24, 0]
def k0_off546 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2335 : Index := Scalar.indexCast v1487
  let c0_1223 : Index := 0#32
  let c0_1224 : Index := 0#32
  let c32 : Index := 32#32
  let c0_1225 : Index := 0#32
  ![v2335.toNat, 0, 0, 32, 0]
def k0_off547 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2341 : Index := Scalar.indexCast v1487
  let c0_1226 : Index := 0#32
  let c0_1227 : Index := 0#32
  let c40 : Index := 40#32
  let c0_1228 : Index := 0#32
  ![v2341.toNat, 0, 0, 40, 0]
def k0_off548 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2347 : Index := Scalar.indexCast v1487
  let c0_1229 : Index := 0#32
  let c0_1230 : Index := 0#32
  let c48 : Index := 48#32
  let c0_1231 : Index := 0#32
  ![v2347.toNat, 0, 0, 48, 0]
def k0_off549 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2353 : Index := Scalar.indexCast v1487
  let c0_1232 : Index := 0#32
  let c0_1233 : Index := 0#32
  let c56 : Index := 56#32
  let c0_1234 : Index := 0#32
  ![v2353.toNat, 0, 0, 56, 0]
def k0_off550 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2359 : Index := Scalar.indexCast v1487
  let c0_1235 : Index := 0#32
  let c0_1236 : Index := 0#32
  let c64 : Index := 64#32
  let c0_1237 : Index := 0#32
  ![v2359.toNat, 0, 0, 64, 0]
def k0_off551 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2365 : Index := Scalar.indexCast v1487
  let c0_1238 : Index := 0#32
  let c0_1239 : Index := 0#32
  let c72 : Index := 72#32
  let c0_1240 : Index := 0#32
  ![v2365.toNat, 0, 0, 72, 0]
def k0_off552 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2371 : Index := Scalar.indexCast v1487
  let c0_1241 : Index := 0#32
  let c0_1242 : Index := 0#32
  let c80 : Index := 80#32
  let c0_1243 : Index := 0#32
  ![v2371.toNat, 0, 0, 80, 0]
def k0_off553 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2377 : Index := Scalar.indexCast v1487
  let c0_1244 : Index := 0#32
  let c0_1245 : Index := 0#32
  let c88 : Index := 88#32
  let c0_1246 : Index := 0#32
  ![v2377.toNat, 0, 0, 88, 0]
def k0_off554 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2383 : Index := Scalar.indexCast v1487
  let c0_1247 : Index := 0#32
  let c0_1248 : Index := 0#32
  let c96 : Index := 96#32
  let c0_1249 : Index := 0#32
  ![v2383.toNat, 0, 0, 96, 0]
def k0_off555 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2389 : Index := Scalar.indexCast v1487
  let c0_1250 : Index := 0#32
  let c0_1251 : Index := 0#32
  let c104 : Index := 104#32
  let c0_1252 : Index := 0#32
  ![v2389.toNat, 0, 0, 104, 0]
def k0_off556 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2395 : Index := Scalar.indexCast v1487
  let c0_1253 : Index := 0#32
  let c0_1254 : Index := 0#32
  let c112 : Index := 112#32
  let c0_1255 : Index := 0#32
  ![v2395.toNat, 0, 0, 112, 0]
def k0_off557 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2401 : Index := Scalar.indexCast v1487
  let c0_1256 : Index := 0#32
  let c0_1257 : Index := 0#32
  let c120 : Index := 120#32
  let c0_1258 : Index := 0#32
  ![v2401.toNat, 0, 0, 120, 0]
def k0_off558 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2407 : Index := Scalar.indexCast v1487
  let c0_1259 : Index := 0#32
  let c0_1260 : Index := 0#32
  let c128 : Index := 128#32
  let c0_1261 : Index := 0#32
  ![v2407.toNat, 0, 0, 128, 0]
def k0_off559 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2413 : Index := Scalar.indexCast v1487
  let c0_1262 : Index := 0#32
  let c0_1263 : Index := 0#32
  let c136 : Index := 136#32
  let c0_1264 : Index := 0#32
  ![v2413.toNat, 0, 0, 136, 0]
def k0_off560 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2419 : Index := Scalar.indexCast v1487
  let c0_1265 : Index := 0#32
  let c0_1266 : Index := 0#32
  let c144 : Index := 144#32
  let c0_1267 : Index := 0#32
  ![v2419.toNat, 0, 0, 144, 0]
def k0_off561 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2425 : Index := Scalar.indexCast v1487
  let c0_1268 : Index := 0#32
  let c0_1269 : Index := 0#32
  let c152 : Index := 152#32
  let c0_1270 : Index := 0#32
  ![v2425.toNat, 0, 0, 152, 0]
def k0_off562 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2431 : Index := Scalar.indexCast v1487
  let c0_1271 : Index := 0#32
  let c0_1272 : Index := 0#32
  let c160 : Index := 160#32
  let c0_1273 : Index := 0#32
  ![v2431.toNat, 0, 0, 160, 0]
def k0_off563 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2437 : Index := Scalar.indexCast v1487
  let c0_1274 : Index := 0#32
  let c0_1275 : Index := 0#32
  let c168 : Index := 168#32
  let c0_1276 : Index := 0#32
  ![v2437.toNat, 0, 0, 168, 0]
def k0_off564 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2443 : Index := Scalar.indexCast v1487
  let c0_1277 : Index := 0#32
  let c0_1278 : Index := 0#32
  let c176 : Index := 176#32
  let c0_1279 : Index := 0#32
  ![v2443.toNat, 0, 0, 176, 0]
def k0_off565 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2449 : Index := Scalar.indexCast v1487
  let c0_1280 : Index := 0#32
  let c0_1281 : Index := 0#32
  let c184 : Index := 184#32
  let c0_1282 : Index := 0#32
  ![v2449.toNat, 0, 0, 184, 0]
def k0_off566 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2455 : Index := Scalar.indexCast v1487
  let c0_1283 : Index := 0#32
  let c0_1284 : Index := 0#32
  let c192 : Index := 192#32
  let c0_1285 : Index := 0#32
  ![v2455.toNat, 0, 0, 192, 0]
def k0_off567 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2461 : Index := Scalar.indexCast v1487
  let c0_1286 : Index := 0#32
  let c0_1287 : Index := 0#32
  let c200 : Index := 200#32
  let c0_1288 : Index := 0#32
  ![v2461.toNat, 0, 0, 200, 0]
def k0_off568 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2467 : Index := Scalar.indexCast v1487
  let c0_1289 : Index := 0#32
  let c0_1290 : Index := 0#32
  let c208 : Index := 208#32
  let c0_1291 : Index := 0#32
  ![v2467.toNat, 0, 0, 208, 0]
def k0_off569 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2473 : Index := Scalar.indexCast v1487
  let c0_1292 : Index := 0#32
  let c0_1293 : Index := 0#32
  let c216 : Index := 216#32
  let c0_1294 : Index := 0#32
  ![v2473.toNat, 0, 0, 216, 0]
def k0_off570 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2479 : Index := Scalar.indexCast v1487
  let c0_1295 : Index := 0#32
  let c0_1296 : Index := 0#32
  let c224 : Index := 224#32
  let c0_1297 : Index := 0#32
  ![v2479.toNat, 0, 0, 224, 0]
def k0_off571 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2485 : Index := Scalar.indexCast v1487
  let c0_1298 : Index := 0#32
  let c0_1299 : Index := 0#32
  let c232 : Index := 232#32
  let c0_1300 : Index := 0#32
  ![v2485.toNat, 0, 0, 232, 0]
def k0_off572 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2491 : Index := Scalar.indexCast v1487
  let c0_1301 : Index := 0#32
  let c0_1302 : Index := 0#32
  let c240 : Index := 240#32
  let c0_1303 : Index := 0#32
  ![v2491.toNat, 0, 0, 240, 0]
def k0_off573 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v2497 : Index := Scalar.indexCast v1487
  let c0_1305 : Index := 0#32
  let c0_1306 : Index := 0#32
  let c248 : Index := 248#32
  let c0_1307 : Index := 0#32
  ![v2497.toNat, 0, 0, 248, 0]
def k0_off574 (i : grid0.Coords) (c0_i32_1308 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v2501 : BitVec 32 := Scalar.addi v7 c0_i32_1308
  let v2502 : Index := Scalar.indexCast v2501
  let c128_1309 : Index := 128#32
  ![v2502.toNat, 128]
def k0_off575 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v3317 : Index := Scalar.indexCast v1489
  let c0_1612 : Index := 0#32
  let c1_1613 : Index := 1#32
  let c0_1614 : Index := 0#32
  let c0_1615 : Index := 0#32
  ![v3317.toNat, 0, 1, 0, 0]
def k0_off576 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3322 : Index := Scalar.indexCast v1487
  let c0_1616 : Index := 0#32
  let c1_1617 : Index := 1#32
  let c0_1618 : Index := 0#32
  let c0_1619 : Index := 0#32
  ![v3322.toNat, 0, 1, 0, 0]
def k0_off577 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3328 : Index := Scalar.indexCast v1487
  let c0_1620 : Index := 0#32
  let c1_1621 : Index := 1#32
  let c8_1622 : Index := 8#32
  let c0_1623 : Index := 0#32
  ![v3328.toNat, 0, 1, 8, 0]
def k0_off578 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3334 : Index := Scalar.indexCast v1487
  let c0_1624 : Index := 0#32
  let c1_1625 : Index := 1#32
  let c16_1626 : Index := 16#32
  let c0_1627 : Index := 0#32
  ![v3334.toNat, 0, 1, 16, 0]
def k0_off579 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3340 : Index := Scalar.indexCast v1487
  let c0_1628 : Index := 0#32
  let c1_1629 : Index := 1#32
  let c24_1630 : Index := 24#32
  let c0_1631 : Index := 0#32
  ![v3340.toNat, 0, 1, 24, 0]
def k0_off580 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3346 : Index := Scalar.indexCast v1487
  let c0_1632 : Index := 0#32
  let c1_1633 : Index := 1#32
  let c32_1634 : Index := 32#32
  let c0_1635 : Index := 0#32
  ![v3346.toNat, 0, 1, 32, 0]
def k0_off581 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3352 : Index := Scalar.indexCast v1487
  let c0_1636 : Index := 0#32
  let c1_1637 : Index := 1#32
  let c40_1638 : Index := 40#32
  let c0_1639 : Index := 0#32
  ![v3352.toNat, 0, 1, 40, 0]
def k0_off582 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3358 : Index := Scalar.indexCast v1487
  let c0_1640 : Index := 0#32
  let c1_1641 : Index := 1#32
  let c48_1642 : Index := 48#32
  let c0_1643 : Index := 0#32
  ![v3358.toNat, 0, 1, 48, 0]
def k0_off583 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3364 : Index := Scalar.indexCast v1487
  let c0_1644 : Index := 0#32
  let c1_1645 : Index := 1#32
  let c56_1646 : Index := 56#32
  let c0_1647 : Index := 0#32
  ![v3364.toNat, 0, 1, 56, 0]
def k0_off584 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3370 : Index := Scalar.indexCast v1487
  let c0_1648 : Index := 0#32
  let c1_1649 : Index := 1#32
  let c64_1650 : Index := 64#32
  let c0_1651 : Index := 0#32
  ![v3370.toNat, 0, 1, 64, 0]
def k0_off585 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3376 : Index := Scalar.indexCast v1487
  let c0_1652 : Index := 0#32
  let c1_1653 : Index := 1#32
  let c72_1654 : Index := 72#32
  let c0_1655 : Index := 0#32
  ![v3376.toNat, 0, 1, 72, 0]
def k0_off586 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3382 : Index := Scalar.indexCast v1487
  let c0_1656 : Index := 0#32
  let c1_1657 : Index := 1#32
  let c80_1658 : Index := 80#32
  let c0_1659 : Index := 0#32
  ![v3382.toNat, 0, 1, 80, 0]
def k0_off587 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3388 : Index := Scalar.indexCast v1487
  let c0_1660 : Index := 0#32
  let c1_1661 : Index := 1#32
  let c88_1662 : Index := 88#32
  let c0_1663 : Index := 0#32
  ![v3388.toNat, 0, 1, 88, 0]
def k0_off588 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3394 : Index := Scalar.indexCast v1487
  let c0_1664 : Index := 0#32
  let c1_1665 : Index := 1#32
  let c96_1666 : Index := 96#32
  let c0_1667 : Index := 0#32
  ![v3394.toNat, 0, 1, 96, 0]
def k0_off589 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3400 : Index := Scalar.indexCast v1487
  let c0_1668 : Index := 0#32
  let c1_1669 : Index := 1#32
  let c104_1670 : Index := 104#32
  let c0_1671 : Index := 0#32
  ![v3400.toNat, 0, 1, 104, 0]
def k0_off590 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3406 : Index := Scalar.indexCast v1487
  let c0_1672 : Index := 0#32
  let c1_1673 : Index := 1#32
  let c112_1674 : Index := 112#32
  let c0_1675 : Index := 0#32
  ![v3406.toNat, 0, 1, 112, 0]
def k0_off591 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3412 : Index := Scalar.indexCast v1487
  let c0_1676 : Index := 0#32
  let c1_1677 : Index := 1#32
  let c120_1678 : Index := 120#32
  let c0_1679 : Index := 0#32
  ![v3412.toNat, 0, 1, 120, 0]
def k0_off592 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3418 : Index := Scalar.indexCast v1487
  let c0_1680 : Index := 0#32
  let c1_1681 : Index := 1#32
  let c128_1682 : Index := 128#32
  let c0_1683 : Index := 0#32
  ![v3418.toNat, 0, 1, 128, 0]
def k0_off593 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3424 : Index := Scalar.indexCast v1487
  let c0_1684 : Index := 0#32
  let c1_1685 : Index := 1#32
  let c136_1686 : Index := 136#32
  let c0_1687 : Index := 0#32
  ![v3424.toNat, 0, 1, 136, 0]
def k0_off594 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3430 : Index := Scalar.indexCast v1487
  let c0_1688 : Index := 0#32
  let c1_1689 : Index := 1#32
  let c144_1690 : Index := 144#32
  let c0_1691 : Index := 0#32
  ![v3430.toNat, 0, 1, 144, 0]
def k0_off595 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3436 : Index := Scalar.indexCast v1487
  let c0_1692 : Index := 0#32
  let c1_1693 : Index := 1#32
  let c152_1694 : Index := 152#32
  let c0_1695 : Index := 0#32
  ![v3436.toNat, 0, 1, 152, 0]
def k0_off596 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3442 : Index := Scalar.indexCast v1487
  let c0_1696 : Index := 0#32
  let c1_1697 : Index := 1#32
  let c160_1698 : Index := 160#32
  let c0_1699 : Index := 0#32
  ![v3442.toNat, 0, 1, 160, 0]
def k0_off597 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3448 : Index := Scalar.indexCast v1487
  let c0_1700 : Index := 0#32
  let c1_1701 : Index := 1#32
  let c168_1702 : Index := 168#32
  let c0_1703 : Index := 0#32
  ![v3448.toNat, 0, 1, 168, 0]
def k0_off598 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3454 : Index := Scalar.indexCast v1487
  let c0_1704 : Index := 0#32
  let c1_1705 : Index := 1#32
  let c176_1706 : Index := 176#32
  let c0_1707 : Index := 0#32
  ![v3454.toNat, 0, 1, 176, 0]
def k0_off599 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3460 : Index := Scalar.indexCast v1487
  let c0_1708 : Index := 0#32
  let c1_1709 : Index := 1#32
  let c184_1710 : Index := 184#32
  let c0_1711 : Index := 0#32
  ![v3460.toNat, 0, 1, 184, 0]
def k0_off600 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3466 : Index := Scalar.indexCast v1487
  let c0_1712 : Index := 0#32
  let c1_1713 : Index := 1#32
  let c192_1714 : Index := 192#32
  let c0_1715 : Index := 0#32
  ![v3466.toNat, 0, 1, 192, 0]
def k0_off601 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3472 : Index := Scalar.indexCast v1487
  let c0_1716 : Index := 0#32
  let c1_1717 : Index := 1#32
  let c200_1718 : Index := 200#32
  let c0_1719 : Index := 0#32
  ![v3472.toNat, 0, 1, 200, 0]
def k0_off602 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3478 : Index := Scalar.indexCast v1487
  let c0_1720 : Index := 0#32
  let c1_1721 : Index := 1#32
  let c208_1722 : Index := 208#32
  let c0_1723 : Index := 0#32
  ![v3478.toNat, 0, 1, 208, 0]
def k0_off603 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3484 : Index := Scalar.indexCast v1487
  let c0_1724 : Index := 0#32
  let c1_1725 : Index := 1#32
  let c216_1726 : Index := 216#32
  let c0_1727 : Index := 0#32
  ![v3484.toNat, 0, 1, 216, 0]
def k0_off604 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3490 : Index := Scalar.indexCast v1487
  let c0_1728 : Index := 0#32
  let c1_1729 : Index := 1#32
  let c224_1730 : Index := 224#32
  let c0_1731 : Index := 0#32
  ![v3490.toNat, 0, 1, 224, 0]
def k0_off605 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3496 : Index := Scalar.indexCast v1487
  let c0_1732 : Index := 0#32
  let c1_1733 : Index := 1#32
  let c232_1734 : Index := 232#32
  let c0_1735 : Index := 0#32
  ![v3496.toNat, 0, 1, 232, 0]
def k0_off606 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3502 : Index := Scalar.indexCast v1487
  let c0_1736 : Index := 0#32
  let c1_1737 : Index := 1#32
  let c240_1738 : Index := 240#32
  let c0_1739 : Index := 0#32
  ![v3502.toNat, 0, 1, 240, 0]
def k0_off607 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v3508 : Index := Scalar.indexCast v1487
  let c0_1741 : Index := 0#32
  let c1_1742 : Index := 1#32
  let c248_1743 : Index := 248#32
  let c0_1744 : Index := 0#32
  ![v3508.toNat, 0, 1, 248, 0]
def k0_off608 (i : grid0.Coords) (c0_i32_1745 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v3512 : BitVec 32 := Scalar.addi v7 c0_i32_1745
  let v3513 : Index := Scalar.indexCast v3512
  let c256 : Index := 256#32
  ![v3513.toNat, 256]
def k0_off609 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v4328 : Index := Scalar.indexCast v1489
  let c0_2048 : Index := 0#32
  let c2_2049 : Index := 2#32
  let c0_2050 : Index := 0#32
  let c0_2051 : Index := 0#32
  ![v4328.toNat, 0, 2, 0, 0]
def k0_off610 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4333 : Index := Scalar.indexCast v1487
  let c0_2052 : Index := 0#32
  let c2_2053 : Index := 2#32
  let c0_2054 : Index := 0#32
  let c0_2055 : Index := 0#32
  ![v4333.toNat, 0, 2, 0, 0]
def k0_off611 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4339 : Index := Scalar.indexCast v1487
  let c0_2056 : Index := 0#32
  let c2_2057 : Index := 2#32
  let c8_2058 : Index := 8#32
  let c0_2059 : Index := 0#32
  ![v4339.toNat, 0, 2, 8, 0]
def k0_off612 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4345 : Index := Scalar.indexCast v1487
  let c0_2060 : Index := 0#32
  let c2_2061 : Index := 2#32
  let c16_2062 : Index := 16#32
  let c0_2063 : Index := 0#32
  ![v4345.toNat, 0, 2, 16, 0]
def k0_off613 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4351 : Index := Scalar.indexCast v1487
  let c0_2064 : Index := 0#32
  let c2_2065 : Index := 2#32
  let c24_2066 : Index := 24#32
  let c0_2067 : Index := 0#32
  ![v4351.toNat, 0, 2, 24, 0]
def k0_off614 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4357 : Index := Scalar.indexCast v1487
  let c0_2068 : Index := 0#32
  let c2_2069 : Index := 2#32
  let c32_2070 : Index := 32#32
  let c0_2071 : Index := 0#32
  ![v4357.toNat, 0, 2, 32, 0]
def k0_off615 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4363 : Index := Scalar.indexCast v1487
  let c0_2072 : Index := 0#32
  let c2_2073 : Index := 2#32
  let c40_2074 : Index := 40#32
  let c0_2075 : Index := 0#32
  ![v4363.toNat, 0, 2, 40, 0]
def k0_off616 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4369 : Index := Scalar.indexCast v1487
  let c0_2076 : Index := 0#32
  let c2_2077 : Index := 2#32
  let c48_2078 : Index := 48#32
  let c0_2079 : Index := 0#32
  ![v4369.toNat, 0, 2, 48, 0]
def k0_off617 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4375 : Index := Scalar.indexCast v1487
  let c0_2080 : Index := 0#32
  let c2_2081 : Index := 2#32
  let c56_2082 : Index := 56#32
  let c0_2083 : Index := 0#32
  ![v4375.toNat, 0, 2, 56, 0]
def k0_off618 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4381 : Index := Scalar.indexCast v1487
  let c0_2084 : Index := 0#32
  let c2_2085 : Index := 2#32
  let c64_2086 : Index := 64#32
  let c0_2087 : Index := 0#32
  ![v4381.toNat, 0, 2, 64, 0]
def k0_off619 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4387 : Index := Scalar.indexCast v1487
  let c0_2088 : Index := 0#32
  let c2_2089 : Index := 2#32
  let c72_2090 : Index := 72#32
  let c0_2091 : Index := 0#32
  ![v4387.toNat, 0, 2, 72, 0]
def k0_off620 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4393 : Index := Scalar.indexCast v1487
  let c0_2092 : Index := 0#32
  let c2_2093 : Index := 2#32
  let c80_2094 : Index := 80#32
  let c0_2095 : Index := 0#32
  ![v4393.toNat, 0, 2, 80, 0]
def k0_off621 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4399 : Index := Scalar.indexCast v1487
  let c0_2096 : Index := 0#32
  let c2_2097 : Index := 2#32
  let c88_2098 : Index := 88#32
  let c0_2099 : Index := 0#32
  ![v4399.toNat, 0, 2, 88, 0]
def k0_off622 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4405 : Index := Scalar.indexCast v1487
  let c0_2100 : Index := 0#32
  let c2_2101 : Index := 2#32
  let c96_2102 : Index := 96#32
  let c0_2103 : Index := 0#32
  ![v4405.toNat, 0, 2, 96, 0]
def k0_off623 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4411 : Index := Scalar.indexCast v1487
  let c0_2104 : Index := 0#32
  let c2_2105 : Index := 2#32
  let c104_2106 : Index := 104#32
  let c0_2107 : Index := 0#32
  ![v4411.toNat, 0, 2, 104, 0]
def k0_off624 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4417 : Index := Scalar.indexCast v1487
  let c0_2108 : Index := 0#32
  let c2_2109 : Index := 2#32
  let c112_2110 : Index := 112#32
  let c0_2111 : Index := 0#32
  ![v4417.toNat, 0, 2, 112, 0]
def k0_off625 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4423 : Index := Scalar.indexCast v1487
  let c0_2112 : Index := 0#32
  let c2_2113 : Index := 2#32
  let c120_2114 : Index := 120#32
  let c0_2115 : Index := 0#32
  ![v4423.toNat, 0, 2, 120, 0]
def k0_off626 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4429 : Index := Scalar.indexCast v1487
  let c0_2116 : Index := 0#32
  let c2_2117 : Index := 2#32
  let c128_2118 : Index := 128#32
  let c0_2119 : Index := 0#32
  ![v4429.toNat, 0, 2, 128, 0]
def k0_off627 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4435 : Index := Scalar.indexCast v1487
  let c0_2120 : Index := 0#32
  let c2_2121 : Index := 2#32
  let c136_2122 : Index := 136#32
  let c0_2123 : Index := 0#32
  ![v4435.toNat, 0, 2, 136, 0]
def k0_off628 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4441 : Index := Scalar.indexCast v1487
  let c0_2124 : Index := 0#32
  let c2_2125 : Index := 2#32
  let c144_2126 : Index := 144#32
  let c0_2127 : Index := 0#32
  ![v4441.toNat, 0, 2, 144, 0]
def k0_off629 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4447 : Index := Scalar.indexCast v1487
  let c0_2128 : Index := 0#32
  let c2_2129 : Index := 2#32
  let c152_2130 : Index := 152#32
  let c0_2131 : Index := 0#32
  ![v4447.toNat, 0, 2, 152, 0]
def k0_off630 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4453 : Index := Scalar.indexCast v1487
  let c0_2132 : Index := 0#32
  let c2_2133 : Index := 2#32
  let c160_2134 : Index := 160#32
  let c0_2135 : Index := 0#32
  ![v4453.toNat, 0, 2, 160, 0]
def k0_off631 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4459 : Index := Scalar.indexCast v1487
  let c0_2136 : Index := 0#32
  let c2_2137 : Index := 2#32
  let c168_2138 : Index := 168#32
  let c0_2139 : Index := 0#32
  ![v4459.toNat, 0, 2, 168, 0]
def k0_off632 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4465 : Index := Scalar.indexCast v1487
  let c0_2140 : Index := 0#32
  let c2_2141 : Index := 2#32
  let c176_2142 : Index := 176#32
  let c0_2143 : Index := 0#32
  ![v4465.toNat, 0, 2, 176, 0]
def k0_off633 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4471 : Index := Scalar.indexCast v1487
  let c0_2144 : Index := 0#32
  let c2_2145 : Index := 2#32
  let c184_2146 : Index := 184#32
  let c0_2147 : Index := 0#32
  ![v4471.toNat, 0, 2, 184, 0]
def k0_off634 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4477 : Index := Scalar.indexCast v1487
  let c0_2148 : Index := 0#32
  let c2_2149 : Index := 2#32
  let c192_2150 : Index := 192#32
  let c0_2151 : Index := 0#32
  ![v4477.toNat, 0, 2, 192, 0]
def k0_off635 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4483 : Index := Scalar.indexCast v1487
  let c0_2152 : Index := 0#32
  let c2_2153 : Index := 2#32
  let c200_2154 : Index := 200#32
  let c0_2155 : Index := 0#32
  ![v4483.toNat, 0, 2, 200, 0]
def k0_off636 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4489 : Index := Scalar.indexCast v1487
  let c0_2156 : Index := 0#32
  let c2_2157 : Index := 2#32
  let c208_2158 : Index := 208#32
  let c0_2159 : Index := 0#32
  ![v4489.toNat, 0, 2, 208, 0]
def k0_off637 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4495 : Index := Scalar.indexCast v1487
  let c0_2160 : Index := 0#32
  let c2_2161 : Index := 2#32
  let c216_2162 : Index := 216#32
  let c0_2163 : Index := 0#32
  ![v4495.toNat, 0, 2, 216, 0]
def k0_off638 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4501 : Index := Scalar.indexCast v1487
  let c0_2164 : Index := 0#32
  let c2_2165 : Index := 2#32
  let c224_2166 : Index := 224#32
  let c0_2167 : Index := 0#32
  ![v4501.toNat, 0, 2, 224, 0]
def k0_off639 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4507 : Index := Scalar.indexCast v1487
  let c0_2168 : Index := 0#32
  let c2_2169 : Index := 2#32
  let c232_2170 : Index := 232#32
  let c0_2171 : Index := 0#32
  ![v4507.toNat, 0, 2, 232, 0]
def k0_off640 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4513 : Index := Scalar.indexCast v1487
  let c0_2172 : Index := 0#32
  let c2_2173 : Index := 2#32
  let c240_2174 : Index := 240#32
  let c0_2175 : Index := 0#32
  ![v4513.toNat, 0, 2, 240, 0]
def k0_off641 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v4519 : Index := Scalar.indexCast v1487
  let c0_2177 : Index := 0#32
  let c2_2178 : Index := 2#32
  let c248_2179 : Index := 248#32
  let c0_2180 : Index := 0#32
  ![v4519.toNat, 0, 2, 248, 0]
def k0_off642 (i : grid0.Coords) (c0_i32_2181 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v4523 : BitVec 32 := Scalar.addi v7 c0_i32_2181
  let v4524 : Index := Scalar.indexCast v4523
  let c384 : Index := 384#32
  ![v4524.toNat, 384]
def k0_off643 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v5339 : Index := Scalar.indexCast v1489
  let c0_2484 : Index := 0#32
  let c3_2485 : Index := 3#32
  let c0_2486 : Index := 0#32
  let c0_2487 : Index := 0#32
  ![v5339.toNat, 0, 3, 0, 0]
def k0_off644 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5344 : Index := Scalar.indexCast v1487
  let c0_2488 : Index := 0#32
  let c3_2489 : Index := 3#32
  let c0_2490 : Index := 0#32
  let c0_2491 : Index := 0#32
  ![v5344.toNat, 0, 3, 0, 0]
def k0_off645 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5350 : Index := Scalar.indexCast v1487
  let c0_2492 : Index := 0#32
  let c3_2493 : Index := 3#32
  let c8_2494 : Index := 8#32
  let c0_2495 : Index := 0#32
  ![v5350.toNat, 0, 3, 8, 0]
def k0_off646 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5356 : Index := Scalar.indexCast v1487
  let c0_2496 : Index := 0#32
  let c3_2497 : Index := 3#32
  let c16_2498 : Index := 16#32
  let c0_2499 : Index := 0#32
  ![v5356.toNat, 0, 3, 16, 0]
def k0_off647 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5362 : Index := Scalar.indexCast v1487
  let c0_2500 : Index := 0#32
  let c3_2501 : Index := 3#32
  let c24_2502 : Index := 24#32
  let c0_2503 : Index := 0#32
  ![v5362.toNat, 0, 3, 24, 0]
def k0_off648 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5368 : Index := Scalar.indexCast v1487
  let c0_2504 : Index := 0#32
  let c3_2505 : Index := 3#32
  let c32_2506 : Index := 32#32
  let c0_2507 : Index := 0#32
  ![v5368.toNat, 0, 3, 32, 0]
def k0_off649 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5374 : Index := Scalar.indexCast v1487
  let c0_2508 : Index := 0#32
  let c3_2509 : Index := 3#32
  let c40_2510 : Index := 40#32
  let c0_2511 : Index := 0#32
  ![v5374.toNat, 0, 3, 40, 0]
def k0_off650 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5380 : Index := Scalar.indexCast v1487
  let c0_2512 : Index := 0#32
  let c3_2513 : Index := 3#32
  let c48_2514 : Index := 48#32
  let c0_2515 : Index := 0#32
  ![v5380.toNat, 0, 3, 48, 0]
def k0_off651 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5386 : Index := Scalar.indexCast v1487
  let c0_2516 : Index := 0#32
  let c3_2517 : Index := 3#32
  let c56_2518 : Index := 56#32
  let c0_2519 : Index := 0#32
  ![v5386.toNat, 0, 3, 56, 0]
def k0_off652 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5392 : Index := Scalar.indexCast v1487
  let c0_2520 : Index := 0#32
  let c3_2521 : Index := 3#32
  let c64_2522 : Index := 64#32
  let c0_2523 : Index := 0#32
  ![v5392.toNat, 0, 3, 64, 0]
def k0_off653 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5398 : Index := Scalar.indexCast v1487
  let c0_2524 : Index := 0#32
  let c3_2525 : Index := 3#32
  let c72_2526 : Index := 72#32
  let c0_2527 : Index := 0#32
  ![v5398.toNat, 0, 3, 72, 0]
def k0_off654 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5404 : Index := Scalar.indexCast v1487
  let c0_2528 : Index := 0#32
  let c3_2529 : Index := 3#32
  let c80_2530 : Index := 80#32
  let c0_2531 : Index := 0#32
  ![v5404.toNat, 0, 3, 80, 0]
def k0_off655 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5410 : Index := Scalar.indexCast v1487
  let c0_2532 : Index := 0#32
  let c3_2533 : Index := 3#32
  let c88_2534 : Index := 88#32
  let c0_2535 : Index := 0#32
  ![v5410.toNat, 0, 3, 88, 0]
def k0_off656 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5416 : Index := Scalar.indexCast v1487
  let c0_2536 : Index := 0#32
  let c3_2537 : Index := 3#32
  let c96_2538 : Index := 96#32
  let c0_2539 : Index := 0#32
  ![v5416.toNat, 0, 3, 96, 0]
def k0_off657 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5422 : Index := Scalar.indexCast v1487
  let c0_2540 : Index := 0#32
  let c3_2541 : Index := 3#32
  let c104_2542 : Index := 104#32
  let c0_2543 : Index := 0#32
  ![v5422.toNat, 0, 3, 104, 0]
def k0_off658 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5428 : Index := Scalar.indexCast v1487
  let c0_2544 : Index := 0#32
  let c3_2545 : Index := 3#32
  let c112_2546 : Index := 112#32
  let c0_2547 : Index := 0#32
  ![v5428.toNat, 0, 3, 112, 0]
def k0_off659 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5434 : Index := Scalar.indexCast v1487
  let c0_2548 : Index := 0#32
  let c3_2549 : Index := 3#32
  let c120_2550 : Index := 120#32
  let c0_2551 : Index := 0#32
  ![v5434.toNat, 0, 3, 120, 0]
def k0_off660 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5440 : Index := Scalar.indexCast v1487
  let c0_2552 : Index := 0#32
  let c3_2553 : Index := 3#32
  let c128_2554 : Index := 128#32
  let c0_2555 : Index := 0#32
  ![v5440.toNat, 0, 3, 128, 0]
def k0_off661 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5446 : Index := Scalar.indexCast v1487
  let c0_2556 : Index := 0#32
  let c3_2557 : Index := 3#32
  let c136_2558 : Index := 136#32
  let c0_2559 : Index := 0#32
  ![v5446.toNat, 0, 3, 136, 0]
def k0_off662 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5452 : Index := Scalar.indexCast v1487
  let c0_2560 : Index := 0#32
  let c3_2561 : Index := 3#32
  let c144_2562 : Index := 144#32
  let c0_2563 : Index := 0#32
  ![v5452.toNat, 0, 3, 144, 0]
def k0_off663 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5458 : Index := Scalar.indexCast v1487
  let c0_2564 : Index := 0#32
  let c3_2565 : Index := 3#32
  let c152_2566 : Index := 152#32
  let c0_2567 : Index := 0#32
  ![v5458.toNat, 0, 3, 152, 0]
def k0_off664 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5464 : Index := Scalar.indexCast v1487
  let c0_2568 : Index := 0#32
  let c3_2569 : Index := 3#32
  let c160_2570 : Index := 160#32
  let c0_2571 : Index := 0#32
  ![v5464.toNat, 0, 3, 160, 0]
def k0_off665 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5470 : Index := Scalar.indexCast v1487
  let c0_2572 : Index := 0#32
  let c3_2573 : Index := 3#32
  let c168_2574 : Index := 168#32
  let c0_2575 : Index := 0#32
  ![v5470.toNat, 0, 3, 168, 0]
def k0_off666 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5476 : Index := Scalar.indexCast v1487
  let c0_2576 : Index := 0#32
  let c3_2577 : Index := 3#32
  let c176_2578 : Index := 176#32
  let c0_2579 : Index := 0#32
  ![v5476.toNat, 0, 3, 176, 0]
def k0_off667 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5482 : Index := Scalar.indexCast v1487
  let c0_2580 : Index := 0#32
  let c3_2581 : Index := 3#32
  let c184_2582 : Index := 184#32
  let c0_2583 : Index := 0#32
  ![v5482.toNat, 0, 3, 184, 0]
def k0_off668 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5488 : Index := Scalar.indexCast v1487
  let c0_2584 : Index := 0#32
  let c3_2585 : Index := 3#32
  let c192_2586 : Index := 192#32
  let c0_2587 : Index := 0#32
  ![v5488.toNat, 0, 3, 192, 0]
def k0_off669 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5494 : Index := Scalar.indexCast v1487
  let c0_2588 : Index := 0#32
  let c3_2589 : Index := 3#32
  let c200_2590 : Index := 200#32
  let c0_2591 : Index := 0#32
  ![v5494.toNat, 0, 3, 200, 0]
def k0_off670 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5500 : Index := Scalar.indexCast v1487
  let c0_2592 : Index := 0#32
  let c3_2593 : Index := 3#32
  let c208_2594 : Index := 208#32
  let c0_2595 : Index := 0#32
  ![v5500.toNat, 0, 3, 208, 0]
def k0_off671 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5506 : Index := Scalar.indexCast v1487
  let c0_2596 : Index := 0#32
  let c3_2597 : Index := 3#32
  let c216_2598 : Index := 216#32
  let c0_2599 : Index := 0#32
  ![v5506.toNat, 0, 3, 216, 0]
def k0_off672 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5512 : Index := Scalar.indexCast v1487
  let c0_2600 : Index := 0#32
  let c3_2601 : Index := 3#32
  let c224_2602 : Index := 224#32
  let c0_2603 : Index := 0#32
  ![v5512.toNat, 0, 3, 224, 0]
def k0_off673 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5518 : Index := Scalar.indexCast v1487
  let c0_2604 : Index := 0#32
  let c3_2605 : Index := 3#32
  let c232_2606 : Index := 232#32
  let c0_2607 : Index := 0#32
  ![v5518.toNat, 0, 3, 232, 0]
def k0_off674 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5524 : Index := Scalar.indexCast v1487
  let c0_2608 : Index := 0#32
  let c3_2609 : Index := 3#32
  let c240_2610 : Index := 240#32
  let c0_2611 : Index := 0#32
  ![v5524.toNat, 0, 3, 240, 0]
def k0_off675 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v5530 : Index := Scalar.indexCast v1487
  let c0_2613 : Index := 0#32
  let c3_2614 : Index := 3#32
  let c248_2615 : Index := 248#32
  let c0_2616 : Index := 0#32
  ![v5530.toNat, 0, 3, 248, 0]
def k0_off676 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v6350 : Index := Scalar.indexCast v1489
  let c1_2921 : Index := 1#32
  let c0_2922 : Index := 0#32
  let c0_2923 : Index := 0#32
  let c0_2924 : Index := 0#32
  ![v6350.toNat, 1, 0, 0, 0]
def k0_off677 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6355 : Index := Scalar.indexCast v1487
  let c1_2925 : Index := 1#32
  let c0_2926 : Index := 0#32
  let c0_2927 : Index := 0#32
  let c0_2928 : Index := 0#32
  ![v6355.toNat, 1, 0, 0, 0]
def k0_off678 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6361 : Index := Scalar.indexCast v1487
  let c1_2929 : Index := 1#32
  let c0_2930 : Index := 0#32
  let c8_2931 : Index := 8#32
  let c0_2932 : Index := 0#32
  ![v6361.toNat, 1, 0, 8, 0]
def k0_off679 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6367 : Index := Scalar.indexCast v1487
  let c1_2933 : Index := 1#32
  let c0_2934 : Index := 0#32
  let c16_2935 : Index := 16#32
  let c0_2936 : Index := 0#32
  ![v6367.toNat, 1, 0, 16, 0]
def k0_off680 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6373 : Index := Scalar.indexCast v1487
  let c1_2937 : Index := 1#32
  let c0_2938 : Index := 0#32
  let c24_2939 : Index := 24#32
  let c0_2940 : Index := 0#32
  ![v6373.toNat, 1, 0, 24, 0]
def k0_off681 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6379 : Index := Scalar.indexCast v1487
  let c1_2941 : Index := 1#32
  let c0_2942 : Index := 0#32
  let c32_2943 : Index := 32#32
  let c0_2944 : Index := 0#32
  ![v6379.toNat, 1, 0, 32, 0]
def k0_off682 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6385 : Index := Scalar.indexCast v1487
  let c1_2945 : Index := 1#32
  let c0_2946 : Index := 0#32
  let c40_2947 : Index := 40#32
  let c0_2948 : Index := 0#32
  ![v6385.toNat, 1, 0, 40, 0]
def k0_off683 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6391 : Index := Scalar.indexCast v1487
  let c1_2949 : Index := 1#32
  let c0_2950 : Index := 0#32
  let c48_2951 : Index := 48#32
  let c0_2952 : Index := 0#32
  ![v6391.toNat, 1, 0, 48, 0]
def k0_off684 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6397 : Index := Scalar.indexCast v1487
  let c1_2953 : Index := 1#32
  let c0_2954 : Index := 0#32
  let c56_2955 : Index := 56#32
  let c0_2956 : Index := 0#32
  ![v6397.toNat, 1, 0, 56, 0]
def k0_off685 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6403 : Index := Scalar.indexCast v1487
  let c1_2957 : Index := 1#32
  let c0_2958 : Index := 0#32
  let c64_2959 : Index := 64#32
  let c0_2960 : Index := 0#32
  ![v6403.toNat, 1, 0, 64, 0]
def k0_off686 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6409 : Index := Scalar.indexCast v1487
  let c1_2961 : Index := 1#32
  let c0_2962 : Index := 0#32
  let c72_2963 : Index := 72#32
  let c0_2964 : Index := 0#32
  ![v6409.toNat, 1, 0, 72, 0]
def k0_off687 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6415 : Index := Scalar.indexCast v1487
  let c1_2965 : Index := 1#32
  let c0_2966 : Index := 0#32
  let c80_2967 : Index := 80#32
  let c0_2968 : Index := 0#32
  ![v6415.toNat, 1, 0, 80, 0]
def k0_off688 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6421 : Index := Scalar.indexCast v1487
  let c1_2969 : Index := 1#32
  let c0_2970 : Index := 0#32
  let c88_2971 : Index := 88#32
  let c0_2972 : Index := 0#32
  ![v6421.toNat, 1, 0, 88, 0]
def k0_off689 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6427 : Index := Scalar.indexCast v1487
  let c1_2973 : Index := 1#32
  let c0_2974 : Index := 0#32
  let c96_2975 : Index := 96#32
  let c0_2976 : Index := 0#32
  ![v6427.toNat, 1, 0, 96, 0]
def k0_off690 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6433 : Index := Scalar.indexCast v1487
  let c1_2977 : Index := 1#32
  let c0_2978 : Index := 0#32
  let c104_2979 : Index := 104#32
  let c0_2980 : Index := 0#32
  ![v6433.toNat, 1, 0, 104, 0]
def k0_off691 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6439 : Index := Scalar.indexCast v1487
  let c1_2981 : Index := 1#32
  let c0_2982 : Index := 0#32
  let c112_2983 : Index := 112#32
  let c0_2984 : Index := 0#32
  ![v6439.toNat, 1, 0, 112, 0]
def k0_off692 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6445 : Index := Scalar.indexCast v1487
  let c1_2985 : Index := 1#32
  let c0_2986 : Index := 0#32
  let c120_2987 : Index := 120#32
  let c0_2988 : Index := 0#32
  ![v6445.toNat, 1, 0, 120, 0]
def k0_off693 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6451 : Index := Scalar.indexCast v1487
  let c1_2989 : Index := 1#32
  let c0_2990 : Index := 0#32
  let c128_2991 : Index := 128#32
  let c0_2992 : Index := 0#32
  ![v6451.toNat, 1, 0, 128, 0]
def k0_off694 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6457 : Index := Scalar.indexCast v1487
  let c1_2993 : Index := 1#32
  let c0_2994 : Index := 0#32
  let c136_2995 : Index := 136#32
  let c0_2996 : Index := 0#32
  ![v6457.toNat, 1, 0, 136, 0]
def k0_off695 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6463 : Index := Scalar.indexCast v1487
  let c1_2997 : Index := 1#32
  let c0_2998 : Index := 0#32
  let c144_2999 : Index := 144#32
  let c0_3000 : Index := 0#32
  ![v6463.toNat, 1, 0, 144, 0]
def k0_off696 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6469 : Index := Scalar.indexCast v1487
  let c1_3001 : Index := 1#32
  let c0_3002 : Index := 0#32
  let c152_3003 : Index := 152#32
  let c0_3004 : Index := 0#32
  ![v6469.toNat, 1, 0, 152, 0]
def k0_off697 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6475 : Index := Scalar.indexCast v1487
  let c1_3005 : Index := 1#32
  let c0_3006 : Index := 0#32
  let c160_3007 : Index := 160#32
  let c0_3008 : Index := 0#32
  ![v6475.toNat, 1, 0, 160, 0]
def k0_off698 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6481 : Index := Scalar.indexCast v1487
  let c1_3009 : Index := 1#32
  let c0_3010 : Index := 0#32
  let c168_3011 : Index := 168#32
  let c0_3012 : Index := 0#32
  ![v6481.toNat, 1, 0, 168, 0]
def k0_off699 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6487 : Index := Scalar.indexCast v1487
  let c1_3013 : Index := 1#32
  let c0_3014 : Index := 0#32
  let c176_3015 : Index := 176#32
  let c0_3016 : Index := 0#32
  ![v6487.toNat, 1, 0, 176, 0]
def k0_off700 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6493 : Index := Scalar.indexCast v1487
  let c1_3017 : Index := 1#32
  let c0_3018 : Index := 0#32
  let c184_3019 : Index := 184#32
  let c0_3020 : Index := 0#32
  ![v6493.toNat, 1, 0, 184, 0]
def k0_off701 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6499 : Index := Scalar.indexCast v1487
  let c1_3021 : Index := 1#32
  let c0_3022 : Index := 0#32
  let c192_3023 : Index := 192#32
  let c0_3024 : Index := 0#32
  ![v6499.toNat, 1, 0, 192, 0]
def k0_off702 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6505 : Index := Scalar.indexCast v1487
  let c1_3025 : Index := 1#32
  let c0_3026 : Index := 0#32
  let c200_3027 : Index := 200#32
  let c0_3028 : Index := 0#32
  ![v6505.toNat, 1, 0, 200, 0]
def k0_off703 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6511 : Index := Scalar.indexCast v1487
  let c1_3029 : Index := 1#32
  let c0_3030 : Index := 0#32
  let c208_3031 : Index := 208#32
  let c0_3032 : Index := 0#32
  ![v6511.toNat, 1, 0, 208, 0]
def k0_off704 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6517 : Index := Scalar.indexCast v1487
  let c1_3033 : Index := 1#32
  let c0_3034 : Index := 0#32
  let c216_3035 : Index := 216#32
  let c0_3036 : Index := 0#32
  ![v6517.toNat, 1, 0, 216, 0]
def k0_off705 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6523 : Index := Scalar.indexCast v1487
  let c1_3037 : Index := 1#32
  let c0_3038 : Index := 0#32
  let c224_3039 : Index := 224#32
  let c0_3040 : Index := 0#32
  ![v6523.toNat, 1, 0, 224, 0]
def k0_off706 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6529 : Index := Scalar.indexCast v1487
  let c1_3041 : Index := 1#32
  let c0_3042 : Index := 0#32
  let c232_3043 : Index := 232#32
  let c0_3044 : Index := 0#32
  ![v6529.toNat, 1, 0, 232, 0]
def k0_off707 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6535 : Index := Scalar.indexCast v1487
  let c1_3045 : Index := 1#32
  let c0_3046 : Index := 0#32
  let c240_3047 : Index := 240#32
  let c0_3048 : Index := 0#32
  ![v6535.toNat, 1, 0, 240, 0]
def k0_off708 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v6541 : Index := Scalar.indexCast v1487
  let c1_3050 : Index := 1#32
  let c0_3051 : Index := 0#32
  let c248_3052 : Index := 248#32
  let c0_3053 : Index := 0#32
  ![v6541.toNat, 1, 0, 248, 0]
def k0_off709 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v7361 : Index := Scalar.indexCast v1489
  let c1_3358 : Index := 1#32
  let c1_3359 : Index := 1#32
  let c0_3360 : Index := 0#32
  let c0_3361 : Index := 0#32
  ![v7361.toNat, 1, 1, 0, 0]
def k0_off710 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7366 : Index := Scalar.indexCast v1487
  let c1_3362 : Index := 1#32
  let c1_3363 : Index := 1#32
  let c0_3364 : Index := 0#32
  let c0_3365 : Index := 0#32
  ![v7366.toNat, 1, 1, 0, 0]
def k0_off711 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7372 : Index := Scalar.indexCast v1487
  let c1_3366 : Index := 1#32
  let c1_3367 : Index := 1#32
  let c8_3368 : Index := 8#32
  let c0_3369 : Index := 0#32
  ![v7372.toNat, 1, 1, 8, 0]
def k0_off712 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7378 : Index := Scalar.indexCast v1487
  let c1_3370 : Index := 1#32
  let c1_3371 : Index := 1#32
  let c16_3372 : Index := 16#32
  let c0_3373 : Index := 0#32
  ![v7378.toNat, 1, 1, 16, 0]
def k0_off713 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7384 : Index := Scalar.indexCast v1487
  let c1_3374 : Index := 1#32
  let c1_3375 : Index := 1#32
  let c24_3376 : Index := 24#32
  let c0_3377 : Index := 0#32
  ![v7384.toNat, 1, 1, 24, 0]
def k0_off714 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7390 : Index := Scalar.indexCast v1487
  let c1_3378 : Index := 1#32
  let c1_3379 : Index := 1#32
  let c32_3380 : Index := 32#32
  let c0_3381 : Index := 0#32
  ![v7390.toNat, 1, 1, 32, 0]
def k0_off715 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7396 : Index := Scalar.indexCast v1487
  let c1_3382 : Index := 1#32
  let c1_3383 : Index := 1#32
  let c40_3384 : Index := 40#32
  let c0_3385 : Index := 0#32
  ![v7396.toNat, 1, 1, 40, 0]
def k0_off716 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7402 : Index := Scalar.indexCast v1487
  let c1_3386 : Index := 1#32
  let c1_3387 : Index := 1#32
  let c48_3388 : Index := 48#32
  let c0_3389 : Index := 0#32
  ![v7402.toNat, 1, 1, 48, 0]
def k0_off717 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7408 : Index := Scalar.indexCast v1487
  let c1_3390 : Index := 1#32
  let c1_3391 : Index := 1#32
  let c56_3392 : Index := 56#32
  let c0_3393 : Index := 0#32
  ![v7408.toNat, 1, 1, 56, 0]
def k0_off718 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7414 : Index := Scalar.indexCast v1487
  let c1_3394 : Index := 1#32
  let c1_3395 : Index := 1#32
  let c64_3396 : Index := 64#32
  let c0_3397 : Index := 0#32
  ![v7414.toNat, 1, 1, 64, 0]
def k0_off719 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7420 : Index := Scalar.indexCast v1487
  let c1_3398 : Index := 1#32
  let c1_3399 : Index := 1#32
  let c72_3400 : Index := 72#32
  let c0_3401 : Index := 0#32
  ![v7420.toNat, 1, 1, 72, 0]
def k0_off720 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7426 : Index := Scalar.indexCast v1487
  let c1_3402 : Index := 1#32
  let c1_3403 : Index := 1#32
  let c80_3404 : Index := 80#32
  let c0_3405 : Index := 0#32
  ![v7426.toNat, 1, 1, 80, 0]
def k0_off721 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7432 : Index := Scalar.indexCast v1487
  let c1_3406 : Index := 1#32
  let c1_3407 : Index := 1#32
  let c88_3408 : Index := 88#32
  let c0_3409 : Index := 0#32
  ![v7432.toNat, 1, 1, 88, 0]
def k0_off722 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7438 : Index := Scalar.indexCast v1487
  let c1_3410 : Index := 1#32
  let c1_3411 : Index := 1#32
  let c96_3412 : Index := 96#32
  let c0_3413 : Index := 0#32
  ![v7438.toNat, 1, 1, 96, 0]
def k0_off723 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7444 : Index := Scalar.indexCast v1487
  let c1_3414 : Index := 1#32
  let c1_3415 : Index := 1#32
  let c104_3416 : Index := 104#32
  let c0_3417 : Index := 0#32
  ![v7444.toNat, 1, 1, 104, 0]
def k0_off724 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7450 : Index := Scalar.indexCast v1487
  let c1_3418 : Index := 1#32
  let c1_3419 : Index := 1#32
  let c112_3420 : Index := 112#32
  let c0_3421 : Index := 0#32
  ![v7450.toNat, 1, 1, 112, 0]
def k0_off725 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7456 : Index := Scalar.indexCast v1487
  let c1_3422 : Index := 1#32
  let c1_3423 : Index := 1#32
  let c120_3424 : Index := 120#32
  let c0_3425 : Index := 0#32
  ![v7456.toNat, 1, 1, 120, 0]
def k0_off726 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7462 : Index := Scalar.indexCast v1487
  let c1_3426 : Index := 1#32
  let c1_3427 : Index := 1#32
  let c128_3428 : Index := 128#32
  let c0_3429 : Index := 0#32
  ![v7462.toNat, 1, 1, 128, 0]
def k0_off727 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7468 : Index := Scalar.indexCast v1487
  let c1_3430 : Index := 1#32
  let c1_3431 : Index := 1#32
  let c136_3432 : Index := 136#32
  let c0_3433 : Index := 0#32
  ![v7468.toNat, 1, 1, 136, 0]
def k0_off728 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7474 : Index := Scalar.indexCast v1487
  let c1_3434 : Index := 1#32
  let c1_3435 : Index := 1#32
  let c144_3436 : Index := 144#32
  let c0_3437 : Index := 0#32
  ![v7474.toNat, 1, 1, 144, 0]
def k0_off729 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7480 : Index := Scalar.indexCast v1487
  let c1_3438 : Index := 1#32
  let c1_3439 : Index := 1#32
  let c152_3440 : Index := 152#32
  let c0_3441 : Index := 0#32
  ![v7480.toNat, 1, 1, 152, 0]
def k0_off730 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7486 : Index := Scalar.indexCast v1487
  let c1_3442 : Index := 1#32
  let c1_3443 : Index := 1#32
  let c160_3444 : Index := 160#32
  let c0_3445 : Index := 0#32
  ![v7486.toNat, 1, 1, 160, 0]
def k0_off731 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7492 : Index := Scalar.indexCast v1487
  let c1_3446 : Index := 1#32
  let c1_3447 : Index := 1#32
  let c168_3448 : Index := 168#32
  let c0_3449 : Index := 0#32
  ![v7492.toNat, 1, 1, 168, 0]
def k0_off732 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7498 : Index := Scalar.indexCast v1487
  let c1_3450 : Index := 1#32
  let c1_3451 : Index := 1#32
  let c176_3452 : Index := 176#32
  let c0_3453 : Index := 0#32
  ![v7498.toNat, 1, 1, 176, 0]
def k0_off733 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7504 : Index := Scalar.indexCast v1487
  let c1_3454 : Index := 1#32
  let c1_3455 : Index := 1#32
  let c184_3456 : Index := 184#32
  let c0_3457 : Index := 0#32
  ![v7504.toNat, 1, 1, 184, 0]
def k0_off734 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7510 : Index := Scalar.indexCast v1487
  let c1_3458 : Index := 1#32
  let c1_3459 : Index := 1#32
  let c192_3460 : Index := 192#32
  let c0_3461 : Index := 0#32
  ![v7510.toNat, 1, 1, 192, 0]
def k0_off735 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7516 : Index := Scalar.indexCast v1487
  let c1_3462 : Index := 1#32
  let c1_3463 : Index := 1#32
  let c200_3464 : Index := 200#32
  let c0_3465 : Index := 0#32
  ![v7516.toNat, 1, 1, 200, 0]
def k0_off736 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7522 : Index := Scalar.indexCast v1487
  let c1_3466 : Index := 1#32
  let c1_3467 : Index := 1#32
  let c208_3468 : Index := 208#32
  let c0_3469 : Index := 0#32
  ![v7522.toNat, 1, 1, 208, 0]
def k0_off737 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7528 : Index := Scalar.indexCast v1487
  let c1_3470 : Index := 1#32
  let c1_3471 : Index := 1#32
  let c216_3472 : Index := 216#32
  let c0_3473 : Index := 0#32
  ![v7528.toNat, 1, 1, 216, 0]
def k0_off738 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7534 : Index := Scalar.indexCast v1487
  let c1_3474 : Index := 1#32
  let c1_3475 : Index := 1#32
  let c224_3476 : Index := 224#32
  let c0_3477 : Index := 0#32
  ![v7534.toNat, 1, 1, 224, 0]
def k0_off739 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7540 : Index := Scalar.indexCast v1487
  let c1_3478 : Index := 1#32
  let c1_3479 : Index := 1#32
  let c232_3480 : Index := 232#32
  let c0_3481 : Index := 0#32
  ![v7540.toNat, 1, 1, 232, 0]
def k0_off740 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7546 : Index := Scalar.indexCast v1487
  let c1_3482 : Index := 1#32
  let c1_3483 : Index := 1#32
  let c240_3484 : Index := 240#32
  let c0_3485 : Index := 0#32
  ![v7546.toNat, 1, 1, 240, 0]
def k0_off741 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v7552 : Index := Scalar.indexCast v1487
  let c1_3487 : Index := 1#32
  let c1_3488 : Index := 1#32
  let c248_3489 : Index := 248#32
  let c0_3490 : Index := 0#32
  ![v7552.toNat, 1, 1, 248, 0]
def k0_off742 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v8372 : Index := Scalar.indexCast v1489
  let c1_3795 : Index := 1#32
  let c2_3796 : Index := 2#32
  let c0_3797 : Index := 0#32
  let c0_3798 : Index := 0#32
  ![v8372.toNat, 1, 2, 0, 0]
def k0_off743 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8377 : Index := Scalar.indexCast v1487
  let c1_3799 : Index := 1#32
  let c2_3800 : Index := 2#32
  let c0_3801 : Index := 0#32
  let c0_3802 : Index := 0#32
  ![v8377.toNat, 1, 2, 0, 0]
def k0_off744 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8383 : Index := Scalar.indexCast v1487
  let c1_3803 : Index := 1#32
  let c2_3804 : Index := 2#32
  let c8_3805 : Index := 8#32
  let c0_3806 : Index := 0#32
  ![v8383.toNat, 1, 2, 8, 0]
def k0_off745 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8389 : Index := Scalar.indexCast v1487
  let c1_3807 : Index := 1#32
  let c2_3808 : Index := 2#32
  let c16_3809 : Index := 16#32
  let c0_3810 : Index := 0#32
  ![v8389.toNat, 1, 2, 16, 0]
def k0_off746 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8395 : Index := Scalar.indexCast v1487
  let c1_3811 : Index := 1#32
  let c2_3812 : Index := 2#32
  let c24_3813 : Index := 24#32
  let c0_3814 : Index := 0#32
  ![v8395.toNat, 1, 2, 24, 0]
def k0_off747 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8401 : Index := Scalar.indexCast v1487
  let c1_3815 : Index := 1#32
  let c2_3816 : Index := 2#32
  let c32_3817 : Index := 32#32
  let c0_3818 : Index := 0#32
  ![v8401.toNat, 1, 2, 32, 0]
def k0_off748 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8407 : Index := Scalar.indexCast v1487
  let c1_3819 : Index := 1#32
  let c2_3820 : Index := 2#32
  let c40_3821 : Index := 40#32
  let c0_3822 : Index := 0#32
  ![v8407.toNat, 1, 2, 40, 0]
def k0_off749 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8413 : Index := Scalar.indexCast v1487
  let c1_3823 : Index := 1#32
  let c2_3824 : Index := 2#32
  let c48_3825 : Index := 48#32
  let c0_3826 : Index := 0#32
  ![v8413.toNat, 1, 2, 48, 0]
def k0_off750 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8419 : Index := Scalar.indexCast v1487
  let c1_3827 : Index := 1#32
  let c2_3828 : Index := 2#32
  let c56_3829 : Index := 56#32
  let c0_3830 : Index := 0#32
  ![v8419.toNat, 1, 2, 56, 0]
def k0_off751 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8425 : Index := Scalar.indexCast v1487
  let c1_3831 : Index := 1#32
  let c2_3832 : Index := 2#32
  let c64_3833 : Index := 64#32
  let c0_3834 : Index := 0#32
  ![v8425.toNat, 1, 2, 64, 0]
def k0_off752 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8431 : Index := Scalar.indexCast v1487
  let c1_3835 : Index := 1#32
  let c2_3836 : Index := 2#32
  let c72_3837 : Index := 72#32
  let c0_3838 : Index := 0#32
  ![v8431.toNat, 1, 2, 72, 0]
def k0_off753 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8437 : Index := Scalar.indexCast v1487
  let c1_3839 : Index := 1#32
  let c2_3840 : Index := 2#32
  let c80_3841 : Index := 80#32
  let c0_3842 : Index := 0#32
  ![v8437.toNat, 1, 2, 80, 0]
def k0_off754 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8443 : Index := Scalar.indexCast v1487
  let c1_3843 : Index := 1#32
  let c2_3844 : Index := 2#32
  let c88_3845 : Index := 88#32
  let c0_3846 : Index := 0#32
  ![v8443.toNat, 1, 2, 88, 0]
def k0_off755 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8449 : Index := Scalar.indexCast v1487
  let c1_3847 : Index := 1#32
  let c2_3848 : Index := 2#32
  let c96_3849 : Index := 96#32
  let c0_3850 : Index := 0#32
  ![v8449.toNat, 1, 2, 96, 0]
def k0_off756 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8455 : Index := Scalar.indexCast v1487
  let c1_3851 : Index := 1#32
  let c2_3852 : Index := 2#32
  let c104_3853 : Index := 104#32
  let c0_3854 : Index := 0#32
  ![v8455.toNat, 1, 2, 104, 0]
def k0_off757 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8461 : Index := Scalar.indexCast v1487
  let c1_3855 : Index := 1#32
  let c2_3856 : Index := 2#32
  let c112_3857 : Index := 112#32
  let c0_3858 : Index := 0#32
  ![v8461.toNat, 1, 2, 112, 0]
def k0_off758 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8467 : Index := Scalar.indexCast v1487
  let c1_3859 : Index := 1#32
  let c2_3860 : Index := 2#32
  let c120_3861 : Index := 120#32
  let c0_3862 : Index := 0#32
  ![v8467.toNat, 1, 2, 120, 0]
def k0_off759 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8473 : Index := Scalar.indexCast v1487
  let c1_3863 : Index := 1#32
  let c2_3864 : Index := 2#32
  let c128_3865 : Index := 128#32
  let c0_3866 : Index := 0#32
  ![v8473.toNat, 1, 2, 128, 0]
def k0_off760 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8479 : Index := Scalar.indexCast v1487
  let c1_3867 : Index := 1#32
  let c2_3868 : Index := 2#32
  let c136_3869 : Index := 136#32
  let c0_3870 : Index := 0#32
  ![v8479.toNat, 1, 2, 136, 0]
def k0_off761 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8485 : Index := Scalar.indexCast v1487
  let c1_3871 : Index := 1#32
  let c2_3872 : Index := 2#32
  let c144_3873 : Index := 144#32
  let c0_3874 : Index := 0#32
  ![v8485.toNat, 1, 2, 144, 0]
def k0_off762 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8491 : Index := Scalar.indexCast v1487
  let c1_3875 : Index := 1#32
  let c2_3876 : Index := 2#32
  let c152_3877 : Index := 152#32
  let c0_3878 : Index := 0#32
  ![v8491.toNat, 1, 2, 152, 0]
def k0_off763 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8497 : Index := Scalar.indexCast v1487
  let c1_3879 : Index := 1#32
  let c2_3880 : Index := 2#32
  let c160_3881 : Index := 160#32
  let c0_3882 : Index := 0#32
  ![v8497.toNat, 1, 2, 160, 0]
def k0_off764 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8503 : Index := Scalar.indexCast v1487
  let c1_3883 : Index := 1#32
  let c2_3884 : Index := 2#32
  let c168_3885 : Index := 168#32
  let c0_3886 : Index := 0#32
  ![v8503.toNat, 1, 2, 168, 0]
def k0_off765 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8509 : Index := Scalar.indexCast v1487
  let c1_3887 : Index := 1#32
  let c2_3888 : Index := 2#32
  let c176_3889 : Index := 176#32
  let c0_3890 : Index := 0#32
  ![v8509.toNat, 1, 2, 176, 0]
def k0_off766 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8515 : Index := Scalar.indexCast v1487
  let c1_3891 : Index := 1#32
  let c2_3892 : Index := 2#32
  let c184_3893 : Index := 184#32
  let c0_3894 : Index := 0#32
  ![v8515.toNat, 1, 2, 184, 0]
def k0_off767 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8521 : Index := Scalar.indexCast v1487
  let c1_3895 : Index := 1#32
  let c2_3896 : Index := 2#32
  let c192_3897 : Index := 192#32
  let c0_3898 : Index := 0#32
  ![v8521.toNat, 1, 2, 192, 0]
def k0_off768 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8527 : Index := Scalar.indexCast v1487
  let c1_3899 : Index := 1#32
  let c2_3900 : Index := 2#32
  let c200_3901 : Index := 200#32
  let c0_3902 : Index := 0#32
  ![v8527.toNat, 1, 2, 200, 0]
def k0_off769 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8533 : Index := Scalar.indexCast v1487
  let c1_3903 : Index := 1#32
  let c2_3904 : Index := 2#32
  let c208_3905 : Index := 208#32
  let c0_3906 : Index := 0#32
  ![v8533.toNat, 1, 2, 208, 0]
def k0_off770 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8539 : Index := Scalar.indexCast v1487
  let c1_3907 : Index := 1#32
  let c2_3908 : Index := 2#32
  let c216_3909 : Index := 216#32
  let c0_3910 : Index := 0#32
  ![v8539.toNat, 1, 2, 216, 0]
def k0_off771 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8545 : Index := Scalar.indexCast v1487
  let c1_3911 : Index := 1#32
  let c2_3912 : Index := 2#32
  let c224_3913 : Index := 224#32
  let c0_3914 : Index := 0#32
  ![v8545.toNat, 1, 2, 224, 0]
def k0_off772 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8551 : Index := Scalar.indexCast v1487
  let c1_3915 : Index := 1#32
  let c2_3916 : Index := 2#32
  let c232_3917 : Index := 232#32
  let c0_3918 : Index := 0#32
  ![v8551.toNat, 1, 2, 232, 0]
def k0_off773 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8557 : Index := Scalar.indexCast v1487
  let c1_3919 : Index := 1#32
  let c2_3920 : Index := 2#32
  let c240_3921 : Index := 240#32
  let c0_3922 : Index := 0#32
  ![v8557.toNat, 1, 2, 240, 0]
def k0_off774 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v8563 : Index := Scalar.indexCast v1487
  let c1_3924 : Index := 1#32
  let c2_3925 : Index := 2#32
  let c248_3926 : Index := 248#32
  let c0_3927 : Index := 0#32
  ![v8563.toNat, 1, 2, 248, 0]
def k0_off775 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v1488 : BitVec 1 := Scalar.cmpi .eq v1487 arg1
  let c1_i32_931 : BitVec 32 := 1#32
  let c0_i32_932 : BitVec 32 := 0#32
  let v1489 : BitVec 32 := Scalar.select v1488 c1_i32_931 c0_i32_932
  let v9383 : Index := Scalar.indexCast v1489
  let c1_4232 : Index := 1#32
  let c3_4233 : Index := 3#32
  let c0_4234 : Index := 0#32
  let c0_4235 : Index := 0#32
  ![v9383.toNat, 1, 3, 0, 0]
def k0_off776 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9388 : Index := Scalar.indexCast v1487
  let c1_4236 : Index := 1#32
  let c3_4237 : Index := 3#32
  let c0_4238 : Index := 0#32
  let c0_4239 : Index := 0#32
  ![v9388.toNat, 1, 3, 0, 0]
def k0_off777 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9394 : Index := Scalar.indexCast v1487
  let c1_4240 : Index := 1#32
  let c3_4241 : Index := 3#32
  let c8_4242 : Index := 8#32
  let c0_4243 : Index := 0#32
  ![v9394.toNat, 1, 3, 8, 0]
def k0_off778 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9400 : Index := Scalar.indexCast v1487
  let c1_4244 : Index := 1#32
  let c3_4245 : Index := 3#32
  let c16_4246 : Index := 16#32
  let c0_4247 : Index := 0#32
  ![v9400.toNat, 1, 3, 16, 0]
def k0_off779 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9406 : Index := Scalar.indexCast v1487
  let c1_4248 : Index := 1#32
  let c3_4249 : Index := 3#32
  let c24_4250 : Index := 24#32
  let c0_4251 : Index := 0#32
  ![v9406.toNat, 1, 3, 24, 0]
def k0_off780 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9412 : Index := Scalar.indexCast v1487
  let c1_4252 : Index := 1#32
  let c3_4253 : Index := 3#32
  let c32_4254 : Index := 32#32
  let c0_4255 : Index := 0#32
  ![v9412.toNat, 1, 3, 32, 0]
def k0_off781 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9418 : Index := Scalar.indexCast v1487
  let c1_4256 : Index := 1#32
  let c3_4257 : Index := 3#32
  let c40_4258 : Index := 40#32
  let c0_4259 : Index := 0#32
  ![v9418.toNat, 1, 3, 40, 0]
def k0_off782 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9424 : Index := Scalar.indexCast v1487
  let c1_4260 : Index := 1#32
  let c3_4261 : Index := 3#32
  let c48_4262 : Index := 48#32
  let c0_4263 : Index := 0#32
  ![v9424.toNat, 1, 3, 48, 0]
def k0_off783 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9430 : Index := Scalar.indexCast v1487
  let c1_4264 : Index := 1#32
  let c3_4265 : Index := 3#32
  let c56_4266 : Index := 56#32
  let c0_4267 : Index := 0#32
  ![v9430.toNat, 1, 3, 56, 0]
def k0_off784 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9436 : Index := Scalar.indexCast v1487
  let c1_4268 : Index := 1#32
  let c3_4269 : Index := 3#32
  let c64_4270 : Index := 64#32
  let c0_4271 : Index := 0#32
  ![v9436.toNat, 1, 3, 64, 0]
def k0_off785 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9442 : Index := Scalar.indexCast v1487
  let c1_4272 : Index := 1#32
  let c3_4273 : Index := 3#32
  let c72_4274 : Index := 72#32
  let c0_4275 : Index := 0#32
  ![v9442.toNat, 1, 3, 72, 0]
def k0_off786 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9448 : Index := Scalar.indexCast v1487
  let c1_4276 : Index := 1#32
  let c3_4277 : Index := 3#32
  let c80_4278 : Index := 80#32
  let c0_4279 : Index := 0#32
  ![v9448.toNat, 1, 3, 80, 0]
def k0_off787 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9454 : Index := Scalar.indexCast v1487
  let c1_4280 : Index := 1#32
  let c3_4281 : Index := 3#32
  let c88_4282 : Index := 88#32
  let c0_4283 : Index := 0#32
  ![v9454.toNat, 1, 3, 88, 0]
def k0_off788 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9460 : Index := Scalar.indexCast v1487
  let c1_4284 : Index := 1#32
  let c3_4285 : Index := 3#32
  let c96_4286 : Index := 96#32
  let c0_4287 : Index := 0#32
  ![v9460.toNat, 1, 3, 96, 0]
def k0_off789 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9466 : Index := Scalar.indexCast v1487
  let c1_4288 : Index := 1#32
  let c3_4289 : Index := 3#32
  let c104_4290 : Index := 104#32
  let c0_4291 : Index := 0#32
  ![v9466.toNat, 1, 3, 104, 0]
def k0_off790 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9472 : Index := Scalar.indexCast v1487
  let c1_4292 : Index := 1#32
  let c3_4293 : Index := 3#32
  let c112_4294 : Index := 112#32
  let c0_4295 : Index := 0#32
  ![v9472.toNat, 1, 3, 112, 0]
def k0_off791 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9478 : Index := Scalar.indexCast v1487
  let c1_4296 : Index := 1#32
  let c3_4297 : Index := 3#32
  let c120_4298 : Index := 120#32
  let c0_4299 : Index := 0#32
  ![v9478.toNat, 1, 3, 120, 0]
def k0_off792 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9484 : Index := Scalar.indexCast v1487
  let c1_4300 : Index := 1#32
  let c3_4301 : Index := 3#32
  let c128_4302 : Index := 128#32
  let c0_4303 : Index := 0#32
  ![v9484.toNat, 1, 3, 128, 0]
def k0_off793 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9490 : Index := Scalar.indexCast v1487
  let c1_4304 : Index := 1#32
  let c3_4305 : Index := 3#32
  let c136_4306 : Index := 136#32
  let c0_4307 : Index := 0#32
  ![v9490.toNat, 1, 3, 136, 0]
def k0_off794 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9496 : Index := Scalar.indexCast v1487
  let c1_4308 : Index := 1#32
  let c3_4309 : Index := 3#32
  let c144_4310 : Index := 144#32
  let c0_4311 : Index := 0#32
  ![v9496.toNat, 1, 3, 144, 0]
def k0_off795 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9502 : Index := Scalar.indexCast v1487
  let c1_4312 : Index := 1#32
  let c3_4313 : Index := 3#32
  let c152_4314 : Index := 152#32
  let c0_4315 : Index := 0#32
  ![v9502.toNat, 1, 3, 152, 0]
def k0_off796 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9508 : Index := Scalar.indexCast v1487
  let c1_4316 : Index := 1#32
  let c3_4317 : Index := 3#32
  let c160_4318 : Index := 160#32
  let c0_4319 : Index := 0#32
  ![v9508.toNat, 1, 3, 160, 0]
def k0_off797 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9514 : Index := Scalar.indexCast v1487
  let c1_4320 : Index := 1#32
  let c3_4321 : Index := 3#32
  let c168_4322 : Index := 168#32
  let c0_4323 : Index := 0#32
  ![v9514.toNat, 1, 3, 168, 0]
def k0_off798 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9520 : Index := Scalar.indexCast v1487
  let c1_4324 : Index := 1#32
  let c3_4325 : Index := 3#32
  let c176_4326 : Index := 176#32
  let c0_4327 : Index := 0#32
  ![v9520.toNat, 1, 3, 176, 0]
def k0_off799 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9526 : Index := Scalar.indexCast v1487
  let c1_4328 : Index := 1#32
  let c3_4329 : Index := 3#32
  let c184_4330 : Index := 184#32
  let c0_4331 : Index := 0#32
  ![v9526.toNat, 1, 3, 184, 0]
def k0_off800 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9532 : Index := Scalar.indexCast v1487
  let c1_4332 : Index := 1#32
  let c3_4333 : Index := 3#32
  let c192_4334 : Index := 192#32
  let c0_4335 : Index := 0#32
  ![v9532.toNat, 1, 3, 192, 0]
def k0_off801 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9538 : Index := Scalar.indexCast v1487
  let c1_4336 : Index := 1#32
  let c3_4337 : Index := 3#32
  let c200_4338 : Index := 200#32
  let c0_4339 : Index := 0#32
  ![v9538.toNat, 1, 3, 200, 0]
def k0_off802 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9544 : Index := Scalar.indexCast v1487
  let c1_4340 : Index := 1#32
  let c3_4341 : Index := 3#32
  let c208_4342 : Index := 208#32
  let c0_4343 : Index := 0#32
  ![v9544.toNat, 1, 3, 208, 0]
def k0_off803 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9550 : Index := Scalar.indexCast v1487
  let c1_4344 : Index := 1#32
  let c3_4345 : Index := 3#32
  let c216_4346 : Index := 216#32
  let c0_4347 : Index := 0#32
  ![v9550.toNat, 1, 3, 216, 0]
def k0_off804 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9556 : Index := Scalar.indexCast v1487
  let c1_4348 : Index := 1#32
  let c3_4349 : Index := 3#32
  let c224_4350 : Index := 224#32
  let c0_4351 : Index := 0#32
  ![v9556.toNat, 1, 3, 224, 0]
def k0_off805 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9562 : Index := Scalar.indexCast v1487
  let c1_4352 : Index := 1#32
  let c3_4353 : Index := 3#32
  let c232_4354 : Index := 232#32
  let c0_4355 : Index := 0#32
  ![v9562.toNat, 1, 3, 232, 0]
def k0_off806 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9568 : Index := Scalar.indexCast v1487
  let c1_4356 : Index := 1#32
  let c3_4357 : Index := 3#32
  let c240_4358 : Index := 240#32
  let c0_4359 : Index := 0#32
  ![v9568.toNat, 1, 3, 240, 0]
def k0_off807 (i : grid0.Coords) (k0_t3 : Fin (k0_t3_loop i).trips) : Fin 5 → Nat :=
  let c2_i32_930 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v1487 : BitVec 32 := Scalar.muli c2_i32_930 arg14
  let v9574 : Index := Scalar.indexCast v1487
  let c1_4361 : Index := 1#32
  let c3_4362 : Index := 3#32
  let c248_4363 : Index := 248#32
  let c0_4364 : Index := 0#32
  ![v9574.toNat, 1, 3, 248, 0]
def k0_mult6 (i : grid0.Coords) (k0_t3 : Fin (k0_t3_loop i).trips) : BitVec 32 :=
  let c2_i32_4365 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v9578 : BitVec 32 := Scalar.muli c2_i32_4365 arg14
  let c2_i32_4366 : BitVec 32 := 2#32
  let v9579 : BitVec 32 := Scalar.addi v9578 c2_i32_4366
  let c512_i32_4367 : BitVec 32 := 512#32
  let v9580 : BitVec 32 := Scalar.muli v9579 c512_i32_4367
  v9580
def k0_off808 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v11066 : Index := Scalar.indexCast v10249
  let c0_5108 : Index := 0#32
  let c0_5109 : Index := 0#32
  let c0_5110 : Index := 0#32
  let c0_5111 : Index := 0#32
  ![v11066.toNat, 0, 0, 0, 0]
def k0_off809 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11071 : Index := Scalar.indexCast v10247
  let c0_5112 : Index := 0#32
  let c0_5113 : Index := 0#32
  let c0_5114 : Index := 0#32
  let c0_5115 : Index := 0#32
  ![v11071.toNat, 0, 0, 0, 0]
def k0_off810 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11077 : Index := Scalar.indexCast v10247
  let c0_5116 : Index := 0#32
  let c0_5117 : Index := 0#32
  let c8_5118 : Index := 8#32
  let c0_5119 : Index := 0#32
  ![v11077.toNat, 0, 0, 8, 0]
def k0_off811 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11083 : Index := Scalar.indexCast v10247
  let c0_5120 : Index := 0#32
  let c0_5121 : Index := 0#32
  let c16_5122 : Index := 16#32
  let c0_5123 : Index := 0#32
  ![v11083.toNat, 0, 0, 16, 0]
def k0_off812 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11089 : Index := Scalar.indexCast v10247
  let c0_5124 : Index := 0#32
  let c0_5125 : Index := 0#32
  let c24_5126 : Index := 24#32
  let c0_5127 : Index := 0#32
  ![v11089.toNat, 0, 0, 24, 0]
def k0_off813 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11095 : Index := Scalar.indexCast v10247
  let c0_5128 : Index := 0#32
  let c0_5129 : Index := 0#32
  let c32_5130 : Index := 32#32
  let c0_5131 : Index := 0#32
  ![v11095.toNat, 0, 0, 32, 0]
def k0_off814 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11101 : Index := Scalar.indexCast v10247
  let c0_5132 : Index := 0#32
  let c0_5133 : Index := 0#32
  let c40_5134 : Index := 40#32
  let c0_5135 : Index := 0#32
  ![v11101.toNat, 0, 0, 40, 0]
def k0_off815 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11107 : Index := Scalar.indexCast v10247
  let c0_5136 : Index := 0#32
  let c0_5137 : Index := 0#32
  let c48_5138 : Index := 48#32
  let c0_5139 : Index := 0#32
  ![v11107.toNat, 0, 0, 48, 0]
def k0_off816 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11113 : Index := Scalar.indexCast v10247
  let c0_5140 : Index := 0#32
  let c0_5141 : Index := 0#32
  let c56_5142 : Index := 56#32
  let c0_5143 : Index := 0#32
  ![v11113.toNat, 0, 0, 56, 0]
def k0_off817 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11119 : Index := Scalar.indexCast v10247
  let c0_5144 : Index := 0#32
  let c0_5145 : Index := 0#32
  let c64_5146 : Index := 64#32
  let c0_5147 : Index := 0#32
  ![v11119.toNat, 0, 0, 64, 0]
def k0_off818 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11125 : Index := Scalar.indexCast v10247
  let c0_5148 : Index := 0#32
  let c0_5149 : Index := 0#32
  let c72_5150 : Index := 72#32
  let c0_5151 : Index := 0#32
  ![v11125.toNat, 0, 0, 72, 0]
def k0_off819 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11131 : Index := Scalar.indexCast v10247
  let c0_5152 : Index := 0#32
  let c0_5153 : Index := 0#32
  let c80_5154 : Index := 80#32
  let c0_5155 : Index := 0#32
  ![v11131.toNat, 0, 0, 80, 0]
def k0_off820 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11137 : Index := Scalar.indexCast v10247
  let c0_5156 : Index := 0#32
  let c0_5157 : Index := 0#32
  let c88_5158 : Index := 88#32
  let c0_5159 : Index := 0#32
  ![v11137.toNat, 0, 0, 88, 0]
def k0_off821 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11143 : Index := Scalar.indexCast v10247
  let c0_5160 : Index := 0#32
  let c0_5161 : Index := 0#32
  let c96_5162 : Index := 96#32
  let c0_5163 : Index := 0#32
  ![v11143.toNat, 0, 0, 96, 0]
def k0_off822 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11149 : Index := Scalar.indexCast v10247
  let c0_5164 : Index := 0#32
  let c0_5165 : Index := 0#32
  let c104_5166 : Index := 104#32
  let c0_5167 : Index := 0#32
  ![v11149.toNat, 0, 0, 104, 0]
def k0_off823 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11155 : Index := Scalar.indexCast v10247
  let c0_5168 : Index := 0#32
  let c0_5169 : Index := 0#32
  let c112_5170 : Index := 112#32
  let c0_5171 : Index := 0#32
  ![v11155.toNat, 0, 0, 112, 0]
def k0_off824 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11161 : Index := Scalar.indexCast v10247
  let c0_5172 : Index := 0#32
  let c0_5173 : Index := 0#32
  let c120_5174 : Index := 120#32
  let c0_5175 : Index := 0#32
  ![v11161.toNat, 0, 0, 120, 0]
def k0_off825 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11167 : Index := Scalar.indexCast v10247
  let c0_5176 : Index := 0#32
  let c0_5177 : Index := 0#32
  let c128_5178 : Index := 128#32
  let c0_5179 : Index := 0#32
  ![v11167.toNat, 0, 0, 128, 0]
def k0_off826 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11173 : Index := Scalar.indexCast v10247
  let c0_5180 : Index := 0#32
  let c0_5181 : Index := 0#32
  let c136_5182 : Index := 136#32
  let c0_5183 : Index := 0#32
  ![v11173.toNat, 0, 0, 136, 0]
def k0_off827 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11179 : Index := Scalar.indexCast v10247
  let c0_5184 : Index := 0#32
  let c0_5185 : Index := 0#32
  let c144_5186 : Index := 144#32
  let c0_5187 : Index := 0#32
  ![v11179.toNat, 0, 0, 144, 0]
def k0_off828 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11185 : Index := Scalar.indexCast v10247
  let c0_5188 : Index := 0#32
  let c0_5189 : Index := 0#32
  let c152_5190 : Index := 152#32
  let c0_5191 : Index := 0#32
  ![v11185.toNat, 0, 0, 152, 0]
def k0_off829 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11191 : Index := Scalar.indexCast v10247
  let c0_5192 : Index := 0#32
  let c0_5193 : Index := 0#32
  let c160_5194 : Index := 160#32
  let c0_5195 : Index := 0#32
  ![v11191.toNat, 0, 0, 160, 0]
def k0_off830 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11197 : Index := Scalar.indexCast v10247
  let c0_5196 : Index := 0#32
  let c0_5197 : Index := 0#32
  let c168_5198 : Index := 168#32
  let c0_5199 : Index := 0#32
  ![v11197.toNat, 0, 0, 168, 0]
def k0_off831 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11203 : Index := Scalar.indexCast v10247
  let c0_5200 : Index := 0#32
  let c0_5201 : Index := 0#32
  let c176_5202 : Index := 176#32
  let c0_5203 : Index := 0#32
  ![v11203.toNat, 0, 0, 176, 0]
def k0_off832 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11209 : Index := Scalar.indexCast v10247
  let c0_5204 : Index := 0#32
  let c0_5205 : Index := 0#32
  let c184_5206 : Index := 184#32
  let c0_5207 : Index := 0#32
  ![v11209.toNat, 0, 0, 184, 0]
def k0_off833 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11215 : Index := Scalar.indexCast v10247
  let c0_5208 : Index := 0#32
  let c0_5209 : Index := 0#32
  let c192_5210 : Index := 192#32
  let c0_5211 : Index := 0#32
  ![v11215.toNat, 0, 0, 192, 0]
def k0_off834 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11221 : Index := Scalar.indexCast v10247
  let c0_5212 : Index := 0#32
  let c0_5213 : Index := 0#32
  let c200_5214 : Index := 200#32
  let c0_5215 : Index := 0#32
  ![v11221.toNat, 0, 0, 200, 0]
def k0_off835 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11227 : Index := Scalar.indexCast v10247
  let c0_5216 : Index := 0#32
  let c0_5217 : Index := 0#32
  let c208_5218 : Index := 208#32
  let c0_5219 : Index := 0#32
  ![v11227.toNat, 0, 0, 208, 0]
def k0_off836 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11233 : Index := Scalar.indexCast v10247
  let c0_5220 : Index := 0#32
  let c0_5221 : Index := 0#32
  let c216_5222 : Index := 216#32
  let c0_5223 : Index := 0#32
  ![v11233.toNat, 0, 0, 216, 0]
def k0_off837 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11239 : Index := Scalar.indexCast v10247
  let c0_5224 : Index := 0#32
  let c0_5225 : Index := 0#32
  let c224_5226 : Index := 224#32
  let c0_5227 : Index := 0#32
  ![v11239.toNat, 0, 0, 224, 0]
def k0_off838 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11245 : Index := Scalar.indexCast v10247
  let c0_5228 : Index := 0#32
  let c0_5229 : Index := 0#32
  let c232_5230 : Index := 232#32
  let c0_5231 : Index := 0#32
  ![v11245.toNat, 0, 0, 232, 0]
def k0_off839 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11251 : Index := Scalar.indexCast v10247
  let c0_5232 : Index := 0#32
  let c0_5233 : Index := 0#32
  let c240_5234 : Index := 240#32
  let c0_5235 : Index := 0#32
  ![v11251.toNat, 0, 0, 240, 0]
def k0_off840 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v11257 : Index := Scalar.indexCast v10247
  let c0_5237 : Index := 0#32
  let c0_5238 : Index := 0#32
  let c248_5239 : Index := 248#32
  let c0_5240 : Index := 0#32
  ![v11257.toNat, 0, 0, 248, 0]
def k0_off841 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v12077 : Index := Scalar.indexCast v10249
  let c0_5545 : Index := 0#32
  let c1_5546 : Index := 1#32
  let c0_5547 : Index := 0#32
  let c0_5548 : Index := 0#32
  ![v12077.toNat, 0, 1, 0, 0]
def k0_off842 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12082 : Index := Scalar.indexCast v10247
  let c0_5549 : Index := 0#32
  let c1_5550 : Index := 1#32
  let c0_5551 : Index := 0#32
  let c0_5552 : Index := 0#32
  ![v12082.toNat, 0, 1, 0, 0]
def k0_off843 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12088 : Index := Scalar.indexCast v10247
  let c0_5553 : Index := 0#32
  let c1_5554 : Index := 1#32
  let c8_5555 : Index := 8#32
  let c0_5556 : Index := 0#32
  ![v12088.toNat, 0, 1, 8, 0]
def k0_off844 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12094 : Index := Scalar.indexCast v10247
  let c0_5557 : Index := 0#32
  let c1_5558 : Index := 1#32
  let c16_5559 : Index := 16#32
  let c0_5560 : Index := 0#32
  ![v12094.toNat, 0, 1, 16, 0]
def k0_off845 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12100 : Index := Scalar.indexCast v10247
  let c0_5561 : Index := 0#32
  let c1_5562 : Index := 1#32
  let c24_5563 : Index := 24#32
  let c0_5564 : Index := 0#32
  ![v12100.toNat, 0, 1, 24, 0]
def k0_off846 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12106 : Index := Scalar.indexCast v10247
  let c0_5565 : Index := 0#32
  let c1_5566 : Index := 1#32
  let c32_5567 : Index := 32#32
  let c0_5568 : Index := 0#32
  ![v12106.toNat, 0, 1, 32, 0]
def k0_off847 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12112 : Index := Scalar.indexCast v10247
  let c0_5569 : Index := 0#32
  let c1_5570 : Index := 1#32
  let c40_5571 : Index := 40#32
  let c0_5572 : Index := 0#32
  ![v12112.toNat, 0, 1, 40, 0]
def k0_off848 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12118 : Index := Scalar.indexCast v10247
  let c0_5573 : Index := 0#32
  let c1_5574 : Index := 1#32
  let c48_5575 : Index := 48#32
  let c0_5576 : Index := 0#32
  ![v12118.toNat, 0, 1, 48, 0]
def k0_off849 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12124 : Index := Scalar.indexCast v10247
  let c0_5577 : Index := 0#32
  let c1_5578 : Index := 1#32
  let c56_5579 : Index := 56#32
  let c0_5580 : Index := 0#32
  ![v12124.toNat, 0, 1, 56, 0]
def k0_off850 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12130 : Index := Scalar.indexCast v10247
  let c0_5581 : Index := 0#32
  let c1_5582 : Index := 1#32
  let c64_5583 : Index := 64#32
  let c0_5584 : Index := 0#32
  ![v12130.toNat, 0, 1, 64, 0]
def k0_off851 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12136 : Index := Scalar.indexCast v10247
  let c0_5585 : Index := 0#32
  let c1_5586 : Index := 1#32
  let c72_5587 : Index := 72#32
  let c0_5588 : Index := 0#32
  ![v12136.toNat, 0, 1, 72, 0]
def k0_off852 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12142 : Index := Scalar.indexCast v10247
  let c0_5589 : Index := 0#32
  let c1_5590 : Index := 1#32
  let c80_5591 : Index := 80#32
  let c0_5592 : Index := 0#32
  ![v12142.toNat, 0, 1, 80, 0]
def k0_off853 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12148 : Index := Scalar.indexCast v10247
  let c0_5593 : Index := 0#32
  let c1_5594 : Index := 1#32
  let c88_5595 : Index := 88#32
  let c0_5596 : Index := 0#32
  ![v12148.toNat, 0, 1, 88, 0]
def k0_off854 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12154 : Index := Scalar.indexCast v10247
  let c0_5597 : Index := 0#32
  let c1_5598 : Index := 1#32
  let c96_5599 : Index := 96#32
  let c0_5600 : Index := 0#32
  ![v12154.toNat, 0, 1, 96, 0]
def k0_off855 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12160 : Index := Scalar.indexCast v10247
  let c0_5601 : Index := 0#32
  let c1_5602 : Index := 1#32
  let c104_5603 : Index := 104#32
  let c0_5604 : Index := 0#32
  ![v12160.toNat, 0, 1, 104, 0]
def k0_off856 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12166 : Index := Scalar.indexCast v10247
  let c0_5605 : Index := 0#32
  let c1_5606 : Index := 1#32
  let c112_5607 : Index := 112#32
  let c0_5608 : Index := 0#32
  ![v12166.toNat, 0, 1, 112, 0]
def k0_off857 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12172 : Index := Scalar.indexCast v10247
  let c0_5609 : Index := 0#32
  let c1_5610 : Index := 1#32
  let c120_5611 : Index := 120#32
  let c0_5612 : Index := 0#32
  ![v12172.toNat, 0, 1, 120, 0]
def k0_off858 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12178 : Index := Scalar.indexCast v10247
  let c0_5613 : Index := 0#32
  let c1_5614 : Index := 1#32
  let c128_5615 : Index := 128#32
  let c0_5616 : Index := 0#32
  ![v12178.toNat, 0, 1, 128, 0]
def k0_off859 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12184 : Index := Scalar.indexCast v10247
  let c0_5617 : Index := 0#32
  let c1_5618 : Index := 1#32
  let c136_5619 : Index := 136#32
  let c0_5620 : Index := 0#32
  ![v12184.toNat, 0, 1, 136, 0]
def k0_off860 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12190 : Index := Scalar.indexCast v10247
  let c0_5621 : Index := 0#32
  let c1_5622 : Index := 1#32
  let c144_5623 : Index := 144#32
  let c0_5624 : Index := 0#32
  ![v12190.toNat, 0, 1, 144, 0]
def k0_off861 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12196 : Index := Scalar.indexCast v10247
  let c0_5625 : Index := 0#32
  let c1_5626 : Index := 1#32
  let c152_5627 : Index := 152#32
  let c0_5628 : Index := 0#32
  ![v12196.toNat, 0, 1, 152, 0]
def k0_off862 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12202 : Index := Scalar.indexCast v10247
  let c0_5629 : Index := 0#32
  let c1_5630 : Index := 1#32
  let c160_5631 : Index := 160#32
  let c0_5632 : Index := 0#32
  ![v12202.toNat, 0, 1, 160, 0]
def k0_off863 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12208 : Index := Scalar.indexCast v10247
  let c0_5633 : Index := 0#32
  let c1_5634 : Index := 1#32
  let c168_5635 : Index := 168#32
  let c0_5636 : Index := 0#32
  ![v12208.toNat, 0, 1, 168, 0]
def k0_off864 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12214 : Index := Scalar.indexCast v10247
  let c0_5637 : Index := 0#32
  let c1_5638 : Index := 1#32
  let c176_5639 : Index := 176#32
  let c0_5640 : Index := 0#32
  ![v12214.toNat, 0, 1, 176, 0]
def k0_off865 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12220 : Index := Scalar.indexCast v10247
  let c0_5641 : Index := 0#32
  let c1_5642 : Index := 1#32
  let c184_5643 : Index := 184#32
  let c0_5644 : Index := 0#32
  ![v12220.toNat, 0, 1, 184, 0]
def k0_off866 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12226 : Index := Scalar.indexCast v10247
  let c0_5645 : Index := 0#32
  let c1_5646 : Index := 1#32
  let c192_5647 : Index := 192#32
  let c0_5648 : Index := 0#32
  ![v12226.toNat, 0, 1, 192, 0]
def k0_off867 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12232 : Index := Scalar.indexCast v10247
  let c0_5649 : Index := 0#32
  let c1_5650 : Index := 1#32
  let c200_5651 : Index := 200#32
  let c0_5652 : Index := 0#32
  ![v12232.toNat, 0, 1, 200, 0]
def k0_off868 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12238 : Index := Scalar.indexCast v10247
  let c0_5653 : Index := 0#32
  let c1_5654 : Index := 1#32
  let c208_5655 : Index := 208#32
  let c0_5656 : Index := 0#32
  ![v12238.toNat, 0, 1, 208, 0]
def k0_off869 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12244 : Index := Scalar.indexCast v10247
  let c0_5657 : Index := 0#32
  let c1_5658 : Index := 1#32
  let c216_5659 : Index := 216#32
  let c0_5660 : Index := 0#32
  ![v12244.toNat, 0, 1, 216, 0]
def k0_off870 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12250 : Index := Scalar.indexCast v10247
  let c0_5661 : Index := 0#32
  let c1_5662 : Index := 1#32
  let c224_5663 : Index := 224#32
  let c0_5664 : Index := 0#32
  ![v12250.toNat, 0, 1, 224, 0]
def k0_off871 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12256 : Index := Scalar.indexCast v10247
  let c0_5665 : Index := 0#32
  let c1_5666 : Index := 1#32
  let c232_5667 : Index := 232#32
  let c0_5668 : Index := 0#32
  ![v12256.toNat, 0, 1, 232, 0]
def k0_off872 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12262 : Index := Scalar.indexCast v10247
  let c0_5669 : Index := 0#32
  let c1_5670 : Index := 1#32
  let c240_5671 : Index := 240#32
  let c0_5672 : Index := 0#32
  ![v12262.toNat, 0, 1, 240, 0]
def k0_off873 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v12268 : Index := Scalar.indexCast v10247
  let c0_5674 : Index := 0#32
  let c1_5675 : Index := 1#32
  let c248_5676 : Index := 248#32
  let c0_5677 : Index := 0#32
  ![v12268.toNat, 0, 1, 248, 0]
def k0_off874 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v13088 : Index := Scalar.indexCast v10249
  let c0_5982 : Index := 0#32
  let c2_5983 : Index := 2#32
  let c0_5984 : Index := 0#32
  let c0_5985 : Index := 0#32
  ![v13088.toNat, 0, 2, 0, 0]
def k0_off875 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13093 : Index := Scalar.indexCast v10247
  let c0_5986 : Index := 0#32
  let c2_5987 : Index := 2#32
  let c0_5988 : Index := 0#32
  let c0_5989 : Index := 0#32
  ![v13093.toNat, 0, 2, 0, 0]
def k0_off876 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13099 : Index := Scalar.indexCast v10247
  let c0_5990 : Index := 0#32
  let c2_5991 : Index := 2#32
  let c8_5992 : Index := 8#32
  let c0_5993 : Index := 0#32
  ![v13099.toNat, 0, 2, 8, 0]
def k0_off877 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13105 : Index := Scalar.indexCast v10247
  let c0_5994 : Index := 0#32
  let c2_5995 : Index := 2#32
  let c16_5996 : Index := 16#32
  let c0_5997 : Index := 0#32
  ![v13105.toNat, 0, 2, 16, 0]
def k0_off878 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13111 : Index := Scalar.indexCast v10247
  let c0_5998 : Index := 0#32
  let c2_5999 : Index := 2#32
  let c24_6000 : Index := 24#32
  let c0_6001 : Index := 0#32
  ![v13111.toNat, 0, 2, 24, 0]
def k0_off879 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13117 : Index := Scalar.indexCast v10247
  let c0_6002 : Index := 0#32
  let c2_6003 : Index := 2#32
  let c32_6004 : Index := 32#32
  let c0_6005 : Index := 0#32
  ![v13117.toNat, 0, 2, 32, 0]
def k0_off880 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13123 : Index := Scalar.indexCast v10247
  let c0_6006 : Index := 0#32
  let c2_6007 : Index := 2#32
  let c40_6008 : Index := 40#32
  let c0_6009 : Index := 0#32
  ![v13123.toNat, 0, 2, 40, 0]
def k0_off881 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13129 : Index := Scalar.indexCast v10247
  let c0_6010 : Index := 0#32
  let c2_6011 : Index := 2#32
  let c48_6012 : Index := 48#32
  let c0_6013 : Index := 0#32
  ![v13129.toNat, 0, 2, 48, 0]
def k0_off882 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13135 : Index := Scalar.indexCast v10247
  let c0_6014 : Index := 0#32
  let c2_6015 : Index := 2#32
  let c56_6016 : Index := 56#32
  let c0_6017 : Index := 0#32
  ![v13135.toNat, 0, 2, 56, 0]
def k0_off883 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13141 : Index := Scalar.indexCast v10247
  let c0_6018 : Index := 0#32
  let c2_6019 : Index := 2#32
  let c64_6020 : Index := 64#32
  let c0_6021 : Index := 0#32
  ![v13141.toNat, 0, 2, 64, 0]
def k0_off884 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13147 : Index := Scalar.indexCast v10247
  let c0_6022 : Index := 0#32
  let c2_6023 : Index := 2#32
  let c72_6024 : Index := 72#32
  let c0_6025 : Index := 0#32
  ![v13147.toNat, 0, 2, 72, 0]
def k0_off885 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13153 : Index := Scalar.indexCast v10247
  let c0_6026 : Index := 0#32
  let c2_6027 : Index := 2#32
  let c80_6028 : Index := 80#32
  let c0_6029 : Index := 0#32
  ![v13153.toNat, 0, 2, 80, 0]
def k0_off886 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13159 : Index := Scalar.indexCast v10247
  let c0_6030 : Index := 0#32
  let c2_6031 : Index := 2#32
  let c88_6032 : Index := 88#32
  let c0_6033 : Index := 0#32
  ![v13159.toNat, 0, 2, 88, 0]
def k0_off887 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13165 : Index := Scalar.indexCast v10247
  let c0_6034 : Index := 0#32
  let c2_6035 : Index := 2#32
  let c96_6036 : Index := 96#32
  let c0_6037 : Index := 0#32
  ![v13165.toNat, 0, 2, 96, 0]
def k0_off888 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13171 : Index := Scalar.indexCast v10247
  let c0_6038 : Index := 0#32
  let c2_6039 : Index := 2#32
  let c104_6040 : Index := 104#32
  let c0_6041 : Index := 0#32
  ![v13171.toNat, 0, 2, 104, 0]
def k0_off889 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13177 : Index := Scalar.indexCast v10247
  let c0_6042 : Index := 0#32
  let c2_6043 : Index := 2#32
  let c112_6044 : Index := 112#32
  let c0_6045 : Index := 0#32
  ![v13177.toNat, 0, 2, 112, 0]
def k0_off890 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13183 : Index := Scalar.indexCast v10247
  let c0_6046 : Index := 0#32
  let c2_6047 : Index := 2#32
  let c120_6048 : Index := 120#32
  let c0_6049 : Index := 0#32
  ![v13183.toNat, 0, 2, 120, 0]
def k0_off891 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13189 : Index := Scalar.indexCast v10247
  let c0_6050 : Index := 0#32
  let c2_6051 : Index := 2#32
  let c128_6052 : Index := 128#32
  let c0_6053 : Index := 0#32
  ![v13189.toNat, 0, 2, 128, 0]
def k0_off892 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13195 : Index := Scalar.indexCast v10247
  let c0_6054 : Index := 0#32
  let c2_6055 : Index := 2#32
  let c136_6056 : Index := 136#32
  let c0_6057 : Index := 0#32
  ![v13195.toNat, 0, 2, 136, 0]
def k0_off893 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13201 : Index := Scalar.indexCast v10247
  let c0_6058 : Index := 0#32
  let c2_6059 : Index := 2#32
  let c144_6060 : Index := 144#32
  let c0_6061 : Index := 0#32
  ![v13201.toNat, 0, 2, 144, 0]
def k0_off894 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13207 : Index := Scalar.indexCast v10247
  let c0_6062 : Index := 0#32
  let c2_6063 : Index := 2#32
  let c152_6064 : Index := 152#32
  let c0_6065 : Index := 0#32
  ![v13207.toNat, 0, 2, 152, 0]
def k0_off895 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13213 : Index := Scalar.indexCast v10247
  let c0_6066 : Index := 0#32
  let c2_6067 : Index := 2#32
  let c160_6068 : Index := 160#32
  let c0_6069 : Index := 0#32
  ![v13213.toNat, 0, 2, 160, 0]
def k0_off896 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13219 : Index := Scalar.indexCast v10247
  let c0_6070 : Index := 0#32
  let c2_6071 : Index := 2#32
  let c168_6072 : Index := 168#32
  let c0_6073 : Index := 0#32
  ![v13219.toNat, 0, 2, 168, 0]
def k0_off897 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13225 : Index := Scalar.indexCast v10247
  let c0_6074 : Index := 0#32
  let c2_6075 : Index := 2#32
  let c176_6076 : Index := 176#32
  let c0_6077 : Index := 0#32
  ![v13225.toNat, 0, 2, 176, 0]
def k0_off898 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13231 : Index := Scalar.indexCast v10247
  let c0_6078 : Index := 0#32
  let c2_6079 : Index := 2#32
  let c184_6080 : Index := 184#32
  let c0_6081 : Index := 0#32
  ![v13231.toNat, 0, 2, 184, 0]
def k0_off899 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13237 : Index := Scalar.indexCast v10247
  let c0_6082 : Index := 0#32
  let c2_6083 : Index := 2#32
  let c192_6084 : Index := 192#32
  let c0_6085 : Index := 0#32
  ![v13237.toNat, 0, 2, 192, 0]
def k0_off900 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13243 : Index := Scalar.indexCast v10247
  let c0_6086 : Index := 0#32
  let c2_6087 : Index := 2#32
  let c200_6088 : Index := 200#32
  let c0_6089 : Index := 0#32
  ![v13243.toNat, 0, 2, 200, 0]
def k0_off901 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13249 : Index := Scalar.indexCast v10247
  let c0_6090 : Index := 0#32
  let c2_6091 : Index := 2#32
  let c208_6092 : Index := 208#32
  let c0_6093 : Index := 0#32
  ![v13249.toNat, 0, 2, 208, 0]
def k0_off902 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13255 : Index := Scalar.indexCast v10247
  let c0_6094 : Index := 0#32
  let c2_6095 : Index := 2#32
  let c216_6096 : Index := 216#32
  let c0_6097 : Index := 0#32
  ![v13255.toNat, 0, 2, 216, 0]
def k0_off903 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13261 : Index := Scalar.indexCast v10247
  let c0_6098 : Index := 0#32
  let c2_6099 : Index := 2#32
  let c224_6100 : Index := 224#32
  let c0_6101 : Index := 0#32
  ![v13261.toNat, 0, 2, 224, 0]
def k0_off904 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13267 : Index := Scalar.indexCast v10247
  let c0_6102 : Index := 0#32
  let c2_6103 : Index := 2#32
  let c232_6104 : Index := 232#32
  let c0_6105 : Index := 0#32
  ![v13267.toNat, 0, 2, 232, 0]
def k0_off905 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13273 : Index := Scalar.indexCast v10247
  let c0_6106 : Index := 0#32
  let c2_6107 : Index := 2#32
  let c240_6108 : Index := 240#32
  let c0_6109 : Index := 0#32
  ![v13273.toNat, 0, 2, 240, 0]
def k0_off906 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v13279 : Index := Scalar.indexCast v10247
  let c0_6111 : Index := 0#32
  let c2_6112 : Index := 2#32
  let c248_6113 : Index := 248#32
  let c0_6114 : Index := 0#32
  ![v13279.toNat, 0, 2, 248, 0]
def k0_off907 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v14099 : Index := Scalar.indexCast v10249
  let c0_6419 : Index := 0#32
  let c3_6420 : Index := 3#32
  let c0_6421 : Index := 0#32
  let c0_6422 : Index := 0#32
  ![v14099.toNat, 0, 3, 0, 0]
def k0_off908 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14104 : Index := Scalar.indexCast v10247
  let c0_6423 : Index := 0#32
  let c3_6424 : Index := 3#32
  let c0_6425 : Index := 0#32
  let c0_6426 : Index := 0#32
  ![v14104.toNat, 0, 3, 0, 0]
def k0_off909 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14110 : Index := Scalar.indexCast v10247
  let c0_6427 : Index := 0#32
  let c3_6428 : Index := 3#32
  let c8_6429 : Index := 8#32
  let c0_6430 : Index := 0#32
  ![v14110.toNat, 0, 3, 8, 0]
def k0_off910 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14116 : Index := Scalar.indexCast v10247
  let c0_6431 : Index := 0#32
  let c3_6432 : Index := 3#32
  let c16_6433 : Index := 16#32
  let c0_6434 : Index := 0#32
  ![v14116.toNat, 0, 3, 16, 0]
def k0_off911 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14122 : Index := Scalar.indexCast v10247
  let c0_6435 : Index := 0#32
  let c3_6436 : Index := 3#32
  let c24_6437 : Index := 24#32
  let c0_6438 : Index := 0#32
  ![v14122.toNat, 0, 3, 24, 0]
def k0_off912 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14128 : Index := Scalar.indexCast v10247
  let c0_6439 : Index := 0#32
  let c3_6440 : Index := 3#32
  let c32_6441 : Index := 32#32
  let c0_6442 : Index := 0#32
  ![v14128.toNat, 0, 3, 32, 0]
def k0_off913 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14134 : Index := Scalar.indexCast v10247
  let c0_6443 : Index := 0#32
  let c3_6444 : Index := 3#32
  let c40_6445 : Index := 40#32
  let c0_6446 : Index := 0#32
  ![v14134.toNat, 0, 3, 40, 0]
def k0_off914 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14140 : Index := Scalar.indexCast v10247
  let c0_6447 : Index := 0#32
  let c3_6448 : Index := 3#32
  let c48_6449 : Index := 48#32
  let c0_6450 : Index := 0#32
  ![v14140.toNat, 0, 3, 48, 0]
def k0_off915 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14146 : Index := Scalar.indexCast v10247
  let c0_6451 : Index := 0#32
  let c3_6452 : Index := 3#32
  let c56_6453 : Index := 56#32
  let c0_6454 : Index := 0#32
  ![v14146.toNat, 0, 3, 56, 0]
def k0_off916 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14152 : Index := Scalar.indexCast v10247
  let c0_6455 : Index := 0#32
  let c3_6456 : Index := 3#32
  let c64_6457 : Index := 64#32
  let c0_6458 : Index := 0#32
  ![v14152.toNat, 0, 3, 64, 0]
def k0_off917 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14158 : Index := Scalar.indexCast v10247
  let c0_6459 : Index := 0#32
  let c3_6460 : Index := 3#32
  let c72_6461 : Index := 72#32
  let c0_6462 : Index := 0#32
  ![v14158.toNat, 0, 3, 72, 0]
def k0_off918 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14164 : Index := Scalar.indexCast v10247
  let c0_6463 : Index := 0#32
  let c3_6464 : Index := 3#32
  let c80_6465 : Index := 80#32
  let c0_6466 : Index := 0#32
  ![v14164.toNat, 0, 3, 80, 0]
def k0_off919 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14170 : Index := Scalar.indexCast v10247
  let c0_6467 : Index := 0#32
  let c3_6468 : Index := 3#32
  let c88_6469 : Index := 88#32
  let c0_6470 : Index := 0#32
  ![v14170.toNat, 0, 3, 88, 0]
def k0_off920 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14176 : Index := Scalar.indexCast v10247
  let c0_6471 : Index := 0#32
  let c3_6472 : Index := 3#32
  let c96_6473 : Index := 96#32
  let c0_6474 : Index := 0#32
  ![v14176.toNat, 0, 3, 96, 0]
def k0_off921 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14182 : Index := Scalar.indexCast v10247
  let c0_6475 : Index := 0#32
  let c3_6476 : Index := 3#32
  let c104_6477 : Index := 104#32
  let c0_6478 : Index := 0#32
  ![v14182.toNat, 0, 3, 104, 0]
def k0_off922 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14188 : Index := Scalar.indexCast v10247
  let c0_6479 : Index := 0#32
  let c3_6480 : Index := 3#32
  let c112_6481 : Index := 112#32
  let c0_6482 : Index := 0#32
  ![v14188.toNat, 0, 3, 112, 0]
def k0_off923 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14194 : Index := Scalar.indexCast v10247
  let c0_6483 : Index := 0#32
  let c3_6484 : Index := 3#32
  let c120_6485 : Index := 120#32
  let c0_6486 : Index := 0#32
  ![v14194.toNat, 0, 3, 120, 0]
def k0_off924 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14200 : Index := Scalar.indexCast v10247
  let c0_6487 : Index := 0#32
  let c3_6488 : Index := 3#32
  let c128_6489 : Index := 128#32
  let c0_6490 : Index := 0#32
  ![v14200.toNat, 0, 3, 128, 0]
def k0_off925 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14206 : Index := Scalar.indexCast v10247
  let c0_6491 : Index := 0#32
  let c3_6492 : Index := 3#32
  let c136_6493 : Index := 136#32
  let c0_6494 : Index := 0#32
  ![v14206.toNat, 0, 3, 136, 0]
def k0_off926 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14212 : Index := Scalar.indexCast v10247
  let c0_6495 : Index := 0#32
  let c3_6496 : Index := 3#32
  let c144_6497 : Index := 144#32
  let c0_6498 : Index := 0#32
  ![v14212.toNat, 0, 3, 144, 0]
def k0_off927 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14218 : Index := Scalar.indexCast v10247
  let c0_6499 : Index := 0#32
  let c3_6500 : Index := 3#32
  let c152_6501 : Index := 152#32
  let c0_6502 : Index := 0#32
  ![v14218.toNat, 0, 3, 152, 0]
def k0_off928 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14224 : Index := Scalar.indexCast v10247
  let c0_6503 : Index := 0#32
  let c3_6504 : Index := 3#32
  let c160_6505 : Index := 160#32
  let c0_6506 : Index := 0#32
  ![v14224.toNat, 0, 3, 160, 0]
def k0_off929 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14230 : Index := Scalar.indexCast v10247
  let c0_6507 : Index := 0#32
  let c3_6508 : Index := 3#32
  let c168_6509 : Index := 168#32
  let c0_6510 : Index := 0#32
  ![v14230.toNat, 0, 3, 168, 0]
def k0_off930 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14236 : Index := Scalar.indexCast v10247
  let c0_6511 : Index := 0#32
  let c3_6512 : Index := 3#32
  let c176_6513 : Index := 176#32
  let c0_6514 : Index := 0#32
  ![v14236.toNat, 0, 3, 176, 0]
def k0_off931 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14242 : Index := Scalar.indexCast v10247
  let c0_6515 : Index := 0#32
  let c3_6516 : Index := 3#32
  let c184_6517 : Index := 184#32
  let c0_6518 : Index := 0#32
  ![v14242.toNat, 0, 3, 184, 0]
def k0_off932 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14248 : Index := Scalar.indexCast v10247
  let c0_6519 : Index := 0#32
  let c3_6520 : Index := 3#32
  let c192_6521 : Index := 192#32
  let c0_6522 : Index := 0#32
  ![v14248.toNat, 0, 3, 192, 0]
def k0_off933 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14254 : Index := Scalar.indexCast v10247
  let c0_6523 : Index := 0#32
  let c3_6524 : Index := 3#32
  let c200_6525 : Index := 200#32
  let c0_6526 : Index := 0#32
  ![v14254.toNat, 0, 3, 200, 0]
def k0_off934 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14260 : Index := Scalar.indexCast v10247
  let c0_6527 : Index := 0#32
  let c3_6528 : Index := 3#32
  let c208_6529 : Index := 208#32
  let c0_6530 : Index := 0#32
  ![v14260.toNat, 0, 3, 208, 0]
def k0_off935 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14266 : Index := Scalar.indexCast v10247
  let c0_6531 : Index := 0#32
  let c3_6532 : Index := 3#32
  let c216_6533 : Index := 216#32
  let c0_6534 : Index := 0#32
  ![v14266.toNat, 0, 3, 216, 0]
def k0_off936 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14272 : Index := Scalar.indexCast v10247
  let c0_6535 : Index := 0#32
  let c3_6536 : Index := 3#32
  let c224_6537 : Index := 224#32
  let c0_6538 : Index := 0#32
  ![v14272.toNat, 0, 3, 224, 0]
def k0_off937 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14278 : Index := Scalar.indexCast v10247
  let c0_6539 : Index := 0#32
  let c3_6540 : Index := 3#32
  let c232_6541 : Index := 232#32
  let c0_6542 : Index := 0#32
  ![v14278.toNat, 0, 3, 232, 0]
def k0_off938 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14284 : Index := Scalar.indexCast v10247
  let c0_6543 : Index := 0#32
  let c3_6544 : Index := 3#32
  let c240_6545 : Index := 240#32
  let c0_6546 : Index := 0#32
  ![v14284.toNat, 0, 3, 240, 0]
def k0_off939 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v14290 : Index := Scalar.indexCast v10247
  let c0_6548 : Index := 0#32
  let c3_6549 : Index := 3#32
  let c248_6550 : Index := 248#32
  let c0_6551 : Index := 0#32
  ![v14290.toNat, 0, 3, 248, 0]
def k0_off940 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v15110 : Index := Scalar.indexCast v10249
  let c1_6856 : Index := 1#32
  let c0_6857 : Index := 0#32
  let c0_6858 : Index := 0#32
  let c0_6859 : Index := 0#32
  ![v15110.toNat, 1, 0, 0, 0]
def k0_off941 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15115 : Index := Scalar.indexCast v10247
  let c1_6860 : Index := 1#32
  let c0_6861 : Index := 0#32
  let c0_6862 : Index := 0#32
  let c0_6863 : Index := 0#32
  ![v15115.toNat, 1, 0, 0, 0]
def k0_off942 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15121 : Index := Scalar.indexCast v10247
  let c1_6864 : Index := 1#32
  let c0_6865 : Index := 0#32
  let c8_6866 : Index := 8#32
  let c0_6867 : Index := 0#32
  ![v15121.toNat, 1, 0, 8, 0]
def k0_off943 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15127 : Index := Scalar.indexCast v10247
  let c1_6868 : Index := 1#32
  let c0_6869 : Index := 0#32
  let c16_6870 : Index := 16#32
  let c0_6871 : Index := 0#32
  ![v15127.toNat, 1, 0, 16, 0]
def k0_off944 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15133 : Index := Scalar.indexCast v10247
  let c1_6872 : Index := 1#32
  let c0_6873 : Index := 0#32
  let c24_6874 : Index := 24#32
  let c0_6875 : Index := 0#32
  ![v15133.toNat, 1, 0, 24, 0]
def k0_off945 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15139 : Index := Scalar.indexCast v10247
  let c1_6876 : Index := 1#32
  let c0_6877 : Index := 0#32
  let c32_6878 : Index := 32#32
  let c0_6879 : Index := 0#32
  ![v15139.toNat, 1, 0, 32, 0]
def k0_off946 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15145 : Index := Scalar.indexCast v10247
  let c1_6880 : Index := 1#32
  let c0_6881 : Index := 0#32
  let c40_6882 : Index := 40#32
  let c0_6883 : Index := 0#32
  ![v15145.toNat, 1, 0, 40, 0]
def k0_off947 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15151 : Index := Scalar.indexCast v10247
  let c1_6884 : Index := 1#32
  let c0_6885 : Index := 0#32
  let c48_6886 : Index := 48#32
  let c0_6887 : Index := 0#32
  ![v15151.toNat, 1, 0, 48, 0]
def k0_off948 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15157 : Index := Scalar.indexCast v10247
  let c1_6888 : Index := 1#32
  let c0_6889 : Index := 0#32
  let c56_6890 : Index := 56#32
  let c0_6891 : Index := 0#32
  ![v15157.toNat, 1, 0, 56, 0]
def k0_off949 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15163 : Index := Scalar.indexCast v10247
  let c1_6892 : Index := 1#32
  let c0_6893 : Index := 0#32
  let c64_6894 : Index := 64#32
  let c0_6895 : Index := 0#32
  ![v15163.toNat, 1, 0, 64, 0]
def k0_off950 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15169 : Index := Scalar.indexCast v10247
  let c1_6896 : Index := 1#32
  let c0_6897 : Index := 0#32
  let c72_6898 : Index := 72#32
  let c0_6899 : Index := 0#32
  ![v15169.toNat, 1, 0, 72, 0]
def k0_off951 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15175 : Index := Scalar.indexCast v10247
  let c1_6900 : Index := 1#32
  let c0_6901 : Index := 0#32
  let c80_6902 : Index := 80#32
  let c0_6903 : Index := 0#32
  ![v15175.toNat, 1, 0, 80, 0]
def k0_off952 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15181 : Index := Scalar.indexCast v10247
  let c1_6904 : Index := 1#32
  let c0_6905 : Index := 0#32
  let c88_6906 : Index := 88#32
  let c0_6907 : Index := 0#32
  ![v15181.toNat, 1, 0, 88, 0]
def k0_off953 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15187 : Index := Scalar.indexCast v10247
  let c1_6908 : Index := 1#32
  let c0_6909 : Index := 0#32
  let c96_6910 : Index := 96#32
  let c0_6911 : Index := 0#32
  ![v15187.toNat, 1, 0, 96, 0]
def k0_off954 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15193 : Index := Scalar.indexCast v10247
  let c1_6912 : Index := 1#32
  let c0_6913 : Index := 0#32
  let c104_6914 : Index := 104#32
  let c0_6915 : Index := 0#32
  ![v15193.toNat, 1, 0, 104, 0]
def k0_off955 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15199 : Index := Scalar.indexCast v10247
  let c1_6916 : Index := 1#32
  let c0_6917 : Index := 0#32
  let c112_6918 : Index := 112#32
  let c0_6919 : Index := 0#32
  ![v15199.toNat, 1, 0, 112, 0]
def k0_off956 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15205 : Index := Scalar.indexCast v10247
  let c1_6920 : Index := 1#32
  let c0_6921 : Index := 0#32
  let c120_6922 : Index := 120#32
  let c0_6923 : Index := 0#32
  ![v15205.toNat, 1, 0, 120, 0]
def k0_off957 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15211 : Index := Scalar.indexCast v10247
  let c1_6924 : Index := 1#32
  let c0_6925 : Index := 0#32
  let c128_6926 : Index := 128#32
  let c0_6927 : Index := 0#32
  ![v15211.toNat, 1, 0, 128, 0]
def k0_off958 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15217 : Index := Scalar.indexCast v10247
  let c1_6928 : Index := 1#32
  let c0_6929 : Index := 0#32
  let c136_6930 : Index := 136#32
  let c0_6931 : Index := 0#32
  ![v15217.toNat, 1, 0, 136, 0]
def k0_off959 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15223 : Index := Scalar.indexCast v10247
  let c1_6932 : Index := 1#32
  let c0_6933 : Index := 0#32
  let c144_6934 : Index := 144#32
  let c0_6935 : Index := 0#32
  ![v15223.toNat, 1, 0, 144, 0]
def k0_off960 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15229 : Index := Scalar.indexCast v10247
  let c1_6936 : Index := 1#32
  let c0_6937 : Index := 0#32
  let c152_6938 : Index := 152#32
  let c0_6939 : Index := 0#32
  ![v15229.toNat, 1, 0, 152, 0]
def k0_off961 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15235 : Index := Scalar.indexCast v10247
  let c1_6940 : Index := 1#32
  let c0_6941 : Index := 0#32
  let c160_6942 : Index := 160#32
  let c0_6943 : Index := 0#32
  ![v15235.toNat, 1, 0, 160, 0]
def k0_off962 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15241 : Index := Scalar.indexCast v10247
  let c1_6944 : Index := 1#32
  let c0_6945 : Index := 0#32
  let c168_6946 : Index := 168#32
  let c0_6947 : Index := 0#32
  ![v15241.toNat, 1, 0, 168, 0]
def k0_off963 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15247 : Index := Scalar.indexCast v10247
  let c1_6948 : Index := 1#32
  let c0_6949 : Index := 0#32
  let c176_6950 : Index := 176#32
  let c0_6951 : Index := 0#32
  ![v15247.toNat, 1, 0, 176, 0]
def k0_off964 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15253 : Index := Scalar.indexCast v10247
  let c1_6952 : Index := 1#32
  let c0_6953 : Index := 0#32
  let c184_6954 : Index := 184#32
  let c0_6955 : Index := 0#32
  ![v15253.toNat, 1, 0, 184, 0]
def k0_off965 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15259 : Index := Scalar.indexCast v10247
  let c1_6956 : Index := 1#32
  let c0_6957 : Index := 0#32
  let c192_6958 : Index := 192#32
  let c0_6959 : Index := 0#32
  ![v15259.toNat, 1, 0, 192, 0]
def k0_off966 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15265 : Index := Scalar.indexCast v10247
  let c1_6960 : Index := 1#32
  let c0_6961 : Index := 0#32
  let c200_6962 : Index := 200#32
  let c0_6963 : Index := 0#32
  ![v15265.toNat, 1, 0, 200, 0]
def k0_off967 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15271 : Index := Scalar.indexCast v10247
  let c1_6964 : Index := 1#32
  let c0_6965 : Index := 0#32
  let c208_6966 : Index := 208#32
  let c0_6967 : Index := 0#32
  ![v15271.toNat, 1, 0, 208, 0]
def k0_off968 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15277 : Index := Scalar.indexCast v10247
  let c1_6968 : Index := 1#32
  let c0_6969 : Index := 0#32
  let c216_6970 : Index := 216#32
  let c0_6971 : Index := 0#32
  ![v15277.toNat, 1, 0, 216, 0]
def k0_off969 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15283 : Index := Scalar.indexCast v10247
  let c1_6972 : Index := 1#32
  let c0_6973 : Index := 0#32
  let c224_6974 : Index := 224#32
  let c0_6975 : Index := 0#32
  ![v15283.toNat, 1, 0, 224, 0]
def k0_off970 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15289 : Index := Scalar.indexCast v10247
  let c1_6976 : Index := 1#32
  let c0_6977 : Index := 0#32
  let c232_6978 : Index := 232#32
  let c0_6979 : Index := 0#32
  ![v15289.toNat, 1, 0, 232, 0]
def k0_off971 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15295 : Index := Scalar.indexCast v10247
  let c1_6980 : Index := 1#32
  let c0_6981 : Index := 0#32
  let c240_6982 : Index := 240#32
  let c0_6983 : Index := 0#32
  ![v15295.toNat, 1, 0, 240, 0]
def k0_off972 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v15301 : Index := Scalar.indexCast v10247
  let c1_6985 : Index := 1#32
  let c0_6986 : Index := 0#32
  let c248_6987 : Index := 248#32
  let c0_6988 : Index := 0#32
  ![v15301.toNat, 1, 0, 248, 0]
def k0_off973 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v16121 : Index := Scalar.indexCast v10249
  let c1_7293 : Index := 1#32
  let c1_7294 : Index := 1#32
  let c0_7295 : Index := 0#32
  let c0_7296 : Index := 0#32
  ![v16121.toNat, 1, 1, 0, 0]
def k0_off974 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16126 : Index := Scalar.indexCast v10247
  let c1_7297 : Index := 1#32
  let c1_7298 : Index := 1#32
  let c0_7299 : Index := 0#32
  let c0_7300 : Index := 0#32
  ![v16126.toNat, 1, 1, 0, 0]
def k0_off975 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16132 : Index := Scalar.indexCast v10247
  let c1_7301 : Index := 1#32
  let c1_7302 : Index := 1#32
  let c8_7303 : Index := 8#32
  let c0_7304 : Index := 0#32
  ![v16132.toNat, 1, 1, 8, 0]
def k0_off976 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16138 : Index := Scalar.indexCast v10247
  let c1_7305 : Index := 1#32
  let c1_7306 : Index := 1#32
  let c16_7307 : Index := 16#32
  let c0_7308 : Index := 0#32
  ![v16138.toNat, 1, 1, 16, 0]
def k0_off977 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16144 : Index := Scalar.indexCast v10247
  let c1_7309 : Index := 1#32
  let c1_7310 : Index := 1#32
  let c24_7311 : Index := 24#32
  let c0_7312 : Index := 0#32
  ![v16144.toNat, 1, 1, 24, 0]
def k0_off978 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16150 : Index := Scalar.indexCast v10247
  let c1_7313 : Index := 1#32
  let c1_7314 : Index := 1#32
  let c32_7315 : Index := 32#32
  let c0_7316 : Index := 0#32
  ![v16150.toNat, 1, 1, 32, 0]
def k0_off979 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16156 : Index := Scalar.indexCast v10247
  let c1_7317 : Index := 1#32
  let c1_7318 : Index := 1#32
  let c40_7319 : Index := 40#32
  let c0_7320 : Index := 0#32
  ![v16156.toNat, 1, 1, 40, 0]
def k0_off980 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16162 : Index := Scalar.indexCast v10247
  let c1_7321 : Index := 1#32
  let c1_7322 : Index := 1#32
  let c48_7323 : Index := 48#32
  let c0_7324 : Index := 0#32
  ![v16162.toNat, 1, 1, 48, 0]
def k0_off981 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16168 : Index := Scalar.indexCast v10247
  let c1_7325 : Index := 1#32
  let c1_7326 : Index := 1#32
  let c56_7327 : Index := 56#32
  let c0_7328 : Index := 0#32
  ![v16168.toNat, 1, 1, 56, 0]
def k0_off982 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16174 : Index := Scalar.indexCast v10247
  let c1_7329 : Index := 1#32
  let c1_7330 : Index := 1#32
  let c64_7331 : Index := 64#32
  let c0_7332 : Index := 0#32
  ![v16174.toNat, 1, 1, 64, 0]
def k0_off983 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16180 : Index := Scalar.indexCast v10247
  let c1_7333 : Index := 1#32
  let c1_7334 : Index := 1#32
  let c72_7335 : Index := 72#32
  let c0_7336 : Index := 0#32
  ![v16180.toNat, 1, 1, 72, 0]
def k0_off984 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16186 : Index := Scalar.indexCast v10247
  let c1_7337 : Index := 1#32
  let c1_7338 : Index := 1#32
  let c80_7339 : Index := 80#32
  let c0_7340 : Index := 0#32
  ![v16186.toNat, 1, 1, 80, 0]
def k0_off985 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16192 : Index := Scalar.indexCast v10247
  let c1_7341 : Index := 1#32
  let c1_7342 : Index := 1#32
  let c88_7343 : Index := 88#32
  let c0_7344 : Index := 0#32
  ![v16192.toNat, 1, 1, 88, 0]
def k0_off986 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16198 : Index := Scalar.indexCast v10247
  let c1_7345 : Index := 1#32
  let c1_7346 : Index := 1#32
  let c96_7347 : Index := 96#32
  let c0_7348 : Index := 0#32
  ![v16198.toNat, 1, 1, 96, 0]
def k0_off987 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16204 : Index := Scalar.indexCast v10247
  let c1_7349 : Index := 1#32
  let c1_7350 : Index := 1#32
  let c104_7351 : Index := 104#32
  let c0_7352 : Index := 0#32
  ![v16204.toNat, 1, 1, 104, 0]
def k0_off988 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16210 : Index := Scalar.indexCast v10247
  let c1_7353 : Index := 1#32
  let c1_7354 : Index := 1#32
  let c112_7355 : Index := 112#32
  let c0_7356 : Index := 0#32
  ![v16210.toNat, 1, 1, 112, 0]
def k0_off989 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16216 : Index := Scalar.indexCast v10247
  let c1_7357 : Index := 1#32
  let c1_7358 : Index := 1#32
  let c120_7359 : Index := 120#32
  let c0_7360 : Index := 0#32
  ![v16216.toNat, 1, 1, 120, 0]
def k0_off990 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16222 : Index := Scalar.indexCast v10247
  let c1_7361 : Index := 1#32
  let c1_7362 : Index := 1#32
  let c128_7363 : Index := 128#32
  let c0_7364 : Index := 0#32
  ![v16222.toNat, 1, 1, 128, 0]
def k0_off991 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16228 : Index := Scalar.indexCast v10247
  let c1_7365 : Index := 1#32
  let c1_7366 : Index := 1#32
  let c136_7367 : Index := 136#32
  let c0_7368 : Index := 0#32
  ![v16228.toNat, 1, 1, 136, 0]
def k0_off992 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16234 : Index := Scalar.indexCast v10247
  let c1_7369 : Index := 1#32
  let c1_7370 : Index := 1#32
  let c144_7371 : Index := 144#32
  let c0_7372 : Index := 0#32
  ![v16234.toNat, 1, 1, 144, 0]
def k0_off993 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16240 : Index := Scalar.indexCast v10247
  let c1_7373 : Index := 1#32
  let c1_7374 : Index := 1#32
  let c152_7375 : Index := 152#32
  let c0_7376 : Index := 0#32
  ![v16240.toNat, 1, 1, 152, 0]
def k0_off994 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16246 : Index := Scalar.indexCast v10247
  let c1_7377 : Index := 1#32
  let c1_7378 : Index := 1#32
  let c160_7379 : Index := 160#32
  let c0_7380 : Index := 0#32
  ![v16246.toNat, 1, 1, 160, 0]
def k0_off995 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16252 : Index := Scalar.indexCast v10247
  let c1_7381 : Index := 1#32
  let c1_7382 : Index := 1#32
  let c168_7383 : Index := 168#32
  let c0_7384 : Index := 0#32
  ![v16252.toNat, 1, 1, 168, 0]
def k0_off996 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16258 : Index := Scalar.indexCast v10247
  let c1_7385 : Index := 1#32
  let c1_7386 : Index := 1#32
  let c176_7387 : Index := 176#32
  let c0_7388 : Index := 0#32
  ![v16258.toNat, 1, 1, 176, 0]
def k0_off997 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16264 : Index := Scalar.indexCast v10247
  let c1_7389 : Index := 1#32
  let c1_7390 : Index := 1#32
  let c184_7391 : Index := 184#32
  let c0_7392 : Index := 0#32
  ![v16264.toNat, 1, 1, 184, 0]
def k0_off998 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16270 : Index := Scalar.indexCast v10247
  let c1_7393 : Index := 1#32
  let c1_7394 : Index := 1#32
  let c192_7395 : Index := 192#32
  let c0_7396 : Index := 0#32
  ![v16270.toNat, 1, 1, 192, 0]
def k0_off999 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16276 : Index := Scalar.indexCast v10247
  let c1_7397 : Index := 1#32
  let c1_7398 : Index := 1#32
  let c200_7399 : Index := 200#32
  let c0_7400 : Index := 0#32
  ![v16276.toNat, 1, 1, 200, 0]
def k0_off1000 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16282 : Index := Scalar.indexCast v10247
  let c1_7401 : Index := 1#32
  let c1_7402 : Index := 1#32
  let c208_7403 : Index := 208#32
  let c0_7404 : Index := 0#32
  ![v16282.toNat, 1, 1, 208, 0]
def k0_off1001 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16288 : Index := Scalar.indexCast v10247
  let c1_7405 : Index := 1#32
  let c1_7406 : Index := 1#32
  let c216_7407 : Index := 216#32
  let c0_7408 : Index := 0#32
  ![v16288.toNat, 1, 1, 216, 0]
def k0_off1002 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16294 : Index := Scalar.indexCast v10247
  let c1_7409 : Index := 1#32
  let c1_7410 : Index := 1#32
  let c224_7411 : Index := 224#32
  let c0_7412 : Index := 0#32
  ![v16294.toNat, 1, 1, 224, 0]
def k0_off1003 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16300 : Index := Scalar.indexCast v10247
  let c1_7413 : Index := 1#32
  let c1_7414 : Index := 1#32
  let c232_7415 : Index := 232#32
  let c0_7416 : Index := 0#32
  ![v16300.toNat, 1, 1, 232, 0]
def k0_off1004 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16306 : Index := Scalar.indexCast v10247
  let c1_7417 : Index := 1#32
  let c1_7418 : Index := 1#32
  let c240_7419 : Index := 240#32
  let c0_7420 : Index := 0#32
  ![v16306.toNat, 1, 1, 240, 0]
def k0_off1005 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v16312 : Index := Scalar.indexCast v10247
  let c1_7422 : Index := 1#32
  let c1_7423 : Index := 1#32
  let c248_7424 : Index := 248#32
  let c0_7425 : Index := 0#32
  ![v16312.toNat, 1, 1, 248, 0]
def k0_off1006 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v17132 : Index := Scalar.indexCast v10249
  let c1_7730 : Index := 1#32
  let c2_7731 : Index := 2#32
  let c0_7732 : Index := 0#32
  let c0_7733 : Index := 0#32
  ![v17132.toNat, 1, 2, 0, 0]
def k0_off1007 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17137 : Index := Scalar.indexCast v10247
  let c1_7734 : Index := 1#32
  let c2_7735 : Index := 2#32
  let c0_7736 : Index := 0#32
  let c0_7737 : Index := 0#32
  ![v17137.toNat, 1, 2, 0, 0]
def k0_off1008 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17143 : Index := Scalar.indexCast v10247
  let c1_7738 : Index := 1#32
  let c2_7739 : Index := 2#32
  let c8_7740 : Index := 8#32
  let c0_7741 : Index := 0#32
  ![v17143.toNat, 1, 2, 8, 0]
def k0_off1009 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17149 : Index := Scalar.indexCast v10247
  let c1_7742 : Index := 1#32
  let c2_7743 : Index := 2#32
  let c16_7744 : Index := 16#32
  let c0_7745 : Index := 0#32
  ![v17149.toNat, 1, 2, 16, 0]
def k0_off1010 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17155 : Index := Scalar.indexCast v10247
  let c1_7746 : Index := 1#32
  let c2_7747 : Index := 2#32
  let c24_7748 : Index := 24#32
  let c0_7749 : Index := 0#32
  ![v17155.toNat, 1, 2, 24, 0]
def k0_off1011 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17161 : Index := Scalar.indexCast v10247
  let c1_7750 : Index := 1#32
  let c2_7751 : Index := 2#32
  let c32_7752 : Index := 32#32
  let c0_7753 : Index := 0#32
  ![v17161.toNat, 1, 2, 32, 0]
def k0_off1012 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17167 : Index := Scalar.indexCast v10247
  let c1_7754 : Index := 1#32
  let c2_7755 : Index := 2#32
  let c40_7756 : Index := 40#32
  let c0_7757 : Index := 0#32
  ![v17167.toNat, 1, 2, 40, 0]
def k0_off1013 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17173 : Index := Scalar.indexCast v10247
  let c1_7758 : Index := 1#32
  let c2_7759 : Index := 2#32
  let c48_7760 : Index := 48#32
  let c0_7761 : Index := 0#32
  ![v17173.toNat, 1, 2, 48, 0]
def k0_off1014 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17179 : Index := Scalar.indexCast v10247
  let c1_7762 : Index := 1#32
  let c2_7763 : Index := 2#32
  let c56_7764 : Index := 56#32
  let c0_7765 : Index := 0#32
  ![v17179.toNat, 1, 2, 56, 0]
def k0_off1015 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17185 : Index := Scalar.indexCast v10247
  let c1_7766 : Index := 1#32
  let c2_7767 : Index := 2#32
  let c64_7768 : Index := 64#32
  let c0_7769 : Index := 0#32
  ![v17185.toNat, 1, 2, 64, 0]
def k0_off1016 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17191 : Index := Scalar.indexCast v10247
  let c1_7770 : Index := 1#32
  let c2_7771 : Index := 2#32
  let c72_7772 : Index := 72#32
  let c0_7773 : Index := 0#32
  ![v17191.toNat, 1, 2, 72, 0]
def k0_off1017 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17197 : Index := Scalar.indexCast v10247
  let c1_7774 : Index := 1#32
  let c2_7775 : Index := 2#32
  let c80_7776 : Index := 80#32
  let c0_7777 : Index := 0#32
  ![v17197.toNat, 1, 2, 80, 0]
def k0_off1018 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17203 : Index := Scalar.indexCast v10247
  let c1_7778 : Index := 1#32
  let c2_7779 : Index := 2#32
  let c88_7780 : Index := 88#32
  let c0_7781 : Index := 0#32
  ![v17203.toNat, 1, 2, 88, 0]
def k0_off1019 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17209 : Index := Scalar.indexCast v10247
  let c1_7782 : Index := 1#32
  let c2_7783 : Index := 2#32
  let c96_7784 : Index := 96#32
  let c0_7785 : Index := 0#32
  ![v17209.toNat, 1, 2, 96, 0]
def k0_off1020 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17215 : Index := Scalar.indexCast v10247
  let c1_7786 : Index := 1#32
  let c2_7787 : Index := 2#32
  let c104_7788 : Index := 104#32
  let c0_7789 : Index := 0#32
  ![v17215.toNat, 1, 2, 104, 0]
def k0_off1021 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17221 : Index := Scalar.indexCast v10247
  let c1_7790 : Index := 1#32
  let c2_7791 : Index := 2#32
  let c112_7792 : Index := 112#32
  let c0_7793 : Index := 0#32
  ![v17221.toNat, 1, 2, 112, 0]
def k0_off1022 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17227 : Index := Scalar.indexCast v10247
  let c1_7794 : Index := 1#32
  let c2_7795 : Index := 2#32
  let c120_7796 : Index := 120#32
  let c0_7797 : Index := 0#32
  ![v17227.toNat, 1, 2, 120, 0]
def k0_off1023 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17233 : Index := Scalar.indexCast v10247
  let c1_7798 : Index := 1#32
  let c2_7799 : Index := 2#32
  let c128_7800 : Index := 128#32
  let c0_7801 : Index := 0#32
  ![v17233.toNat, 1, 2, 128, 0]
def k0_off1024 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17239 : Index := Scalar.indexCast v10247
  let c1_7802 : Index := 1#32
  let c2_7803 : Index := 2#32
  let c136_7804 : Index := 136#32
  let c0_7805 : Index := 0#32
  ![v17239.toNat, 1, 2, 136, 0]
def k0_off1025 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17245 : Index := Scalar.indexCast v10247
  let c1_7806 : Index := 1#32
  let c2_7807 : Index := 2#32
  let c144_7808 : Index := 144#32
  let c0_7809 : Index := 0#32
  ![v17245.toNat, 1, 2, 144, 0]
def k0_off1026 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17251 : Index := Scalar.indexCast v10247
  let c1_7810 : Index := 1#32
  let c2_7811 : Index := 2#32
  let c152_7812 : Index := 152#32
  let c0_7813 : Index := 0#32
  ![v17251.toNat, 1, 2, 152, 0]
def k0_off1027 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17257 : Index := Scalar.indexCast v10247
  let c1_7814 : Index := 1#32
  let c2_7815 : Index := 2#32
  let c160_7816 : Index := 160#32
  let c0_7817 : Index := 0#32
  ![v17257.toNat, 1, 2, 160, 0]
def k0_off1028 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17263 : Index := Scalar.indexCast v10247
  let c1_7818 : Index := 1#32
  let c2_7819 : Index := 2#32
  let c168_7820 : Index := 168#32
  let c0_7821 : Index := 0#32
  ![v17263.toNat, 1, 2, 168, 0]
def k0_off1029 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17269 : Index := Scalar.indexCast v10247
  let c1_7822 : Index := 1#32
  let c2_7823 : Index := 2#32
  let c176_7824 : Index := 176#32
  let c0_7825 : Index := 0#32
  ![v17269.toNat, 1, 2, 176, 0]
def k0_off1030 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17275 : Index := Scalar.indexCast v10247
  let c1_7826 : Index := 1#32
  let c2_7827 : Index := 2#32
  let c184_7828 : Index := 184#32
  let c0_7829 : Index := 0#32
  ![v17275.toNat, 1, 2, 184, 0]
def k0_off1031 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17281 : Index := Scalar.indexCast v10247
  let c1_7830 : Index := 1#32
  let c2_7831 : Index := 2#32
  let c192_7832 : Index := 192#32
  let c0_7833 : Index := 0#32
  ![v17281.toNat, 1, 2, 192, 0]
def k0_off1032 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17287 : Index := Scalar.indexCast v10247
  let c1_7834 : Index := 1#32
  let c2_7835 : Index := 2#32
  let c200_7836 : Index := 200#32
  let c0_7837 : Index := 0#32
  ![v17287.toNat, 1, 2, 200, 0]
def k0_off1033 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17293 : Index := Scalar.indexCast v10247
  let c1_7838 : Index := 1#32
  let c2_7839 : Index := 2#32
  let c208_7840 : Index := 208#32
  let c0_7841 : Index := 0#32
  ![v17293.toNat, 1, 2, 208, 0]
def k0_off1034 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17299 : Index := Scalar.indexCast v10247
  let c1_7842 : Index := 1#32
  let c2_7843 : Index := 2#32
  let c216_7844 : Index := 216#32
  let c0_7845 : Index := 0#32
  ![v17299.toNat, 1, 2, 216, 0]
def k0_off1035 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17305 : Index := Scalar.indexCast v10247
  let c1_7846 : Index := 1#32
  let c2_7847 : Index := 2#32
  let c224_7848 : Index := 224#32
  let c0_7849 : Index := 0#32
  ![v17305.toNat, 1, 2, 224, 0]
def k0_off1036 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17311 : Index := Scalar.indexCast v10247
  let c1_7850 : Index := 1#32
  let c2_7851 : Index := 2#32
  let c232_7852 : Index := 232#32
  let c0_7853 : Index := 0#32
  ![v17311.toNat, 1, 2, 232, 0]
def k0_off1037 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17317 : Index := Scalar.indexCast v10247
  let c1_7854 : Index := 1#32
  let c2_7855 : Index := 2#32
  let c240_7856 : Index := 240#32
  let c0_7857 : Index := 0#32
  ![v17317.toNat, 1, 2, 240, 0]
def k0_off1038 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v17323 : Index := Scalar.indexCast v10247
  let c1_7859 : Index := 1#32
  let c2_7860 : Index := 2#32
  let c248_7861 : Index := 248#32
  let c0_7862 : Index := 0#32
  ![v17323.toNat, 1, 2, 248, 0]
def k0_off1039 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v10248 : BitVec 1 := Scalar.cmpi .eq v10247 arg1
  let c1_i32_4802 : BitVec 32 := 1#32
  let c0_i32_4803 : BitVec 32 := 0#32
  let v10249 : BitVec 32 := Scalar.select v10248 c1_i32_4802 c0_i32_4803
  let v18143 : Index := Scalar.indexCast v10249
  let c1_8167 : Index := 1#32
  let c3_8168 : Index := 3#32
  let c0_8169 : Index := 0#32
  let c0_8170 : Index := 0#32
  ![v18143.toNat, 1, 3, 0, 0]
def k0_off1040 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18148 : Index := Scalar.indexCast v10247
  let c1_8171 : Index := 1#32
  let c3_8172 : Index := 3#32
  let c0_8173 : Index := 0#32
  let c0_8174 : Index := 0#32
  ![v18148.toNat, 1, 3, 0, 0]
def k0_off1041 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18154 : Index := Scalar.indexCast v10247
  let c1_8175 : Index := 1#32
  let c3_8176 : Index := 3#32
  let c8_8177 : Index := 8#32
  let c0_8178 : Index := 0#32
  ![v18154.toNat, 1, 3, 8, 0]
def k0_off1042 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18160 : Index := Scalar.indexCast v10247
  let c1_8179 : Index := 1#32
  let c3_8180 : Index := 3#32
  let c16_8181 : Index := 16#32
  let c0_8182 : Index := 0#32
  ![v18160.toNat, 1, 3, 16, 0]
def k0_off1043 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18166 : Index := Scalar.indexCast v10247
  let c1_8183 : Index := 1#32
  let c3_8184 : Index := 3#32
  let c24_8185 : Index := 24#32
  let c0_8186 : Index := 0#32
  ![v18166.toNat, 1, 3, 24, 0]
def k0_off1044 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18172 : Index := Scalar.indexCast v10247
  let c1_8187 : Index := 1#32
  let c3_8188 : Index := 3#32
  let c32_8189 : Index := 32#32
  let c0_8190 : Index := 0#32
  ![v18172.toNat, 1, 3, 32, 0]
def k0_off1045 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18178 : Index := Scalar.indexCast v10247
  let c1_8191 : Index := 1#32
  let c3_8192 : Index := 3#32
  let c40_8193 : Index := 40#32
  let c0_8194 : Index := 0#32
  ![v18178.toNat, 1, 3, 40, 0]
def k0_off1046 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18184 : Index := Scalar.indexCast v10247
  let c1_8195 : Index := 1#32
  let c3_8196 : Index := 3#32
  let c48_8197 : Index := 48#32
  let c0_8198 : Index := 0#32
  ![v18184.toNat, 1, 3, 48, 0]
def k0_off1047 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18190 : Index := Scalar.indexCast v10247
  let c1_8199 : Index := 1#32
  let c3_8200 : Index := 3#32
  let c56_8201 : Index := 56#32
  let c0_8202 : Index := 0#32
  ![v18190.toNat, 1, 3, 56, 0]
def k0_off1048 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18196 : Index := Scalar.indexCast v10247
  let c1_8203 : Index := 1#32
  let c3_8204 : Index := 3#32
  let c64_8205 : Index := 64#32
  let c0_8206 : Index := 0#32
  ![v18196.toNat, 1, 3, 64, 0]
def k0_off1049 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18202 : Index := Scalar.indexCast v10247
  let c1_8207 : Index := 1#32
  let c3_8208 : Index := 3#32
  let c72_8209 : Index := 72#32
  let c0_8210 : Index := 0#32
  ![v18202.toNat, 1, 3, 72, 0]
def k0_off1050 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18208 : Index := Scalar.indexCast v10247
  let c1_8211 : Index := 1#32
  let c3_8212 : Index := 3#32
  let c80_8213 : Index := 80#32
  let c0_8214 : Index := 0#32
  ![v18208.toNat, 1, 3, 80, 0]
def k0_off1051 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18214 : Index := Scalar.indexCast v10247
  let c1_8215 : Index := 1#32
  let c3_8216 : Index := 3#32
  let c88_8217 : Index := 88#32
  let c0_8218 : Index := 0#32
  ![v18214.toNat, 1, 3, 88, 0]
def k0_off1052 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18220 : Index := Scalar.indexCast v10247
  let c1_8219 : Index := 1#32
  let c3_8220 : Index := 3#32
  let c96_8221 : Index := 96#32
  let c0_8222 : Index := 0#32
  ![v18220.toNat, 1, 3, 96, 0]
def k0_off1053 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18226 : Index := Scalar.indexCast v10247
  let c1_8223 : Index := 1#32
  let c3_8224 : Index := 3#32
  let c104_8225 : Index := 104#32
  let c0_8226 : Index := 0#32
  ![v18226.toNat, 1, 3, 104, 0]
def k0_off1054 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18232 : Index := Scalar.indexCast v10247
  let c1_8227 : Index := 1#32
  let c3_8228 : Index := 3#32
  let c112_8229 : Index := 112#32
  let c0_8230 : Index := 0#32
  ![v18232.toNat, 1, 3, 112, 0]
def k0_off1055 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18238 : Index := Scalar.indexCast v10247
  let c1_8231 : Index := 1#32
  let c3_8232 : Index := 3#32
  let c120_8233 : Index := 120#32
  let c0_8234 : Index := 0#32
  ![v18238.toNat, 1, 3, 120, 0]
def k0_off1056 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18244 : Index := Scalar.indexCast v10247
  let c1_8235 : Index := 1#32
  let c3_8236 : Index := 3#32
  let c128_8237 : Index := 128#32
  let c0_8238 : Index := 0#32
  ![v18244.toNat, 1, 3, 128, 0]
def k0_off1057 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18250 : Index := Scalar.indexCast v10247
  let c1_8239 : Index := 1#32
  let c3_8240 : Index := 3#32
  let c136_8241 : Index := 136#32
  let c0_8242 : Index := 0#32
  ![v18250.toNat, 1, 3, 136, 0]
def k0_off1058 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18256 : Index := Scalar.indexCast v10247
  let c1_8243 : Index := 1#32
  let c3_8244 : Index := 3#32
  let c144_8245 : Index := 144#32
  let c0_8246 : Index := 0#32
  ![v18256.toNat, 1, 3, 144, 0]
def k0_off1059 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18262 : Index := Scalar.indexCast v10247
  let c1_8247 : Index := 1#32
  let c3_8248 : Index := 3#32
  let c152_8249 : Index := 152#32
  let c0_8250 : Index := 0#32
  ![v18262.toNat, 1, 3, 152, 0]
def k0_off1060 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18268 : Index := Scalar.indexCast v10247
  let c1_8251 : Index := 1#32
  let c3_8252 : Index := 3#32
  let c160_8253 : Index := 160#32
  let c0_8254 : Index := 0#32
  ![v18268.toNat, 1, 3, 160, 0]
def k0_off1061 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18274 : Index := Scalar.indexCast v10247
  let c1_8255 : Index := 1#32
  let c3_8256 : Index := 3#32
  let c168_8257 : Index := 168#32
  let c0_8258 : Index := 0#32
  ![v18274.toNat, 1, 3, 168, 0]
def k0_off1062 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18280 : Index := Scalar.indexCast v10247
  let c1_8259 : Index := 1#32
  let c3_8260 : Index := 3#32
  let c176_8261 : Index := 176#32
  let c0_8262 : Index := 0#32
  ![v18280.toNat, 1, 3, 176, 0]
def k0_off1063 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18286 : Index := Scalar.indexCast v10247
  let c1_8263 : Index := 1#32
  let c3_8264 : Index := 3#32
  let c184_8265 : Index := 184#32
  let c0_8266 : Index := 0#32
  ![v18286.toNat, 1, 3, 184, 0]
def k0_off1064 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18292 : Index := Scalar.indexCast v10247
  let c1_8267 : Index := 1#32
  let c3_8268 : Index := 3#32
  let c192_8269 : Index := 192#32
  let c0_8270 : Index := 0#32
  ![v18292.toNat, 1, 3, 192, 0]
def k0_off1065 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18298 : Index := Scalar.indexCast v10247
  let c1_8271 : Index := 1#32
  let c3_8272 : Index := 3#32
  let c200_8273 : Index := 200#32
  let c0_8274 : Index := 0#32
  ![v18298.toNat, 1, 3, 200, 0]
def k0_off1066 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18304 : Index := Scalar.indexCast v10247
  let c1_8275 : Index := 1#32
  let c3_8276 : Index := 3#32
  let c208_8277 : Index := 208#32
  let c0_8278 : Index := 0#32
  ![v18304.toNat, 1, 3, 208, 0]
def k0_off1067 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18310 : Index := Scalar.indexCast v10247
  let c1_8279 : Index := 1#32
  let c3_8280 : Index := 3#32
  let c216_8281 : Index := 216#32
  let c0_8282 : Index := 0#32
  ![v18310.toNat, 1, 3, 216, 0]
def k0_off1068 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18316 : Index := Scalar.indexCast v10247
  let c1_8283 : Index := 1#32
  let c3_8284 : Index := 3#32
  let c224_8285 : Index := 224#32
  let c0_8286 : Index := 0#32
  ![v18316.toNat, 1, 3, 224, 0]
def k0_off1069 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18322 : Index := Scalar.indexCast v10247
  let c1_8287 : Index := 1#32
  let c3_8288 : Index := 3#32
  let c232_8289 : Index := 232#32
  let c0_8290 : Index := 0#32
  ![v18322.toNat, 1, 3, 232, 0]
def k0_off1070 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18328 : Index := Scalar.indexCast v10247
  let c1_8291 : Index := 1#32
  let c3_8292 : Index := 3#32
  let c240_8293 : Index := 240#32
  let c0_8294 : Index := 0#32
  ![v18328.toNat, 1, 3, 240, 0]
def k0_off1071 (i : grid0.Coords) (k0_t3 : Fin (k0_t3_loop i).trips) : Fin 5 → Nat :=
  let c2_i32_4800 : BitVec 32 := 2#32
  let c0_i32_426 : BitVec 32 := 0#32
  let arg1 : BitVec 32 := BitVec.ofNat 32 (i 1).val
  let c1_i32 : BitVec 32 := 1#32
  let v0 : BitVec 32 := Scalar.addi arg1 c1_i32
  let c1_i32_424 : BitVec 32 := 1#32
  let v678 : BitVec 32 := Scalar.subi v0 c1_i32_424
  let c2_i32 : BitVec 32 := 2#32
  let v679 : BitVec 32 := Scalar.divsi v678 c2_i32
  let v680 : BitVec 32 := Scalar.subi v679 c0_i32_426
  let c1_i32_427 : BitVec 32 := 1#32
  let v682 : BitVec 32 := Scalar.divsi v680 c1_i32_427
  let v683 : BitVec 32 := Scalar.muli v682 c1_i32_427
  let v684 : BitVec 32 := Scalar.addi c0_i32_426 v683
  let c1_i32_429 : BitVec 32 := 1#32
  let arg14 : BitVec 32 := Scf.iv v684 c1_i32_429 k0_t3
  let v10246 : BitVec 32 := Scalar.muli c2_i32_4800 arg14
  let c1_i32_4801 : BitVec 32 := 1#32
  let v10247 : BitVec 32 := Scalar.addi v10246 c1_i32_4801
  let v18334 : Index := Scalar.indexCast v10247
  let c1_8296 : Index := 1#32
  let c3_8297 : Index := 3#32
  let c248_8298 : Index := 248#32
  let c0_8299 : Index := 0#32
  ![v18334.toNat, 1, 3, 248, 0]
def k0_cond2 (i : grid0.Coords) : BitVec 1 :=
  let arg1 : BitVec 32 := BitVec.ofNat 32 (i 1).val
  let c1_i32 : BitVec 32 := 1#32
  let v0 : BitVec 32 := Scalar.addi arg1 c1_i32
  let c1_i32_430 : BitVec 32 := 1#32
  let v685 : BitVec 32 := Scalar.subi v0 c1_i32_430
  let c2_i32_431 : BitVec 32 := 2#32
  let c1_i32_424 : BitVec 32 := 1#32
  let v678 : BitVec 32 := Scalar.subi v0 c1_i32_424
  let c2_i32 : BitVec 32 := 2#32
  let v679 : BitVec 32 := Scalar.divsi v678 c2_i32
  let v686 : BitVec 32 := Scalar.muli c2_i32_431 v679
  let v687 : BitVec 1 := Scalar.cmpi .sgt v685 v686
  let v688 : BitVec 32 := Scalar.extui v687
  let c0_i32_432 : BitVec 32 := 0#32
  let v689 : BitVec 1 := Scalar.cmpi .ne v688 c0_i32_432
  v689

def k0_mult7 (i : grid0.Coords) : BitVec 32 :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let c512_i32 : BitVec 32 := 512#32
  let v820 : BitVec 32 := Scalar.muli v819 c512_i32
  v820
def k0_off1072 (i : grid0.Coords) (c0_i32_497 : BitVec 32) : Fin 3 → Nat :=
  let c0_498 : Index := 0#32
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let c512_i32 : BitVec 32 := 512#32
  let v820 : BitVec 32 := Scalar.muli v819 c512_i32
  let v821 : BitVec 32 := v820
  let v822 : BitVec 32 := Scalar.addi v821 c0_i32_497
  let v823 : Index := Scalar.indexCast v822
  let c0_499 : Index := 0#32
  ![0, v823.toNat, 0]
def k0_off1073 (i : grid0.Coords) (c0_i32_549 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v900 : BitVec 32 := Scalar.addi v7 c0_i32_549
  let v901 : Index := Scalar.indexCast v900
  let c0_550 : Index := 0#32
  ![v901.toNat, 0]
def k0_off1074 (i : grid0.Coords) (c0_i32_932 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v1489 : BitVec 32 := Scalar.addi v7 c0_i32_932
  let v1490 : Index := Scalar.indexCast v1489
  let c0_933 : Index := 0#32
  ![v1490.toNat, 0]
def k0_off1075 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v1487 : BitVec 1 := Scalar.cmpi .eq v1486 arg1
  let c1_i32_930 : BitVec 32 := 1#32
  let c0_i32_931 : BitVec 32 := 0#32
  let v1488 : BitVec 32 := Scalar.select v1487 c1_i32_930 c0_i32_931
  let v2305 : Index := Scalar.indexCast v1488
  let c0_1205 : Index := 0#32
  let c0_1206 : Index := 0#32
  let c0_1207 : Index := 0#32
  let c0_1208 : Index := 0#32
  ![v2305.toNat, 0, 0, 0, 0]
def k0_off1076 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2310 : Index := Scalar.indexCast v1486
  let c0_1209 : Index := 0#32
  let c0_1210 : Index := 0#32
  let c0_1211 : Index := 0#32
  let c0_1212 : Index := 0#32
  ![v2310.toNat, 0, 0, 0, 0]
def k0_off1077 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2316 : Index := Scalar.indexCast v1486
  let c0_1213 : Index := 0#32
  let c0_1214 : Index := 0#32
  let c8 : Index := 8#32
  let c0_1215 : Index := 0#32
  ![v2316.toNat, 0, 0, 8, 0]
def k0_off1078 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2322 : Index := Scalar.indexCast v1486
  let c0_1216 : Index := 0#32
  let c0_1217 : Index := 0#32
  let c16 : Index := 16#32
  let c0_1218 : Index := 0#32
  ![v2322.toNat, 0, 0, 16, 0]
def k0_off1079 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2328 : Index := Scalar.indexCast v1486
  let c0_1219 : Index := 0#32
  let c0_1220 : Index := 0#32
  let c24 : Index := 24#32
  let c0_1221 : Index := 0#32
  ![v2328.toNat, 0, 0, 24, 0]
def k0_off1080 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2334 : Index := Scalar.indexCast v1486
  let c0_1222 : Index := 0#32
  let c0_1223 : Index := 0#32
  let c32 : Index := 32#32
  let c0_1224 : Index := 0#32
  ![v2334.toNat, 0, 0, 32, 0]
def k0_off1081 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2340 : Index := Scalar.indexCast v1486
  let c0_1225 : Index := 0#32
  let c0_1226 : Index := 0#32
  let c40 : Index := 40#32
  let c0_1227 : Index := 0#32
  ![v2340.toNat, 0, 0, 40, 0]
def k0_off1082 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2346 : Index := Scalar.indexCast v1486
  let c0_1228 : Index := 0#32
  let c0_1229 : Index := 0#32
  let c48 : Index := 48#32
  let c0_1230 : Index := 0#32
  ![v2346.toNat, 0, 0, 48, 0]
def k0_off1083 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2352 : Index := Scalar.indexCast v1486
  let c0_1231 : Index := 0#32
  let c0_1232 : Index := 0#32
  let c56 : Index := 56#32
  let c0_1233 : Index := 0#32
  ![v2352.toNat, 0, 0, 56, 0]
def k0_off1084 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2358 : Index := Scalar.indexCast v1486
  let c0_1234 : Index := 0#32
  let c0_1235 : Index := 0#32
  let c64 : Index := 64#32
  let c0_1236 : Index := 0#32
  ![v2358.toNat, 0, 0, 64, 0]
def k0_off1085 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2364 : Index := Scalar.indexCast v1486
  let c0_1237 : Index := 0#32
  let c0_1238 : Index := 0#32
  let c72 : Index := 72#32
  let c0_1239 : Index := 0#32
  ![v2364.toNat, 0, 0, 72, 0]
def k0_off1086 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2370 : Index := Scalar.indexCast v1486
  let c0_1240 : Index := 0#32
  let c0_1241 : Index := 0#32
  let c80 : Index := 80#32
  let c0_1242 : Index := 0#32
  ![v2370.toNat, 0, 0, 80, 0]
def k0_off1087 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2376 : Index := Scalar.indexCast v1486
  let c0_1243 : Index := 0#32
  let c0_1244 : Index := 0#32
  let c88 : Index := 88#32
  let c0_1245 : Index := 0#32
  ![v2376.toNat, 0, 0, 88, 0]
def k0_off1088 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2382 : Index := Scalar.indexCast v1486
  let c0_1246 : Index := 0#32
  let c0_1247 : Index := 0#32
  let c96 : Index := 96#32
  let c0_1248 : Index := 0#32
  ![v2382.toNat, 0, 0, 96, 0]
def k0_off1089 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2388 : Index := Scalar.indexCast v1486
  let c0_1249 : Index := 0#32
  let c0_1250 : Index := 0#32
  let c104 : Index := 104#32
  let c0_1251 : Index := 0#32
  ![v2388.toNat, 0, 0, 104, 0]
def k0_off1090 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2394 : Index := Scalar.indexCast v1486
  let c0_1252 : Index := 0#32
  let c0_1253 : Index := 0#32
  let c112 : Index := 112#32
  let c0_1254 : Index := 0#32
  ![v2394.toNat, 0, 0, 112, 0]
def k0_off1091 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2400 : Index := Scalar.indexCast v1486
  let c0_1255 : Index := 0#32
  let c0_1256 : Index := 0#32
  let c120 : Index := 120#32
  let c0_1257 : Index := 0#32
  ![v2400.toNat, 0, 0, 120, 0]
def k0_off1092 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2406 : Index := Scalar.indexCast v1486
  let c0_1258 : Index := 0#32
  let c0_1259 : Index := 0#32
  let c128 : Index := 128#32
  let c0_1260 : Index := 0#32
  ![v2406.toNat, 0, 0, 128, 0]
def k0_off1093 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2412 : Index := Scalar.indexCast v1486
  let c0_1261 : Index := 0#32
  let c0_1262 : Index := 0#32
  let c136 : Index := 136#32
  let c0_1263 : Index := 0#32
  ![v2412.toNat, 0, 0, 136, 0]
def k0_off1094 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2418 : Index := Scalar.indexCast v1486
  let c0_1264 : Index := 0#32
  let c0_1265 : Index := 0#32
  let c144 : Index := 144#32
  let c0_1266 : Index := 0#32
  ![v2418.toNat, 0, 0, 144, 0]
def k0_off1095 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2424 : Index := Scalar.indexCast v1486
  let c0_1267 : Index := 0#32
  let c0_1268 : Index := 0#32
  let c152 : Index := 152#32
  let c0_1269 : Index := 0#32
  ![v2424.toNat, 0, 0, 152, 0]
def k0_off1096 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2430 : Index := Scalar.indexCast v1486
  let c0_1270 : Index := 0#32
  let c0_1271 : Index := 0#32
  let c160 : Index := 160#32
  let c0_1272 : Index := 0#32
  ![v2430.toNat, 0, 0, 160, 0]
def k0_off1097 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2436 : Index := Scalar.indexCast v1486
  let c0_1273 : Index := 0#32
  let c0_1274 : Index := 0#32
  let c168 : Index := 168#32
  let c0_1275 : Index := 0#32
  ![v2436.toNat, 0, 0, 168, 0]
def k0_off1098 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2442 : Index := Scalar.indexCast v1486
  let c0_1276 : Index := 0#32
  let c0_1277 : Index := 0#32
  let c176 : Index := 176#32
  let c0_1278 : Index := 0#32
  ![v2442.toNat, 0, 0, 176, 0]
def k0_off1099 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2448 : Index := Scalar.indexCast v1486
  let c0_1279 : Index := 0#32
  let c0_1280 : Index := 0#32
  let c184 : Index := 184#32
  let c0_1281 : Index := 0#32
  ![v2448.toNat, 0, 0, 184, 0]
def k0_off1100 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2454 : Index := Scalar.indexCast v1486
  let c0_1282 : Index := 0#32
  let c0_1283 : Index := 0#32
  let c192 : Index := 192#32
  let c0_1284 : Index := 0#32
  ![v2454.toNat, 0, 0, 192, 0]
def k0_off1101 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2460 : Index := Scalar.indexCast v1486
  let c0_1285 : Index := 0#32
  let c0_1286 : Index := 0#32
  let c200 : Index := 200#32
  let c0_1287 : Index := 0#32
  ![v2460.toNat, 0, 0, 200, 0]
def k0_off1102 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2466 : Index := Scalar.indexCast v1486
  let c0_1288 : Index := 0#32
  let c0_1289 : Index := 0#32
  let c208 : Index := 208#32
  let c0_1290 : Index := 0#32
  ![v2466.toNat, 0, 0, 208, 0]
def k0_off1103 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2472 : Index := Scalar.indexCast v1486
  let c0_1291 : Index := 0#32
  let c0_1292 : Index := 0#32
  let c216 : Index := 216#32
  let c0_1293 : Index := 0#32
  ![v2472.toNat, 0, 0, 216, 0]
def k0_off1104 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2478 : Index := Scalar.indexCast v1486
  let c0_1294 : Index := 0#32
  let c0_1295 : Index := 0#32
  let c224 : Index := 224#32
  let c0_1296 : Index := 0#32
  ![v2478.toNat, 0, 0, 224, 0]
def k0_off1105 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2484 : Index := Scalar.indexCast v1486
  let c0_1297 : Index := 0#32
  let c0_1298 : Index := 0#32
  let c232 : Index := 232#32
  let c0_1299 : Index := 0#32
  ![v2484.toNat, 0, 0, 232, 0]
def k0_off1106 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2490 : Index := Scalar.indexCast v1486
  let c0_1300 : Index := 0#32
  let c0_1301 : Index := 0#32
  let c240 : Index := 240#32
  let c0_1302 : Index := 0#32
  ![v2490.toNat, 0, 0, 240, 0]
def k0_off1107 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v2496 : Index := Scalar.indexCast v1486
  let c0_1304 : Index := 0#32
  let c0_1305 : Index := 0#32
  let c248 : Index := 248#32
  let c0_1306 : Index := 0#32
  ![v2496.toNat, 0, 0, 248, 0]
def k0_off1108 (i : grid0.Coords) (c0_i32_1307 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v2500 : BitVec 32 := Scalar.addi v7 c0_i32_1307
  let v2501 : Index := Scalar.indexCast v2500
  let c128_1308 : Index := 128#32
  ![v2501.toNat, 128]
def k0_off1109 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v1487 : BitVec 1 := Scalar.cmpi .eq v1486 arg1
  let c1_i32_930 : BitVec 32 := 1#32
  let c0_i32_931 : BitVec 32 := 0#32
  let v1488 : BitVec 32 := Scalar.select v1487 c1_i32_930 c0_i32_931
  let v3316 : Index := Scalar.indexCast v1488
  let c0_1611 : Index := 0#32
  let c1_1612 : Index := 1#32
  let c0_1613 : Index := 0#32
  let c0_1614 : Index := 0#32
  ![v3316.toNat, 0, 1, 0, 0]
def k0_off1110 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3321 : Index := Scalar.indexCast v1486
  let c0_1615 : Index := 0#32
  let c1_1616 : Index := 1#32
  let c0_1617 : Index := 0#32
  let c0_1618 : Index := 0#32
  ![v3321.toNat, 0, 1, 0, 0]
def k0_off1111 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3327 : Index := Scalar.indexCast v1486
  let c0_1619 : Index := 0#32
  let c1_1620 : Index := 1#32
  let c8_1621 : Index := 8#32
  let c0_1622 : Index := 0#32
  ![v3327.toNat, 0, 1, 8, 0]
def k0_off1112 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3333 : Index := Scalar.indexCast v1486
  let c0_1623 : Index := 0#32
  let c1_1624 : Index := 1#32
  let c16_1625 : Index := 16#32
  let c0_1626 : Index := 0#32
  ![v3333.toNat, 0, 1, 16, 0]
def k0_off1113 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3339 : Index := Scalar.indexCast v1486
  let c0_1627 : Index := 0#32
  let c1_1628 : Index := 1#32
  let c24_1629 : Index := 24#32
  let c0_1630 : Index := 0#32
  ![v3339.toNat, 0, 1, 24, 0]
def k0_off1114 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3345 : Index := Scalar.indexCast v1486
  let c0_1631 : Index := 0#32
  let c1_1632 : Index := 1#32
  let c32_1633 : Index := 32#32
  let c0_1634 : Index := 0#32
  ![v3345.toNat, 0, 1, 32, 0]
def k0_off1115 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3351 : Index := Scalar.indexCast v1486
  let c0_1635 : Index := 0#32
  let c1_1636 : Index := 1#32
  let c40_1637 : Index := 40#32
  let c0_1638 : Index := 0#32
  ![v3351.toNat, 0, 1, 40, 0]
def k0_off1116 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3357 : Index := Scalar.indexCast v1486
  let c0_1639 : Index := 0#32
  let c1_1640 : Index := 1#32
  let c48_1641 : Index := 48#32
  let c0_1642 : Index := 0#32
  ![v3357.toNat, 0, 1, 48, 0]
def k0_off1117 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3363 : Index := Scalar.indexCast v1486
  let c0_1643 : Index := 0#32
  let c1_1644 : Index := 1#32
  let c56_1645 : Index := 56#32
  let c0_1646 : Index := 0#32
  ![v3363.toNat, 0, 1, 56, 0]
def k0_off1118 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3369 : Index := Scalar.indexCast v1486
  let c0_1647 : Index := 0#32
  let c1_1648 : Index := 1#32
  let c64_1649 : Index := 64#32
  let c0_1650 : Index := 0#32
  ![v3369.toNat, 0, 1, 64, 0]
def k0_off1119 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3375 : Index := Scalar.indexCast v1486
  let c0_1651 : Index := 0#32
  let c1_1652 : Index := 1#32
  let c72_1653 : Index := 72#32
  let c0_1654 : Index := 0#32
  ![v3375.toNat, 0, 1, 72, 0]
def k0_off1120 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3381 : Index := Scalar.indexCast v1486
  let c0_1655 : Index := 0#32
  let c1_1656 : Index := 1#32
  let c80_1657 : Index := 80#32
  let c0_1658 : Index := 0#32
  ![v3381.toNat, 0, 1, 80, 0]
def k0_off1121 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3387 : Index := Scalar.indexCast v1486
  let c0_1659 : Index := 0#32
  let c1_1660 : Index := 1#32
  let c88_1661 : Index := 88#32
  let c0_1662 : Index := 0#32
  ![v3387.toNat, 0, 1, 88, 0]
def k0_off1122 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3393 : Index := Scalar.indexCast v1486
  let c0_1663 : Index := 0#32
  let c1_1664 : Index := 1#32
  let c96_1665 : Index := 96#32
  let c0_1666 : Index := 0#32
  ![v3393.toNat, 0, 1, 96, 0]
def k0_off1123 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3399 : Index := Scalar.indexCast v1486
  let c0_1667 : Index := 0#32
  let c1_1668 : Index := 1#32
  let c104_1669 : Index := 104#32
  let c0_1670 : Index := 0#32
  ![v3399.toNat, 0, 1, 104, 0]
def k0_off1124 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3405 : Index := Scalar.indexCast v1486
  let c0_1671 : Index := 0#32
  let c1_1672 : Index := 1#32
  let c112_1673 : Index := 112#32
  let c0_1674 : Index := 0#32
  ![v3405.toNat, 0, 1, 112, 0]
def k0_off1125 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3411 : Index := Scalar.indexCast v1486
  let c0_1675 : Index := 0#32
  let c1_1676 : Index := 1#32
  let c120_1677 : Index := 120#32
  let c0_1678 : Index := 0#32
  ![v3411.toNat, 0, 1, 120, 0]
def k0_off1126 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3417 : Index := Scalar.indexCast v1486
  let c0_1679 : Index := 0#32
  let c1_1680 : Index := 1#32
  let c128_1681 : Index := 128#32
  let c0_1682 : Index := 0#32
  ![v3417.toNat, 0, 1, 128, 0]
def k0_off1127 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3423 : Index := Scalar.indexCast v1486
  let c0_1683 : Index := 0#32
  let c1_1684 : Index := 1#32
  let c136_1685 : Index := 136#32
  let c0_1686 : Index := 0#32
  ![v3423.toNat, 0, 1, 136, 0]
def k0_off1128 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3429 : Index := Scalar.indexCast v1486
  let c0_1687 : Index := 0#32
  let c1_1688 : Index := 1#32
  let c144_1689 : Index := 144#32
  let c0_1690 : Index := 0#32
  ![v3429.toNat, 0, 1, 144, 0]
def k0_off1129 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3435 : Index := Scalar.indexCast v1486
  let c0_1691 : Index := 0#32
  let c1_1692 : Index := 1#32
  let c152_1693 : Index := 152#32
  let c0_1694 : Index := 0#32
  ![v3435.toNat, 0, 1, 152, 0]
def k0_off1130 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3441 : Index := Scalar.indexCast v1486
  let c0_1695 : Index := 0#32
  let c1_1696 : Index := 1#32
  let c160_1697 : Index := 160#32
  let c0_1698 : Index := 0#32
  ![v3441.toNat, 0, 1, 160, 0]
def k0_off1131 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3447 : Index := Scalar.indexCast v1486
  let c0_1699 : Index := 0#32
  let c1_1700 : Index := 1#32
  let c168_1701 : Index := 168#32
  let c0_1702 : Index := 0#32
  ![v3447.toNat, 0, 1, 168, 0]
def k0_off1132 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3453 : Index := Scalar.indexCast v1486
  let c0_1703 : Index := 0#32
  let c1_1704 : Index := 1#32
  let c176_1705 : Index := 176#32
  let c0_1706 : Index := 0#32
  ![v3453.toNat, 0, 1, 176, 0]
def k0_off1133 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3459 : Index := Scalar.indexCast v1486
  let c0_1707 : Index := 0#32
  let c1_1708 : Index := 1#32
  let c184_1709 : Index := 184#32
  let c0_1710 : Index := 0#32
  ![v3459.toNat, 0, 1, 184, 0]
def k0_off1134 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3465 : Index := Scalar.indexCast v1486
  let c0_1711 : Index := 0#32
  let c1_1712 : Index := 1#32
  let c192_1713 : Index := 192#32
  let c0_1714 : Index := 0#32
  ![v3465.toNat, 0, 1, 192, 0]
def k0_off1135 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3471 : Index := Scalar.indexCast v1486
  let c0_1715 : Index := 0#32
  let c1_1716 : Index := 1#32
  let c200_1717 : Index := 200#32
  let c0_1718 : Index := 0#32
  ![v3471.toNat, 0, 1, 200, 0]
def k0_off1136 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3477 : Index := Scalar.indexCast v1486
  let c0_1719 : Index := 0#32
  let c1_1720 : Index := 1#32
  let c208_1721 : Index := 208#32
  let c0_1722 : Index := 0#32
  ![v3477.toNat, 0, 1, 208, 0]
def k0_off1137 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3483 : Index := Scalar.indexCast v1486
  let c0_1723 : Index := 0#32
  let c1_1724 : Index := 1#32
  let c216_1725 : Index := 216#32
  let c0_1726 : Index := 0#32
  ![v3483.toNat, 0, 1, 216, 0]
def k0_off1138 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3489 : Index := Scalar.indexCast v1486
  let c0_1727 : Index := 0#32
  let c1_1728 : Index := 1#32
  let c224_1729 : Index := 224#32
  let c0_1730 : Index := 0#32
  ![v3489.toNat, 0, 1, 224, 0]
def k0_off1139 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3495 : Index := Scalar.indexCast v1486
  let c0_1731 : Index := 0#32
  let c1_1732 : Index := 1#32
  let c232_1733 : Index := 232#32
  let c0_1734 : Index := 0#32
  ![v3495.toNat, 0, 1, 232, 0]
def k0_off1140 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3501 : Index := Scalar.indexCast v1486
  let c0_1735 : Index := 0#32
  let c1_1736 : Index := 1#32
  let c240_1737 : Index := 240#32
  let c0_1738 : Index := 0#32
  ![v3501.toNat, 0, 1, 240, 0]
def k0_off1141 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v3507 : Index := Scalar.indexCast v1486
  let c0_1740 : Index := 0#32
  let c1_1741 : Index := 1#32
  let c248_1742 : Index := 248#32
  let c0_1743 : Index := 0#32
  ![v3507.toNat, 0, 1, 248, 0]
def k0_off1142 (i : grid0.Coords) (c0_i32_1744 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v3511 : BitVec 32 := Scalar.addi v7 c0_i32_1744
  let v3512 : Index := Scalar.indexCast v3511
  let c256 : Index := 256#32
  ![v3512.toNat, 256]
def k0_off1143 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v1487 : BitVec 1 := Scalar.cmpi .eq v1486 arg1
  let c1_i32_930 : BitVec 32 := 1#32
  let c0_i32_931 : BitVec 32 := 0#32
  let v1488 : BitVec 32 := Scalar.select v1487 c1_i32_930 c0_i32_931
  let v4327 : Index := Scalar.indexCast v1488
  let c0_2047 : Index := 0#32
  let c2_2048 : Index := 2#32
  let c0_2049 : Index := 0#32
  let c0_2050 : Index := 0#32
  ![v4327.toNat, 0, 2, 0, 0]
def k0_off1144 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4332 : Index := Scalar.indexCast v1486
  let c0_2051 : Index := 0#32
  let c2_2052 : Index := 2#32
  let c0_2053 : Index := 0#32
  let c0_2054 : Index := 0#32
  ![v4332.toNat, 0, 2, 0, 0]
def k0_off1145 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4338 : Index := Scalar.indexCast v1486
  let c0_2055 : Index := 0#32
  let c2_2056 : Index := 2#32
  let c8_2057 : Index := 8#32
  let c0_2058 : Index := 0#32
  ![v4338.toNat, 0, 2, 8, 0]
def k0_off1146 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4344 : Index := Scalar.indexCast v1486
  let c0_2059 : Index := 0#32
  let c2_2060 : Index := 2#32
  let c16_2061 : Index := 16#32
  let c0_2062 : Index := 0#32
  ![v4344.toNat, 0, 2, 16, 0]
def k0_off1147 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4350 : Index := Scalar.indexCast v1486
  let c0_2063 : Index := 0#32
  let c2_2064 : Index := 2#32
  let c24_2065 : Index := 24#32
  let c0_2066 : Index := 0#32
  ![v4350.toNat, 0, 2, 24, 0]
def k0_off1148 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4356 : Index := Scalar.indexCast v1486
  let c0_2067 : Index := 0#32
  let c2_2068 : Index := 2#32
  let c32_2069 : Index := 32#32
  let c0_2070 : Index := 0#32
  ![v4356.toNat, 0, 2, 32, 0]
def k0_off1149 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4362 : Index := Scalar.indexCast v1486
  let c0_2071 : Index := 0#32
  let c2_2072 : Index := 2#32
  let c40_2073 : Index := 40#32
  let c0_2074 : Index := 0#32
  ![v4362.toNat, 0, 2, 40, 0]
def k0_off1150 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4368 : Index := Scalar.indexCast v1486
  let c0_2075 : Index := 0#32
  let c2_2076 : Index := 2#32
  let c48_2077 : Index := 48#32
  let c0_2078 : Index := 0#32
  ![v4368.toNat, 0, 2, 48, 0]
def k0_off1151 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4374 : Index := Scalar.indexCast v1486
  let c0_2079 : Index := 0#32
  let c2_2080 : Index := 2#32
  let c56_2081 : Index := 56#32
  let c0_2082 : Index := 0#32
  ![v4374.toNat, 0, 2, 56, 0]
def k0_off1152 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4380 : Index := Scalar.indexCast v1486
  let c0_2083 : Index := 0#32
  let c2_2084 : Index := 2#32
  let c64_2085 : Index := 64#32
  let c0_2086 : Index := 0#32
  ![v4380.toNat, 0, 2, 64, 0]
def k0_off1153 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4386 : Index := Scalar.indexCast v1486
  let c0_2087 : Index := 0#32
  let c2_2088 : Index := 2#32
  let c72_2089 : Index := 72#32
  let c0_2090 : Index := 0#32
  ![v4386.toNat, 0, 2, 72, 0]
def k0_off1154 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4392 : Index := Scalar.indexCast v1486
  let c0_2091 : Index := 0#32
  let c2_2092 : Index := 2#32
  let c80_2093 : Index := 80#32
  let c0_2094 : Index := 0#32
  ![v4392.toNat, 0, 2, 80, 0]
def k0_off1155 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4398 : Index := Scalar.indexCast v1486
  let c0_2095 : Index := 0#32
  let c2_2096 : Index := 2#32
  let c88_2097 : Index := 88#32
  let c0_2098 : Index := 0#32
  ![v4398.toNat, 0, 2, 88, 0]
def k0_off1156 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4404 : Index := Scalar.indexCast v1486
  let c0_2099 : Index := 0#32
  let c2_2100 : Index := 2#32
  let c96_2101 : Index := 96#32
  let c0_2102 : Index := 0#32
  ![v4404.toNat, 0, 2, 96, 0]
def k0_off1157 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4410 : Index := Scalar.indexCast v1486
  let c0_2103 : Index := 0#32
  let c2_2104 : Index := 2#32
  let c104_2105 : Index := 104#32
  let c0_2106 : Index := 0#32
  ![v4410.toNat, 0, 2, 104, 0]
def k0_off1158 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4416 : Index := Scalar.indexCast v1486
  let c0_2107 : Index := 0#32
  let c2_2108 : Index := 2#32
  let c112_2109 : Index := 112#32
  let c0_2110 : Index := 0#32
  ![v4416.toNat, 0, 2, 112, 0]
def k0_off1159 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4422 : Index := Scalar.indexCast v1486
  let c0_2111 : Index := 0#32
  let c2_2112 : Index := 2#32
  let c120_2113 : Index := 120#32
  let c0_2114 : Index := 0#32
  ![v4422.toNat, 0, 2, 120, 0]
def k0_off1160 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4428 : Index := Scalar.indexCast v1486
  let c0_2115 : Index := 0#32
  let c2_2116 : Index := 2#32
  let c128_2117 : Index := 128#32
  let c0_2118 : Index := 0#32
  ![v4428.toNat, 0, 2, 128, 0]
def k0_off1161 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4434 : Index := Scalar.indexCast v1486
  let c0_2119 : Index := 0#32
  let c2_2120 : Index := 2#32
  let c136_2121 : Index := 136#32
  let c0_2122 : Index := 0#32
  ![v4434.toNat, 0, 2, 136, 0]
def k0_off1162 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4440 : Index := Scalar.indexCast v1486
  let c0_2123 : Index := 0#32
  let c2_2124 : Index := 2#32
  let c144_2125 : Index := 144#32
  let c0_2126 : Index := 0#32
  ![v4440.toNat, 0, 2, 144, 0]
def k0_off1163 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4446 : Index := Scalar.indexCast v1486
  let c0_2127 : Index := 0#32
  let c2_2128 : Index := 2#32
  let c152_2129 : Index := 152#32
  let c0_2130 : Index := 0#32
  ![v4446.toNat, 0, 2, 152, 0]
def k0_off1164 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4452 : Index := Scalar.indexCast v1486
  let c0_2131 : Index := 0#32
  let c2_2132 : Index := 2#32
  let c160_2133 : Index := 160#32
  let c0_2134 : Index := 0#32
  ![v4452.toNat, 0, 2, 160, 0]
def k0_off1165 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4458 : Index := Scalar.indexCast v1486
  let c0_2135 : Index := 0#32
  let c2_2136 : Index := 2#32
  let c168_2137 : Index := 168#32
  let c0_2138 : Index := 0#32
  ![v4458.toNat, 0, 2, 168, 0]
def k0_off1166 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4464 : Index := Scalar.indexCast v1486
  let c0_2139 : Index := 0#32
  let c2_2140 : Index := 2#32
  let c176_2141 : Index := 176#32
  let c0_2142 : Index := 0#32
  ![v4464.toNat, 0, 2, 176, 0]
def k0_off1167 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4470 : Index := Scalar.indexCast v1486
  let c0_2143 : Index := 0#32
  let c2_2144 : Index := 2#32
  let c184_2145 : Index := 184#32
  let c0_2146 : Index := 0#32
  ![v4470.toNat, 0, 2, 184, 0]
def k0_off1168 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4476 : Index := Scalar.indexCast v1486
  let c0_2147 : Index := 0#32
  let c2_2148 : Index := 2#32
  let c192_2149 : Index := 192#32
  let c0_2150 : Index := 0#32
  ![v4476.toNat, 0, 2, 192, 0]
def k0_off1169 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4482 : Index := Scalar.indexCast v1486
  let c0_2151 : Index := 0#32
  let c2_2152 : Index := 2#32
  let c200_2153 : Index := 200#32
  let c0_2154 : Index := 0#32
  ![v4482.toNat, 0, 2, 200, 0]
def k0_off1170 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4488 : Index := Scalar.indexCast v1486
  let c0_2155 : Index := 0#32
  let c2_2156 : Index := 2#32
  let c208_2157 : Index := 208#32
  let c0_2158 : Index := 0#32
  ![v4488.toNat, 0, 2, 208, 0]
def k0_off1171 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4494 : Index := Scalar.indexCast v1486
  let c0_2159 : Index := 0#32
  let c2_2160 : Index := 2#32
  let c216_2161 : Index := 216#32
  let c0_2162 : Index := 0#32
  ![v4494.toNat, 0, 2, 216, 0]
def k0_off1172 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4500 : Index := Scalar.indexCast v1486
  let c0_2163 : Index := 0#32
  let c2_2164 : Index := 2#32
  let c224_2165 : Index := 224#32
  let c0_2166 : Index := 0#32
  ![v4500.toNat, 0, 2, 224, 0]
def k0_off1173 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4506 : Index := Scalar.indexCast v1486
  let c0_2167 : Index := 0#32
  let c2_2168 : Index := 2#32
  let c232_2169 : Index := 232#32
  let c0_2170 : Index := 0#32
  ![v4506.toNat, 0, 2, 232, 0]
def k0_off1174 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4512 : Index := Scalar.indexCast v1486
  let c0_2171 : Index := 0#32
  let c2_2172 : Index := 2#32
  let c240_2173 : Index := 240#32
  let c0_2174 : Index := 0#32
  ![v4512.toNat, 0, 2, 240, 0]
def k0_off1175 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v4518 : Index := Scalar.indexCast v1486
  let c0_2176 : Index := 0#32
  let c2_2177 : Index := 2#32
  let c248_2178 : Index := 248#32
  let c0_2179 : Index := 0#32
  ![v4518.toNat, 0, 2, 248, 0]
def k0_off1176 (i : grid0.Coords) (c0_i32_2180 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v4522 : BitVec 32 := Scalar.addi v7 c0_i32_2180
  let v4523 : Index := Scalar.indexCast v4522
  let c384 : Index := 384#32
  ![v4523.toNat, 384]
def k0_off1177 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v1487 : BitVec 1 := Scalar.cmpi .eq v1486 arg1
  let c1_i32_930 : BitVec 32 := 1#32
  let c0_i32_931 : BitVec 32 := 0#32
  let v1488 : BitVec 32 := Scalar.select v1487 c1_i32_930 c0_i32_931
  let v5338 : Index := Scalar.indexCast v1488
  let c0_2483 : Index := 0#32
  let c3_2484 : Index := 3#32
  let c0_2485 : Index := 0#32
  let c0_2486 : Index := 0#32
  ![v5338.toNat, 0, 3, 0, 0]
def k0_off1178 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5343 : Index := Scalar.indexCast v1486
  let c0_2487 : Index := 0#32
  let c3_2488 : Index := 3#32
  let c0_2489 : Index := 0#32
  let c0_2490 : Index := 0#32
  ![v5343.toNat, 0, 3, 0, 0]
def k0_off1179 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5349 : Index := Scalar.indexCast v1486
  let c0_2491 : Index := 0#32
  let c3_2492 : Index := 3#32
  let c8_2493 : Index := 8#32
  let c0_2494 : Index := 0#32
  ![v5349.toNat, 0, 3, 8, 0]
def k0_off1180 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5355 : Index := Scalar.indexCast v1486
  let c0_2495 : Index := 0#32
  let c3_2496 : Index := 3#32
  let c16_2497 : Index := 16#32
  let c0_2498 : Index := 0#32
  ![v5355.toNat, 0, 3, 16, 0]
def k0_off1181 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5361 : Index := Scalar.indexCast v1486
  let c0_2499 : Index := 0#32
  let c3_2500 : Index := 3#32
  let c24_2501 : Index := 24#32
  let c0_2502 : Index := 0#32
  ![v5361.toNat, 0, 3, 24, 0]
def k0_off1182 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5367 : Index := Scalar.indexCast v1486
  let c0_2503 : Index := 0#32
  let c3_2504 : Index := 3#32
  let c32_2505 : Index := 32#32
  let c0_2506 : Index := 0#32
  ![v5367.toNat, 0, 3, 32, 0]
def k0_off1183 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5373 : Index := Scalar.indexCast v1486
  let c0_2507 : Index := 0#32
  let c3_2508 : Index := 3#32
  let c40_2509 : Index := 40#32
  let c0_2510 : Index := 0#32
  ![v5373.toNat, 0, 3, 40, 0]
def k0_off1184 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5379 : Index := Scalar.indexCast v1486
  let c0_2511 : Index := 0#32
  let c3_2512 : Index := 3#32
  let c48_2513 : Index := 48#32
  let c0_2514 : Index := 0#32
  ![v5379.toNat, 0, 3, 48, 0]
def k0_off1185 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5385 : Index := Scalar.indexCast v1486
  let c0_2515 : Index := 0#32
  let c3_2516 : Index := 3#32
  let c56_2517 : Index := 56#32
  let c0_2518 : Index := 0#32
  ![v5385.toNat, 0, 3, 56, 0]
def k0_off1186 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5391 : Index := Scalar.indexCast v1486
  let c0_2519 : Index := 0#32
  let c3_2520 : Index := 3#32
  let c64_2521 : Index := 64#32
  let c0_2522 : Index := 0#32
  ![v5391.toNat, 0, 3, 64, 0]
def k0_off1187 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5397 : Index := Scalar.indexCast v1486
  let c0_2523 : Index := 0#32
  let c3_2524 : Index := 3#32
  let c72_2525 : Index := 72#32
  let c0_2526 : Index := 0#32
  ![v5397.toNat, 0, 3, 72, 0]
def k0_off1188 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5403 : Index := Scalar.indexCast v1486
  let c0_2527 : Index := 0#32
  let c3_2528 : Index := 3#32
  let c80_2529 : Index := 80#32
  let c0_2530 : Index := 0#32
  ![v5403.toNat, 0, 3, 80, 0]
def k0_off1189 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5409 : Index := Scalar.indexCast v1486
  let c0_2531 : Index := 0#32
  let c3_2532 : Index := 3#32
  let c88_2533 : Index := 88#32
  let c0_2534 : Index := 0#32
  ![v5409.toNat, 0, 3, 88, 0]
def k0_off1190 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5415 : Index := Scalar.indexCast v1486
  let c0_2535 : Index := 0#32
  let c3_2536 : Index := 3#32
  let c96_2537 : Index := 96#32
  let c0_2538 : Index := 0#32
  ![v5415.toNat, 0, 3, 96, 0]
def k0_off1191 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5421 : Index := Scalar.indexCast v1486
  let c0_2539 : Index := 0#32
  let c3_2540 : Index := 3#32
  let c104_2541 : Index := 104#32
  let c0_2542 : Index := 0#32
  ![v5421.toNat, 0, 3, 104, 0]
def k0_off1192 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5427 : Index := Scalar.indexCast v1486
  let c0_2543 : Index := 0#32
  let c3_2544 : Index := 3#32
  let c112_2545 : Index := 112#32
  let c0_2546 : Index := 0#32
  ![v5427.toNat, 0, 3, 112, 0]
def k0_off1193 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5433 : Index := Scalar.indexCast v1486
  let c0_2547 : Index := 0#32
  let c3_2548 : Index := 3#32
  let c120_2549 : Index := 120#32
  let c0_2550 : Index := 0#32
  ![v5433.toNat, 0, 3, 120, 0]
def k0_off1194 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5439 : Index := Scalar.indexCast v1486
  let c0_2551 : Index := 0#32
  let c3_2552 : Index := 3#32
  let c128_2553 : Index := 128#32
  let c0_2554 : Index := 0#32
  ![v5439.toNat, 0, 3, 128, 0]
def k0_off1195 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5445 : Index := Scalar.indexCast v1486
  let c0_2555 : Index := 0#32
  let c3_2556 : Index := 3#32
  let c136_2557 : Index := 136#32
  let c0_2558 : Index := 0#32
  ![v5445.toNat, 0, 3, 136, 0]
def k0_off1196 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5451 : Index := Scalar.indexCast v1486
  let c0_2559 : Index := 0#32
  let c3_2560 : Index := 3#32
  let c144_2561 : Index := 144#32
  let c0_2562 : Index := 0#32
  ![v5451.toNat, 0, 3, 144, 0]
def k0_off1197 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5457 : Index := Scalar.indexCast v1486
  let c0_2563 : Index := 0#32
  let c3_2564 : Index := 3#32
  let c152_2565 : Index := 152#32
  let c0_2566 : Index := 0#32
  ![v5457.toNat, 0, 3, 152, 0]
def k0_off1198 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5463 : Index := Scalar.indexCast v1486
  let c0_2567 : Index := 0#32
  let c3_2568 : Index := 3#32
  let c160_2569 : Index := 160#32
  let c0_2570 : Index := 0#32
  ![v5463.toNat, 0, 3, 160, 0]
def k0_off1199 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5469 : Index := Scalar.indexCast v1486
  let c0_2571 : Index := 0#32
  let c3_2572 : Index := 3#32
  let c168_2573 : Index := 168#32
  let c0_2574 : Index := 0#32
  ![v5469.toNat, 0, 3, 168, 0]
def k0_off1200 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5475 : Index := Scalar.indexCast v1486
  let c0_2575 : Index := 0#32
  let c3_2576 : Index := 3#32
  let c176_2577 : Index := 176#32
  let c0_2578 : Index := 0#32
  ![v5475.toNat, 0, 3, 176, 0]
def k0_off1201 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5481 : Index := Scalar.indexCast v1486
  let c0_2579 : Index := 0#32
  let c3_2580 : Index := 3#32
  let c184_2581 : Index := 184#32
  let c0_2582 : Index := 0#32
  ![v5481.toNat, 0, 3, 184, 0]
def k0_off1202 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5487 : Index := Scalar.indexCast v1486
  let c0_2583 : Index := 0#32
  let c3_2584 : Index := 3#32
  let c192_2585 : Index := 192#32
  let c0_2586 : Index := 0#32
  ![v5487.toNat, 0, 3, 192, 0]
def k0_off1203 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5493 : Index := Scalar.indexCast v1486
  let c0_2587 : Index := 0#32
  let c3_2588 : Index := 3#32
  let c200_2589 : Index := 200#32
  let c0_2590 : Index := 0#32
  ![v5493.toNat, 0, 3, 200, 0]
def k0_off1204 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5499 : Index := Scalar.indexCast v1486
  let c0_2591 : Index := 0#32
  let c3_2592 : Index := 3#32
  let c208_2593 : Index := 208#32
  let c0_2594 : Index := 0#32
  ![v5499.toNat, 0, 3, 208, 0]
def k0_off1205 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5505 : Index := Scalar.indexCast v1486
  let c0_2595 : Index := 0#32
  let c3_2596 : Index := 3#32
  let c216_2597 : Index := 216#32
  let c0_2598 : Index := 0#32
  ![v5505.toNat, 0, 3, 216, 0]
def k0_off1206 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5511 : Index := Scalar.indexCast v1486
  let c0_2599 : Index := 0#32
  let c3_2600 : Index := 3#32
  let c224_2601 : Index := 224#32
  let c0_2602 : Index := 0#32
  ![v5511.toNat, 0, 3, 224, 0]
def k0_off1207 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5517 : Index := Scalar.indexCast v1486
  let c0_2603 : Index := 0#32
  let c3_2604 : Index := 3#32
  let c232_2605 : Index := 232#32
  let c0_2606 : Index := 0#32
  ![v5517.toNat, 0, 3, 232, 0]
def k0_off1208 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5523 : Index := Scalar.indexCast v1486
  let c0_2607 : Index := 0#32
  let c3_2608 : Index := 3#32
  let c240_2609 : Index := 240#32
  let c0_2610 : Index := 0#32
  ![v5523.toNat, 0, 3, 240, 0]
def k0_off1209 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v5529 : Index := Scalar.indexCast v1486
  let c0_2612 : Index := 0#32
  let c3_2613 : Index := 3#32
  let c248_2614 : Index := 248#32
  let c0_2615 : Index := 0#32
  ![v5529.toNat, 0, 3, 248, 0]
def k0_off1210 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v1487 : BitVec 1 := Scalar.cmpi .eq v1486 arg1
  let c1_i32_930 : BitVec 32 := 1#32
  let c0_i32_931 : BitVec 32 := 0#32
  let v1488 : BitVec 32 := Scalar.select v1487 c1_i32_930 c0_i32_931
  let v6349 : Index := Scalar.indexCast v1488
  let c1_2920 : Index := 1#32
  let c0_2921 : Index := 0#32
  let c0_2922 : Index := 0#32
  let c0_2923 : Index := 0#32
  ![v6349.toNat, 1, 0, 0, 0]
def k0_off1211 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6354 : Index := Scalar.indexCast v1486
  let c1_2924 : Index := 1#32
  let c0_2925 : Index := 0#32
  let c0_2926 : Index := 0#32
  let c0_2927 : Index := 0#32
  ![v6354.toNat, 1, 0, 0, 0]
def k0_off1212 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6360 : Index := Scalar.indexCast v1486
  let c1_2928 : Index := 1#32
  let c0_2929 : Index := 0#32
  let c8_2930 : Index := 8#32
  let c0_2931 : Index := 0#32
  ![v6360.toNat, 1, 0, 8, 0]
def k0_off1213 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6366 : Index := Scalar.indexCast v1486
  let c1_2932 : Index := 1#32
  let c0_2933 : Index := 0#32
  let c16_2934 : Index := 16#32
  let c0_2935 : Index := 0#32
  ![v6366.toNat, 1, 0, 16, 0]
def k0_off1214 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6372 : Index := Scalar.indexCast v1486
  let c1_2936 : Index := 1#32
  let c0_2937 : Index := 0#32
  let c24_2938 : Index := 24#32
  let c0_2939 : Index := 0#32
  ![v6372.toNat, 1, 0, 24, 0]
def k0_off1215 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6378 : Index := Scalar.indexCast v1486
  let c1_2940 : Index := 1#32
  let c0_2941 : Index := 0#32
  let c32_2942 : Index := 32#32
  let c0_2943 : Index := 0#32
  ![v6378.toNat, 1, 0, 32, 0]
def k0_off1216 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6384 : Index := Scalar.indexCast v1486
  let c1_2944 : Index := 1#32
  let c0_2945 : Index := 0#32
  let c40_2946 : Index := 40#32
  let c0_2947 : Index := 0#32
  ![v6384.toNat, 1, 0, 40, 0]
def k0_off1217 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6390 : Index := Scalar.indexCast v1486
  let c1_2948 : Index := 1#32
  let c0_2949 : Index := 0#32
  let c48_2950 : Index := 48#32
  let c0_2951 : Index := 0#32
  ![v6390.toNat, 1, 0, 48, 0]
def k0_off1218 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6396 : Index := Scalar.indexCast v1486
  let c1_2952 : Index := 1#32
  let c0_2953 : Index := 0#32
  let c56_2954 : Index := 56#32
  let c0_2955 : Index := 0#32
  ![v6396.toNat, 1, 0, 56, 0]
def k0_off1219 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6402 : Index := Scalar.indexCast v1486
  let c1_2956 : Index := 1#32
  let c0_2957 : Index := 0#32
  let c64_2958 : Index := 64#32
  let c0_2959 : Index := 0#32
  ![v6402.toNat, 1, 0, 64, 0]
def k0_off1220 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6408 : Index := Scalar.indexCast v1486
  let c1_2960 : Index := 1#32
  let c0_2961 : Index := 0#32
  let c72_2962 : Index := 72#32
  let c0_2963 : Index := 0#32
  ![v6408.toNat, 1, 0, 72, 0]
def k0_off1221 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6414 : Index := Scalar.indexCast v1486
  let c1_2964 : Index := 1#32
  let c0_2965 : Index := 0#32
  let c80_2966 : Index := 80#32
  let c0_2967 : Index := 0#32
  ![v6414.toNat, 1, 0, 80, 0]
def k0_off1222 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6420 : Index := Scalar.indexCast v1486
  let c1_2968 : Index := 1#32
  let c0_2969 : Index := 0#32
  let c88_2970 : Index := 88#32
  let c0_2971 : Index := 0#32
  ![v6420.toNat, 1, 0, 88, 0]
def k0_off1223 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6426 : Index := Scalar.indexCast v1486
  let c1_2972 : Index := 1#32
  let c0_2973 : Index := 0#32
  let c96_2974 : Index := 96#32
  let c0_2975 : Index := 0#32
  ![v6426.toNat, 1, 0, 96, 0]
def k0_off1224 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6432 : Index := Scalar.indexCast v1486
  let c1_2976 : Index := 1#32
  let c0_2977 : Index := 0#32
  let c104_2978 : Index := 104#32
  let c0_2979 : Index := 0#32
  ![v6432.toNat, 1, 0, 104, 0]
def k0_off1225 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6438 : Index := Scalar.indexCast v1486
  let c1_2980 : Index := 1#32
  let c0_2981 : Index := 0#32
  let c112_2982 : Index := 112#32
  let c0_2983 : Index := 0#32
  ![v6438.toNat, 1, 0, 112, 0]
def k0_off1226 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6444 : Index := Scalar.indexCast v1486
  let c1_2984 : Index := 1#32
  let c0_2985 : Index := 0#32
  let c120_2986 : Index := 120#32
  let c0_2987 : Index := 0#32
  ![v6444.toNat, 1, 0, 120, 0]
def k0_off1227 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6450 : Index := Scalar.indexCast v1486
  let c1_2988 : Index := 1#32
  let c0_2989 : Index := 0#32
  let c128_2990 : Index := 128#32
  let c0_2991 : Index := 0#32
  ![v6450.toNat, 1, 0, 128, 0]
def k0_off1228 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6456 : Index := Scalar.indexCast v1486
  let c1_2992 : Index := 1#32
  let c0_2993 : Index := 0#32
  let c136_2994 : Index := 136#32
  let c0_2995 : Index := 0#32
  ![v6456.toNat, 1, 0, 136, 0]
def k0_off1229 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6462 : Index := Scalar.indexCast v1486
  let c1_2996 : Index := 1#32
  let c0_2997 : Index := 0#32
  let c144_2998 : Index := 144#32
  let c0_2999 : Index := 0#32
  ![v6462.toNat, 1, 0, 144, 0]
def k0_off1230 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6468 : Index := Scalar.indexCast v1486
  let c1_3000 : Index := 1#32
  let c0_3001 : Index := 0#32
  let c152_3002 : Index := 152#32
  let c0_3003 : Index := 0#32
  ![v6468.toNat, 1, 0, 152, 0]
def k0_off1231 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6474 : Index := Scalar.indexCast v1486
  let c1_3004 : Index := 1#32
  let c0_3005 : Index := 0#32
  let c160_3006 : Index := 160#32
  let c0_3007 : Index := 0#32
  ![v6474.toNat, 1, 0, 160, 0]
def k0_off1232 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6480 : Index := Scalar.indexCast v1486
  let c1_3008 : Index := 1#32
  let c0_3009 : Index := 0#32
  let c168_3010 : Index := 168#32
  let c0_3011 : Index := 0#32
  ![v6480.toNat, 1, 0, 168, 0]
def k0_off1233 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6486 : Index := Scalar.indexCast v1486
  let c1_3012 : Index := 1#32
  let c0_3013 : Index := 0#32
  let c176_3014 : Index := 176#32
  let c0_3015 : Index := 0#32
  ![v6486.toNat, 1, 0, 176, 0]
def k0_off1234 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6492 : Index := Scalar.indexCast v1486
  let c1_3016 : Index := 1#32
  let c0_3017 : Index := 0#32
  let c184_3018 : Index := 184#32
  let c0_3019 : Index := 0#32
  ![v6492.toNat, 1, 0, 184, 0]
def k0_off1235 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6498 : Index := Scalar.indexCast v1486
  let c1_3020 : Index := 1#32
  let c0_3021 : Index := 0#32
  let c192_3022 : Index := 192#32
  let c0_3023 : Index := 0#32
  ![v6498.toNat, 1, 0, 192, 0]
def k0_off1236 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6504 : Index := Scalar.indexCast v1486
  let c1_3024 : Index := 1#32
  let c0_3025 : Index := 0#32
  let c200_3026 : Index := 200#32
  let c0_3027 : Index := 0#32
  ![v6504.toNat, 1, 0, 200, 0]
def k0_off1237 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6510 : Index := Scalar.indexCast v1486
  let c1_3028 : Index := 1#32
  let c0_3029 : Index := 0#32
  let c208_3030 : Index := 208#32
  let c0_3031 : Index := 0#32
  ![v6510.toNat, 1, 0, 208, 0]
def k0_off1238 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6516 : Index := Scalar.indexCast v1486
  let c1_3032 : Index := 1#32
  let c0_3033 : Index := 0#32
  let c216_3034 : Index := 216#32
  let c0_3035 : Index := 0#32
  ![v6516.toNat, 1, 0, 216, 0]
def k0_off1239 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6522 : Index := Scalar.indexCast v1486
  let c1_3036 : Index := 1#32
  let c0_3037 : Index := 0#32
  let c224_3038 : Index := 224#32
  let c0_3039 : Index := 0#32
  ![v6522.toNat, 1, 0, 224, 0]
def k0_off1240 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6528 : Index := Scalar.indexCast v1486
  let c1_3040 : Index := 1#32
  let c0_3041 : Index := 0#32
  let c232_3042 : Index := 232#32
  let c0_3043 : Index := 0#32
  ![v6528.toNat, 1, 0, 232, 0]
def k0_off1241 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6534 : Index := Scalar.indexCast v1486
  let c1_3044 : Index := 1#32
  let c0_3045 : Index := 0#32
  let c240_3046 : Index := 240#32
  let c0_3047 : Index := 0#32
  ![v6534.toNat, 1, 0, 240, 0]
def k0_off1242 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v6540 : Index := Scalar.indexCast v1486
  let c1_3049 : Index := 1#32
  let c0_3050 : Index := 0#32
  let c248_3051 : Index := 248#32
  let c0_3052 : Index := 0#32
  ![v6540.toNat, 1, 0, 248, 0]
def k0_off1243 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v1487 : BitVec 1 := Scalar.cmpi .eq v1486 arg1
  let c1_i32_930 : BitVec 32 := 1#32
  let c0_i32_931 : BitVec 32 := 0#32
  let v1488 : BitVec 32 := Scalar.select v1487 c1_i32_930 c0_i32_931
  let v7360 : Index := Scalar.indexCast v1488
  let c1_3357 : Index := 1#32
  let c1_3358 : Index := 1#32
  let c0_3359 : Index := 0#32
  let c0_3360 : Index := 0#32
  ![v7360.toNat, 1, 1, 0, 0]
def k0_off1244 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7365 : Index := Scalar.indexCast v1486
  let c1_3361 : Index := 1#32
  let c1_3362 : Index := 1#32
  let c0_3363 : Index := 0#32
  let c0_3364 : Index := 0#32
  ![v7365.toNat, 1, 1, 0, 0]
def k0_off1245 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7371 : Index := Scalar.indexCast v1486
  let c1_3365 : Index := 1#32
  let c1_3366 : Index := 1#32
  let c8_3367 : Index := 8#32
  let c0_3368 : Index := 0#32
  ![v7371.toNat, 1, 1, 8, 0]
def k0_off1246 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7377 : Index := Scalar.indexCast v1486
  let c1_3369 : Index := 1#32
  let c1_3370 : Index := 1#32
  let c16_3371 : Index := 16#32
  let c0_3372 : Index := 0#32
  ![v7377.toNat, 1, 1, 16, 0]
def k0_off1247 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7383 : Index := Scalar.indexCast v1486
  let c1_3373 : Index := 1#32
  let c1_3374 : Index := 1#32
  let c24_3375 : Index := 24#32
  let c0_3376 : Index := 0#32
  ![v7383.toNat, 1, 1, 24, 0]
def k0_off1248 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7389 : Index := Scalar.indexCast v1486
  let c1_3377 : Index := 1#32
  let c1_3378 : Index := 1#32
  let c32_3379 : Index := 32#32
  let c0_3380 : Index := 0#32
  ![v7389.toNat, 1, 1, 32, 0]
def k0_off1249 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7395 : Index := Scalar.indexCast v1486
  let c1_3381 : Index := 1#32
  let c1_3382 : Index := 1#32
  let c40_3383 : Index := 40#32
  let c0_3384 : Index := 0#32
  ![v7395.toNat, 1, 1, 40, 0]
def k0_off1250 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7401 : Index := Scalar.indexCast v1486
  let c1_3385 : Index := 1#32
  let c1_3386 : Index := 1#32
  let c48_3387 : Index := 48#32
  let c0_3388 : Index := 0#32
  ![v7401.toNat, 1, 1, 48, 0]
def k0_off1251 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7407 : Index := Scalar.indexCast v1486
  let c1_3389 : Index := 1#32
  let c1_3390 : Index := 1#32
  let c56_3391 : Index := 56#32
  let c0_3392 : Index := 0#32
  ![v7407.toNat, 1, 1, 56, 0]
def k0_off1252 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7413 : Index := Scalar.indexCast v1486
  let c1_3393 : Index := 1#32
  let c1_3394 : Index := 1#32
  let c64_3395 : Index := 64#32
  let c0_3396 : Index := 0#32
  ![v7413.toNat, 1, 1, 64, 0]
def k0_off1253 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7419 : Index := Scalar.indexCast v1486
  let c1_3397 : Index := 1#32
  let c1_3398 : Index := 1#32
  let c72_3399 : Index := 72#32
  let c0_3400 : Index := 0#32
  ![v7419.toNat, 1, 1, 72, 0]
def k0_off1254 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7425 : Index := Scalar.indexCast v1486
  let c1_3401 : Index := 1#32
  let c1_3402 : Index := 1#32
  let c80_3403 : Index := 80#32
  let c0_3404 : Index := 0#32
  ![v7425.toNat, 1, 1, 80, 0]
def k0_off1255 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7431 : Index := Scalar.indexCast v1486
  let c1_3405 : Index := 1#32
  let c1_3406 : Index := 1#32
  let c88_3407 : Index := 88#32
  let c0_3408 : Index := 0#32
  ![v7431.toNat, 1, 1, 88, 0]
def k0_off1256 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7437 : Index := Scalar.indexCast v1486
  let c1_3409 : Index := 1#32
  let c1_3410 : Index := 1#32
  let c96_3411 : Index := 96#32
  let c0_3412 : Index := 0#32
  ![v7437.toNat, 1, 1, 96, 0]
def k0_off1257 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7443 : Index := Scalar.indexCast v1486
  let c1_3413 : Index := 1#32
  let c1_3414 : Index := 1#32
  let c104_3415 : Index := 104#32
  let c0_3416 : Index := 0#32
  ![v7443.toNat, 1, 1, 104, 0]
def k0_off1258 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7449 : Index := Scalar.indexCast v1486
  let c1_3417 : Index := 1#32
  let c1_3418 : Index := 1#32
  let c112_3419 : Index := 112#32
  let c0_3420 : Index := 0#32
  ![v7449.toNat, 1, 1, 112, 0]
def k0_off1259 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7455 : Index := Scalar.indexCast v1486
  let c1_3421 : Index := 1#32
  let c1_3422 : Index := 1#32
  let c120_3423 : Index := 120#32
  let c0_3424 : Index := 0#32
  ![v7455.toNat, 1, 1, 120, 0]
def k0_off1260 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7461 : Index := Scalar.indexCast v1486
  let c1_3425 : Index := 1#32
  let c1_3426 : Index := 1#32
  let c128_3427 : Index := 128#32
  let c0_3428 : Index := 0#32
  ![v7461.toNat, 1, 1, 128, 0]
def k0_off1261 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7467 : Index := Scalar.indexCast v1486
  let c1_3429 : Index := 1#32
  let c1_3430 : Index := 1#32
  let c136_3431 : Index := 136#32
  let c0_3432 : Index := 0#32
  ![v7467.toNat, 1, 1, 136, 0]
def k0_off1262 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7473 : Index := Scalar.indexCast v1486
  let c1_3433 : Index := 1#32
  let c1_3434 : Index := 1#32
  let c144_3435 : Index := 144#32
  let c0_3436 : Index := 0#32
  ![v7473.toNat, 1, 1, 144, 0]
def k0_off1263 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7479 : Index := Scalar.indexCast v1486
  let c1_3437 : Index := 1#32
  let c1_3438 : Index := 1#32
  let c152_3439 : Index := 152#32
  let c0_3440 : Index := 0#32
  ![v7479.toNat, 1, 1, 152, 0]
def k0_off1264 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7485 : Index := Scalar.indexCast v1486
  let c1_3441 : Index := 1#32
  let c1_3442 : Index := 1#32
  let c160_3443 : Index := 160#32
  let c0_3444 : Index := 0#32
  ![v7485.toNat, 1, 1, 160, 0]
def k0_off1265 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7491 : Index := Scalar.indexCast v1486
  let c1_3445 : Index := 1#32
  let c1_3446 : Index := 1#32
  let c168_3447 : Index := 168#32
  let c0_3448 : Index := 0#32
  ![v7491.toNat, 1, 1, 168, 0]
def k0_off1266 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7497 : Index := Scalar.indexCast v1486
  let c1_3449 : Index := 1#32
  let c1_3450 : Index := 1#32
  let c176_3451 : Index := 176#32
  let c0_3452 : Index := 0#32
  ![v7497.toNat, 1, 1, 176, 0]
def k0_off1267 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7503 : Index := Scalar.indexCast v1486
  let c1_3453 : Index := 1#32
  let c1_3454 : Index := 1#32
  let c184_3455 : Index := 184#32
  let c0_3456 : Index := 0#32
  ![v7503.toNat, 1, 1, 184, 0]
def k0_off1268 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7509 : Index := Scalar.indexCast v1486
  let c1_3457 : Index := 1#32
  let c1_3458 : Index := 1#32
  let c192_3459 : Index := 192#32
  let c0_3460 : Index := 0#32
  ![v7509.toNat, 1, 1, 192, 0]
def k0_off1269 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7515 : Index := Scalar.indexCast v1486
  let c1_3461 : Index := 1#32
  let c1_3462 : Index := 1#32
  let c200_3463 : Index := 200#32
  let c0_3464 : Index := 0#32
  ![v7515.toNat, 1, 1, 200, 0]
def k0_off1270 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7521 : Index := Scalar.indexCast v1486
  let c1_3465 : Index := 1#32
  let c1_3466 : Index := 1#32
  let c208_3467 : Index := 208#32
  let c0_3468 : Index := 0#32
  ![v7521.toNat, 1, 1, 208, 0]
def k0_off1271 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7527 : Index := Scalar.indexCast v1486
  let c1_3469 : Index := 1#32
  let c1_3470 : Index := 1#32
  let c216_3471 : Index := 216#32
  let c0_3472 : Index := 0#32
  ![v7527.toNat, 1, 1, 216, 0]
def k0_off1272 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7533 : Index := Scalar.indexCast v1486
  let c1_3473 : Index := 1#32
  let c1_3474 : Index := 1#32
  let c224_3475 : Index := 224#32
  let c0_3476 : Index := 0#32
  ![v7533.toNat, 1, 1, 224, 0]
def k0_off1273 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7539 : Index := Scalar.indexCast v1486
  let c1_3477 : Index := 1#32
  let c1_3478 : Index := 1#32
  let c232_3479 : Index := 232#32
  let c0_3480 : Index := 0#32
  ![v7539.toNat, 1, 1, 232, 0]
def k0_off1274 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7545 : Index := Scalar.indexCast v1486
  let c1_3481 : Index := 1#32
  let c1_3482 : Index := 1#32
  let c240_3483 : Index := 240#32
  let c0_3484 : Index := 0#32
  ![v7545.toNat, 1, 1, 240, 0]
def k0_off1275 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v7551 : Index := Scalar.indexCast v1486
  let c1_3486 : Index := 1#32
  let c1_3487 : Index := 1#32
  let c248_3488 : Index := 248#32
  let c0_3489 : Index := 0#32
  ![v7551.toNat, 1, 1, 248, 0]
def k0_off1276 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v1487 : BitVec 1 := Scalar.cmpi .eq v1486 arg1
  let c1_i32_930 : BitVec 32 := 1#32
  let c0_i32_931 : BitVec 32 := 0#32
  let v1488 : BitVec 32 := Scalar.select v1487 c1_i32_930 c0_i32_931
  let v8371 : Index := Scalar.indexCast v1488
  let c1_3794 : Index := 1#32
  let c2_3795 : Index := 2#32
  let c0_3796 : Index := 0#32
  let c0_3797 : Index := 0#32
  ![v8371.toNat, 1, 2, 0, 0]
def k0_off1277 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8376 : Index := Scalar.indexCast v1486
  let c1_3798 : Index := 1#32
  let c2_3799 : Index := 2#32
  let c0_3800 : Index := 0#32
  let c0_3801 : Index := 0#32
  ![v8376.toNat, 1, 2, 0, 0]
def k0_off1278 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8382 : Index := Scalar.indexCast v1486
  let c1_3802 : Index := 1#32
  let c2_3803 : Index := 2#32
  let c8_3804 : Index := 8#32
  let c0_3805 : Index := 0#32
  ![v8382.toNat, 1, 2, 8, 0]
def k0_off1279 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8388 : Index := Scalar.indexCast v1486
  let c1_3806 : Index := 1#32
  let c2_3807 : Index := 2#32
  let c16_3808 : Index := 16#32
  let c0_3809 : Index := 0#32
  ![v8388.toNat, 1, 2, 16, 0]
def k0_off1280 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8394 : Index := Scalar.indexCast v1486
  let c1_3810 : Index := 1#32
  let c2_3811 : Index := 2#32
  let c24_3812 : Index := 24#32
  let c0_3813 : Index := 0#32
  ![v8394.toNat, 1, 2, 24, 0]
def k0_off1281 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8400 : Index := Scalar.indexCast v1486
  let c1_3814 : Index := 1#32
  let c2_3815 : Index := 2#32
  let c32_3816 : Index := 32#32
  let c0_3817 : Index := 0#32
  ![v8400.toNat, 1, 2, 32, 0]
def k0_off1282 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8406 : Index := Scalar.indexCast v1486
  let c1_3818 : Index := 1#32
  let c2_3819 : Index := 2#32
  let c40_3820 : Index := 40#32
  let c0_3821 : Index := 0#32
  ![v8406.toNat, 1, 2, 40, 0]
def k0_off1283 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8412 : Index := Scalar.indexCast v1486
  let c1_3822 : Index := 1#32
  let c2_3823 : Index := 2#32
  let c48_3824 : Index := 48#32
  let c0_3825 : Index := 0#32
  ![v8412.toNat, 1, 2, 48, 0]
def k0_off1284 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8418 : Index := Scalar.indexCast v1486
  let c1_3826 : Index := 1#32
  let c2_3827 : Index := 2#32
  let c56_3828 : Index := 56#32
  let c0_3829 : Index := 0#32
  ![v8418.toNat, 1, 2, 56, 0]
def k0_off1285 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8424 : Index := Scalar.indexCast v1486
  let c1_3830 : Index := 1#32
  let c2_3831 : Index := 2#32
  let c64_3832 : Index := 64#32
  let c0_3833 : Index := 0#32
  ![v8424.toNat, 1, 2, 64, 0]
def k0_off1286 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8430 : Index := Scalar.indexCast v1486
  let c1_3834 : Index := 1#32
  let c2_3835 : Index := 2#32
  let c72_3836 : Index := 72#32
  let c0_3837 : Index := 0#32
  ![v8430.toNat, 1, 2, 72, 0]
def k0_off1287 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8436 : Index := Scalar.indexCast v1486
  let c1_3838 : Index := 1#32
  let c2_3839 : Index := 2#32
  let c80_3840 : Index := 80#32
  let c0_3841 : Index := 0#32
  ![v8436.toNat, 1, 2, 80, 0]
def k0_off1288 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8442 : Index := Scalar.indexCast v1486
  let c1_3842 : Index := 1#32
  let c2_3843 : Index := 2#32
  let c88_3844 : Index := 88#32
  let c0_3845 : Index := 0#32
  ![v8442.toNat, 1, 2, 88, 0]
def k0_off1289 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8448 : Index := Scalar.indexCast v1486
  let c1_3846 : Index := 1#32
  let c2_3847 : Index := 2#32
  let c96_3848 : Index := 96#32
  let c0_3849 : Index := 0#32
  ![v8448.toNat, 1, 2, 96, 0]
def k0_off1290 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8454 : Index := Scalar.indexCast v1486
  let c1_3850 : Index := 1#32
  let c2_3851 : Index := 2#32
  let c104_3852 : Index := 104#32
  let c0_3853 : Index := 0#32
  ![v8454.toNat, 1, 2, 104, 0]
def k0_off1291 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8460 : Index := Scalar.indexCast v1486
  let c1_3854 : Index := 1#32
  let c2_3855 : Index := 2#32
  let c112_3856 : Index := 112#32
  let c0_3857 : Index := 0#32
  ![v8460.toNat, 1, 2, 112, 0]
def k0_off1292 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8466 : Index := Scalar.indexCast v1486
  let c1_3858 : Index := 1#32
  let c2_3859 : Index := 2#32
  let c120_3860 : Index := 120#32
  let c0_3861 : Index := 0#32
  ![v8466.toNat, 1, 2, 120, 0]
def k0_off1293 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8472 : Index := Scalar.indexCast v1486
  let c1_3862 : Index := 1#32
  let c2_3863 : Index := 2#32
  let c128_3864 : Index := 128#32
  let c0_3865 : Index := 0#32
  ![v8472.toNat, 1, 2, 128, 0]
def k0_off1294 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8478 : Index := Scalar.indexCast v1486
  let c1_3866 : Index := 1#32
  let c2_3867 : Index := 2#32
  let c136_3868 : Index := 136#32
  let c0_3869 : Index := 0#32
  ![v8478.toNat, 1, 2, 136, 0]
def k0_off1295 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8484 : Index := Scalar.indexCast v1486
  let c1_3870 : Index := 1#32
  let c2_3871 : Index := 2#32
  let c144_3872 : Index := 144#32
  let c0_3873 : Index := 0#32
  ![v8484.toNat, 1, 2, 144, 0]
def k0_off1296 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8490 : Index := Scalar.indexCast v1486
  let c1_3874 : Index := 1#32
  let c2_3875 : Index := 2#32
  let c152_3876 : Index := 152#32
  let c0_3877 : Index := 0#32
  ![v8490.toNat, 1, 2, 152, 0]
def k0_off1297 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8496 : Index := Scalar.indexCast v1486
  let c1_3878 : Index := 1#32
  let c2_3879 : Index := 2#32
  let c160_3880 : Index := 160#32
  let c0_3881 : Index := 0#32
  ![v8496.toNat, 1, 2, 160, 0]
def k0_off1298 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8502 : Index := Scalar.indexCast v1486
  let c1_3882 : Index := 1#32
  let c2_3883 : Index := 2#32
  let c168_3884 : Index := 168#32
  let c0_3885 : Index := 0#32
  ![v8502.toNat, 1, 2, 168, 0]
def k0_off1299 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8508 : Index := Scalar.indexCast v1486
  let c1_3886 : Index := 1#32
  let c2_3887 : Index := 2#32
  let c176_3888 : Index := 176#32
  let c0_3889 : Index := 0#32
  ![v8508.toNat, 1, 2, 176, 0]
def k0_off1300 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8514 : Index := Scalar.indexCast v1486
  let c1_3890 : Index := 1#32
  let c2_3891 : Index := 2#32
  let c184_3892 : Index := 184#32
  let c0_3893 : Index := 0#32
  ![v8514.toNat, 1, 2, 184, 0]
def k0_off1301 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8520 : Index := Scalar.indexCast v1486
  let c1_3894 : Index := 1#32
  let c2_3895 : Index := 2#32
  let c192_3896 : Index := 192#32
  let c0_3897 : Index := 0#32
  ![v8520.toNat, 1, 2, 192, 0]
def k0_off1302 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8526 : Index := Scalar.indexCast v1486
  let c1_3898 : Index := 1#32
  let c2_3899 : Index := 2#32
  let c200_3900 : Index := 200#32
  let c0_3901 : Index := 0#32
  ![v8526.toNat, 1, 2, 200, 0]
def k0_off1303 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8532 : Index := Scalar.indexCast v1486
  let c1_3902 : Index := 1#32
  let c2_3903 : Index := 2#32
  let c208_3904 : Index := 208#32
  let c0_3905 : Index := 0#32
  ![v8532.toNat, 1, 2, 208, 0]
def k0_off1304 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8538 : Index := Scalar.indexCast v1486
  let c1_3906 : Index := 1#32
  let c2_3907 : Index := 2#32
  let c216_3908 : Index := 216#32
  let c0_3909 : Index := 0#32
  ![v8538.toNat, 1, 2, 216, 0]
def k0_off1305 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8544 : Index := Scalar.indexCast v1486
  let c1_3910 : Index := 1#32
  let c2_3911 : Index := 2#32
  let c224_3912 : Index := 224#32
  let c0_3913 : Index := 0#32
  ![v8544.toNat, 1, 2, 224, 0]
def k0_off1306 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8550 : Index := Scalar.indexCast v1486
  let c1_3914 : Index := 1#32
  let c2_3915 : Index := 2#32
  let c232_3916 : Index := 232#32
  let c0_3917 : Index := 0#32
  ![v8550.toNat, 1, 2, 232, 0]
def k0_off1307 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8556 : Index := Scalar.indexCast v1486
  let c1_3918 : Index := 1#32
  let c2_3919 : Index := 2#32
  let c240_3920 : Index := 240#32
  let c0_3921 : Index := 0#32
  ![v8556.toNat, 1, 2, 240, 0]
def k0_off1308 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v8562 : Index := Scalar.indexCast v1486
  let c1_3923 : Index := 1#32
  let c2_3924 : Index := 2#32
  let c248_3925 : Index := 248#32
  let c0_3926 : Index := 0#32
  ![v8562.toNat, 1, 2, 248, 0]
def k0_off1309 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v1487 : BitVec 1 := Scalar.cmpi .eq v1486 arg1
  let c1_i32_930 : BitVec 32 := 1#32
  let c0_i32_931 : BitVec 32 := 0#32
  let v1488 : BitVec 32 := Scalar.select v1487 c1_i32_930 c0_i32_931
  let v9382 : Index := Scalar.indexCast v1488
  let c1_4231 : Index := 1#32
  let c3_4232 : Index := 3#32
  let c0_4233 : Index := 0#32
  let c0_4234 : Index := 0#32
  ![v9382.toNat, 1, 3, 0, 0]
def k0_off1310 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9387 : Index := Scalar.indexCast v1486
  let c1_4235 : Index := 1#32
  let c3_4236 : Index := 3#32
  let c0_4237 : Index := 0#32
  let c0_4238 : Index := 0#32
  ![v9387.toNat, 1, 3, 0, 0]
def k0_off1311 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9393 : Index := Scalar.indexCast v1486
  let c1_4239 : Index := 1#32
  let c3_4240 : Index := 3#32
  let c8_4241 : Index := 8#32
  let c0_4242 : Index := 0#32
  ![v9393.toNat, 1, 3, 8, 0]
def k0_off1312 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9399 : Index := Scalar.indexCast v1486
  let c1_4243 : Index := 1#32
  let c3_4244 : Index := 3#32
  let c16_4245 : Index := 16#32
  let c0_4246 : Index := 0#32
  ![v9399.toNat, 1, 3, 16, 0]
def k0_off1313 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9405 : Index := Scalar.indexCast v1486
  let c1_4247 : Index := 1#32
  let c3_4248 : Index := 3#32
  let c24_4249 : Index := 24#32
  let c0_4250 : Index := 0#32
  ![v9405.toNat, 1, 3, 24, 0]
def k0_off1314 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9411 : Index := Scalar.indexCast v1486
  let c1_4251 : Index := 1#32
  let c3_4252 : Index := 3#32
  let c32_4253 : Index := 32#32
  let c0_4254 : Index := 0#32
  ![v9411.toNat, 1, 3, 32, 0]
def k0_off1315 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9417 : Index := Scalar.indexCast v1486
  let c1_4255 : Index := 1#32
  let c3_4256 : Index := 3#32
  let c40_4257 : Index := 40#32
  let c0_4258 : Index := 0#32
  ![v9417.toNat, 1, 3, 40, 0]
def k0_off1316 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9423 : Index := Scalar.indexCast v1486
  let c1_4259 : Index := 1#32
  let c3_4260 : Index := 3#32
  let c48_4261 : Index := 48#32
  let c0_4262 : Index := 0#32
  ![v9423.toNat, 1, 3, 48, 0]
def k0_off1317 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9429 : Index := Scalar.indexCast v1486
  let c1_4263 : Index := 1#32
  let c3_4264 : Index := 3#32
  let c56_4265 : Index := 56#32
  let c0_4266 : Index := 0#32
  ![v9429.toNat, 1, 3, 56, 0]
def k0_off1318 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9435 : Index := Scalar.indexCast v1486
  let c1_4267 : Index := 1#32
  let c3_4268 : Index := 3#32
  let c64_4269 : Index := 64#32
  let c0_4270 : Index := 0#32
  ![v9435.toNat, 1, 3, 64, 0]
def k0_off1319 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9441 : Index := Scalar.indexCast v1486
  let c1_4271 : Index := 1#32
  let c3_4272 : Index := 3#32
  let c72_4273 : Index := 72#32
  let c0_4274 : Index := 0#32
  ![v9441.toNat, 1, 3, 72, 0]
def k0_off1320 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9447 : Index := Scalar.indexCast v1486
  let c1_4275 : Index := 1#32
  let c3_4276 : Index := 3#32
  let c80_4277 : Index := 80#32
  let c0_4278 : Index := 0#32
  ![v9447.toNat, 1, 3, 80, 0]
def k0_off1321 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9453 : Index := Scalar.indexCast v1486
  let c1_4279 : Index := 1#32
  let c3_4280 : Index := 3#32
  let c88_4281 : Index := 88#32
  let c0_4282 : Index := 0#32
  ![v9453.toNat, 1, 3, 88, 0]
def k0_off1322 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9459 : Index := Scalar.indexCast v1486
  let c1_4283 : Index := 1#32
  let c3_4284 : Index := 3#32
  let c96_4285 : Index := 96#32
  let c0_4286 : Index := 0#32
  ![v9459.toNat, 1, 3, 96, 0]
def k0_off1323 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9465 : Index := Scalar.indexCast v1486
  let c1_4287 : Index := 1#32
  let c3_4288 : Index := 3#32
  let c104_4289 : Index := 104#32
  let c0_4290 : Index := 0#32
  ![v9465.toNat, 1, 3, 104, 0]
def k0_off1324 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9471 : Index := Scalar.indexCast v1486
  let c1_4291 : Index := 1#32
  let c3_4292 : Index := 3#32
  let c112_4293 : Index := 112#32
  let c0_4294 : Index := 0#32
  ![v9471.toNat, 1, 3, 112, 0]
def k0_off1325 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9477 : Index := Scalar.indexCast v1486
  let c1_4295 : Index := 1#32
  let c3_4296 : Index := 3#32
  let c120_4297 : Index := 120#32
  let c0_4298 : Index := 0#32
  ![v9477.toNat, 1, 3, 120, 0]
def k0_off1326 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9483 : Index := Scalar.indexCast v1486
  let c1_4299 : Index := 1#32
  let c3_4300 : Index := 3#32
  let c128_4301 : Index := 128#32
  let c0_4302 : Index := 0#32
  ![v9483.toNat, 1, 3, 128, 0]
def k0_off1327 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9489 : Index := Scalar.indexCast v1486
  let c1_4303 : Index := 1#32
  let c3_4304 : Index := 3#32
  let c136_4305 : Index := 136#32
  let c0_4306 : Index := 0#32
  ![v9489.toNat, 1, 3, 136, 0]
def k0_off1328 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9495 : Index := Scalar.indexCast v1486
  let c1_4307 : Index := 1#32
  let c3_4308 : Index := 3#32
  let c144_4309 : Index := 144#32
  let c0_4310 : Index := 0#32
  ![v9495.toNat, 1, 3, 144, 0]
def k0_off1329 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9501 : Index := Scalar.indexCast v1486
  let c1_4311 : Index := 1#32
  let c3_4312 : Index := 3#32
  let c152_4313 : Index := 152#32
  let c0_4314 : Index := 0#32
  ![v9501.toNat, 1, 3, 152, 0]
def k0_off1330 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9507 : Index := Scalar.indexCast v1486
  let c1_4315 : Index := 1#32
  let c3_4316 : Index := 3#32
  let c160_4317 : Index := 160#32
  let c0_4318 : Index := 0#32
  ![v9507.toNat, 1, 3, 160, 0]
def k0_off1331 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9513 : Index := Scalar.indexCast v1486
  let c1_4319 : Index := 1#32
  let c3_4320 : Index := 3#32
  let c168_4321 : Index := 168#32
  let c0_4322 : Index := 0#32
  ![v9513.toNat, 1, 3, 168, 0]
def k0_off1332 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9519 : Index := Scalar.indexCast v1486
  let c1_4323 : Index := 1#32
  let c3_4324 : Index := 3#32
  let c176_4325 : Index := 176#32
  let c0_4326 : Index := 0#32
  ![v9519.toNat, 1, 3, 176, 0]
def k0_off1333 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9525 : Index := Scalar.indexCast v1486
  let c1_4327 : Index := 1#32
  let c3_4328 : Index := 3#32
  let c184_4329 : Index := 184#32
  let c0_4330 : Index := 0#32
  ![v9525.toNat, 1, 3, 184, 0]
def k0_off1334 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9531 : Index := Scalar.indexCast v1486
  let c1_4331 : Index := 1#32
  let c3_4332 : Index := 3#32
  let c192_4333 : Index := 192#32
  let c0_4334 : Index := 0#32
  ![v9531.toNat, 1, 3, 192, 0]
def k0_off1335 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9537 : Index := Scalar.indexCast v1486
  let c1_4335 : Index := 1#32
  let c3_4336 : Index := 3#32
  let c200_4337 : Index := 200#32
  let c0_4338 : Index := 0#32
  ![v9537.toNat, 1, 3, 200, 0]
def k0_off1336 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9543 : Index := Scalar.indexCast v1486
  let c1_4339 : Index := 1#32
  let c3_4340 : Index := 3#32
  let c208_4341 : Index := 208#32
  let c0_4342 : Index := 0#32
  ![v9543.toNat, 1, 3, 208, 0]
def k0_off1337 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9549 : Index := Scalar.indexCast v1486
  let c1_4343 : Index := 1#32
  let c3_4344 : Index := 3#32
  let c216_4345 : Index := 216#32
  let c0_4346 : Index := 0#32
  ![v9549.toNat, 1, 3, 216, 0]
def k0_off1338 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9555 : Index := Scalar.indexCast v1486
  let c1_4347 : Index := 1#32
  let c3_4348 : Index := 3#32
  let c224_4349 : Index := 224#32
  let c0_4350 : Index := 0#32
  ![v9555.toNat, 1, 3, 224, 0]
def k0_off1339 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9561 : Index := Scalar.indexCast v1486
  let c1_4351 : Index := 1#32
  let c3_4352 : Index := 3#32
  let c232_4353 : Index := 232#32
  let c0_4354 : Index := 0#32
  ![v9561.toNat, 1, 3, 232, 0]
def k0_off1340 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9567 : Index := Scalar.indexCast v1486
  let c1_4355 : Index := 1#32
  let c3_4356 : Index := 3#32
  let c240_4357 : Index := 240#32
  let c0_4358 : Index := 0#32
  ![v9567.toNat, 1, 3, 240, 0]
def k0_off1341 (i : grid0.Coords) (c2_i32_929 : BitVec 32) : Fin 5 → Nat :=
  let arg1 : BitVec 32 := BitVec.ofNat 32 (i 1).val
  let c1_i32 : BitVec 32 := 1#32
  let v0 : BitVec 32 := Scalar.addi arg1 c1_i32
  let v1486 : BitVec 32 := Scalar.subi v0 c2_i32_929
  let v9573 : Index := Scalar.indexCast v1486
  let c1_4360 : Index := 1#32
  let c3_4361 : Index := 3#32
  let c248_4362 : Index := 248#32
  let c0_4363 : Index := 0#32
  ![v9573.toNat, 1, 3, 248, 0]
def k0_cond3 (i : grid0.Coords) : BitVec 1 :=
  let arg1 : BitVec 32 := BitVec.ofNat 32 (i 1).val
  let c1_i32 : BitVec 32 := 1#32
  let v0 : BitVec 32 := Scalar.addi arg1 c1_i32
  let c1_i32_433 : BitVec 32 := 1#32
  let v690 : BitVec 32 := Scalar.subi v0 c1_i32_433
  let c2_i32_434 : BitVec 32 := 2#32
  let c1_i32_424 : BitVec 32 := 1#32
  let v678 : BitVec 32 := Scalar.subi v0 c1_i32_424
  let c2_i32 : BitVec 32 := 2#32
  let v679 : BitVec 32 := Scalar.divsi v678 c2_i32
  let v691 : BitVec 32 := Scalar.muli c2_i32_434 v679
  let v692 : BitVec 1 := Scalar.cmpi .eq v690 v691
  let v693 : BitVec 32 := Scalar.extui v692
  let c0_i32_435 : BitVec 32 := 0#32
  let v694 : BitVec 1 := Scalar.cmpi .ne v693 c0_i32_435
  v694

def k0_off1342 (i : grid0.Coords) (c0_i32_499 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v822 : BitVec 32 := Scalar.addi v7 c0_i32_499
  let v823 : Index := Scalar.indexCast v822
  let c0_500 : Index := 0#32
  ![v823.toNat, 0]
def k0_off1343 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v820 : BitVec 1 := Scalar.cmpi .eq v819 arg1
  let c1_i32_497 : BitVec 32 := 1#32
  let c0_i32_498 : BitVec 32 := 0#32
  let v821 : BitVec 32 := Scalar.select v820 c1_i32_497 c0_i32_498
  let v1638 : Index := Scalar.indexCast v821
  let c0_772 : Index := 0#32
  let c0_773 : Index := 0#32
  let c0_774 : Index := 0#32
  let c0_775 : Index := 0#32
  ![v1638.toNat, 0, 0, 0, 0]
def k0_off1344 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1643 : Index := Scalar.indexCast v819
  let c0_776 : Index := 0#32
  let c0_777 : Index := 0#32
  let c0_778 : Index := 0#32
  let c0_779 : Index := 0#32
  ![v1643.toNat, 0, 0, 0, 0]
def k0_off1345 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1649 : Index := Scalar.indexCast v819
  let c0_780 : Index := 0#32
  let c0_781 : Index := 0#32
  let c8 : Index := 8#32
  let c0_782 : Index := 0#32
  ![v1649.toNat, 0, 0, 8, 0]
def k0_off1346 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1655 : Index := Scalar.indexCast v819
  let c0_783 : Index := 0#32
  let c0_784 : Index := 0#32
  let c16 : Index := 16#32
  let c0_785 : Index := 0#32
  ![v1655.toNat, 0, 0, 16, 0]
def k0_off1347 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1661 : Index := Scalar.indexCast v819
  let c0_786 : Index := 0#32
  let c0_787 : Index := 0#32
  let c24 : Index := 24#32
  let c0_788 : Index := 0#32
  ![v1661.toNat, 0, 0, 24, 0]
def k0_off1348 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1667 : Index := Scalar.indexCast v819
  let c0_789 : Index := 0#32
  let c0_790 : Index := 0#32
  let c32 : Index := 32#32
  let c0_791 : Index := 0#32
  ![v1667.toNat, 0, 0, 32, 0]
def k0_off1349 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1673 : Index := Scalar.indexCast v819
  let c0_792 : Index := 0#32
  let c0_793 : Index := 0#32
  let c40 : Index := 40#32
  let c0_794 : Index := 0#32
  ![v1673.toNat, 0, 0, 40, 0]
def k0_off1350 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1679 : Index := Scalar.indexCast v819
  let c0_795 : Index := 0#32
  let c0_796 : Index := 0#32
  let c48 : Index := 48#32
  let c0_797 : Index := 0#32
  ![v1679.toNat, 0, 0, 48, 0]
def k0_off1351 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1685 : Index := Scalar.indexCast v819
  let c0_798 : Index := 0#32
  let c0_799 : Index := 0#32
  let c56 : Index := 56#32
  let c0_800 : Index := 0#32
  ![v1685.toNat, 0, 0, 56, 0]
def k0_off1352 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1691 : Index := Scalar.indexCast v819
  let c0_801 : Index := 0#32
  let c0_802 : Index := 0#32
  let c64 : Index := 64#32
  let c0_803 : Index := 0#32
  ![v1691.toNat, 0, 0, 64, 0]
def k0_off1353 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1697 : Index := Scalar.indexCast v819
  let c0_804 : Index := 0#32
  let c0_805 : Index := 0#32
  let c72 : Index := 72#32
  let c0_806 : Index := 0#32
  ![v1697.toNat, 0, 0, 72, 0]
def k0_off1354 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1703 : Index := Scalar.indexCast v819
  let c0_807 : Index := 0#32
  let c0_808 : Index := 0#32
  let c80 : Index := 80#32
  let c0_809 : Index := 0#32
  ![v1703.toNat, 0, 0, 80, 0]
def k0_off1355 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1709 : Index := Scalar.indexCast v819
  let c0_810 : Index := 0#32
  let c0_811 : Index := 0#32
  let c88 : Index := 88#32
  let c0_812 : Index := 0#32
  ![v1709.toNat, 0, 0, 88, 0]
def k0_off1356 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1715 : Index := Scalar.indexCast v819
  let c0_813 : Index := 0#32
  let c0_814 : Index := 0#32
  let c96 : Index := 96#32
  let c0_815 : Index := 0#32
  ![v1715.toNat, 0, 0, 96, 0]
def k0_off1357 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1721 : Index := Scalar.indexCast v819
  let c0_816 : Index := 0#32
  let c0_817 : Index := 0#32
  let c104 : Index := 104#32
  let c0_818 : Index := 0#32
  ![v1721.toNat, 0, 0, 104, 0]
def k0_off1358 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1727 : Index := Scalar.indexCast v819
  let c0_819 : Index := 0#32
  let c0_820 : Index := 0#32
  let c112 : Index := 112#32
  let c0_821 : Index := 0#32
  ![v1727.toNat, 0, 0, 112, 0]
def k0_off1359 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1733 : Index := Scalar.indexCast v819
  let c0_822 : Index := 0#32
  let c0_823 : Index := 0#32
  let c120 : Index := 120#32
  let c0_824 : Index := 0#32
  ![v1733.toNat, 0, 0, 120, 0]
def k0_off1360 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1739 : Index := Scalar.indexCast v819
  let c0_825 : Index := 0#32
  let c0_826 : Index := 0#32
  let c128 : Index := 128#32
  let c0_827 : Index := 0#32
  ![v1739.toNat, 0, 0, 128, 0]
def k0_off1361 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1745 : Index := Scalar.indexCast v819
  let c0_828 : Index := 0#32
  let c0_829 : Index := 0#32
  let c136 : Index := 136#32
  let c0_830 : Index := 0#32
  ![v1745.toNat, 0, 0, 136, 0]
def k0_off1362 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1751 : Index := Scalar.indexCast v819
  let c0_831 : Index := 0#32
  let c0_832 : Index := 0#32
  let c144 : Index := 144#32
  let c0_833 : Index := 0#32
  ![v1751.toNat, 0, 0, 144, 0]
def k0_off1363 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1757 : Index := Scalar.indexCast v819
  let c0_834 : Index := 0#32
  let c0_835 : Index := 0#32
  let c152 : Index := 152#32
  let c0_836 : Index := 0#32
  ![v1757.toNat, 0, 0, 152, 0]
def k0_off1364 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1763 : Index := Scalar.indexCast v819
  let c0_837 : Index := 0#32
  let c0_838 : Index := 0#32
  let c160 : Index := 160#32
  let c0_839 : Index := 0#32
  ![v1763.toNat, 0, 0, 160, 0]
def k0_off1365 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1769 : Index := Scalar.indexCast v819
  let c0_840 : Index := 0#32
  let c0_841 : Index := 0#32
  let c168 : Index := 168#32
  let c0_842 : Index := 0#32
  ![v1769.toNat, 0, 0, 168, 0]
def k0_off1366 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1775 : Index := Scalar.indexCast v819
  let c0_843 : Index := 0#32
  let c0_844 : Index := 0#32
  let c176 : Index := 176#32
  let c0_845 : Index := 0#32
  ![v1775.toNat, 0, 0, 176, 0]
def k0_off1367 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1781 : Index := Scalar.indexCast v819
  let c0_846 : Index := 0#32
  let c0_847 : Index := 0#32
  let c184 : Index := 184#32
  let c0_848 : Index := 0#32
  ![v1781.toNat, 0, 0, 184, 0]
def k0_off1368 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1787 : Index := Scalar.indexCast v819
  let c0_849 : Index := 0#32
  let c0_850 : Index := 0#32
  let c192 : Index := 192#32
  let c0_851 : Index := 0#32
  ![v1787.toNat, 0, 0, 192, 0]
def k0_off1369 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1793 : Index := Scalar.indexCast v819
  let c0_852 : Index := 0#32
  let c0_853 : Index := 0#32
  let c200 : Index := 200#32
  let c0_854 : Index := 0#32
  ![v1793.toNat, 0, 0, 200, 0]
def k0_off1370 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1799 : Index := Scalar.indexCast v819
  let c0_855 : Index := 0#32
  let c0_856 : Index := 0#32
  let c208 : Index := 208#32
  let c0_857 : Index := 0#32
  ![v1799.toNat, 0, 0, 208, 0]
def k0_off1371 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1805 : Index := Scalar.indexCast v819
  let c0_858 : Index := 0#32
  let c0_859 : Index := 0#32
  let c216 : Index := 216#32
  let c0_860 : Index := 0#32
  ![v1805.toNat, 0, 0, 216, 0]
def k0_off1372 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1811 : Index := Scalar.indexCast v819
  let c0_861 : Index := 0#32
  let c0_862 : Index := 0#32
  let c224 : Index := 224#32
  let c0_863 : Index := 0#32
  ![v1811.toNat, 0, 0, 224, 0]
def k0_off1373 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1817 : Index := Scalar.indexCast v819
  let c0_864 : Index := 0#32
  let c0_865 : Index := 0#32
  let c232 : Index := 232#32
  let c0_866 : Index := 0#32
  ![v1817.toNat, 0, 0, 232, 0]
def k0_off1374 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1823 : Index := Scalar.indexCast v819
  let c0_867 : Index := 0#32
  let c0_868 : Index := 0#32
  let c240 : Index := 240#32
  let c0_869 : Index := 0#32
  ![v1823.toNat, 0, 0, 240, 0]
def k0_off1375 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v1829 : Index := Scalar.indexCast v819
  let c0_871 : Index := 0#32
  let c0_872 : Index := 0#32
  let c248 : Index := 248#32
  let c0_873 : Index := 0#32
  ![v1829.toNat, 0, 0, 248, 0]
def k0_off1376 (i : grid0.Coords) (c0_i32_874 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v1833 : BitVec 32 := Scalar.addi v7 c0_i32_874
  let v1834 : Index := Scalar.indexCast v1833
  let c128_875 : Index := 128#32
  ![v1834.toNat, 128]
def k0_off1377 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v820 : BitVec 1 := Scalar.cmpi .eq v819 arg1
  let c1_i32_497 : BitVec 32 := 1#32
  let c0_i32_498 : BitVec 32 := 0#32
  let v821 : BitVec 32 := Scalar.select v820 c1_i32_497 c0_i32_498
  let v2649 : Index := Scalar.indexCast v821
  let c0_1178 : Index := 0#32
  let c1_1179 : Index := 1#32
  let c0_1180 : Index := 0#32
  let c0_1181 : Index := 0#32
  ![v2649.toNat, 0, 1, 0, 0]
def k0_off1378 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2654 : Index := Scalar.indexCast v819
  let c0_1182 : Index := 0#32
  let c1_1183 : Index := 1#32
  let c0_1184 : Index := 0#32
  let c0_1185 : Index := 0#32
  ![v2654.toNat, 0, 1, 0, 0]
def k0_off1379 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2660 : Index := Scalar.indexCast v819
  let c0_1186 : Index := 0#32
  let c1_1187 : Index := 1#32
  let c8_1188 : Index := 8#32
  let c0_1189 : Index := 0#32
  ![v2660.toNat, 0, 1, 8, 0]
def k0_off1380 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2666 : Index := Scalar.indexCast v819
  let c0_1190 : Index := 0#32
  let c1_1191 : Index := 1#32
  let c16_1192 : Index := 16#32
  let c0_1193 : Index := 0#32
  ![v2666.toNat, 0, 1, 16, 0]
def k0_off1381 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2672 : Index := Scalar.indexCast v819
  let c0_1194 : Index := 0#32
  let c1_1195 : Index := 1#32
  let c24_1196 : Index := 24#32
  let c0_1197 : Index := 0#32
  ![v2672.toNat, 0, 1, 24, 0]
def k0_off1382 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2678 : Index := Scalar.indexCast v819
  let c0_1198 : Index := 0#32
  let c1_1199 : Index := 1#32
  let c32_1200 : Index := 32#32
  let c0_1201 : Index := 0#32
  ![v2678.toNat, 0, 1, 32, 0]
def k0_off1383 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2684 : Index := Scalar.indexCast v819
  let c0_1202 : Index := 0#32
  let c1_1203 : Index := 1#32
  let c40_1204 : Index := 40#32
  let c0_1205 : Index := 0#32
  ![v2684.toNat, 0, 1, 40, 0]
def k0_off1384 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2690 : Index := Scalar.indexCast v819
  let c0_1206 : Index := 0#32
  let c1_1207 : Index := 1#32
  let c48_1208 : Index := 48#32
  let c0_1209 : Index := 0#32
  ![v2690.toNat, 0, 1, 48, 0]
def k0_off1385 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2696 : Index := Scalar.indexCast v819
  let c0_1210 : Index := 0#32
  let c1_1211 : Index := 1#32
  let c56_1212 : Index := 56#32
  let c0_1213 : Index := 0#32
  ![v2696.toNat, 0, 1, 56, 0]
def k0_off1386 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2702 : Index := Scalar.indexCast v819
  let c0_1214 : Index := 0#32
  let c1_1215 : Index := 1#32
  let c64_1216 : Index := 64#32
  let c0_1217 : Index := 0#32
  ![v2702.toNat, 0, 1, 64, 0]
def k0_off1387 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2708 : Index := Scalar.indexCast v819
  let c0_1218 : Index := 0#32
  let c1_1219 : Index := 1#32
  let c72_1220 : Index := 72#32
  let c0_1221 : Index := 0#32
  ![v2708.toNat, 0, 1, 72, 0]
def k0_off1388 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2714 : Index := Scalar.indexCast v819
  let c0_1222 : Index := 0#32
  let c1_1223 : Index := 1#32
  let c80_1224 : Index := 80#32
  let c0_1225 : Index := 0#32
  ![v2714.toNat, 0, 1, 80, 0]
def k0_off1389 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2720 : Index := Scalar.indexCast v819
  let c0_1226 : Index := 0#32
  let c1_1227 : Index := 1#32
  let c88_1228 : Index := 88#32
  let c0_1229 : Index := 0#32
  ![v2720.toNat, 0, 1, 88, 0]
def k0_off1390 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2726 : Index := Scalar.indexCast v819
  let c0_1230 : Index := 0#32
  let c1_1231 : Index := 1#32
  let c96_1232 : Index := 96#32
  let c0_1233 : Index := 0#32
  ![v2726.toNat, 0, 1, 96, 0]
def k0_off1391 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2732 : Index := Scalar.indexCast v819
  let c0_1234 : Index := 0#32
  let c1_1235 : Index := 1#32
  let c104_1236 : Index := 104#32
  let c0_1237 : Index := 0#32
  ![v2732.toNat, 0, 1, 104, 0]
def k0_off1392 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2738 : Index := Scalar.indexCast v819
  let c0_1238 : Index := 0#32
  let c1_1239 : Index := 1#32
  let c112_1240 : Index := 112#32
  let c0_1241 : Index := 0#32
  ![v2738.toNat, 0, 1, 112, 0]
def k0_off1393 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2744 : Index := Scalar.indexCast v819
  let c0_1242 : Index := 0#32
  let c1_1243 : Index := 1#32
  let c120_1244 : Index := 120#32
  let c0_1245 : Index := 0#32
  ![v2744.toNat, 0, 1, 120, 0]
def k0_off1394 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2750 : Index := Scalar.indexCast v819
  let c0_1246 : Index := 0#32
  let c1_1247 : Index := 1#32
  let c128_1248 : Index := 128#32
  let c0_1249 : Index := 0#32
  ![v2750.toNat, 0, 1, 128, 0]
def k0_off1395 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2756 : Index := Scalar.indexCast v819
  let c0_1250 : Index := 0#32
  let c1_1251 : Index := 1#32
  let c136_1252 : Index := 136#32
  let c0_1253 : Index := 0#32
  ![v2756.toNat, 0, 1, 136, 0]
def k0_off1396 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2762 : Index := Scalar.indexCast v819
  let c0_1254 : Index := 0#32
  let c1_1255 : Index := 1#32
  let c144_1256 : Index := 144#32
  let c0_1257 : Index := 0#32
  ![v2762.toNat, 0, 1, 144, 0]
def k0_off1397 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2768 : Index := Scalar.indexCast v819
  let c0_1258 : Index := 0#32
  let c1_1259 : Index := 1#32
  let c152_1260 : Index := 152#32
  let c0_1261 : Index := 0#32
  ![v2768.toNat, 0, 1, 152, 0]
def k0_off1398 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2774 : Index := Scalar.indexCast v819
  let c0_1262 : Index := 0#32
  let c1_1263 : Index := 1#32
  let c160_1264 : Index := 160#32
  let c0_1265 : Index := 0#32
  ![v2774.toNat, 0, 1, 160, 0]
def k0_off1399 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2780 : Index := Scalar.indexCast v819
  let c0_1266 : Index := 0#32
  let c1_1267 : Index := 1#32
  let c168_1268 : Index := 168#32
  let c0_1269 : Index := 0#32
  ![v2780.toNat, 0, 1, 168, 0]
def k0_off1400 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2786 : Index := Scalar.indexCast v819
  let c0_1270 : Index := 0#32
  let c1_1271 : Index := 1#32
  let c176_1272 : Index := 176#32
  let c0_1273 : Index := 0#32
  ![v2786.toNat, 0, 1, 176, 0]
def k0_off1401 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2792 : Index := Scalar.indexCast v819
  let c0_1274 : Index := 0#32
  let c1_1275 : Index := 1#32
  let c184_1276 : Index := 184#32
  let c0_1277 : Index := 0#32
  ![v2792.toNat, 0, 1, 184, 0]
def k0_off1402 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2798 : Index := Scalar.indexCast v819
  let c0_1278 : Index := 0#32
  let c1_1279 : Index := 1#32
  let c192_1280 : Index := 192#32
  let c0_1281 : Index := 0#32
  ![v2798.toNat, 0, 1, 192, 0]
def k0_off1403 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2804 : Index := Scalar.indexCast v819
  let c0_1282 : Index := 0#32
  let c1_1283 : Index := 1#32
  let c200_1284 : Index := 200#32
  let c0_1285 : Index := 0#32
  ![v2804.toNat, 0, 1, 200, 0]
def k0_off1404 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2810 : Index := Scalar.indexCast v819
  let c0_1286 : Index := 0#32
  let c1_1287 : Index := 1#32
  let c208_1288 : Index := 208#32
  let c0_1289 : Index := 0#32
  ![v2810.toNat, 0, 1, 208, 0]
def k0_off1405 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2816 : Index := Scalar.indexCast v819
  let c0_1290 : Index := 0#32
  let c1_1291 : Index := 1#32
  let c216_1292 : Index := 216#32
  let c0_1293 : Index := 0#32
  ![v2816.toNat, 0, 1, 216, 0]
def k0_off1406 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2822 : Index := Scalar.indexCast v819
  let c0_1294 : Index := 0#32
  let c1_1295 : Index := 1#32
  let c224_1296 : Index := 224#32
  let c0_1297 : Index := 0#32
  ![v2822.toNat, 0, 1, 224, 0]
def k0_off1407 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2828 : Index := Scalar.indexCast v819
  let c0_1298 : Index := 0#32
  let c1_1299 : Index := 1#32
  let c232_1300 : Index := 232#32
  let c0_1301 : Index := 0#32
  ![v2828.toNat, 0, 1, 232, 0]
def k0_off1408 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2834 : Index := Scalar.indexCast v819
  let c0_1302 : Index := 0#32
  let c1_1303 : Index := 1#32
  let c240_1304 : Index := 240#32
  let c0_1305 : Index := 0#32
  ![v2834.toNat, 0, 1, 240, 0]
def k0_off1409 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v2840 : Index := Scalar.indexCast v819
  let c0_1307 : Index := 0#32
  let c1_1308 : Index := 1#32
  let c248_1309 : Index := 248#32
  let c0_1310 : Index := 0#32
  ![v2840.toNat, 0, 1, 248, 0]
def k0_off1410 (i : grid0.Coords) (c0_i32_1311 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v2844 : BitVec 32 := Scalar.addi v7 c0_i32_1311
  let v2845 : Index := Scalar.indexCast v2844
  let c256 : Index := 256#32
  ![v2845.toNat, 256]
def k0_off1411 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v820 : BitVec 1 := Scalar.cmpi .eq v819 arg1
  let c1_i32_497 : BitVec 32 := 1#32
  let c0_i32_498 : BitVec 32 := 0#32
  let v821 : BitVec 32 := Scalar.select v820 c1_i32_497 c0_i32_498
  let v3660 : Index := Scalar.indexCast v821
  let c0_1614 : Index := 0#32
  let c2_1615 : Index := 2#32
  let c0_1616 : Index := 0#32
  let c0_1617 : Index := 0#32
  ![v3660.toNat, 0, 2, 0, 0]
def k0_off1412 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3665 : Index := Scalar.indexCast v819
  let c0_1618 : Index := 0#32
  let c2_1619 : Index := 2#32
  let c0_1620 : Index := 0#32
  let c0_1621 : Index := 0#32
  ![v3665.toNat, 0, 2, 0, 0]
def k0_off1413 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3671 : Index := Scalar.indexCast v819
  let c0_1622 : Index := 0#32
  let c2_1623 : Index := 2#32
  let c8_1624 : Index := 8#32
  let c0_1625 : Index := 0#32
  ![v3671.toNat, 0, 2, 8, 0]
def k0_off1414 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3677 : Index := Scalar.indexCast v819
  let c0_1626 : Index := 0#32
  let c2_1627 : Index := 2#32
  let c16_1628 : Index := 16#32
  let c0_1629 : Index := 0#32
  ![v3677.toNat, 0, 2, 16, 0]
def k0_off1415 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3683 : Index := Scalar.indexCast v819
  let c0_1630 : Index := 0#32
  let c2_1631 : Index := 2#32
  let c24_1632 : Index := 24#32
  let c0_1633 : Index := 0#32
  ![v3683.toNat, 0, 2, 24, 0]
def k0_off1416 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3689 : Index := Scalar.indexCast v819
  let c0_1634 : Index := 0#32
  let c2_1635 : Index := 2#32
  let c32_1636 : Index := 32#32
  let c0_1637 : Index := 0#32
  ![v3689.toNat, 0, 2, 32, 0]
def k0_off1417 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3695 : Index := Scalar.indexCast v819
  let c0_1638 : Index := 0#32
  let c2_1639 : Index := 2#32
  let c40_1640 : Index := 40#32
  let c0_1641 : Index := 0#32
  ![v3695.toNat, 0, 2, 40, 0]
def k0_off1418 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3701 : Index := Scalar.indexCast v819
  let c0_1642 : Index := 0#32
  let c2_1643 : Index := 2#32
  let c48_1644 : Index := 48#32
  let c0_1645 : Index := 0#32
  ![v3701.toNat, 0, 2, 48, 0]
def k0_off1419 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3707 : Index := Scalar.indexCast v819
  let c0_1646 : Index := 0#32
  let c2_1647 : Index := 2#32
  let c56_1648 : Index := 56#32
  let c0_1649 : Index := 0#32
  ![v3707.toNat, 0, 2, 56, 0]
def k0_off1420 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3713 : Index := Scalar.indexCast v819
  let c0_1650 : Index := 0#32
  let c2_1651 : Index := 2#32
  let c64_1652 : Index := 64#32
  let c0_1653 : Index := 0#32
  ![v3713.toNat, 0, 2, 64, 0]
def k0_off1421 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3719 : Index := Scalar.indexCast v819
  let c0_1654 : Index := 0#32
  let c2_1655 : Index := 2#32
  let c72_1656 : Index := 72#32
  let c0_1657 : Index := 0#32
  ![v3719.toNat, 0, 2, 72, 0]
def k0_off1422 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3725 : Index := Scalar.indexCast v819
  let c0_1658 : Index := 0#32
  let c2_1659 : Index := 2#32
  let c80_1660 : Index := 80#32
  let c0_1661 : Index := 0#32
  ![v3725.toNat, 0, 2, 80, 0]
def k0_off1423 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3731 : Index := Scalar.indexCast v819
  let c0_1662 : Index := 0#32
  let c2_1663 : Index := 2#32
  let c88_1664 : Index := 88#32
  let c0_1665 : Index := 0#32
  ![v3731.toNat, 0, 2, 88, 0]
def k0_off1424 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3737 : Index := Scalar.indexCast v819
  let c0_1666 : Index := 0#32
  let c2_1667 : Index := 2#32
  let c96_1668 : Index := 96#32
  let c0_1669 : Index := 0#32
  ![v3737.toNat, 0, 2, 96, 0]
def k0_off1425 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3743 : Index := Scalar.indexCast v819
  let c0_1670 : Index := 0#32
  let c2_1671 : Index := 2#32
  let c104_1672 : Index := 104#32
  let c0_1673 : Index := 0#32
  ![v3743.toNat, 0, 2, 104, 0]
def k0_off1426 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3749 : Index := Scalar.indexCast v819
  let c0_1674 : Index := 0#32
  let c2_1675 : Index := 2#32
  let c112_1676 : Index := 112#32
  let c0_1677 : Index := 0#32
  ![v3749.toNat, 0, 2, 112, 0]
def k0_off1427 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3755 : Index := Scalar.indexCast v819
  let c0_1678 : Index := 0#32
  let c2_1679 : Index := 2#32
  let c120_1680 : Index := 120#32
  let c0_1681 : Index := 0#32
  ![v3755.toNat, 0, 2, 120, 0]
def k0_off1428 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3761 : Index := Scalar.indexCast v819
  let c0_1682 : Index := 0#32
  let c2_1683 : Index := 2#32
  let c128_1684 : Index := 128#32
  let c0_1685 : Index := 0#32
  ![v3761.toNat, 0, 2, 128, 0]
def k0_off1429 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3767 : Index := Scalar.indexCast v819
  let c0_1686 : Index := 0#32
  let c2_1687 : Index := 2#32
  let c136_1688 : Index := 136#32
  let c0_1689 : Index := 0#32
  ![v3767.toNat, 0, 2, 136, 0]
def k0_off1430 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3773 : Index := Scalar.indexCast v819
  let c0_1690 : Index := 0#32
  let c2_1691 : Index := 2#32
  let c144_1692 : Index := 144#32
  let c0_1693 : Index := 0#32
  ![v3773.toNat, 0, 2, 144, 0]
def k0_off1431 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3779 : Index := Scalar.indexCast v819
  let c0_1694 : Index := 0#32
  let c2_1695 : Index := 2#32
  let c152_1696 : Index := 152#32
  let c0_1697 : Index := 0#32
  ![v3779.toNat, 0, 2, 152, 0]
def k0_off1432 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3785 : Index := Scalar.indexCast v819
  let c0_1698 : Index := 0#32
  let c2_1699 : Index := 2#32
  let c160_1700 : Index := 160#32
  let c0_1701 : Index := 0#32
  ![v3785.toNat, 0, 2, 160, 0]
def k0_off1433 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3791 : Index := Scalar.indexCast v819
  let c0_1702 : Index := 0#32
  let c2_1703 : Index := 2#32
  let c168_1704 : Index := 168#32
  let c0_1705 : Index := 0#32
  ![v3791.toNat, 0, 2, 168, 0]
def k0_off1434 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3797 : Index := Scalar.indexCast v819
  let c0_1706 : Index := 0#32
  let c2_1707 : Index := 2#32
  let c176_1708 : Index := 176#32
  let c0_1709 : Index := 0#32
  ![v3797.toNat, 0, 2, 176, 0]
def k0_off1435 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3803 : Index := Scalar.indexCast v819
  let c0_1710 : Index := 0#32
  let c2_1711 : Index := 2#32
  let c184_1712 : Index := 184#32
  let c0_1713 : Index := 0#32
  ![v3803.toNat, 0, 2, 184, 0]
def k0_off1436 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3809 : Index := Scalar.indexCast v819
  let c0_1714 : Index := 0#32
  let c2_1715 : Index := 2#32
  let c192_1716 : Index := 192#32
  let c0_1717 : Index := 0#32
  ![v3809.toNat, 0, 2, 192, 0]
def k0_off1437 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3815 : Index := Scalar.indexCast v819
  let c0_1718 : Index := 0#32
  let c2_1719 : Index := 2#32
  let c200_1720 : Index := 200#32
  let c0_1721 : Index := 0#32
  ![v3815.toNat, 0, 2, 200, 0]
def k0_off1438 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3821 : Index := Scalar.indexCast v819
  let c0_1722 : Index := 0#32
  let c2_1723 : Index := 2#32
  let c208_1724 : Index := 208#32
  let c0_1725 : Index := 0#32
  ![v3821.toNat, 0, 2, 208, 0]
def k0_off1439 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3827 : Index := Scalar.indexCast v819
  let c0_1726 : Index := 0#32
  let c2_1727 : Index := 2#32
  let c216_1728 : Index := 216#32
  let c0_1729 : Index := 0#32
  ![v3827.toNat, 0, 2, 216, 0]
def k0_off1440 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3833 : Index := Scalar.indexCast v819
  let c0_1730 : Index := 0#32
  let c2_1731 : Index := 2#32
  let c224_1732 : Index := 224#32
  let c0_1733 : Index := 0#32
  ![v3833.toNat, 0, 2, 224, 0]
def k0_off1441 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3839 : Index := Scalar.indexCast v819
  let c0_1734 : Index := 0#32
  let c2_1735 : Index := 2#32
  let c232_1736 : Index := 232#32
  let c0_1737 : Index := 0#32
  ![v3839.toNat, 0, 2, 232, 0]
def k0_off1442 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3845 : Index := Scalar.indexCast v819
  let c0_1738 : Index := 0#32
  let c2_1739 : Index := 2#32
  let c240_1740 : Index := 240#32
  let c0_1741 : Index := 0#32
  ![v3845.toNat, 0, 2, 240, 0]
def k0_off1443 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v3851 : Index := Scalar.indexCast v819
  let c0_1743 : Index := 0#32
  let c2_1744 : Index := 2#32
  let c248_1745 : Index := 248#32
  let c0_1746 : Index := 0#32
  ![v3851.toNat, 0, 2, 248, 0]
def k0_off1444 (i : grid0.Coords) (c0_i32_1747 : BitVec 32) : Fin 2 → Nat :=
  let arg1 : BitVec 32 := BitVec.ofNat 32 (i 1).val
  let c0_i32 : BitVec 32 := 0#32
  let v5 : BitVec 32 := Scalar.minsi arg1 c0_i32
  let c8_i32 : BitVec 32 := 8#32
  let v6 : BitVec 32 := Scalar.muli v5 c8_i32
  let v7 : BitVec 32 := v6
  let v3855 : BitVec 32 := Scalar.addi v7 c0_i32_1747
  let v3856 : Index := Scalar.indexCast v3855
  let c384 : Index := 384#32
  ![v3856.toNat, 384]
def k0_off1445 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v820 : BitVec 1 := Scalar.cmpi .eq v819 arg1
  let c1_i32_497 : BitVec 32 := 1#32
  let c0_i32_498 : BitVec 32 := 0#32
  let v821 : BitVec 32 := Scalar.select v820 c1_i32_497 c0_i32_498
  let v4671 : Index := Scalar.indexCast v821
  let c0_2050 : Index := 0#32
  let c3_2051 : Index := 3#32
  let c0_2052 : Index := 0#32
  let c0_2053 : Index := 0#32
  ![v4671.toNat, 0, 3, 0, 0]
def k0_off1446 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4676 : Index := Scalar.indexCast v819
  let c0_2054 : Index := 0#32
  let c3_2055 : Index := 3#32
  let c0_2056 : Index := 0#32
  let c0_2057 : Index := 0#32
  ![v4676.toNat, 0, 3, 0, 0]
def k0_off1447 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4682 : Index := Scalar.indexCast v819
  let c0_2058 : Index := 0#32
  let c3_2059 : Index := 3#32
  let c8_2060 : Index := 8#32
  let c0_2061 : Index := 0#32
  ![v4682.toNat, 0, 3, 8, 0]
def k0_off1448 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4688 : Index := Scalar.indexCast v819
  let c0_2062 : Index := 0#32
  let c3_2063 : Index := 3#32
  let c16_2064 : Index := 16#32
  let c0_2065 : Index := 0#32
  ![v4688.toNat, 0, 3, 16, 0]
def k0_off1449 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4694 : Index := Scalar.indexCast v819
  let c0_2066 : Index := 0#32
  let c3_2067 : Index := 3#32
  let c24_2068 : Index := 24#32
  let c0_2069 : Index := 0#32
  ![v4694.toNat, 0, 3, 24, 0]
def k0_off1450 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4700 : Index := Scalar.indexCast v819
  let c0_2070 : Index := 0#32
  let c3_2071 : Index := 3#32
  let c32_2072 : Index := 32#32
  let c0_2073 : Index := 0#32
  ![v4700.toNat, 0, 3, 32, 0]
def k0_off1451 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4706 : Index := Scalar.indexCast v819
  let c0_2074 : Index := 0#32
  let c3_2075 : Index := 3#32
  let c40_2076 : Index := 40#32
  let c0_2077 : Index := 0#32
  ![v4706.toNat, 0, 3, 40, 0]
def k0_off1452 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4712 : Index := Scalar.indexCast v819
  let c0_2078 : Index := 0#32
  let c3_2079 : Index := 3#32
  let c48_2080 : Index := 48#32
  let c0_2081 : Index := 0#32
  ![v4712.toNat, 0, 3, 48, 0]
def k0_off1453 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4718 : Index := Scalar.indexCast v819
  let c0_2082 : Index := 0#32
  let c3_2083 : Index := 3#32
  let c56_2084 : Index := 56#32
  let c0_2085 : Index := 0#32
  ![v4718.toNat, 0, 3, 56, 0]
def k0_off1454 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4724 : Index := Scalar.indexCast v819
  let c0_2086 : Index := 0#32
  let c3_2087 : Index := 3#32
  let c64_2088 : Index := 64#32
  let c0_2089 : Index := 0#32
  ![v4724.toNat, 0, 3, 64, 0]
def k0_off1455 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4730 : Index := Scalar.indexCast v819
  let c0_2090 : Index := 0#32
  let c3_2091 : Index := 3#32
  let c72_2092 : Index := 72#32
  let c0_2093 : Index := 0#32
  ![v4730.toNat, 0, 3, 72, 0]
def k0_off1456 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4736 : Index := Scalar.indexCast v819
  let c0_2094 : Index := 0#32
  let c3_2095 : Index := 3#32
  let c80_2096 : Index := 80#32
  let c0_2097 : Index := 0#32
  ![v4736.toNat, 0, 3, 80, 0]
def k0_off1457 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4742 : Index := Scalar.indexCast v819
  let c0_2098 : Index := 0#32
  let c3_2099 : Index := 3#32
  let c88_2100 : Index := 88#32
  let c0_2101 : Index := 0#32
  ![v4742.toNat, 0, 3, 88, 0]
def k0_off1458 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4748 : Index := Scalar.indexCast v819
  let c0_2102 : Index := 0#32
  let c3_2103 : Index := 3#32
  let c96_2104 : Index := 96#32
  let c0_2105 : Index := 0#32
  ![v4748.toNat, 0, 3, 96, 0]
def k0_off1459 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4754 : Index := Scalar.indexCast v819
  let c0_2106 : Index := 0#32
  let c3_2107 : Index := 3#32
  let c104_2108 : Index := 104#32
  let c0_2109 : Index := 0#32
  ![v4754.toNat, 0, 3, 104, 0]
def k0_off1460 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4760 : Index := Scalar.indexCast v819
  let c0_2110 : Index := 0#32
  let c3_2111 : Index := 3#32
  let c112_2112 : Index := 112#32
  let c0_2113 : Index := 0#32
  ![v4760.toNat, 0, 3, 112, 0]
def k0_off1461 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4766 : Index := Scalar.indexCast v819
  let c0_2114 : Index := 0#32
  let c3_2115 : Index := 3#32
  let c120_2116 : Index := 120#32
  let c0_2117 : Index := 0#32
  ![v4766.toNat, 0, 3, 120, 0]
def k0_off1462 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4772 : Index := Scalar.indexCast v819
  let c0_2118 : Index := 0#32
  let c3_2119 : Index := 3#32
  let c128_2120 : Index := 128#32
  let c0_2121 : Index := 0#32
  ![v4772.toNat, 0, 3, 128, 0]
def k0_off1463 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4778 : Index := Scalar.indexCast v819
  let c0_2122 : Index := 0#32
  let c3_2123 : Index := 3#32
  let c136_2124 : Index := 136#32
  let c0_2125 : Index := 0#32
  ![v4778.toNat, 0, 3, 136, 0]
def k0_off1464 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4784 : Index := Scalar.indexCast v819
  let c0_2126 : Index := 0#32
  let c3_2127 : Index := 3#32
  let c144_2128 : Index := 144#32
  let c0_2129 : Index := 0#32
  ![v4784.toNat, 0, 3, 144, 0]
def k0_off1465 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4790 : Index := Scalar.indexCast v819
  let c0_2130 : Index := 0#32
  let c3_2131 : Index := 3#32
  let c152_2132 : Index := 152#32
  let c0_2133 : Index := 0#32
  ![v4790.toNat, 0, 3, 152, 0]
def k0_off1466 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4796 : Index := Scalar.indexCast v819
  let c0_2134 : Index := 0#32
  let c3_2135 : Index := 3#32
  let c160_2136 : Index := 160#32
  let c0_2137 : Index := 0#32
  ![v4796.toNat, 0, 3, 160, 0]
def k0_off1467 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4802 : Index := Scalar.indexCast v819
  let c0_2138 : Index := 0#32
  let c3_2139 : Index := 3#32
  let c168_2140 : Index := 168#32
  let c0_2141 : Index := 0#32
  ![v4802.toNat, 0, 3, 168, 0]
def k0_off1468 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4808 : Index := Scalar.indexCast v819
  let c0_2142 : Index := 0#32
  let c3_2143 : Index := 3#32
  let c176_2144 : Index := 176#32
  let c0_2145 : Index := 0#32
  ![v4808.toNat, 0, 3, 176, 0]
def k0_off1469 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4814 : Index := Scalar.indexCast v819
  let c0_2146 : Index := 0#32
  let c3_2147 : Index := 3#32
  let c184_2148 : Index := 184#32
  let c0_2149 : Index := 0#32
  ![v4814.toNat, 0, 3, 184, 0]
def k0_off1470 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4820 : Index := Scalar.indexCast v819
  let c0_2150 : Index := 0#32
  let c3_2151 : Index := 3#32
  let c192_2152 : Index := 192#32
  let c0_2153 : Index := 0#32
  ![v4820.toNat, 0, 3, 192, 0]
def k0_off1471 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4826 : Index := Scalar.indexCast v819
  let c0_2154 : Index := 0#32
  let c3_2155 : Index := 3#32
  let c200_2156 : Index := 200#32
  let c0_2157 : Index := 0#32
  ![v4826.toNat, 0, 3, 200, 0]
def k0_off1472 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4832 : Index := Scalar.indexCast v819
  let c0_2158 : Index := 0#32
  let c3_2159 : Index := 3#32
  let c208_2160 : Index := 208#32
  let c0_2161 : Index := 0#32
  ![v4832.toNat, 0, 3, 208, 0]
def k0_off1473 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4838 : Index := Scalar.indexCast v819
  let c0_2162 : Index := 0#32
  let c3_2163 : Index := 3#32
  let c216_2164 : Index := 216#32
  let c0_2165 : Index := 0#32
  ![v4838.toNat, 0, 3, 216, 0]
def k0_off1474 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4844 : Index := Scalar.indexCast v819
  let c0_2166 : Index := 0#32
  let c3_2167 : Index := 3#32
  let c224_2168 : Index := 224#32
  let c0_2169 : Index := 0#32
  ![v4844.toNat, 0, 3, 224, 0]
def k0_off1475 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4850 : Index := Scalar.indexCast v819
  let c0_2170 : Index := 0#32
  let c3_2171 : Index := 3#32
  let c232_2172 : Index := 232#32
  let c0_2173 : Index := 0#32
  ![v4850.toNat, 0, 3, 232, 0]
def k0_off1476 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4856 : Index := Scalar.indexCast v819
  let c0_2174 : Index := 0#32
  let c3_2175 : Index := 3#32
  let c240_2176 : Index := 240#32
  let c0_2177 : Index := 0#32
  ![v4856.toNat, 0, 3, 240, 0]
def k0_off1477 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v4862 : Index := Scalar.indexCast v819
  let c0_2179 : Index := 0#32
  let c3_2180 : Index := 3#32
  let c248_2181 : Index := 248#32
  let c0_2182 : Index := 0#32
  ![v4862.toNat, 0, 3, 248, 0]
def k0_off1478 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v820 : BitVec 1 := Scalar.cmpi .eq v819 arg1
  let c1_i32_497 : BitVec 32 := 1#32
  let c0_i32_498 : BitVec 32 := 0#32
  let v821 : BitVec 32 := Scalar.select v820 c1_i32_497 c0_i32_498
  let v5682 : Index := Scalar.indexCast v821
  let c1_2487 : Index := 1#32
  let c0_2488 : Index := 0#32
  let c0_2489 : Index := 0#32
  let c0_2490 : Index := 0#32
  ![v5682.toNat, 1, 0, 0, 0]
def k0_off1479 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5687 : Index := Scalar.indexCast v819
  let c1_2491 : Index := 1#32
  let c0_2492 : Index := 0#32
  let c0_2493 : Index := 0#32
  let c0_2494 : Index := 0#32
  ![v5687.toNat, 1, 0, 0, 0]
def k0_off1480 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5693 : Index := Scalar.indexCast v819
  let c1_2495 : Index := 1#32
  let c0_2496 : Index := 0#32
  let c8_2497 : Index := 8#32
  let c0_2498 : Index := 0#32
  ![v5693.toNat, 1, 0, 8, 0]
def k0_off1481 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5699 : Index := Scalar.indexCast v819
  let c1_2499 : Index := 1#32
  let c0_2500 : Index := 0#32
  let c16_2501 : Index := 16#32
  let c0_2502 : Index := 0#32
  ![v5699.toNat, 1, 0, 16, 0]
def k0_off1482 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5705 : Index := Scalar.indexCast v819
  let c1_2503 : Index := 1#32
  let c0_2504 : Index := 0#32
  let c24_2505 : Index := 24#32
  let c0_2506 : Index := 0#32
  ![v5705.toNat, 1, 0, 24, 0]
def k0_off1483 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5711 : Index := Scalar.indexCast v819
  let c1_2507 : Index := 1#32
  let c0_2508 : Index := 0#32
  let c32_2509 : Index := 32#32
  let c0_2510 : Index := 0#32
  ![v5711.toNat, 1, 0, 32, 0]
def k0_off1484 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5717 : Index := Scalar.indexCast v819
  let c1_2511 : Index := 1#32
  let c0_2512 : Index := 0#32
  let c40_2513 : Index := 40#32
  let c0_2514 : Index := 0#32
  ![v5717.toNat, 1, 0, 40, 0]
def k0_off1485 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5723 : Index := Scalar.indexCast v819
  let c1_2515 : Index := 1#32
  let c0_2516 : Index := 0#32
  let c48_2517 : Index := 48#32
  let c0_2518 : Index := 0#32
  ![v5723.toNat, 1, 0, 48, 0]
def k0_off1486 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5729 : Index := Scalar.indexCast v819
  let c1_2519 : Index := 1#32
  let c0_2520 : Index := 0#32
  let c56_2521 : Index := 56#32
  let c0_2522 : Index := 0#32
  ![v5729.toNat, 1, 0, 56, 0]
def k0_off1487 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5735 : Index := Scalar.indexCast v819
  let c1_2523 : Index := 1#32
  let c0_2524 : Index := 0#32
  let c64_2525 : Index := 64#32
  let c0_2526 : Index := 0#32
  ![v5735.toNat, 1, 0, 64, 0]
def k0_off1488 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5741 : Index := Scalar.indexCast v819
  let c1_2527 : Index := 1#32
  let c0_2528 : Index := 0#32
  let c72_2529 : Index := 72#32
  let c0_2530 : Index := 0#32
  ![v5741.toNat, 1, 0, 72, 0]
def k0_off1489 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5747 : Index := Scalar.indexCast v819
  let c1_2531 : Index := 1#32
  let c0_2532 : Index := 0#32
  let c80_2533 : Index := 80#32
  let c0_2534 : Index := 0#32
  ![v5747.toNat, 1, 0, 80, 0]
def k0_off1490 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5753 : Index := Scalar.indexCast v819
  let c1_2535 : Index := 1#32
  let c0_2536 : Index := 0#32
  let c88_2537 : Index := 88#32
  let c0_2538 : Index := 0#32
  ![v5753.toNat, 1, 0, 88, 0]
def k0_off1491 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5759 : Index := Scalar.indexCast v819
  let c1_2539 : Index := 1#32
  let c0_2540 : Index := 0#32
  let c96_2541 : Index := 96#32
  let c0_2542 : Index := 0#32
  ![v5759.toNat, 1, 0, 96, 0]
def k0_off1492 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5765 : Index := Scalar.indexCast v819
  let c1_2543 : Index := 1#32
  let c0_2544 : Index := 0#32
  let c104_2545 : Index := 104#32
  let c0_2546 : Index := 0#32
  ![v5765.toNat, 1, 0, 104, 0]
def k0_off1493 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5771 : Index := Scalar.indexCast v819
  let c1_2547 : Index := 1#32
  let c0_2548 : Index := 0#32
  let c112_2549 : Index := 112#32
  let c0_2550 : Index := 0#32
  ![v5771.toNat, 1, 0, 112, 0]
def k0_off1494 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5777 : Index := Scalar.indexCast v819
  let c1_2551 : Index := 1#32
  let c0_2552 : Index := 0#32
  let c120_2553 : Index := 120#32
  let c0_2554 : Index := 0#32
  ![v5777.toNat, 1, 0, 120, 0]
def k0_off1495 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5783 : Index := Scalar.indexCast v819
  let c1_2555 : Index := 1#32
  let c0_2556 : Index := 0#32
  let c128_2557 : Index := 128#32
  let c0_2558 : Index := 0#32
  ![v5783.toNat, 1, 0, 128, 0]
def k0_off1496 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5789 : Index := Scalar.indexCast v819
  let c1_2559 : Index := 1#32
  let c0_2560 : Index := 0#32
  let c136_2561 : Index := 136#32
  let c0_2562 : Index := 0#32
  ![v5789.toNat, 1, 0, 136, 0]
def k0_off1497 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5795 : Index := Scalar.indexCast v819
  let c1_2563 : Index := 1#32
  let c0_2564 : Index := 0#32
  let c144_2565 : Index := 144#32
  let c0_2566 : Index := 0#32
  ![v5795.toNat, 1, 0, 144, 0]
def k0_off1498 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5801 : Index := Scalar.indexCast v819
  let c1_2567 : Index := 1#32
  let c0_2568 : Index := 0#32
  let c152_2569 : Index := 152#32
  let c0_2570 : Index := 0#32
  ![v5801.toNat, 1, 0, 152, 0]
def k0_off1499 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5807 : Index := Scalar.indexCast v819
  let c1_2571 : Index := 1#32
  let c0_2572 : Index := 0#32
  let c160_2573 : Index := 160#32
  let c0_2574 : Index := 0#32
  ![v5807.toNat, 1, 0, 160, 0]
def k0_off1500 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5813 : Index := Scalar.indexCast v819
  let c1_2575 : Index := 1#32
  let c0_2576 : Index := 0#32
  let c168_2577 : Index := 168#32
  let c0_2578 : Index := 0#32
  ![v5813.toNat, 1, 0, 168, 0]
def k0_off1501 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5819 : Index := Scalar.indexCast v819
  let c1_2579 : Index := 1#32
  let c0_2580 : Index := 0#32
  let c176_2581 : Index := 176#32
  let c0_2582 : Index := 0#32
  ![v5819.toNat, 1, 0, 176, 0]
def k0_off1502 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5825 : Index := Scalar.indexCast v819
  let c1_2583 : Index := 1#32
  let c0_2584 : Index := 0#32
  let c184_2585 : Index := 184#32
  let c0_2586 : Index := 0#32
  ![v5825.toNat, 1, 0, 184, 0]
def k0_off1503 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5831 : Index := Scalar.indexCast v819
  let c1_2587 : Index := 1#32
  let c0_2588 : Index := 0#32
  let c192_2589 : Index := 192#32
  let c0_2590 : Index := 0#32
  ![v5831.toNat, 1, 0, 192, 0]
def k0_off1504 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5837 : Index := Scalar.indexCast v819
  let c1_2591 : Index := 1#32
  let c0_2592 : Index := 0#32
  let c200_2593 : Index := 200#32
  let c0_2594 : Index := 0#32
  ![v5837.toNat, 1, 0, 200, 0]
def k0_off1505 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5843 : Index := Scalar.indexCast v819
  let c1_2595 : Index := 1#32
  let c0_2596 : Index := 0#32
  let c208_2597 : Index := 208#32
  let c0_2598 : Index := 0#32
  ![v5843.toNat, 1, 0, 208, 0]
def k0_off1506 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5849 : Index := Scalar.indexCast v819
  let c1_2599 : Index := 1#32
  let c0_2600 : Index := 0#32
  let c216_2601 : Index := 216#32
  let c0_2602 : Index := 0#32
  ![v5849.toNat, 1, 0, 216, 0]
def k0_off1507 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5855 : Index := Scalar.indexCast v819
  let c1_2603 : Index := 1#32
  let c0_2604 : Index := 0#32
  let c224_2605 : Index := 224#32
  let c0_2606 : Index := 0#32
  ![v5855.toNat, 1, 0, 224, 0]
def k0_off1508 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5861 : Index := Scalar.indexCast v819
  let c1_2607 : Index := 1#32
  let c0_2608 : Index := 0#32
  let c232_2609 : Index := 232#32
  let c0_2610 : Index := 0#32
  ![v5861.toNat, 1, 0, 232, 0]
def k0_off1509 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5867 : Index := Scalar.indexCast v819
  let c1_2611 : Index := 1#32
  let c0_2612 : Index := 0#32
  let c240_2613 : Index := 240#32
  let c0_2614 : Index := 0#32
  ![v5867.toNat, 1, 0, 240, 0]
def k0_off1510 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v5873 : Index := Scalar.indexCast v819
  let c1_2616 : Index := 1#32
  let c0_2617 : Index := 0#32
  let c248_2618 : Index := 248#32
  let c0_2619 : Index := 0#32
  ![v5873.toNat, 1, 0, 248, 0]
def k0_off1511 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v820 : BitVec 1 := Scalar.cmpi .eq v819 arg1
  let c1_i32_497 : BitVec 32 := 1#32
  let c0_i32_498 : BitVec 32 := 0#32
  let v821 : BitVec 32 := Scalar.select v820 c1_i32_497 c0_i32_498
  let v6693 : Index := Scalar.indexCast v821
  let c1_2924 : Index := 1#32
  let c1_2925 : Index := 1#32
  let c0_2926 : Index := 0#32
  let c0_2927 : Index := 0#32
  ![v6693.toNat, 1, 1, 0, 0]
def k0_off1512 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6698 : Index := Scalar.indexCast v819
  let c1_2928 : Index := 1#32
  let c1_2929 : Index := 1#32
  let c0_2930 : Index := 0#32
  let c0_2931 : Index := 0#32
  ![v6698.toNat, 1, 1, 0, 0]
def k0_off1513 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6704 : Index := Scalar.indexCast v819
  let c1_2932 : Index := 1#32
  let c1_2933 : Index := 1#32
  let c8_2934 : Index := 8#32
  let c0_2935 : Index := 0#32
  ![v6704.toNat, 1, 1, 8, 0]
def k0_off1514 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6710 : Index := Scalar.indexCast v819
  let c1_2936 : Index := 1#32
  let c1_2937 : Index := 1#32
  let c16_2938 : Index := 16#32
  let c0_2939 : Index := 0#32
  ![v6710.toNat, 1, 1, 16, 0]
def k0_off1515 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6716 : Index := Scalar.indexCast v819
  let c1_2940 : Index := 1#32
  let c1_2941 : Index := 1#32
  let c24_2942 : Index := 24#32
  let c0_2943 : Index := 0#32
  ![v6716.toNat, 1, 1, 24, 0]
def k0_off1516 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6722 : Index := Scalar.indexCast v819
  let c1_2944 : Index := 1#32
  let c1_2945 : Index := 1#32
  let c32_2946 : Index := 32#32
  let c0_2947 : Index := 0#32
  ![v6722.toNat, 1, 1, 32, 0]
def k0_off1517 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6728 : Index := Scalar.indexCast v819
  let c1_2948 : Index := 1#32
  let c1_2949 : Index := 1#32
  let c40_2950 : Index := 40#32
  let c0_2951 : Index := 0#32
  ![v6728.toNat, 1, 1, 40, 0]
def k0_off1518 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6734 : Index := Scalar.indexCast v819
  let c1_2952 : Index := 1#32
  let c1_2953 : Index := 1#32
  let c48_2954 : Index := 48#32
  let c0_2955 : Index := 0#32
  ![v6734.toNat, 1, 1, 48, 0]
def k0_off1519 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6740 : Index := Scalar.indexCast v819
  let c1_2956 : Index := 1#32
  let c1_2957 : Index := 1#32
  let c56_2958 : Index := 56#32
  let c0_2959 : Index := 0#32
  ![v6740.toNat, 1, 1, 56, 0]
def k0_off1520 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6746 : Index := Scalar.indexCast v819
  let c1_2960 : Index := 1#32
  let c1_2961 : Index := 1#32
  let c64_2962 : Index := 64#32
  let c0_2963 : Index := 0#32
  ![v6746.toNat, 1, 1, 64, 0]
def k0_off1521 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6752 : Index := Scalar.indexCast v819
  let c1_2964 : Index := 1#32
  let c1_2965 : Index := 1#32
  let c72_2966 : Index := 72#32
  let c0_2967 : Index := 0#32
  ![v6752.toNat, 1, 1, 72, 0]
def k0_off1522 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6758 : Index := Scalar.indexCast v819
  let c1_2968 : Index := 1#32
  let c1_2969 : Index := 1#32
  let c80_2970 : Index := 80#32
  let c0_2971 : Index := 0#32
  ![v6758.toNat, 1, 1, 80, 0]
def k0_off1523 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6764 : Index := Scalar.indexCast v819
  let c1_2972 : Index := 1#32
  let c1_2973 : Index := 1#32
  let c88_2974 : Index := 88#32
  let c0_2975 : Index := 0#32
  ![v6764.toNat, 1, 1, 88, 0]
def k0_off1524 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6770 : Index := Scalar.indexCast v819
  let c1_2976 : Index := 1#32
  let c1_2977 : Index := 1#32
  let c96_2978 : Index := 96#32
  let c0_2979 : Index := 0#32
  ![v6770.toNat, 1, 1, 96, 0]
def k0_off1525 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6776 : Index := Scalar.indexCast v819
  let c1_2980 : Index := 1#32
  let c1_2981 : Index := 1#32
  let c104_2982 : Index := 104#32
  let c0_2983 : Index := 0#32
  ![v6776.toNat, 1, 1, 104, 0]
def k0_off1526 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6782 : Index := Scalar.indexCast v819
  let c1_2984 : Index := 1#32
  let c1_2985 : Index := 1#32
  let c112_2986 : Index := 112#32
  let c0_2987 : Index := 0#32
  ![v6782.toNat, 1, 1, 112, 0]
def k0_off1527 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6788 : Index := Scalar.indexCast v819
  let c1_2988 : Index := 1#32
  let c1_2989 : Index := 1#32
  let c120_2990 : Index := 120#32
  let c0_2991 : Index := 0#32
  ![v6788.toNat, 1, 1, 120, 0]
def k0_off1528 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6794 : Index := Scalar.indexCast v819
  let c1_2992 : Index := 1#32
  let c1_2993 : Index := 1#32
  let c128_2994 : Index := 128#32
  let c0_2995 : Index := 0#32
  ![v6794.toNat, 1, 1, 128, 0]
def k0_off1529 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6800 : Index := Scalar.indexCast v819
  let c1_2996 : Index := 1#32
  let c1_2997 : Index := 1#32
  let c136_2998 : Index := 136#32
  let c0_2999 : Index := 0#32
  ![v6800.toNat, 1, 1, 136, 0]
def k0_off1530 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6806 : Index := Scalar.indexCast v819
  let c1_3000 : Index := 1#32
  let c1_3001 : Index := 1#32
  let c144_3002 : Index := 144#32
  let c0_3003 : Index := 0#32
  ![v6806.toNat, 1, 1, 144, 0]
def k0_off1531 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6812 : Index := Scalar.indexCast v819
  let c1_3004 : Index := 1#32
  let c1_3005 : Index := 1#32
  let c152_3006 : Index := 152#32
  let c0_3007 : Index := 0#32
  ![v6812.toNat, 1, 1, 152, 0]
def k0_off1532 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6818 : Index := Scalar.indexCast v819
  let c1_3008 : Index := 1#32
  let c1_3009 : Index := 1#32
  let c160_3010 : Index := 160#32
  let c0_3011 : Index := 0#32
  ![v6818.toNat, 1, 1, 160, 0]
def k0_off1533 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6824 : Index := Scalar.indexCast v819
  let c1_3012 : Index := 1#32
  let c1_3013 : Index := 1#32
  let c168_3014 : Index := 168#32
  let c0_3015 : Index := 0#32
  ![v6824.toNat, 1, 1, 168, 0]
def k0_off1534 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6830 : Index := Scalar.indexCast v819
  let c1_3016 : Index := 1#32
  let c1_3017 : Index := 1#32
  let c176_3018 : Index := 176#32
  let c0_3019 : Index := 0#32
  ![v6830.toNat, 1, 1, 176, 0]
def k0_off1535 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6836 : Index := Scalar.indexCast v819
  let c1_3020 : Index := 1#32
  let c1_3021 : Index := 1#32
  let c184_3022 : Index := 184#32
  let c0_3023 : Index := 0#32
  ![v6836.toNat, 1, 1, 184, 0]
def k0_off1536 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6842 : Index := Scalar.indexCast v819
  let c1_3024 : Index := 1#32
  let c1_3025 : Index := 1#32
  let c192_3026 : Index := 192#32
  let c0_3027 : Index := 0#32
  ![v6842.toNat, 1, 1, 192, 0]
def k0_off1537 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6848 : Index := Scalar.indexCast v819
  let c1_3028 : Index := 1#32
  let c1_3029 : Index := 1#32
  let c200_3030 : Index := 200#32
  let c0_3031 : Index := 0#32
  ![v6848.toNat, 1, 1, 200, 0]
def k0_off1538 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6854 : Index := Scalar.indexCast v819
  let c1_3032 : Index := 1#32
  let c1_3033 : Index := 1#32
  let c208_3034 : Index := 208#32
  let c0_3035 : Index := 0#32
  ![v6854.toNat, 1, 1, 208, 0]
def k0_off1539 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6860 : Index := Scalar.indexCast v819
  let c1_3036 : Index := 1#32
  let c1_3037 : Index := 1#32
  let c216_3038 : Index := 216#32
  let c0_3039 : Index := 0#32
  ![v6860.toNat, 1, 1, 216, 0]
def k0_off1540 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6866 : Index := Scalar.indexCast v819
  let c1_3040 : Index := 1#32
  let c1_3041 : Index := 1#32
  let c224_3042 : Index := 224#32
  let c0_3043 : Index := 0#32
  ![v6866.toNat, 1, 1, 224, 0]
def k0_off1541 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6872 : Index := Scalar.indexCast v819
  let c1_3044 : Index := 1#32
  let c1_3045 : Index := 1#32
  let c232_3046 : Index := 232#32
  let c0_3047 : Index := 0#32
  ![v6872.toNat, 1, 1, 232, 0]
def k0_off1542 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6878 : Index := Scalar.indexCast v819
  let c1_3048 : Index := 1#32
  let c1_3049 : Index := 1#32
  let c240_3050 : Index := 240#32
  let c0_3051 : Index := 0#32
  ![v6878.toNat, 1, 1, 240, 0]
def k0_off1543 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v6884 : Index := Scalar.indexCast v819
  let c1_3053 : Index := 1#32
  let c1_3054 : Index := 1#32
  let c248_3055 : Index := 248#32
  let c0_3056 : Index := 0#32
  ![v6884.toNat, 1, 1, 248, 0]
def k0_off1544 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v820 : BitVec 1 := Scalar.cmpi .eq v819 arg1
  let c1_i32_497 : BitVec 32 := 1#32
  let c0_i32_498 : BitVec 32 := 0#32
  let v821 : BitVec 32 := Scalar.select v820 c1_i32_497 c0_i32_498
  let v7704 : Index := Scalar.indexCast v821
  let c1_3361 : Index := 1#32
  let c2_3362 : Index := 2#32
  let c0_3363 : Index := 0#32
  let c0_3364 : Index := 0#32
  ![v7704.toNat, 1, 2, 0, 0]
def k0_off1545 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7709 : Index := Scalar.indexCast v819
  let c1_3365 : Index := 1#32
  let c2_3366 : Index := 2#32
  let c0_3367 : Index := 0#32
  let c0_3368 : Index := 0#32
  ![v7709.toNat, 1, 2, 0, 0]
def k0_off1546 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7715 : Index := Scalar.indexCast v819
  let c1_3369 : Index := 1#32
  let c2_3370 : Index := 2#32
  let c8_3371 : Index := 8#32
  let c0_3372 : Index := 0#32
  ![v7715.toNat, 1, 2, 8, 0]
def k0_off1547 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7721 : Index := Scalar.indexCast v819
  let c1_3373 : Index := 1#32
  let c2_3374 : Index := 2#32
  let c16_3375 : Index := 16#32
  let c0_3376 : Index := 0#32
  ![v7721.toNat, 1, 2, 16, 0]
def k0_off1548 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7727 : Index := Scalar.indexCast v819
  let c1_3377 : Index := 1#32
  let c2_3378 : Index := 2#32
  let c24_3379 : Index := 24#32
  let c0_3380 : Index := 0#32
  ![v7727.toNat, 1, 2, 24, 0]
def k0_off1549 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7733 : Index := Scalar.indexCast v819
  let c1_3381 : Index := 1#32
  let c2_3382 : Index := 2#32
  let c32_3383 : Index := 32#32
  let c0_3384 : Index := 0#32
  ![v7733.toNat, 1, 2, 32, 0]
def k0_off1550 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7739 : Index := Scalar.indexCast v819
  let c1_3385 : Index := 1#32
  let c2_3386 : Index := 2#32
  let c40_3387 : Index := 40#32
  let c0_3388 : Index := 0#32
  ![v7739.toNat, 1, 2, 40, 0]
def k0_off1551 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7745 : Index := Scalar.indexCast v819
  let c1_3389 : Index := 1#32
  let c2_3390 : Index := 2#32
  let c48_3391 : Index := 48#32
  let c0_3392 : Index := 0#32
  ![v7745.toNat, 1, 2, 48, 0]
def k0_off1552 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7751 : Index := Scalar.indexCast v819
  let c1_3393 : Index := 1#32
  let c2_3394 : Index := 2#32
  let c56_3395 : Index := 56#32
  let c0_3396 : Index := 0#32
  ![v7751.toNat, 1, 2, 56, 0]
def k0_off1553 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7757 : Index := Scalar.indexCast v819
  let c1_3397 : Index := 1#32
  let c2_3398 : Index := 2#32
  let c64_3399 : Index := 64#32
  let c0_3400 : Index := 0#32
  ![v7757.toNat, 1, 2, 64, 0]
def k0_off1554 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7763 : Index := Scalar.indexCast v819
  let c1_3401 : Index := 1#32
  let c2_3402 : Index := 2#32
  let c72_3403 : Index := 72#32
  let c0_3404 : Index := 0#32
  ![v7763.toNat, 1, 2, 72, 0]
def k0_off1555 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7769 : Index := Scalar.indexCast v819
  let c1_3405 : Index := 1#32
  let c2_3406 : Index := 2#32
  let c80_3407 : Index := 80#32
  let c0_3408 : Index := 0#32
  ![v7769.toNat, 1, 2, 80, 0]
def k0_off1556 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7775 : Index := Scalar.indexCast v819
  let c1_3409 : Index := 1#32
  let c2_3410 : Index := 2#32
  let c88_3411 : Index := 88#32
  let c0_3412 : Index := 0#32
  ![v7775.toNat, 1, 2, 88, 0]
def k0_off1557 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7781 : Index := Scalar.indexCast v819
  let c1_3413 : Index := 1#32
  let c2_3414 : Index := 2#32
  let c96_3415 : Index := 96#32
  let c0_3416 : Index := 0#32
  ![v7781.toNat, 1, 2, 96, 0]
def k0_off1558 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7787 : Index := Scalar.indexCast v819
  let c1_3417 : Index := 1#32
  let c2_3418 : Index := 2#32
  let c104_3419 : Index := 104#32
  let c0_3420 : Index := 0#32
  ![v7787.toNat, 1, 2, 104, 0]
def k0_off1559 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7793 : Index := Scalar.indexCast v819
  let c1_3421 : Index := 1#32
  let c2_3422 : Index := 2#32
  let c112_3423 : Index := 112#32
  let c0_3424 : Index := 0#32
  ![v7793.toNat, 1, 2, 112, 0]
def k0_off1560 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7799 : Index := Scalar.indexCast v819
  let c1_3425 : Index := 1#32
  let c2_3426 : Index := 2#32
  let c120_3427 : Index := 120#32
  let c0_3428 : Index := 0#32
  ![v7799.toNat, 1, 2, 120, 0]
def k0_off1561 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7805 : Index := Scalar.indexCast v819
  let c1_3429 : Index := 1#32
  let c2_3430 : Index := 2#32
  let c128_3431 : Index := 128#32
  let c0_3432 : Index := 0#32
  ![v7805.toNat, 1, 2, 128, 0]
def k0_off1562 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7811 : Index := Scalar.indexCast v819
  let c1_3433 : Index := 1#32
  let c2_3434 : Index := 2#32
  let c136_3435 : Index := 136#32
  let c0_3436 : Index := 0#32
  ![v7811.toNat, 1, 2, 136, 0]
def k0_off1563 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7817 : Index := Scalar.indexCast v819
  let c1_3437 : Index := 1#32
  let c2_3438 : Index := 2#32
  let c144_3439 : Index := 144#32
  let c0_3440 : Index := 0#32
  ![v7817.toNat, 1, 2, 144, 0]
def k0_off1564 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7823 : Index := Scalar.indexCast v819
  let c1_3441 : Index := 1#32
  let c2_3442 : Index := 2#32
  let c152_3443 : Index := 152#32
  let c0_3444 : Index := 0#32
  ![v7823.toNat, 1, 2, 152, 0]
def k0_off1565 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7829 : Index := Scalar.indexCast v819
  let c1_3445 : Index := 1#32
  let c2_3446 : Index := 2#32
  let c160_3447 : Index := 160#32
  let c0_3448 : Index := 0#32
  ![v7829.toNat, 1, 2, 160, 0]
def k0_off1566 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7835 : Index := Scalar.indexCast v819
  let c1_3449 : Index := 1#32
  let c2_3450 : Index := 2#32
  let c168_3451 : Index := 168#32
  let c0_3452 : Index := 0#32
  ![v7835.toNat, 1, 2, 168, 0]
def k0_off1567 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7841 : Index := Scalar.indexCast v819
  let c1_3453 : Index := 1#32
  let c2_3454 : Index := 2#32
  let c176_3455 : Index := 176#32
  let c0_3456 : Index := 0#32
  ![v7841.toNat, 1, 2, 176, 0]
def k0_off1568 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7847 : Index := Scalar.indexCast v819
  let c1_3457 : Index := 1#32
  let c2_3458 : Index := 2#32
  let c184_3459 : Index := 184#32
  let c0_3460 : Index := 0#32
  ![v7847.toNat, 1, 2, 184, 0]
def k0_off1569 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7853 : Index := Scalar.indexCast v819
  let c1_3461 : Index := 1#32
  let c2_3462 : Index := 2#32
  let c192_3463 : Index := 192#32
  let c0_3464 : Index := 0#32
  ![v7853.toNat, 1, 2, 192, 0]
def k0_off1570 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7859 : Index := Scalar.indexCast v819
  let c1_3465 : Index := 1#32
  let c2_3466 : Index := 2#32
  let c200_3467 : Index := 200#32
  let c0_3468 : Index := 0#32
  ![v7859.toNat, 1, 2, 200, 0]
def k0_off1571 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7865 : Index := Scalar.indexCast v819
  let c1_3469 : Index := 1#32
  let c2_3470 : Index := 2#32
  let c208_3471 : Index := 208#32
  let c0_3472 : Index := 0#32
  ![v7865.toNat, 1, 2, 208, 0]
def k0_off1572 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7871 : Index := Scalar.indexCast v819
  let c1_3473 : Index := 1#32
  let c2_3474 : Index := 2#32
  let c216_3475 : Index := 216#32
  let c0_3476 : Index := 0#32
  ![v7871.toNat, 1, 2, 216, 0]
def k0_off1573 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7877 : Index := Scalar.indexCast v819
  let c1_3477 : Index := 1#32
  let c2_3478 : Index := 2#32
  let c224_3479 : Index := 224#32
  let c0_3480 : Index := 0#32
  ![v7877.toNat, 1, 2, 224, 0]
def k0_off1574 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7883 : Index := Scalar.indexCast v819
  let c1_3481 : Index := 1#32
  let c2_3482 : Index := 2#32
  let c232_3483 : Index := 232#32
  let c0_3484 : Index := 0#32
  ![v7883.toNat, 1, 2, 232, 0]
def k0_off1575 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7889 : Index := Scalar.indexCast v819
  let c1_3485 : Index := 1#32
  let c2_3486 : Index := 2#32
  let c240_3487 : Index := 240#32
  let c0_3488 : Index := 0#32
  ![v7889.toNat, 1, 2, 240, 0]
def k0_off1576 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v7895 : Index := Scalar.indexCast v819
  let c1_3490 : Index := 1#32
  let c2_3491 : Index := 2#32
  let c248_3492 : Index := 248#32
  let c0_3493 : Index := 0#32
  ![v7895.toNat, 1, 2, 248, 0]
def k0_off1577 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v820 : BitVec 1 := Scalar.cmpi .eq v819 arg1
  let c1_i32_497 : BitVec 32 := 1#32
  let c0_i32_498 : BitVec 32 := 0#32
  let v821 : BitVec 32 := Scalar.select v820 c1_i32_497 c0_i32_498
  let v8715 : Index := Scalar.indexCast v821
  let c1_3798 : Index := 1#32
  let c3_3799 : Index := 3#32
  let c0_3800 : Index := 0#32
  let c0_3801 : Index := 0#32
  ![v8715.toNat, 1, 3, 0, 0]
def k0_off1578 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8720 : Index := Scalar.indexCast v819
  let c1_3802 : Index := 1#32
  let c3_3803 : Index := 3#32
  let c0_3804 : Index := 0#32
  let c0_3805 : Index := 0#32
  ![v8720.toNat, 1, 3, 0, 0]
def k0_off1579 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8726 : Index := Scalar.indexCast v819
  let c1_3806 : Index := 1#32
  let c3_3807 : Index := 3#32
  let c8_3808 : Index := 8#32
  let c0_3809 : Index := 0#32
  ![v8726.toNat, 1, 3, 8, 0]
def k0_off1580 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8732 : Index := Scalar.indexCast v819
  let c1_3810 : Index := 1#32
  let c3_3811 : Index := 3#32
  let c16_3812 : Index := 16#32
  let c0_3813 : Index := 0#32
  ![v8732.toNat, 1, 3, 16, 0]
def k0_off1581 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8738 : Index := Scalar.indexCast v819
  let c1_3814 : Index := 1#32
  let c3_3815 : Index := 3#32
  let c24_3816 : Index := 24#32
  let c0_3817 : Index := 0#32
  ![v8738.toNat, 1, 3, 24, 0]
def k0_off1582 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8744 : Index := Scalar.indexCast v819
  let c1_3818 : Index := 1#32
  let c3_3819 : Index := 3#32
  let c32_3820 : Index := 32#32
  let c0_3821 : Index := 0#32
  ![v8744.toNat, 1, 3, 32, 0]
def k0_off1583 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8750 : Index := Scalar.indexCast v819
  let c1_3822 : Index := 1#32
  let c3_3823 : Index := 3#32
  let c40_3824 : Index := 40#32
  let c0_3825 : Index := 0#32
  ![v8750.toNat, 1, 3, 40, 0]
def k0_off1584 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8756 : Index := Scalar.indexCast v819
  let c1_3826 : Index := 1#32
  let c3_3827 : Index := 3#32
  let c48_3828 : Index := 48#32
  let c0_3829 : Index := 0#32
  ![v8756.toNat, 1, 3, 48, 0]
def k0_off1585 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8762 : Index := Scalar.indexCast v819
  let c1_3830 : Index := 1#32
  let c3_3831 : Index := 3#32
  let c56_3832 : Index := 56#32
  let c0_3833 : Index := 0#32
  ![v8762.toNat, 1, 3, 56, 0]
def k0_off1586 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8768 : Index := Scalar.indexCast v819
  let c1_3834 : Index := 1#32
  let c3_3835 : Index := 3#32
  let c64_3836 : Index := 64#32
  let c0_3837 : Index := 0#32
  ![v8768.toNat, 1, 3, 64, 0]
def k0_off1587 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8774 : Index := Scalar.indexCast v819
  let c1_3838 : Index := 1#32
  let c3_3839 : Index := 3#32
  let c72_3840 : Index := 72#32
  let c0_3841 : Index := 0#32
  ![v8774.toNat, 1, 3, 72, 0]
def k0_off1588 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8780 : Index := Scalar.indexCast v819
  let c1_3842 : Index := 1#32
  let c3_3843 : Index := 3#32
  let c80_3844 : Index := 80#32
  let c0_3845 : Index := 0#32
  ![v8780.toNat, 1, 3, 80, 0]
def k0_off1589 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8786 : Index := Scalar.indexCast v819
  let c1_3846 : Index := 1#32
  let c3_3847 : Index := 3#32
  let c88_3848 : Index := 88#32
  let c0_3849 : Index := 0#32
  ![v8786.toNat, 1, 3, 88, 0]
def k0_off1590 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8792 : Index := Scalar.indexCast v819
  let c1_3850 : Index := 1#32
  let c3_3851 : Index := 3#32
  let c96_3852 : Index := 96#32
  let c0_3853 : Index := 0#32
  ![v8792.toNat, 1, 3, 96, 0]
def k0_off1591 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8798 : Index := Scalar.indexCast v819
  let c1_3854 : Index := 1#32
  let c3_3855 : Index := 3#32
  let c104_3856 : Index := 104#32
  let c0_3857 : Index := 0#32
  ![v8798.toNat, 1, 3, 104, 0]
def k0_off1592 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8804 : Index := Scalar.indexCast v819
  let c1_3858 : Index := 1#32
  let c3_3859 : Index := 3#32
  let c112_3860 : Index := 112#32
  let c0_3861 : Index := 0#32
  ![v8804.toNat, 1, 3, 112, 0]
def k0_off1593 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8810 : Index := Scalar.indexCast v819
  let c1_3862 : Index := 1#32
  let c3_3863 : Index := 3#32
  let c120_3864 : Index := 120#32
  let c0_3865 : Index := 0#32
  ![v8810.toNat, 1, 3, 120, 0]
def k0_off1594 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8816 : Index := Scalar.indexCast v819
  let c1_3866 : Index := 1#32
  let c3_3867 : Index := 3#32
  let c128_3868 : Index := 128#32
  let c0_3869 : Index := 0#32
  ![v8816.toNat, 1, 3, 128, 0]
def k0_off1595 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8822 : Index := Scalar.indexCast v819
  let c1_3870 : Index := 1#32
  let c3_3871 : Index := 3#32
  let c136_3872 : Index := 136#32
  let c0_3873 : Index := 0#32
  ![v8822.toNat, 1, 3, 136, 0]
def k0_off1596 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8828 : Index := Scalar.indexCast v819
  let c1_3874 : Index := 1#32
  let c3_3875 : Index := 3#32
  let c144_3876 : Index := 144#32
  let c0_3877 : Index := 0#32
  ![v8828.toNat, 1, 3, 144, 0]
def k0_off1597 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8834 : Index := Scalar.indexCast v819
  let c1_3878 : Index := 1#32
  let c3_3879 : Index := 3#32
  let c152_3880 : Index := 152#32
  let c0_3881 : Index := 0#32
  ![v8834.toNat, 1, 3, 152, 0]
def k0_off1598 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8840 : Index := Scalar.indexCast v819
  let c1_3882 : Index := 1#32
  let c3_3883 : Index := 3#32
  let c160_3884 : Index := 160#32
  let c0_3885 : Index := 0#32
  ![v8840.toNat, 1, 3, 160, 0]
def k0_off1599 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8846 : Index := Scalar.indexCast v819
  let c1_3886 : Index := 1#32
  let c3_3887 : Index := 3#32
  let c168_3888 : Index := 168#32
  let c0_3889 : Index := 0#32
  ![v8846.toNat, 1, 3, 168, 0]
def k0_off1600 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8852 : Index := Scalar.indexCast v819
  let c1_3890 : Index := 1#32
  let c3_3891 : Index := 3#32
  let c176_3892 : Index := 176#32
  let c0_3893 : Index := 0#32
  ![v8852.toNat, 1, 3, 176, 0]
def k0_off1601 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8858 : Index := Scalar.indexCast v819
  let c1_3894 : Index := 1#32
  let c3_3895 : Index := 3#32
  let c184_3896 : Index := 184#32
  let c0_3897 : Index := 0#32
  ![v8858.toNat, 1, 3, 184, 0]
def k0_off1602 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8864 : Index := Scalar.indexCast v819
  let c1_3898 : Index := 1#32
  let c3_3899 : Index := 3#32
  let c192_3900 : Index := 192#32
  let c0_3901 : Index := 0#32
  ![v8864.toNat, 1, 3, 192, 0]
def k0_off1603 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8870 : Index := Scalar.indexCast v819
  let c1_3902 : Index := 1#32
  let c3_3903 : Index := 3#32
  let c200_3904 : Index := 200#32
  let c0_3905 : Index := 0#32
  ![v8870.toNat, 1, 3, 200, 0]
def k0_off1604 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8876 : Index := Scalar.indexCast v819
  let c1_3906 : Index := 1#32
  let c3_3907 : Index := 3#32
  let c208_3908 : Index := 208#32
  let c0_3909 : Index := 0#32
  ![v8876.toNat, 1, 3, 208, 0]
def k0_off1605 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8882 : Index := Scalar.indexCast v819
  let c1_3910 : Index := 1#32
  let c3_3911 : Index := 3#32
  let c216_3912 : Index := 216#32
  let c0_3913 : Index := 0#32
  ![v8882.toNat, 1, 3, 216, 0]
def k0_off1606 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8888 : Index := Scalar.indexCast v819
  let c1_3914 : Index := 1#32
  let c3_3915 : Index := 3#32
  let c224_3916 : Index := 224#32
  let c0_3917 : Index := 0#32
  ![v8888.toNat, 1, 3, 224, 0]
def k0_off1607 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8894 : Index := Scalar.indexCast v819
  let c1_3918 : Index := 1#32
  let c3_3919 : Index := 3#32
  let c232_3920 : Index := 232#32
  let c0_3921 : Index := 0#32
  ![v8894.toNat, 1, 3, 232, 0]
def k0_off1608 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8900 : Index := Scalar.indexCast v819
  let c1_3922 : Index := 1#32
  let c3_3923 : Index := 3#32
  let c240_3924 : Index := 240#32
  let c0_3925 : Index := 0#32
  ![v8900.toNat, 1, 3, 240, 0]
def k0_off1609 (i : grid0.Coords) : Fin 5 → Nat :=
  let arg1 : BitVec 32 := BitVec.ofNat 32 (i 1).val
  let c1_i32 : BitVec 32 := 1#32
  let v0 : BitVec 32 := Scalar.addi arg1 c1_i32
  let c1_i32_496 : BitVec 32 := 1#32
  let v819 : BitVec 32 := Scalar.subi v0 c1_i32_496
  let v8906 : Index := Scalar.indexCast v819
  let c1_3927 : Index := 1#32
  let c3_3928 : Index := 3#32
  let c248_3929 : Index := 248#32
  let c0_3930 : Index := 0#32
  ![v8906.toNat, 1, 3, 248, 0]
@[reducible] def k0_t4_loop (i : grid0.Coords) : Scf.Loop 32 :=
  let c0_i32_440 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let c4_i32_438 : BitVec 32 := 4#32
  let v698 : BitVec 32 := Scalar.muli v697 c4_i32_438
  let c32_i32 : BitVec 32 := 32#32
  let v699 : BitVec 32 := Scalar.minsi v698 c32_i32
  let v700 : BitVec 32 := Scalar.subi v699 c0_i32_440
  let c1_i32_441 : BitVec 32 := 1#32
  let v702 : BitVec 32 := Scalar.divsi v700 c1_i32_441
  let v703 : BitVec 32 := Scalar.muli v702 c1_i32_441
  let v704 : BitVec 32 := Scalar.addi c0_i32_440 v703
  let c1_i32_442 : BitVec 32 := 1#32
  ⟨c0_i32_440, v704, c1_i32_442⟩
def k0_off1610 (i : grid0.Coords) (k0_t4 : Fin (k0_t4_loop i).trips) : Fin 5 → Nat :=
  let c0_i32_440 : BitVec 32 := 0#32
  let c1_i32_442 : BitVec 32 := 1#32
  let arg14 : BitVec 32 := Scf.iv c0_i32_440 c1_i32_442 k0_t4
  let v822 : Index := Scalar.indexCast arg14
  let c0_497 : Index := 0#32
  let c0_498 : Index := 0#32
  let c0_499 : Index := 0#32
  let c0_500 : Index := 0#32
  ![v822.toNat, 0, 0, 0, 0]
@[reducible] def k0_t5_loop (i : grid0.Coords) : Scf.Loop 32 :=
  let c0_i32_440 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let c4_i32_438 : BitVec 32 := 4#32
  let v698 : BitVec 32 := Scalar.muli v697 c4_i32_438
  let c32_i32 : BitVec 32 := 32#32
  let v699 : BitVec 32 := Scalar.minsi v698 c32_i32
  let v700 : BitVec 32 := Scalar.subi v699 c0_i32_440
  let c1_i32_441 : BitVec 32 := 1#32
  let v702 : BitVec 32 := Scalar.divsi v700 c1_i32_441
  let v703 : BitVec 32 := Scalar.muli v702 c1_i32_441
  let v704 : BitVec 32 := Scalar.addi c0_i32_440 v703
  let v701 : BitVec 32 := Scalar.addi c0_i32_440 v700
  let c1_i32_443 : BitVec 32 := 1#32
  ⟨v704, v701, c1_i32_443⟩
def k0_off1611 (i : grid0.Coords) (k0_t5 : Fin (k0_t5_loop i).trips) : Fin 5 → Nat :=
  let c0_i32_440 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let c4_i32_438 : BitVec 32 := 4#32
  let v698 : BitVec 32 := Scalar.muli v697 c4_i32_438
  let c32_i32 : BitVec 32 := 32#32
  let v699 : BitVec 32 := Scalar.minsi v698 c32_i32
  let v700 : BitVec 32 := Scalar.subi v699 c0_i32_440
  let c1_i32_441 : BitVec 32 := 1#32
  let v702 : BitVec 32 := Scalar.divsi v700 c1_i32_441
  let v703 : BitVec 32 := Scalar.muli v702 c1_i32_441
  let v704 : BitVec 32 := Scalar.addi c0_i32_440 v703
  let c1_i32_443 : BitVec 32 := 1#32
  let arg14 : BitVec 32 := Scf.iv v704 c1_i32_443 k0_t5
  let v822 : Index := Scalar.indexCast arg14
  let c0_497 : Index := 0#32
  let c0_498 : Index := 0#32
  let c0_499 : Index := 0#32
  let c0_500 : Index := 0#32
  ![v822.toNat, 0, 0, 0, 0]
@[reducible] def k0_t6_loop (i : grid0.Coords) : Scf.Loop 32 :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let c1_i32_449 : BitVec 32 := 1#32
  ⟨c0_i32_447, v712, c1_i32_449⟩
def k0_off1612 (i : grid0.Coords) (k0_t6 : Fin (k0_t6_loop i).trips) : Fin 5 → Nat :=
  let c0_i32_447 : BitVec 32 := 0#32
  let c1_i32_449 : BitVec 32 := 1#32
  let arg14 : BitVec 32 := Scf.iv c0_i32_447 c1_i32_449 k0_t6
  let v819 : Index := Scalar.indexCast arg14
  let c0_496 : Index := 0#32
  let c0_497 : Index := 0#32
  let c248 : Index := 248#32
  let c0_498 : Index := 0#32
  ![v819.toNat, 0, 0, 248, 0]
def k0_off1613 (i : grid0.Coords) (k0_t6 : Fin (k0_t6_loop i).trips) : Fin 5 → Nat :=
  let c0_i32_447 : BitVec 32 := 0#32
  let c1_i32_449 : BitVec 32 := 1#32
  let arg14 : BitVec 32 := Scf.iv c0_i32_447 c1_i32_449 k0_t6
  let v824 : Index := Scalar.indexCast arg14
  let c0_499 : Index := 0#32
  let c1_500 : Index := 1#32
  let c248_501 : Index := 248#32
  let c0_502 : Index := 0#32
  ![v824.toNat, 0, 1, 248, 0]
def k0_off1614 (i : grid0.Coords) (k0_t6 : Fin (k0_t6_loop i).trips) : Fin 5 → Nat :=
  let c0_i32_447 : BitVec 32 := 0#32
  let c1_i32_449 : BitVec 32 := 1#32
  let arg14 : BitVec 32 := Scf.iv c0_i32_447 c1_i32_449 k0_t6
  let v829 : Index := Scalar.indexCast arg14
  let c0_503 : Index := 0#32
  let c2_504 : Index := 2#32
  let c248_505 : Index := 248#32
  let c0_506 : Index := 0#32
  ![v829.toNat, 0, 2, 248, 0]
def k0_off1615 (i : grid0.Coords) (k0_t6 : Fin (k0_t6_loop i).trips) : Fin 5 → Nat :=
  let c0_i32_447 : BitVec 32 := 0#32
  let c1_i32_449 : BitVec 32 := 1#32
  let arg14 : BitVec 32 := Scf.iv c0_i32_447 c1_i32_449 k0_t6
  let v834 : Index := Scalar.indexCast arg14
  let c0_507 : Index := 0#32
  let c3_508 : Index := 3#32
  let c248_509 : Index := 248#32
  let c0_510 : Index := 0#32
  ![v834.toNat, 0, 3, 248, 0]
def k0_off1616 (i : grid0.Coords) (k0_t6 : Fin (k0_t6_loop i).trips) : Fin 5 → Nat :=
  let c0_i32_447 : BitVec 32 := 0#32
  let c1_i32_449 : BitVec 32 := 1#32
  let arg14 : BitVec 32 := Scf.iv c0_i32_447 c1_i32_449 k0_t6
  let v839 : Index := Scalar.indexCast arg14
  let c1_511 : Index := 1#32
  let c0_512 : Index := 0#32
  let c248_513 : Index := 248#32
  let c0_514 : Index := 0#32
  ![v839.toNat, 1, 0, 248, 0]
def k0_off1617 (i : grid0.Coords) (k0_t6 : Fin (k0_t6_loop i).trips) : Fin 5 → Nat :=
  let c0_i32_447 : BitVec 32 := 0#32
  let c1_i32_449 : BitVec 32 := 1#32
  let arg14 : BitVec 32 := Scf.iv c0_i32_447 c1_i32_449 k0_t6
  let v844 : Index := Scalar.indexCast arg14
  let c1_515 : Index := 1#32
  let c1_516 : Index := 1#32
  let c248_517 : Index := 248#32
  let c0_518 : Index := 0#32
  ![v844.toNat, 1, 1, 248, 0]
def k0_off1618 (i : grid0.Coords) (k0_t6 : Fin (k0_t6_loop i).trips) : Fin 5 → Nat :=
  let c0_i32_447 : BitVec 32 := 0#32
  let c1_i32_449 : BitVec 32 := 1#32
  let arg14 : BitVec 32 := Scf.iv c0_i32_447 c1_i32_449 k0_t6
  let v849 : Index := Scalar.indexCast arg14
  let c1_519 : Index := 1#32
  let c2_520 : Index := 2#32
  let c248_521 : Index := 248#32
  let c0_522 : Index := 0#32
  ![v849.toNat, 1, 2, 248, 0]
def k0_off1619 (i : grid0.Coords) (k0_t6 : Fin (k0_t6_loop i).trips) : Fin 5 → Nat :=
  let c0_i32_447 : BitVec 32 := 0#32
  let c1_i32_449 : BitVec 32 := 1#32
  let arg14 : BitVec 32 := Scf.iv c0_i32_447 c1_i32_449 k0_t6
  let v854 : Index := Scalar.indexCast arg14
  let c1_523 : Index := 1#32
  let c3_524 : Index := 3#32
  let c248_525 : Index := 248#32
  let c0_526 : Index := 0#32
  ![v854.toNat, 1, 3, 248, 0]
@[reducible] def k0_t7_loop (i : grid0.Coords) : Scf.Loop 32 :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let v709 : BitVec 32 := Scalar.addi c0_i32_447 v708
  let c1_i32_450 : BitVec 32 := 1#32
  ⟨v712, v709, c1_i32_450⟩
def k0_off1620 (i : grid0.Coords) (k0_t7 : Fin (k0_t7_loop i).trips) : Fin 5 → Nat :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let c1_i32_450 : BitVec 32 := 1#32
  let arg14 : BitVec 32 := Scf.iv v712 c1_i32_450 k0_t7
  let v819 : Index := Scalar.indexCast arg14
  let c0_496 : Index := 0#32
  let c0_497 : Index := 0#32
  let c248 : Index := 248#32
  let c0_498 : Index := 0#32
  ![v819.toNat, 0, 0, 248, 0]
def k0_off1621 (i : grid0.Coords) (k0_t7 : Fin (k0_t7_loop i).trips) : Fin 5 → Nat :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let c1_i32_450 : BitVec 32 := 1#32
  let arg14 : BitVec 32 := Scf.iv v712 c1_i32_450 k0_t7
  let v824 : Index := Scalar.indexCast arg14
  let c0_499 : Index := 0#32
  let c1_500 : Index := 1#32
  let c248_501 : Index := 248#32
  let c0_502 : Index := 0#32
  ![v824.toNat, 0, 1, 248, 0]
def k0_off1622 (i : grid0.Coords) (k0_t7 : Fin (k0_t7_loop i).trips) : Fin 5 → Nat :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let c1_i32_450 : BitVec 32 := 1#32
  let arg14 : BitVec 32 := Scf.iv v712 c1_i32_450 k0_t7
  let v829 : Index := Scalar.indexCast arg14
  let c0_503 : Index := 0#32
  let c2_504 : Index := 2#32
  let c248_505 : Index := 248#32
  let c0_506 : Index := 0#32
  ![v829.toNat, 0, 2, 248, 0]
def k0_off1623 (i : grid0.Coords) (k0_t7 : Fin (k0_t7_loop i).trips) : Fin 5 → Nat :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let c1_i32_450 : BitVec 32 := 1#32
  let arg14 : BitVec 32 := Scf.iv v712 c1_i32_450 k0_t7
  let v834 : Index := Scalar.indexCast arg14
  let c0_507 : Index := 0#32
  let c3_508 : Index := 3#32
  let c248_509 : Index := 248#32
  let c0_510 : Index := 0#32
  ![v834.toNat, 0, 3, 248, 0]
def k0_off1624 (i : grid0.Coords) (k0_t7 : Fin (k0_t7_loop i).trips) : Fin 5 → Nat :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let c1_i32_450 : BitVec 32 := 1#32
  let arg14 : BitVec 32 := Scf.iv v712 c1_i32_450 k0_t7
  let v839 : Index := Scalar.indexCast arg14
  let c1_511 : Index := 1#32
  let c0_512 : Index := 0#32
  let c248_513 : Index := 248#32
  let c0_514 : Index := 0#32
  ![v839.toNat, 1, 0, 248, 0]
def k0_off1625 (i : grid0.Coords) (k0_t7 : Fin (k0_t7_loop i).trips) : Fin 5 → Nat :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let c1_i32_450 : BitVec 32 := 1#32
  let arg14 : BitVec 32 := Scf.iv v712 c1_i32_450 k0_t7
  let v844 : Index := Scalar.indexCast arg14
  let c1_515 : Index := 1#32
  let c1_516 : Index := 1#32
  let c248_517 : Index := 248#32
  let c0_518 : Index := 0#32
  ![v844.toNat, 1, 1, 248, 0]
def k0_off1626 (i : grid0.Coords) (k0_t7 : Fin (k0_t7_loop i).trips) : Fin 5 → Nat :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let c1_i32_450 : BitVec 32 := 1#32
  let arg14 : BitVec 32 := Scf.iv v712 c1_i32_450 k0_t7
  let v849 : Index := Scalar.indexCast arg14
  let c1_519 : Index := 1#32
  let c2_520 : Index := 2#32
  let c248_521 : Index := 248#32
  let c0_522 : Index := 0#32
  ![v849.toNat, 1, 2, 248, 0]
def k0_off1627 (i : grid0.Coords) (k0_t7 : Fin (k0_t7_loop i).trips) : Fin 5 → Nat :=
  let c0_i32_447 : BitVec 32 := 0#32
  let arg1 : BitVec 32 := BitVec.ofNat 32 (i 1).val
  let c1_i32 : BitVec 32 := 1#32
  let v0 : BitVec 32 := Scalar.addi arg1 c1_i32
  let v708 : BitVec 32 := Scalar.subi v0 c0_i32_447
  let c1_i32_448 : BitVec 32 := 1#32
  let v710 : BitVec 32 := Scalar.divsi v708 c1_i32_448
  let v711 : BitVec 32 := Scalar.muli v710 c1_i32_448
  let v712 : BitVec 32 := Scalar.addi c0_i32_447 v711
  let c1_i32_450 : BitVec 32 := 1#32
  let arg14 : BitVec 32 := Scf.iv v712 c1_i32_450 k0_t7
  let v854 : Index := Scalar.indexCast arg14
  let c1_523 : Index := 1#32
  let c3_524 : Index := 3#32
  let c248_525 : Index := 248#32
  let c0_526 : Index := 0#32
  ![v854.toNat, 1, 3, 248, 0]
@[reducible] def k0_t8_loop : Scf.Loop 32 :=
  let c0_i32_455 : BitVec 32 := 0#32
  let c32_i32_456 : BitVec 32 := 32#32
  let v731 : BitVec 32 := Scalar.addi c0_i32_455 c32_i32_456
  let c1_i32_457 : BitVec 32 := 1#32
  ⟨c0_i32_455, v731, c1_i32_457⟩
def k0_mult8 (k0_t8 : Fin k0_t8_loop.trips) : BitVec 32 :=
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  v820
def k0_mult9 (k0_t8 : Fin k0_t8_loop.trips) : BitVec 32 :=
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  v824
@[reducible] def k0_t9_loop (i : grid0.Coords) : Scf.Loop 32 :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_503 : BitVec 32 := 1#32
  ⟨c0_i32_501, v835, c1_i32_503⟩
def k0_off1628 (i : grid0.Coords) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v872 : Index := Scalar.indexCast v871
  let c0_515 : Index := 0#32
  let c0_516 : Index := 0#32
  let c0_517 : Index := 0#32
  let c0_518 : Index := 0#32
  ![v872.toNat, 0, 0, 0, 0]
def k0_off1629 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v875 : Index := Scalar.indexCast v871
  let c0_519 : Index := 0#32
  let c0_520 : Index := 0#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v876 : Index := Scalar.indexCast v821
  let c0_521 : Index := 0#32
  ![v875.toNat, 0, 0, v876.toNat, 0]
def k0_off1630 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v896 : Index := Scalar.indexCast v871
  let c0_535 : Index := 0#32
  let c0_536 : Index := 0#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v897 : Index := Scalar.indexCast v825
  let c0_537 : Index := 0#32
  ![v896.toNat, 0, 0, v897.toNat, 0]
def k0_off1631 (i : grid0.Coords) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v903 : Index := Scalar.indexCast v871
  let c0_538 : Index := 0#32
  let c1_539 : Index := 1#32
  let c0_540 : Index := 0#32
  let c0_541 : Index := 0#32
  ![v903.toNat, 0, 1, 0, 0]
def k0_off1632 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v906 : Index := Scalar.indexCast v871
  let c0_542 : Index := 0#32
  let c1_543 : Index := 1#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v907 : Index := Scalar.indexCast v821
  let c0_544 : Index := 0#32
  ![v906.toNat, 0, 1, v907.toNat, 0]
def k0_off1633 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v927 : Index := Scalar.indexCast v871
  let c0_558 : Index := 0#32
  let c1_559 : Index := 1#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v928 : Index := Scalar.indexCast v825
  let c0_560 : Index := 0#32
  ![v927.toNat, 0, 1, v928.toNat, 0]
def k0_off1634 (i : grid0.Coords) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v934 : Index := Scalar.indexCast v871
  let c0_561 : Index := 0#32
  let c2_562 : Index := 2#32
  let c0_563 : Index := 0#32
  let c0_564 : Index := 0#32
  ![v934.toNat, 0, 2, 0, 0]
def k0_off1635 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v937 : Index := Scalar.indexCast v871
  let c0_565 : Index := 0#32
  let c2_566 : Index := 2#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v938 : Index := Scalar.indexCast v821
  let c0_567 : Index := 0#32
  ![v937.toNat, 0, 2, v938.toNat, 0]
def k0_off1636 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v958 : Index := Scalar.indexCast v871
  let c0_581 : Index := 0#32
  let c2_582 : Index := 2#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v959 : Index := Scalar.indexCast v825
  let c0_583 : Index := 0#32
  ![v958.toNat, 0, 2, v959.toNat, 0]
def k0_off1637 (i : grid0.Coords) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v965 : Index := Scalar.indexCast v871
  let c0_584 : Index := 0#32
  let c3_585 : Index := 3#32
  let c0_586 : Index := 0#32
  let c0_587 : Index := 0#32
  ![v965.toNat, 0, 3, 0, 0]
def k0_off1638 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v968 : Index := Scalar.indexCast v871
  let c0_588 : Index := 0#32
  let c3_589 : Index := 3#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v969 : Index := Scalar.indexCast v821
  let c0_590 : Index := 0#32
  ![v968.toNat, 0, 3, v969.toNat, 0]
def k0_off1639 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v989 : Index := Scalar.indexCast v871
  let c0_604 : Index := 0#32
  let c3_605 : Index := 3#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v990 : Index := Scalar.indexCast v825
  let c0_606 : Index := 0#32
  ![v989.toNat, 0, 3, v990.toNat, 0]
def k0_off1640 (i : grid0.Coords) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v996 : Index := Scalar.indexCast v871
  let c1_607 : Index := 1#32
  let c0_608 : Index := 0#32
  let c0_609 : Index := 0#32
  let c0_610 : Index := 0#32
  ![v996.toNat, 1, 0, 0, 0]
def k0_off1641 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v999 : Index := Scalar.indexCast v871
  let c1_611 : Index := 1#32
  let c0_612 : Index := 0#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v1000 : Index := Scalar.indexCast v821
  let c0_613 : Index := 0#32
  ![v999.toNat, 1, 0, v1000.toNat, 0]
def k0_off1642 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1020 : Index := Scalar.indexCast v871
  let c1_627 : Index := 1#32
  let c0_628 : Index := 0#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v1021 : Index := Scalar.indexCast v825
  let c0_629 : Index := 0#32
  ![v1020.toNat, 1, 0, v1021.toNat, 0]
def k0_off1643 (i : grid0.Coords) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1027 : Index := Scalar.indexCast v871
  let c1_630 : Index := 1#32
  let c1_631 : Index := 1#32
  let c0_632 : Index := 0#32
  let c0_633 : Index := 0#32
  ![v1027.toNat, 1, 1, 0, 0]
def k0_off1644 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1030 : Index := Scalar.indexCast v871
  let c1_634 : Index := 1#32
  let c1_635 : Index := 1#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v1031 : Index := Scalar.indexCast v821
  let c0_636 : Index := 0#32
  ![v1030.toNat, 1, 1, v1031.toNat, 0]
def k0_off1645 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1051 : Index := Scalar.indexCast v871
  let c1_650 : Index := 1#32
  let c1_651 : Index := 1#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v1052 : Index := Scalar.indexCast v825
  let c0_652 : Index := 0#32
  ![v1051.toNat, 1, 1, v1052.toNat, 0]
def k0_off1646 (i : grid0.Coords) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1058 : Index := Scalar.indexCast v871
  let c1_653 : Index := 1#32
  let c2_654 : Index := 2#32
  let c0_655 : Index := 0#32
  let c0_656 : Index := 0#32
  ![v1058.toNat, 1, 2, 0, 0]
def k0_off1647 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1061 : Index := Scalar.indexCast v871
  let c1_657 : Index := 1#32
  let c2_658 : Index := 2#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v1062 : Index := Scalar.indexCast v821
  let c0_659 : Index := 0#32
  ![v1061.toNat, 1, 2, v1062.toNat, 0]
def k0_off1648 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1082 : Index := Scalar.indexCast v871
  let c1_673 : Index := 1#32
  let c2_674 : Index := 2#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v1083 : Index := Scalar.indexCast v825
  let c0_675 : Index := 0#32
  ![v1082.toNat, 1, 2, v1083.toNat, 0]
def k0_off1649 (i : grid0.Coords) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1089 : Index := Scalar.indexCast v871
  let c1_676 : Index := 1#32
  let c3_677 : Index := 3#32
  let c0_678 : Index := 0#32
  let c0_679 : Index := 0#32
  ![v1089.toNat, 1, 3, 0, 0]
def k0_off1650 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1092 : Index := Scalar.indexCast v871
  let c1_680 : Index := 1#32
  let c3_681 : Index := 3#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v1093 : Index := Scalar.indexCast v821
  let c0_682 : Index := 0#32
  ![v1092.toNat, 1, 3, v1093.toNat, 0]
def k0_off1651 (i : grid0.Coords) (k0_t8 : Fin k0_t8_loop.trips) (k0_t9 : Fin (k0_t9_loop i).trips) (c0_i32_514 : BitVec 32) : Fin 5 → Nat :=
  let c0_i32_501 : BitVec 32 := 0#32
  let c1_i32_503 : BitVec 32 := 1#32
  let arg27 : BitVec 32 := Scf.iv c0_i32_501 c1_i32_503 k0_t9
  let c4_i32_513 : BitVec 32 := 4#32
  let v870 : BitVec 32 := Scalar.muli arg27 c4_i32_513
  let v871 : BitVec 32 := Scalar.addi v870 c0_i32_514
  let v1113 : Index := Scalar.indexCast v871
  let c1_696 : Index := 1#32
  let c3_697 : Index := 3#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v1114 : Index := Scalar.indexCast v825
  let c0_698 : Index := 0#32
  ![v1113.toNat, 1, 3, v1114.toNat, 0]
@[reducible] def k0_t10_loop (i : grid0.Coords) : Scf.Loop 32 :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let v832 : BitVec 32 := Scalar.addi c0_i32_501 v831
  let c1_i32_504 : BitVec 32 := 1#32
  ⟨v835, v832, c1_i32_504⟩
def k0_off1652 (i : grid0.Coords) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v872 : Index := Scalar.indexCast v871
  let c0_515 : Index := 0#32
  let c0_516 : Index := 0#32
  let c0_517 : Index := 0#32
  let c0_518 : Index := 0#32
  ![v872.toNat, 0, 0, 0, 0]
def k0_off1653 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v875 : Index := Scalar.indexCast v871
  let c0_519 : Index := 0#32
  let c0_520 : Index := 0#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v876 : Index := Scalar.indexCast v821
  let c0_521 : Index := 0#32
  ![v875.toNat, 0, 0, v876.toNat, 0]
def k0_off1654 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v896 : Index := Scalar.indexCast v871
  let c0_535 : Index := 0#32
  let c0_536 : Index := 0#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v897 : Index := Scalar.indexCast v825
  let c0_537 : Index := 0#32
  ![v896.toNat, 0, 0, v897.toNat, 0]
def k0_off1655 (i : grid0.Coords) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v903 : Index := Scalar.indexCast v871
  let c0_538 : Index := 0#32
  let c1_539 : Index := 1#32
  let c0_540 : Index := 0#32
  let c0_541 : Index := 0#32
  ![v903.toNat, 0, 1, 0, 0]
def k0_off1656 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v906 : Index := Scalar.indexCast v871
  let c0_542 : Index := 0#32
  let c1_543 : Index := 1#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v907 : Index := Scalar.indexCast v821
  let c0_544 : Index := 0#32
  ![v906.toNat, 0, 1, v907.toNat, 0]
def k0_off1657 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v927 : Index := Scalar.indexCast v871
  let c0_558 : Index := 0#32
  let c1_559 : Index := 1#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v928 : Index := Scalar.indexCast v825
  let c0_560 : Index := 0#32
  ![v927.toNat, 0, 1, v928.toNat, 0]
def k0_off1658 (i : grid0.Coords) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v934 : Index := Scalar.indexCast v871
  let c0_561 : Index := 0#32
  let c2_562 : Index := 2#32
  let c0_563 : Index := 0#32
  let c0_564 : Index := 0#32
  ![v934.toNat, 0, 2, 0, 0]
def k0_off1659 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v937 : Index := Scalar.indexCast v871
  let c0_565 : Index := 0#32
  let c2_566 : Index := 2#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v938 : Index := Scalar.indexCast v821
  let c0_567 : Index := 0#32
  ![v937.toNat, 0, 2, v938.toNat, 0]
def k0_off1660 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v958 : Index := Scalar.indexCast v871
  let c0_581 : Index := 0#32
  let c2_582 : Index := 2#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v959 : Index := Scalar.indexCast v825
  let c0_583 : Index := 0#32
  ![v958.toNat, 0, 2, v959.toNat, 0]
def k0_off1661 (i : grid0.Coords) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v965 : Index := Scalar.indexCast v871
  let c0_584 : Index := 0#32
  let c3_585 : Index := 3#32
  let c0_586 : Index := 0#32
  let c0_587 : Index := 0#32
  ![v965.toNat, 0, 3, 0, 0]
def k0_off1662 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v968 : Index := Scalar.indexCast v871
  let c0_588 : Index := 0#32
  let c3_589 : Index := 3#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v969 : Index := Scalar.indexCast v821
  let c0_590 : Index := 0#32
  ![v968.toNat, 0, 3, v969.toNat, 0]
def k0_off1663 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v989 : Index := Scalar.indexCast v871
  let c0_604 : Index := 0#32
  let c3_605 : Index := 3#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v990 : Index := Scalar.indexCast v825
  let c0_606 : Index := 0#32
  ![v989.toNat, 0, 3, v990.toNat, 0]
def k0_off1664 (i : grid0.Coords) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v996 : Index := Scalar.indexCast v871
  let c1_607 : Index := 1#32
  let c0_608 : Index := 0#32
  let c0_609 : Index := 0#32
  let c0_610 : Index := 0#32
  ![v996.toNat, 1, 0, 0, 0]
def k0_off1665 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v999 : Index := Scalar.indexCast v871
  let c1_611 : Index := 1#32
  let c0_612 : Index := 0#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v1000 : Index := Scalar.indexCast v821
  let c0_613 : Index := 0#32
  ![v999.toNat, 1, 0, v1000.toNat, 0]
def k0_off1666 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1020 : Index := Scalar.indexCast v871
  let c1_627 : Index := 1#32
  let c0_628 : Index := 0#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v1021 : Index := Scalar.indexCast v825
  let c0_629 : Index := 0#32
  ![v1020.toNat, 1, 0, v1021.toNat, 0]
def k0_off1667 (i : grid0.Coords) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1027 : Index := Scalar.indexCast v871
  let c1_630 : Index := 1#32
  let c1_631 : Index := 1#32
  let c0_632 : Index := 0#32
  let c0_633 : Index := 0#32
  ![v1027.toNat, 1, 1, 0, 0]
def k0_off1668 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1030 : Index := Scalar.indexCast v871
  let c1_634 : Index := 1#32
  let c1_635 : Index := 1#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v1031 : Index := Scalar.indexCast v821
  let c0_636 : Index := 0#32
  ![v1030.toNat, 1, 1, v1031.toNat, 0]
def k0_off1669 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1051 : Index := Scalar.indexCast v871
  let c1_650 : Index := 1#32
  let c1_651 : Index := 1#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v1052 : Index := Scalar.indexCast v825
  let c0_652 : Index := 0#32
  ![v1051.toNat, 1, 1, v1052.toNat, 0]
def k0_off1670 (i : grid0.Coords) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1058 : Index := Scalar.indexCast v871
  let c1_653 : Index := 1#32
  let c2_654 : Index := 2#32
  let c0_655 : Index := 0#32
  let c0_656 : Index := 0#32
  ![v1058.toNat, 1, 2, 0, 0]
def k0_off1671 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1061 : Index := Scalar.indexCast v871
  let c1_657 : Index := 1#32
  let c2_658 : Index := 2#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v1062 : Index := Scalar.indexCast v821
  let c0_659 : Index := 0#32
  ![v1061.toNat, 1, 2, v1062.toNat, 0]
def k0_off1672 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1082 : Index := Scalar.indexCast v871
  let c1_673 : Index := 1#32
  let c2_674 : Index := 2#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v1083 : Index := Scalar.indexCast v825
  let c0_675 : Index := 0#32
  ![v1082.toNat, 1, 2, v1083.toNat, 0]
def k0_off1673 (i : grid0.Coords) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1089 : Index := Scalar.indexCast v871
  let c1_676 : Index := 1#32
  let c3_677 : Index := 3#32
  let c0_678 : Index := 0#32
  let c0_679 : Index := 0#32
  ![v1089.toNat, 1, 3, 0, 0]
def k0_off1674 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1092 : Index := Scalar.indexCast v871
  let c1_680 : Index := 1#32
  let c3_681 : Index := 3#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c8_i32_496 : BitVec 32 := 8#32
  let v820 : BitVec 32 := Scalar.muli v819 c8_i32_496
  let v821 : BitVec 32 := v820
  let v1093 : Index := Scalar.indexCast v821
  let c0_682 : Index := 0#32
  ![v1092.toNat, 1, 3, v1093.toNat, 0]
def k0_off1675 (i : grid0.Coords) (k0_t8 : Fin k0_t8_loop.trips) (k0_t10 : Fin (k0_t10_loop i).trips) (c0_i32_514 : BitVec 32) : Fin 5 → Nat :=
  let c0_i32_501 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v695 : BitVec 32 := Scalar.addi v0 c4_i32
  let c1_i32_436 : BitVec 32 := 1#32
  let v696 : BitVec 32 := Scalar.subi v695 c1_i32_436
  let c4_i32_437 : BitVec 32 := 4#32
  let v697 : BitVec 32 := Scalar.divsi v696 c4_i32_437
  let v831 : BitVec 32 := Scalar.subi v697 c0_i32_501
  let c1_i32_502 : BitVec 32 := 1#32
  let v833 : BitVec 32 := Scalar.divsi v831 c1_i32_502
  let v834 : BitVec 32 := Scalar.muli v833 c1_i32_502
  let v835 : BitVec 32 := Scalar.addi c0_i32_501 v834
  let c1_i32_504 : BitVec 32 := 1#32
  let arg27 : BitVec 32 := Scf.iv v835 c1_i32_504 k0_t10
  let c4_i32_513 : BitVec 32 := 4#32
  let v870 : BitVec 32 := Scalar.muli arg27 c4_i32_513
  let v871 : BitVec 32 := Scalar.addi v870 c0_i32_514
  let v1113 : Index := Scalar.indexCast v871
  let c1_696 : Index := 1#32
  let c3_697 : Index := 3#32
  let c31_i32 : BitVec 32 := 31#32
  let c0_i32_455 : BitVec 32 := 0#32
  let c1_i32_457 : BitVec 32 := 1#32
  let arg14 : BitVec 32 := Scf.iv c0_i32_455 c1_i32_457 k0_t8
  let v819 : BitVec 32 := Scalar.subi c31_i32 arg14
  let c1_i32_497 : BitVec 32 := 1#32
  let v822 : BitVec 32 := Scalar.subi v819 c1_i32_497
  let c0_i32_498 : BitVec 32 := 0#32
  let v823 : BitVec 32 := Scalar.maxsi v822 c0_i32_498
  let c8_i32_499 : BitVec 32 := 8#32
  let v824 : BitVec 32 := Scalar.muli v823 c8_i32_499
  let v825 : BitVec 32 := v824
  let v1114 : Index := Scalar.indexCast v825
  let c0_698 : Index := 0#32
  ![v1113.toNat, 1, 3, v1114.toNat, 0]
@[reducible] def k0_t11_loop (i : grid0.Coords) : Scf.Loop 32 :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let c1_i32_466 : BitVec 32 := 1#32
  ⟨c0_i32_464, v746, c1_i32_466⟩
def k0_off1676 (i : grid0.Coords) (k0_t11 : Fin (k0_t11_loop i).trips) : Fin 5 → Nat :=
  let c0_i32_464 : BitVec 32 := 0#32
  let c1_i32_466 : BitVec 32 := 1#32
  let arg14 : BitVec 32 := Scf.iv c0_i32_464 c1_i32_466 k0_t11
  let v819 : Index := Scalar.indexCast arg14
  let c0_496 : Index := 0#32
  let c0_497 : Index := 0#32
  let c0_498 : Index := 0#32
  let c0_499 : Index := 0#32
  ![v819.toNat, 0, 0, 0, 0]
def k0_off1677 (i : grid0.Coords) (k0_t11 : Fin (k0_t11_loop i).trips) : Fin 5 → Nat :=
  let c0_i32_464 : BitVec 32 := 0#32
  let c1_i32_466 : BitVec 32 := 1#32
  let arg14 : BitVec 32 := Scf.iv c0_i32_464 c1_i32_466 k0_t11
  let v824 : Index := Scalar.indexCast arg14
  let c0_500 : Index := 0#32
  let c1_501 : Index := 1#32
  let c0_502 : Index := 0#32
  let c0_503 : Index := 0#32
  ![v824.toNat, 0, 1, 0, 0]
def k0_off1678 (i : grid0.Coords) (k0_t11 : Fin (k0_t11_loop i).trips) : Fin 5 → Nat :=
  let c0_i32_464 : BitVec 32 := 0#32
  let c1_i32_466 : BitVec 32 := 1#32
  let arg14 : BitVec 32 := Scf.iv c0_i32_464 c1_i32_466 k0_t11
  let v829 : Index := Scalar.indexCast arg14
  let c0_504 : Index := 0#32
  let c2_505 : Index := 2#32
  let c0_506 : Index := 0#32
  let c0_507 : Index := 0#32
  ![v829.toNat, 0, 2, 0, 0]
def k0_off1679 (i : grid0.Coords) (k0_t11 : Fin (k0_t11_loop i).trips) : Fin 5 → Nat :=
  let c0_i32_464 : BitVec 32 := 0#32
  let c1_i32_466 : BitVec 32 := 1#32
  let arg14 : BitVec 32 := Scf.iv c0_i32_464 c1_i32_466 k0_t11
  let v834 : Index := Scalar.indexCast arg14
  let c0_508 : Index := 0#32
  let c3_509 : Index := 3#32
  let c0_510 : Index := 0#32
  let c0_511 : Index := 0#32
  ![v834.toNat, 0, 3, 0, 0]
def k0_off1680 (i : grid0.Coords) (k0_t11 : Fin (k0_t11_loop i).trips) : Fin 5 → Nat :=
  let c0_i32_464 : BitVec 32 := 0#32
  let c1_i32_466 : BitVec 32 := 1#32
  let arg14 : BitVec 32 := Scf.iv c0_i32_464 c1_i32_466 k0_t11
  let v839 : Index := Scalar.indexCast arg14
  let c1_512 : Index := 1#32
  let c0_513 : Index := 0#32
  let c0_514 : Index := 0#32
  let c0_515 : Index := 0#32
  ![v839.toNat, 1, 0, 0, 0]
def k0_off1681 (i : grid0.Coords) (k0_t11 : Fin (k0_t11_loop i).trips) : Fin 5 → Nat :=
  let c0_i32_464 : BitVec 32 := 0#32
  let c1_i32_466 : BitVec 32 := 1#32
  let arg14 : BitVec 32 := Scf.iv c0_i32_464 c1_i32_466 k0_t11
  let v844 : Index := Scalar.indexCast arg14
  let c1_516 : Index := 1#32
  let c1_517 : Index := 1#32
  let c0_518 : Index := 0#32
  let c0_519 : Index := 0#32
  ![v844.toNat, 1, 1, 0, 0]
def k0_off1682 (i : grid0.Coords) (k0_t11 : Fin (k0_t11_loop i).trips) : Fin 5 → Nat :=
  let c0_i32_464 : BitVec 32 := 0#32
  let c1_i32_466 : BitVec 32 := 1#32
  let arg14 : BitVec 32 := Scf.iv c0_i32_464 c1_i32_466 k0_t11
  let v849 : Index := Scalar.indexCast arg14
  let c1_520 : Index := 1#32
  let c2_521 : Index := 2#32
  let c0_522 : Index := 0#32
  let c0_523 : Index := 0#32
  ![v849.toNat, 1, 2, 0, 0]
def k0_off1683 (i : grid0.Coords) (k0_t11 : Fin (k0_t11_loop i).trips) : Fin 5 → Nat :=
  let c0_i32_464 : BitVec 32 := 0#32
  let c1_i32_466 : BitVec 32 := 1#32
  let arg14 : BitVec 32 := Scf.iv c0_i32_464 c1_i32_466 k0_t11
  let v854 : Index := Scalar.indexCast arg14
  let c1_524 : Index := 1#32
  let c3_525 : Index := 3#32
  let c0_526 : Index := 0#32
  let c0_527 : Index := 0#32
  ![v854.toNat, 1, 3, 0, 0]
@[reducible] def k0_t12_loop (i : grid0.Coords) : Scf.Loop 32 :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let v743 : BitVec 32 := Scalar.addi c0_i32_464 v742
  let c1_i32_467 : BitVec 32 := 1#32
  ⟨v746, v743, c1_i32_467⟩
def k0_off1684 (i : grid0.Coords) (k0_t12 : Fin (k0_t12_loop i).trips) : Fin 5 → Nat :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let c1_i32_467 : BitVec 32 := 1#32
  let arg14 : BitVec 32 := Scf.iv v746 c1_i32_467 k0_t12
  let v819 : Index := Scalar.indexCast arg14
  let c0_496 : Index := 0#32
  let c0_497 : Index := 0#32
  let c0_498 : Index := 0#32
  let c0_499 : Index := 0#32
  ![v819.toNat, 0, 0, 0, 0]
def k0_off1685 (i : grid0.Coords) (k0_t12 : Fin (k0_t12_loop i).trips) : Fin 5 → Nat :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let c1_i32_467 : BitVec 32 := 1#32
  let arg14 : BitVec 32 := Scf.iv v746 c1_i32_467 k0_t12
  let v824 : Index := Scalar.indexCast arg14
  let c0_500 : Index := 0#32
  let c1_501 : Index := 1#32
  let c0_502 : Index := 0#32
  let c0_503 : Index := 0#32
  ![v824.toNat, 0, 1, 0, 0]
def k0_off1686 (i : grid0.Coords) (k0_t12 : Fin (k0_t12_loop i).trips) : Fin 5 → Nat :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let c1_i32_467 : BitVec 32 := 1#32
  let arg14 : BitVec 32 := Scf.iv v746 c1_i32_467 k0_t12
  let v829 : Index := Scalar.indexCast arg14
  let c0_504 : Index := 0#32
  let c2_505 : Index := 2#32
  let c0_506 : Index := 0#32
  let c0_507 : Index := 0#32
  ![v829.toNat, 0, 2, 0, 0]
def k0_off1687 (i : grid0.Coords) (k0_t12 : Fin (k0_t12_loop i).trips) : Fin 5 → Nat :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let c1_i32_467 : BitVec 32 := 1#32
  let arg14 : BitVec 32 := Scf.iv v746 c1_i32_467 k0_t12
  let v834 : Index := Scalar.indexCast arg14
  let c0_508 : Index := 0#32
  let c3_509 : Index := 3#32
  let c0_510 : Index := 0#32
  let c0_511 : Index := 0#32
  ![v834.toNat, 0, 3, 0, 0]
def k0_off1688 (i : grid0.Coords) (k0_t12 : Fin (k0_t12_loop i).trips) : Fin 5 → Nat :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let c1_i32_467 : BitVec 32 := 1#32
  let arg14 : BitVec 32 := Scf.iv v746 c1_i32_467 k0_t12
  let v839 : Index := Scalar.indexCast arg14
  let c1_512 : Index := 1#32
  let c0_513 : Index := 0#32
  let c0_514 : Index := 0#32
  let c0_515 : Index := 0#32
  ![v839.toNat, 1, 0, 0, 0]
def k0_off1689 (i : grid0.Coords) (k0_t12 : Fin (k0_t12_loop i).trips) : Fin 5 → Nat :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let c1_i32_467 : BitVec 32 := 1#32
  let arg14 : BitVec 32 := Scf.iv v746 c1_i32_467 k0_t12
  let v844 : Index := Scalar.indexCast arg14
  let c1_516 : Index := 1#32
  let c1_517 : Index := 1#32
  let c0_518 : Index := 0#32
  let c0_519 : Index := 0#32
  ![v844.toNat, 1, 1, 0, 0]
def k0_off1690 (i : grid0.Coords) (k0_t12 : Fin (k0_t12_loop i).trips) : Fin 5 → Nat :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let c1_i32_467 : BitVec 32 := 1#32
  let arg14 : BitVec 32 := Scf.iv v746 c1_i32_467 k0_t12
  let v849 : Index := Scalar.indexCast arg14
  let c1_520 : Index := 1#32
  let c2_521 : Index := 2#32
  let c0_522 : Index := 0#32
  let c0_523 : Index := 0#32
  ![v849.toNat, 1, 2, 0, 0]
def k0_off1691 (i : grid0.Coords) (k0_t12 : Fin (k0_t12_loop i).trips) : Fin 5 → Nat :=
  let c0_i32_464 : BitVec 32 := 0#32
  let arg1 : BitVec 32 := BitVec.ofNat 32 (i 1).val
  let c1_i32 : BitVec 32 := 1#32
  let v0 : BitVec 32 := Scalar.addi arg1 c1_i32
  let v742 : BitVec 32 := Scalar.subi v0 c0_i32_464
  let c1_i32_465 : BitVec 32 := 1#32
  let v744 : BitVec 32 := Scalar.divsi v742 c1_i32_465
  let v745 : BitVec 32 := Scalar.muli v744 c1_i32_465
  let v746 : BitVec 32 := Scalar.addi c0_i32_464 v745
  let c1_i32_467 : BitVec 32 := 1#32
  let arg14 : BitVec 32 := Scf.iv v746 c1_i32_467 k0_t12
  let v854 : Index := Scalar.indexCast arg14
  let c1_524 : Index := 1#32
  let c3_525 : Index := 3#32
  let c0_526 : Index := 0#32
  let c0_527 : Index := 0#32
  ![v854.toNat, 1, 3, 0, 0]
@[reducible] def k0_t13_loop : Scf.Loop 32 :=
  let c0_i32_497 : BitVec 32 := 0#32
  let c14_i32 : BitVec 32 := 14#32
  let v820 : BitVec 32 := Scalar.addi c0_i32_497 c14_i32
  let c1_i32_498 : BitVec 32 := 1#32
  ⟨c0_i32_497, v820, c1_i32_498⟩
@[reducible] def k0_t14_loop (i : grid0.Coords) : Scf.Loop 32 :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let c1_i32_513 : BitVec 32 := 1#32
  ⟨c0_i32_511, v851, c1_i32_513⟩
def k0_off1692 (i : grid0.Coords) (k0_t14 : Fin (k0_t14_loop i).trips) : Fin 5 → Nat :=
  let c0_i32_511 : BitVec 32 := 0#32
  let c1_i32_513 : BitVec 32 := 1#32
  let arg19 : BitVec 32 := Scf.iv c0_i32_511 c1_i32_513 k0_t14
  let v878 : Index := Scalar.indexCast arg19
  let c0_519 : Index := 0#32
  let c0_520 : Index := 0#32
  let c0_521 : Index := 0#32
  let c0_522 : Index := 0#32
  ![v878.toNat, 0, 0, 0, 0]
def k0_off1693 (i : grid0.Coords) (k0_t14 : Fin (k0_t14_loop i).trips) : Fin 5 → Nat :=
  let c0_i32_511 : BitVec 32 := 0#32
  let c1_i32_513 : BitVec 32 := 1#32
  let arg19 : BitVec 32 := Scf.iv c0_i32_511 c1_i32_513 k0_t14
  let v909 : Index := Scalar.indexCast arg19
  let c0_531 : Index := 0#32
  let c1_532 : Index := 1#32
  let c0_533 : Index := 0#32
  let c0_534 : Index := 0#32
  ![v909.toNat, 0, 1, 0, 0]
def k0_off1694 (i : grid0.Coords) (k0_t14 : Fin (k0_t14_loop i).trips) : Fin 5 → Nat :=
  let c0_i32_511 : BitVec 32 := 0#32
  let c1_i32_513 : BitVec 32 := 1#32
  let arg19 : BitVec 32 := Scf.iv c0_i32_511 c1_i32_513 k0_t14
  let v940 : Index := Scalar.indexCast arg19
  let c0_547 : Index := 0#32
  let c2_548 : Index := 2#32
  let c0_549 : Index := 0#32
  let c0_550 : Index := 0#32
  ![v940.toNat, 0, 2, 0, 0]
def k0_off1695 (i : grid0.Coords) (k0_t14 : Fin (k0_t14_loop i).trips) : Fin 5 → Nat :=
  let c0_i32_511 : BitVec 32 := 0#32
  let c1_i32_513 : BitVec 32 := 1#32
  let arg19 : BitVec 32 := Scf.iv c0_i32_511 c1_i32_513 k0_t14
  let v971 : Index := Scalar.indexCast arg19
  let c0_563 : Index := 0#32
  let c3_564 : Index := 3#32
  let c0_565 : Index := 0#32
  let c0_566 : Index := 0#32
  ![v971.toNat, 0, 3, 0, 0]
def k0_off1696 (i : grid0.Coords) (k0_t14 : Fin (k0_t14_loop i).trips) : Fin 5 → Nat :=
  let c0_i32_511 : BitVec 32 := 0#32
  let c1_i32_513 : BitVec 32 := 1#32
  let arg19 : BitVec 32 := Scf.iv c0_i32_511 c1_i32_513 k0_t14
  let v1002 : Index := Scalar.indexCast arg19
  let c1_579 : Index := 1#32
  let c0_580 : Index := 0#32
  let c0_581 : Index := 0#32
  let c0_582 : Index := 0#32
  ![v1002.toNat, 1, 0, 0, 0]
def k0_off1697 (i : grid0.Coords) (k0_t14 : Fin (k0_t14_loop i).trips) : Fin 5 → Nat :=
  let c0_i32_511 : BitVec 32 := 0#32
  let c1_i32_513 : BitVec 32 := 1#32
  let arg19 : BitVec 32 := Scf.iv c0_i32_511 c1_i32_513 k0_t14
  let v1033 : Index := Scalar.indexCast arg19
  let c1_595 : Index := 1#32
  let c1_596 : Index := 1#32
  let c0_597 : Index := 0#32
  let c0_598 : Index := 0#32
  ![v1033.toNat, 1, 1, 0, 0]
def k0_off1698 (i : grid0.Coords) (k0_t14 : Fin (k0_t14_loop i).trips) : Fin 5 → Nat :=
  let c0_i32_511 : BitVec 32 := 0#32
  let c1_i32_513 : BitVec 32 := 1#32
  let arg19 : BitVec 32 := Scf.iv c0_i32_511 c1_i32_513 k0_t14
  let v1064 : Index := Scalar.indexCast arg19
  let c1_611 : Index := 1#32
  let c2_612 : Index := 2#32
  let c0_613 : Index := 0#32
  let c0_614 : Index := 0#32
  ![v1064.toNat, 1, 2, 0, 0]
def k0_off1699 (i : grid0.Coords) (k0_t14 : Fin (k0_t14_loop i).trips) : Fin 5 → Nat :=
  let c0_i32_511 : BitVec 32 := 0#32
  let c1_i32_513 : BitVec 32 := 1#32
  let arg19 : BitVec 32 := Scf.iv c0_i32_511 c1_i32_513 k0_t14
  let v1095 : Index := Scalar.indexCast arg19
  let c1_627 : Index := 1#32
  let c3_628 : Index := 3#32
  let c0_629 : Index := 0#32
  let c0_630 : Index := 0#32
  ![v1095.toNat, 1, 3, 0, 0]
@[reducible] def k0_t15_loop (i : grid0.Coords) : Scf.Loop 32 :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let v848 : BitVec 32 := Scalar.addi c0_i32_511 v847
  let c1_i32_514 : BitVec 32 := 1#32
  ⟨v851, v848, c1_i32_514⟩
def k0_off1700 (i : grid0.Coords) (k0_t15 : Fin (k0_t15_loop i).trips) : Fin 5 → Nat :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let c1_i32_514 : BitVec 32 := 1#32
  let arg19 : BitVec 32 := Scf.iv v851 c1_i32_514 k0_t15
  let v878 : Index := Scalar.indexCast arg19
  let c0_519 : Index := 0#32
  let c0_520 : Index := 0#32
  let c0_521 : Index := 0#32
  let c0_522 : Index := 0#32
  ![v878.toNat, 0, 0, 0, 0]
def k0_off1701 (i : grid0.Coords) (k0_t15 : Fin (k0_t15_loop i).trips) : Fin 5 → Nat :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let c1_i32_514 : BitVec 32 := 1#32
  let arg19 : BitVec 32 := Scf.iv v851 c1_i32_514 k0_t15
  let v909 : Index := Scalar.indexCast arg19
  let c0_531 : Index := 0#32
  let c1_532 : Index := 1#32
  let c0_533 : Index := 0#32
  let c0_534 : Index := 0#32
  ![v909.toNat, 0, 1, 0, 0]
def k0_off1702 (i : grid0.Coords) (k0_t15 : Fin (k0_t15_loop i).trips) : Fin 5 → Nat :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let c1_i32_514 : BitVec 32 := 1#32
  let arg19 : BitVec 32 := Scf.iv v851 c1_i32_514 k0_t15
  let v940 : Index := Scalar.indexCast arg19
  let c0_547 : Index := 0#32
  let c2_548 : Index := 2#32
  let c0_549 : Index := 0#32
  let c0_550 : Index := 0#32
  ![v940.toNat, 0, 2, 0, 0]
def k0_off1703 (i : grid0.Coords) (k0_t15 : Fin (k0_t15_loop i).trips) : Fin 5 → Nat :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let c1_i32_514 : BitVec 32 := 1#32
  let arg19 : BitVec 32 := Scf.iv v851 c1_i32_514 k0_t15
  let v971 : Index := Scalar.indexCast arg19
  let c0_563 : Index := 0#32
  let c3_564 : Index := 3#32
  let c0_565 : Index := 0#32
  let c0_566 : Index := 0#32
  ![v971.toNat, 0, 3, 0, 0]
def k0_off1704 (i : grid0.Coords) (k0_t15 : Fin (k0_t15_loop i).trips) : Fin 5 → Nat :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let c1_i32_514 : BitVec 32 := 1#32
  let arg19 : BitVec 32 := Scf.iv v851 c1_i32_514 k0_t15
  let v1002 : Index := Scalar.indexCast arg19
  let c1_579 : Index := 1#32
  let c0_580 : Index := 0#32
  let c0_581 : Index := 0#32
  let c0_582 : Index := 0#32
  ![v1002.toNat, 1, 0, 0, 0]
def k0_off1705 (i : grid0.Coords) (k0_t15 : Fin (k0_t15_loop i).trips) : Fin 5 → Nat :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let c1_i32_514 : BitVec 32 := 1#32
  let arg19 : BitVec 32 := Scf.iv v851 c1_i32_514 k0_t15
  let v1033 : Index := Scalar.indexCast arg19
  let c1_595 : Index := 1#32
  let c1_596 : Index := 1#32
  let c0_597 : Index := 0#32
  let c0_598 : Index := 0#32
  ![v1033.toNat, 1, 1, 0, 0]
def k0_off1706 (i : grid0.Coords) (k0_t15 : Fin (k0_t15_loop i).trips) : Fin 5 → Nat :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let c1_i32_514 : BitVec 32 := 1#32
  let arg19 : BitVec 32 := Scf.iv v851 c1_i32_514 k0_t15
  let v1064 : Index := Scalar.indexCast arg19
  let c1_611 : Index := 1#32
  let c2_612 : Index := 2#32
  let c0_613 : Index := 0#32
  let c0_614 : Index := 0#32
  ![v1064.toNat, 1, 2, 0, 0]
def k0_off1707 (i : grid0.Coords) (k0_t15 : Fin (k0_t15_loop i).trips) : Fin 5 → Nat :=
  let c0_i32_511 : BitVec 32 := 0#32
  let arg1 : BitVec 32 := BitVec.ofNat 32 (i 1).val
  let c1_i32 : BitVec 32 := 1#32
  let v0 : BitVec 32 := Scalar.addi arg1 c1_i32
  let v847 : BitVec 32 := Scalar.subi v0 c0_i32_511
  let c1_i32_512 : BitVec 32 := 1#32
  let v849 : BitVec 32 := Scalar.divsi v847 c1_i32_512
  let v850 : BitVec 32 := Scalar.muli v849 c1_i32_512
  let v851 : BitVec 32 := Scalar.addi c0_i32_511 v850
  let c1_i32_514 : BitVec 32 := 1#32
  let arg19 : BitVec 32 := Scf.iv v851 c1_i32_514 k0_t15
  let v1095 : Index := Scalar.indexCast arg19
  let c1_627 : Index := 1#32
  let c3_628 : Index := 3#32
  let c0_629 : Index := 0#32
  let c0_630 : Index := 0#32
  ![v1095.toNat, 1, 3, 0, 0]
@[reducible] def k0_t16_loop (i : grid0.Coords) : Scf.Loop 32 :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_489 : BitVec 32 := 1#32
  ⟨c0_i32_487, v813, c1_i32_489⟩
def k0_off1708 (i : grid0.Coords) (k0_t16 : Fin (k0_t16_loop i).trips) : Fin 5 → Nat :=
  let c0_i32_487 : BitVec 32 := 0#32
  let c1_i32_489 : BitVec 32 := 1#32
  let arg14 : BitVec 32 := Scf.iv c0_i32_487 c1_i32_489 k0_t16
  let v819 : Index := Scalar.indexCast arg14
  let c0_496 : Index := 0#32
  let c0_497 : Index := 0#32
  let c0_498 : Index := 0#32
  let c0_499 : Index := 0#32
  ![v819.toNat, 0, 0, 0, 0]
def k0_off1709 (i : grid0.Coords) (k0_t16 : Fin (k0_t16_loop i).trips) : Fin 6 → Nat :=
  let c0_512 : Index := 0#32
  let c0_513 : Index := 0#32
  let c0_i32_487 : BitVec 32 := 0#32
  let c1_i32_489 : BitVec 32 := 1#32
  let arg14 : BitVec 32 := Scf.iv c0_i32_487 c1_i32_489 k0_t16
  let v852 : Index := Scalar.indexCast arg14
  let c0_514 : Index := 0#32
  let c0_515 : Index := 0#32
  let c0_516 : Index := 0#32
  ![0, 0, v852.toNat, 0, 0, 0]
def k0_off1710 (i : grid0.Coords) (k0_t16 : Fin (k0_t16_loop i).trips) : Fin 5 → Nat :=
  let c0_i32_487 : BitVec 32 := 0#32
  let c1_i32_489 : BitVec 32 := 1#32
  let arg14 : BitVec 32 := Scf.iv c0_i32_487 c1_i32_489 k0_t16
  let v856 : Index := Scalar.indexCast arg14
  let c0_517 : Index := 0#32
  let c1_518 : Index := 1#32
  let c0_519 : Index := 0#32
  let c0_520 : Index := 0#32
  ![v856.toNat, 0, 1, 0, 0]
def k0_off1711 (i : grid0.Coords) (k0_t16 : Fin (k0_t16_loop i).trips) : Fin 6 → Nat :=
  let c0_537 : Index := 0#32
  let c1_538 : Index := 1#32
  let c0_i32_487 : BitVec 32 := 0#32
  let c1_i32_489 : BitVec 32 := 1#32
  let arg14 : BitVec 32 := Scf.iv c0_i32_487 c1_i32_489 k0_t16
  let v889 : Index := Scalar.indexCast arg14
  let c0_539 : Index := 0#32
  let c0_540 : Index := 0#32
  let c0_541 : Index := 0#32
  ![0, 1, v889.toNat, 0, 0, 0]
def k0_off1712 (i : grid0.Coords) (k0_t16 : Fin (k0_t16_loop i).trips) : Fin 5 → Nat :=
  let c0_i32_487 : BitVec 32 := 0#32
  let c1_i32_489 : BitVec 32 := 1#32
  let arg14 : BitVec 32 := Scf.iv c0_i32_487 c1_i32_489 k0_t16
  let v893 : Index := Scalar.indexCast arg14
  let c0_542 : Index := 0#32
  let c2_543 : Index := 2#32
  let c0_544 : Index := 0#32
  let c0_545 : Index := 0#32
  ![v893.toNat, 0, 2, 0, 0]
def k0_off1713 (i : grid0.Coords) (k0_t16 : Fin (k0_t16_loop i).trips) : Fin 6 → Nat :=
  let c0_562 : Index := 0#32
  let c2_563 : Index := 2#32
  let c0_i32_487 : BitVec 32 := 0#32
  let c1_i32_489 : BitVec 32 := 1#32
  let arg14 : BitVec 32 := Scf.iv c0_i32_487 c1_i32_489 k0_t16
  let v926 : Index := Scalar.indexCast arg14
  let c0_564 : Index := 0#32
  let c0_565 : Index := 0#32
  let c0_566 : Index := 0#32
  ![0, 2, v926.toNat, 0, 0, 0]
def k0_off1714 (i : grid0.Coords) (k0_t16 : Fin (k0_t16_loop i).trips) : Fin 5 → Nat :=
  let c0_i32_487 : BitVec 32 := 0#32
  let c1_i32_489 : BitVec 32 := 1#32
  let arg14 : BitVec 32 := Scf.iv c0_i32_487 c1_i32_489 k0_t16
  let v930 : Index := Scalar.indexCast arg14
  let c0_567 : Index := 0#32
  let c3_568 : Index := 3#32
  let c0_569 : Index := 0#32
  let c0_570 : Index := 0#32
  ![v930.toNat, 0, 3, 0, 0]
def k0_off1715 (i : grid0.Coords) (k0_t16 : Fin (k0_t16_loop i).trips) : Fin 6 → Nat :=
  let c0_587 : Index := 0#32
  let c3_588 : Index := 3#32
  let c0_i32_487 : BitVec 32 := 0#32
  let c1_i32_489 : BitVec 32 := 1#32
  let arg14 : BitVec 32 := Scf.iv c0_i32_487 c1_i32_489 k0_t16
  let v963 : Index := Scalar.indexCast arg14
  let c0_589 : Index := 0#32
  let c0_590 : Index := 0#32
  let c0_591 : Index := 0#32
  ![0, 3, v963.toNat, 0, 0, 0]
def k0_off1716 (i : grid0.Coords) (k0_t16 : Fin (k0_t16_loop i).trips) : Fin 5 → Nat :=
  let c0_i32_487 : BitVec 32 := 0#32
  let c1_i32_489 : BitVec 32 := 1#32
  let arg14 : BitVec 32 := Scf.iv c0_i32_487 c1_i32_489 k0_t16
  let v967 : Index := Scalar.indexCast arg14
  let c1_592 : Index := 1#32
  let c0_593 : Index := 0#32
  let c0_594 : Index := 0#32
  let c0_595 : Index := 0#32
  ![v967.toNat, 1, 0, 0, 0]
def k0_off1717 (i : grid0.Coords) (k0_t16 : Fin (k0_t16_loop i).trips) : Fin 6 → Nat :=
  let c0_612 : Index := 0#32
  let c0_613 : Index := 0#32
  let c0_i32_487 : BitVec 32 := 0#32
  let c1_i32_489 : BitVec 32 := 1#32
  let arg14 : BitVec 32 := Scf.iv c0_i32_487 c1_i32_489 k0_t16
  let v1000 : Index := Scalar.indexCast arg14
  let c1_614 : Index := 1#32
  let c0_615 : Index := 0#32
  let c0_616 : Index := 0#32
  ![0, 0, v1000.toNat, 1, 0, 0]
def k0_off1718 (i : grid0.Coords) (k0_t16 : Fin (k0_t16_loop i).trips) : Fin 5 → Nat :=
  let c0_i32_487 : BitVec 32 := 0#32
  let c1_i32_489 : BitVec 32 := 1#32
  let arg14 : BitVec 32 := Scf.iv c0_i32_487 c1_i32_489 k0_t16
  let v1004 : Index := Scalar.indexCast arg14
  let c1_617 : Index := 1#32
  let c1_618 : Index := 1#32
  let c0_619 : Index := 0#32
  let c0_620 : Index := 0#32
  ![v1004.toNat, 1, 1, 0, 0]
def k0_off1719 (i : grid0.Coords) (k0_t16 : Fin (k0_t16_loop i).trips) : Fin 6 → Nat :=
  let c0_637 : Index := 0#32
  let c1_638 : Index := 1#32
  let c0_i32_487 : BitVec 32 := 0#32
  let c1_i32_489 : BitVec 32 := 1#32
  let arg14 : BitVec 32 := Scf.iv c0_i32_487 c1_i32_489 k0_t16
  let v1037 : Index := Scalar.indexCast arg14
  let c1_639 : Index := 1#32
  let c0_640 : Index := 0#32
  let c0_641 : Index := 0#32
  ![0, 1, v1037.toNat, 1, 0, 0]
def k0_off1720 (i : grid0.Coords) (k0_t16 : Fin (k0_t16_loop i).trips) : Fin 5 → Nat :=
  let c0_i32_487 : BitVec 32 := 0#32
  let c1_i32_489 : BitVec 32 := 1#32
  let arg14 : BitVec 32 := Scf.iv c0_i32_487 c1_i32_489 k0_t16
  let v1041 : Index := Scalar.indexCast arg14
  let c1_642 : Index := 1#32
  let c2_643 : Index := 2#32
  let c0_644 : Index := 0#32
  let c0_645 : Index := 0#32
  ![v1041.toNat, 1, 2, 0, 0]
def k0_off1721 (i : grid0.Coords) (k0_t16 : Fin (k0_t16_loop i).trips) : Fin 6 → Nat :=
  let c0_662 : Index := 0#32
  let c2_663 : Index := 2#32
  let c0_i32_487 : BitVec 32 := 0#32
  let c1_i32_489 : BitVec 32 := 1#32
  let arg14 : BitVec 32 := Scf.iv c0_i32_487 c1_i32_489 k0_t16
  let v1074 : Index := Scalar.indexCast arg14
  let c1_664 : Index := 1#32
  let c0_665 : Index := 0#32
  let c0_666 : Index := 0#32
  ![0, 2, v1074.toNat, 1, 0, 0]
def k0_off1722 (i : grid0.Coords) (k0_t16 : Fin (k0_t16_loop i).trips) : Fin 5 → Nat :=
  let c0_i32_487 : BitVec 32 := 0#32
  let c1_i32_489 : BitVec 32 := 1#32
  let arg14 : BitVec 32 := Scf.iv c0_i32_487 c1_i32_489 k0_t16
  let v1078 : Index := Scalar.indexCast arg14
  let c1_667 : Index := 1#32
  let c3_668 : Index := 3#32
  let c0_669 : Index := 0#32
  let c0_670 : Index := 0#32
  ![v1078.toNat, 1, 3, 0, 0]
def k0_off1723 (i : grid0.Coords) (k0_t16 : Fin (k0_t16_loop i).trips) : Fin 6 → Nat :=
  let c0_687 : Index := 0#32
  let c3_688 : Index := 3#32
  let c0_i32_487 : BitVec 32 := 0#32
  let c1_i32_489 : BitVec 32 := 1#32
  let arg14 : BitVec 32 := Scf.iv c0_i32_487 c1_i32_489 k0_t16
  let v1111 : Index := Scalar.indexCast arg14
  let c1_689 : Index := 1#32
  let c0_690 : Index := 0#32
  let c0_691 : Index := 0#32
  ![0, 3, v1111.toNat, 1, 0, 0]
@[reducible] def k0_t17_loop (i : grid0.Coords) : Scf.Loop 32 :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let v810 : BitVec 32 := Scalar.addi c0_i32_487 v809
  let c1_i32_490 : BitVec 32 := 1#32
  ⟨v813, v810, c1_i32_490⟩
def k0_off1724 (i : grid0.Coords) (k0_t17 : Fin (k0_t17_loop i).trips) : Fin 5 → Nat :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v819 : Index := Scalar.indexCast arg14
  let c0_496 : Index := 0#32
  let c0_497 : Index := 0#32
  let c0_498 : Index := 0#32
  let c0_499 : Index := 0#32
  ![v819.toNat, 0, 0, 0, 0]
def k0_off1725 (i : grid0.Coords) (k0_t17 : Fin (k0_t17_loop i).trips) : Fin 6 → Nat :=
  let c0_512 : Index := 0#32
  let c0_513 : Index := 0#32
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v852 : Index := Scalar.indexCast arg14
  let c0_514 : Index := 0#32
  let c0_515 : Index := 0#32
  let c0_516 : Index := 0#32
  ![0, 0, v852.toNat, 0, 0, 0]
def k0_off1726 (i : grid0.Coords) (k0_t17 : Fin (k0_t17_loop i).trips) : Fin 5 → Nat :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v856 : Index := Scalar.indexCast arg14
  let c0_517 : Index := 0#32
  let c1_518 : Index := 1#32
  let c0_519 : Index := 0#32
  let c0_520 : Index := 0#32
  ![v856.toNat, 0, 1, 0, 0]
def k0_off1727 (i : grid0.Coords) (k0_t17 : Fin (k0_t17_loop i).trips) : Fin 6 → Nat :=
  let c0_537 : Index := 0#32
  let c1_538 : Index := 1#32
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v889 : Index := Scalar.indexCast arg14
  let c0_539 : Index := 0#32
  let c0_540 : Index := 0#32
  let c0_541 : Index := 0#32
  ![0, 1, v889.toNat, 0, 0, 0]
def k0_off1728 (i : grid0.Coords) (k0_t17 : Fin (k0_t17_loop i).trips) : Fin 5 → Nat :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v893 : Index := Scalar.indexCast arg14
  let c0_542 : Index := 0#32
  let c2_543 : Index := 2#32
  let c0_544 : Index := 0#32
  let c0_545 : Index := 0#32
  ![v893.toNat, 0, 2, 0, 0]
def k0_off1729 (i : grid0.Coords) (k0_t17 : Fin (k0_t17_loop i).trips) : Fin 6 → Nat :=
  let c0_562 : Index := 0#32
  let c2_563 : Index := 2#32
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v926 : Index := Scalar.indexCast arg14
  let c0_564 : Index := 0#32
  let c0_565 : Index := 0#32
  let c0_566 : Index := 0#32
  ![0, 2, v926.toNat, 0, 0, 0]
def k0_off1730 (i : grid0.Coords) (k0_t17 : Fin (k0_t17_loop i).trips) : Fin 5 → Nat :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v930 : Index := Scalar.indexCast arg14
  let c0_567 : Index := 0#32
  let c3_568 : Index := 3#32
  let c0_569 : Index := 0#32
  let c0_570 : Index := 0#32
  ![v930.toNat, 0, 3, 0, 0]
def k0_off1731 (i : grid0.Coords) (k0_t17 : Fin (k0_t17_loop i).trips) : Fin 6 → Nat :=
  let c0_587 : Index := 0#32
  let c3_588 : Index := 3#32
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v963 : Index := Scalar.indexCast arg14
  let c0_589 : Index := 0#32
  let c0_590 : Index := 0#32
  let c0_591 : Index := 0#32
  ![0, 3, v963.toNat, 0, 0, 0]
def k0_off1732 (i : grid0.Coords) (k0_t17 : Fin (k0_t17_loop i).trips) : Fin 5 → Nat :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v967 : Index := Scalar.indexCast arg14
  let c1_592 : Index := 1#32
  let c0_593 : Index := 0#32
  let c0_594 : Index := 0#32
  let c0_595 : Index := 0#32
  ![v967.toNat, 1, 0, 0, 0]
def k0_off1733 (i : grid0.Coords) (k0_t17 : Fin (k0_t17_loop i).trips) : Fin 6 → Nat :=
  let c0_612 : Index := 0#32
  let c0_613 : Index := 0#32
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v1000 : Index := Scalar.indexCast arg14
  let c1_614 : Index := 1#32
  let c0_615 : Index := 0#32
  let c0_616 : Index := 0#32
  ![0, 0, v1000.toNat, 1, 0, 0]
def k0_off1734 (i : grid0.Coords) (k0_t17 : Fin (k0_t17_loop i).trips) : Fin 5 → Nat :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v1004 : Index := Scalar.indexCast arg14
  let c1_617 : Index := 1#32
  let c1_618 : Index := 1#32
  let c0_619 : Index := 0#32
  let c0_620 : Index := 0#32
  ![v1004.toNat, 1, 1, 0, 0]
def k0_off1735 (i : grid0.Coords) (k0_t17 : Fin (k0_t17_loop i).trips) : Fin 6 → Nat :=
  let c0_637 : Index := 0#32
  let c1_638 : Index := 1#32
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v1037 : Index := Scalar.indexCast arg14
  let c1_639 : Index := 1#32
  let c0_640 : Index := 0#32
  let c0_641 : Index := 0#32
  ![0, 1, v1037.toNat, 1, 0, 0]
def k0_off1736 (i : grid0.Coords) (k0_t17 : Fin (k0_t17_loop i).trips) : Fin 5 → Nat :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v1041 : Index := Scalar.indexCast arg14
  let c1_642 : Index := 1#32
  let c2_643 : Index := 2#32
  let c0_644 : Index := 0#32
  let c0_645 : Index := 0#32
  ![v1041.toNat, 1, 2, 0, 0]
def k0_off1737 (i : grid0.Coords) (k0_t17 : Fin (k0_t17_loop i).trips) : Fin 6 → Nat :=
  let c0_662 : Index := 0#32
  let c2_663 : Index := 2#32
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v1074 : Index := Scalar.indexCast arg14
  let c1_664 : Index := 1#32
  let c0_665 : Index := 0#32
  let c0_666 : Index := 0#32
  ![0, 2, v1074.toNat, 1, 0, 0]
def k0_off1738 (i : grid0.Coords) (k0_t17 : Fin (k0_t17_loop i).trips) : Fin 5 → Nat :=
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v1078 : Index := Scalar.indexCast arg14
  let c1_667 : Index := 1#32
  let c3_668 : Index := 3#32
  let c0_669 : Index := 0#32
  let c0_670 : Index := 0#32
  ![v1078.toNat, 1, 3, 0, 0]
def k0_off1739 (i : grid0.Coords) (k0_t17 : Fin (k0_t17_loop i).trips) : Fin 6 → Nat :=
  let c0_687 : Index := 0#32
  let c3_688 : Index := 3#32
  let c0_i32_487 : BitVec 32 := 0#32
  let arg1 : BitVec 32 := BitVec.ofNat 32 (i 1).val
  let c1_i32 : BitVec 32 := 1#32
  let v0 : BitVec 32 := Scalar.addi arg1 c1_i32
  let v809 : BitVec 32 := Scalar.subi v0 c0_i32_487
  let c1_i32_488 : BitVec 32 := 1#32
  let v811 : BitVec 32 := Scalar.divsi v809 c1_i32_488
  let v812 : BitVec 32 := Scalar.muli v811 c1_i32_488
  let v813 : BitVec 32 := Scalar.addi c0_i32_487 v812
  let c1_i32_490 : BitVec 32 := 1#32
  let arg14 : BitVec 32 := Scf.iv v813 c1_i32_490 k0_t17
  let v1111 : Index := Scalar.indexCast arg14
  let c1_689 : Index := 1#32
  let c0_690 : Index := 0#32
  let c0_691 : Index := 0#32
  ![0, 3, v1111.toNat, 1, 0, 0]
@[reducible] def k0_t18_loop (i : grid0.Coords) : Scf.Loop 32 :=
  let arg1 : BitVec 32 := BitVec.ofNat 32 (i 1).val
  let c1_i32 : BitVec 32 := 1#32
  let v0 : BitVec 32 := Scalar.addi arg1 c1_i32
  let c32_i32_492 : BitVec 32 := 32#32
  let v814 : BitVec 32 := Scalar.subi c32_i32_492 v0
  let c1_i32_493 : BitVec 32 := 1#32
  let v816 : BitVec 32 := Scalar.divsi v814 c1_i32_493
  let v817 : BitVec 32 := Scalar.muli v816 c1_i32_493
  let v818 : BitVec 32 := Scalar.addi v0 v817
  let c1_i32_494 : BitVec 32 := 1#32
  ⟨v0, v818, c1_i32_494⟩
def k0_off1740 (i : grid0.Coords) (k0_t18 : Fin (k0_t18_loop i).trips) : Fin 6 → Nat :=
  let c0_497 : Index := 0#32
  let c0_498 : Index := 0#32
  let arg1 : BitVec 32 := BitVec.ofNat 32 (i 1).val
  let c1_i32 : BitVec 32 := 1#32
  let v0 : BitVec 32 := Scalar.addi arg1 c1_i32
  let c1_i32_494 : BitVec 32 := 1#32
  let arg14 : BitVec 32 := Scf.iv v0 c1_i32_494 k0_t18
  let v820 : Index := Scalar.indexCast arg14
  let c0_499 : Index := 0#32
  let c0_500 : Index := 0#32
  let c0_501 : Index := 0#32
  ![0, 0, v820.toNat, 0, 0, 0]
def k0_off1741 (i : grid0.Coords) (k0_t18 : Fin (k0_t18_loop i).trips) : Fin 6 → Nat :=
  let c0_503 : Index := 0#32
  let c1_504 : Index := 1#32
  let arg1 : BitVec 32 := BitVec.ofNat 32 (i 1).val
  let c1_i32 : BitVec 32 := 1#32
  let v0 : BitVec 32 := Scalar.addi arg1 c1_i32
  let c1_i32_494 : BitVec 32 := 1#32
  let arg14 : BitVec 32 := Scf.iv v0 c1_i32_494 k0_t18
  let v825 : Index := Scalar.indexCast arg14
  let c0_505 : Index := 0#32
  let c0_506 : Index := 0#32
  let c0_507 : Index := 0#32
  ![0, 1, v825.toNat, 0, 0, 0]
def k0_off1742 (i : grid0.Coords) (k0_t18 : Fin (k0_t18_loop i).trips) : Fin 6 → Nat :=
  let c0_509 : Index := 0#32
  let c2_510 : Index := 2#32
  let arg1 : BitVec 32 := BitVec.ofNat 32 (i 1).val
  let c1_i32 : BitVec 32 := 1#32
  let v0 : BitVec 32 := Scalar.addi arg1 c1_i32
  let c1_i32_494 : BitVec 32 := 1#32
  let arg14 : BitVec 32 := Scf.iv v0 c1_i32_494 k0_t18
  let v830 : Index := Scalar.indexCast arg14
  let c0_511 : Index := 0#32
  let c0_512 : Index := 0#32
  let c0_513 : Index := 0#32
  ![0, 2, v830.toNat, 0, 0, 0]
def k0_off1743 (i : grid0.Coords) (k0_t18 : Fin (k0_t18_loop i).trips) : Fin 6 → Nat :=
  let c0_515 : Index := 0#32
  let c3_516 : Index := 3#32
  let arg1 : BitVec 32 := BitVec.ofNat 32 (i 1).val
  let c1_i32 : BitVec 32 := 1#32
  let v0 : BitVec 32 := Scalar.addi arg1 c1_i32
  let c1_i32_494 : BitVec 32 := 1#32
  let arg14 : BitVec 32 := Scf.iv v0 c1_i32_494 k0_t18
  let v835 : Index := Scalar.indexCast arg14
  let c0_517 : Index := 0#32
  let c0_518 : Index := 0#32
  let c0_519 : Index := 0#32
  ![0, 3, v835.toNat, 0, 0, 0]
@[reducible] def k0_t19_loop (i : grid0.Coords) : Scf.Loop 32 :=
  let arg1 : BitVec 32 := BitVec.ofNat 32 (i 1).val
  let c1_i32 : BitVec 32 := 1#32
  let v0 : BitVec 32 := Scalar.addi arg1 c1_i32
  let c32_i32_492 : BitVec 32 := 32#32
  let v814 : BitVec 32 := Scalar.subi c32_i32_492 v0
  let c1_i32_493 : BitVec 32 := 1#32
  let v816 : BitVec 32 := Scalar.divsi v814 c1_i32_493
  let v817 : BitVec 32 := Scalar.muli v816 c1_i32_493
  let v818 : BitVec 32 := Scalar.addi v0 v817
  let v815 : BitVec 32 := Scalar.addi v0 v814
  let c1_i32_495 : BitVec 32 := 1#32
  ⟨v818, v815, c1_i32_495⟩
def k0_off1744 (i : grid0.Coords) (k0_t19 : Fin (k0_t19_loop i).trips) : Fin 6 → Nat :=
  let c0_497 : Index := 0#32
  let c0_498 : Index := 0#32
  let arg1 : BitVec 32 := BitVec.ofNat 32 (i 1).val
  let c1_i32 : BitVec 32 := 1#32
  let v0 : BitVec 32 := Scalar.addi arg1 c1_i32
  let c32_i32_492 : BitVec 32 := 32#32
  let v814 : BitVec 32 := Scalar.subi c32_i32_492 v0
  let c1_i32_493 : BitVec 32 := 1#32
  let v816 : BitVec 32 := Scalar.divsi v814 c1_i32_493
  let v817 : BitVec 32 := Scalar.muli v816 c1_i32_493
  let v818 : BitVec 32 := Scalar.addi v0 v817
  let c1_i32_495 : BitVec 32 := 1#32
  let arg14 : BitVec 32 := Scf.iv v818 c1_i32_495 k0_t19
  let v820 : Index := Scalar.indexCast arg14
  let c0_499 : Index := 0#32
  let c0_500 : Index := 0#32
  let c0_501 : Index := 0#32
  ![0, 0, v820.toNat, 0, 0, 0]
def k0_off1745 (i : grid0.Coords) (k0_t19 : Fin (k0_t19_loop i).trips) : Fin 6 → Nat :=
  let c0_503 : Index := 0#32
  let c1_504 : Index := 1#32
  let arg1 : BitVec 32 := BitVec.ofNat 32 (i 1).val
  let c1_i32 : BitVec 32 := 1#32
  let v0 : BitVec 32 := Scalar.addi arg1 c1_i32
  let c32_i32_492 : BitVec 32 := 32#32
  let v814 : BitVec 32 := Scalar.subi c32_i32_492 v0
  let c1_i32_493 : BitVec 32 := 1#32
  let v816 : BitVec 32 := Scalar.divsi v814 c1_i32_493
  let v817 : BitVec 32 := Scalar.muli v816 c1_i32_493
  let v818 : BitVec 32 := Scalar.addi v0 v817
  let c1_i32_495 : BitVec 32 := 1#32
  let arg14 : BitVec 32 := Scf.iv v818 c1_i32_495 k0_t19
  let v825 : Index := Scalar.indexCast arg14
  let c0_505 : Index := 0#32
  let c0_506 : Index := 0#32
  let c0_507 : Index := 0#32
  ![0, 1, v825.toNat, 0, 0, 0]
def k0_off1746 (i : grid0.Coords) (k0_t19 : Fin (k0_t19_loop i).trips) : Fin 6 → Nat :=
  let c0_509 : Index := 0#32
  let c2_510 : Index := 2#32
  let arg1 : BitVec 32 := BitVec.ofNat 32 (i 1).val
  let c1_i32 : BitVec 32 := 1#32
  let v0 : BitVec 32 := Scalar.addi arg1 c1_i32
  let c32_i32_492 : BitVec 32 := 32#32
  let v814 : BitVec 32 := Scalar.subi c32_i32_492 v0
  let c1_i32_493 : BitVec 32 := 1#32
  let v816 : BitVec 32 := Scalar.divsi v814 c1_i32_493
  let v817 : BitVec 32 := Scalar.muli v816 c1_i32_493
  let v818 : BitVec 32 := Scalar.addi v0 v817
  let c1_i32_495 : BitVec 32 := 1#32
  let arg14 : BitVec 32 := Scf.iv v818 c1_i32_495 k0_t19
  let v830 : Index := Scalar.indexCast arg14
  let c0_511 : Index := 0#32
  let c0_512 : Index := 0#32
  let c0_513 : Index := 0#32
  ![0, 2, v830.toNat, 0, 0, 0]
def k0_off1747 (i : grid0.Coords) (k0_t19 : Fin (k0_t19_loop i).trips) : Fin 6 → Nat :=
  let c0_515 : Index := 0#32
  let c3_516 : Index := 3#32
  let arg1 : BitVec 32 := BitVec.ofNat 32 (i 1).val
  let c1_i32 : BitVec 32 := 1#32
  let v0 : BitVec 32 := Scalar.addi arg1 c1_i32
  let c32_i32_492 : BitVec 32 := 32#32
  let v814 : BitVec 32 := Scalar.subi c32_i32_492 v0
  let c1_i32_493 : BitVec 32 := 1#32
  let v816 : BitVec 32 := Scalar.divsi v814 c1_i32_493
  let v817 : BitVec 32 := Scalar.muli v816 c1_i32_493
  let v818 : BitVec 32 := Scalar.addi v0 v817
  let c1_i32_495 : BitVec 32 := 1#32
  let arg14 : BitVec 32 := Scf.iv v818 c1_i32_495 k0_t19
  let v835 : Index := Scalar.indexCast arg14
  let c0_517 : Index := 0#32
  let c0_518 : Index := 0#32
  let c0_519 : Index := 0#32
  ![0, 3, v835.toNat, 0, 0, 0]

variable {F : FTy → Type} [BitOps F]

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 1 → Memref sig .tc .vmem S1x16384x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x32x2x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel2.lean ====
abbrev S2x16384x1024 : Shape := ⟨3, ![2, 16384, 1024]⟩
abbrev S2x1024 : Shape := ⟨2, ![2, 1024]⟩
abbrev S1024 : Shape := ⟨1, ![1024]⟩
abbrev S1x1024x6144 : Shape := ⟨3, ![1, 1024, 6144]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S32768x1024 : Shape := ⟨2, ![32768, 1024]⟩
abbrev S1x1024 : Shape := ⟨2, ![1, 1024]⟩
abbrev S1024x6144 : Shape := ⟨2, ![1024, 6144]⟩
abbrev S8x128x128 : Shape := ⟨3, ![8, 128, 128]⟩
abbrev S8x128 : Shape := ⟨2, ![8, 128]⟩
abbrev S128x8 : Shape := ⟨2, ![128, 8]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S512x256 : Shape := ⟨2, ![512, 256]⟩

abbrev nBuf : Space → Nat
  | .hbm => 20
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S1024, .f32⟩
  | .hbm, ⟨3, _⟩ => ⟨S1x1024x6144, .f32⟩
  | .hbm, ⟨4, _⟩ => ⟨S1x2048, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S32768x1024, .f32⟩
  | .hbm, ⟨10, _⟩ => ⟨S1x1024, .f32⟩
  | .hbm, ⟨11, _⟩ => ⟨S1024x6144, .f32⟩
  | .hbm, ⟨12, _⟩ => ⟨S1024x6144, .bf16⟩
  | .hbm, ⟨13, _⟩ => ⟨S8x128x128, .f32⟩
  | .hbm, ⟨14, _⟩ => ⟨S8x128, .f32⟩
  | .hbm, ⟨15, _⟩ => ⟨S128x8, .f32⟩
  | .hbm, ⟨16, _⟩ => ⟨S2048x1024, .f32⟩
  | .hbm, ⟨17, _⟩ => ⟨S2048x1024, .bf16⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S2048x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x16384x1024 : Shape := ⟨3, ![2, 16384, 1024]⟩
abbrev S2x1024 : Shape := ⟨2, ![2, 1024]⟩
abbrev S1024 : Shape := ⟨1, ![1024]⟩
abbrev S1x1024x6144 : Shape := ⟨3, ![1, 1024, 6144]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S2x16384x6144 : Shape := ⟨3, ![2, 16384, 6144]⟩
abbrev S2x16384x2048 : Shape := ⟨3, ![2, 16384, 2048]⟩
abbrev S1x1x2048 : Shape := ⟨3, ![1, 1, 2048]⟩
abbrev S2x128x128x8x256 : Shape := ⟨5, ![2, 128, 128, 8, 256]⟩
abbrev S128x128 : Shape := ⟨2, ![128, 128]⟩
abbrev S1x128x128 : Shape := ⟨3, ![1, 128, 128]⟩
abbrev S8x2x128x256x128 : Shape := ⟨5, ![8, 2, 128, 256, 128]⟩
abbrev S128x8 : Shape := ⟨2, ![128, 8]⟩
abbrev S1x1x128x8x1 : Shape := ⟨5, ![1, 1, 128, 8, 1]⟩
abbrev S32768x1024 : Shape := ⟨2, ![32768, 1024]⟩

abbrev nBuf : Space → Nat
  | .hbm => 118
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S1024, .f32⟩
  | .hbm, ⟨3, _⟩ => ⟨S1x1024x6144, .f32⟩
  | .hbm, ⟨4, _⟩ => ⟨S1x2048, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S1x1024, .f32⟩
  | .hbm, ⟨10, _⟩ => ⟨S1024, .f32⟩
  | .hbm, ⟨11, _⟩ => ⟨S2x16384x1024, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x1024, .f32⟩
  | .hbm, ⟨23, _⟩ => ⟨S2x16384x1024, .f32⟩
  | .hbm, ⟨24, _⟩ => ⟨S1x1x1024, .f32⟩
  | .hbm, ⟨25, _⟩ => ⟨S2x16384x1024, .f32⟩
  | .hbm, ⟨26, _⟩ => ⟨S2x16384x1024, .f32⟩
  | .hbm, ⟨27, _⟩ => ⟨S1024x6144, .f32⟩
  | .hbm, ⟨28, _⟩ => ⟨S2048, .f32⟩
  | .hbm, ⟨29, _⟩ => ⟨S2048, .f32⟩
  | .hbm, ⟨30, _⟩ => ⟨S8x128x128, .f32⟩
  | .hbm, ⟨31, _⟩ => ⟨S8x128, .f32⟩
  | .hbm, ⟨32, _⟩ => ⟨S2048x1024, .f32⟩
  | .hbm, ⟨33, _⟩ => ⟨S2x16384x6144, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S_, .f32⟩
  | .hbm, ⟨38, _⟩ => ⟨S2x16384, .f32⟩
  | .hbm, ⟨39, _⟩ => ⟨S2x16384x1, .f32⟩
  | .hbm, ⟨40, _⟩ => ⟨S_, .f32⟩
  | .hbm, ⟨41, _⟩ => ⟨S2x16384x1, .f32⟩
  | .hbm, ⟨42, _⟩ => ⟨S2x16384x1, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S2x16384x2048, .f32⟩
  | .hbm, ⟨53, _⟩ => ⟨S2x16384x2048, .f32⟩
  | .hbm, ⟨54, _⟩ => ⟨S_, .f32⟩
  | .hbm, ⟨55, _⟩ => ⟨S2x16384x1, .f32⟩
  | .hbm, ⟨56, _⟩ => ⟨S2x16384x1, .f32⟩
  | .hbm, ⟨57, _⟩ => ⟨S2x16384x1, .f32⟩
  | .hbm, ⟨58, _⟩ => ⟨S2x16384x2048, .f32⟩
  | .hbm, ⟨59, _⟩ => ⟨S2x16384x2048, .f32⟩
  | .hbm, ⟨60, _⟩ => ⟨S1x1x2048, .f32⟩
  | .hbm, ⟨61, _⟩ => ⟨S2x16384x2048, .f32⟩
  | .hbm, ⟨62, _⟩ => ⟨S2x16384x2048, .f32⟩
  | .hbm, ⟨63, _⟩ => ⟨S1x1x2048, .f32⟩
  | .hbm, ⟨64, _⟩ => ⟨S2x16384x2048, .f32⟩
  | .hbm, ⟨65, _⟩ => ⟨S2x16384x2048, .f32⟩
  | .hbm, ⟨66, _⟩ => ⟨S2x128x128x8x256, .f32⟩
  | .hbm, ⟨67, _⟩ => ⟨S_, .f32⟩
  | .hbm, ⟨68, _⟩ => ⟨S128x128, .f32⟩
  | .hbm, ⟨69, _⟩ => ⟨S128x128, .i32⟩
  | .hbm, ⟨70, _⟩ => ⟨S_, .i32⟩
  | .hbm, ⟨71, _⟩ => ⟨S128x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S_, .f32⟩
  | .hbm, ⟨76, _⟩ => ⟨S128x128, .f32⟩
  | .hbm, ⟨77, _⟩ => ⟨S128x128, .f32⟩
  | .hbm, ⟨78, _⟩ => ⟨S1x128x128, .f32⟩
  | .hbm, ⟨79, _⟩ => ⟨S8x128x128, .f32⟩
  | .hbm, ⟨80, _⟩ => ⟨S8x128x128, .f32⟩
  | .hbm, ⟨81, _⟩ => ⟨S8x2x128x256x128, .f32⟩
  | .hbm, ⟨82, _⟩ => ⟨S2x128x128x8x256, .f32⟩
  | .hbm, ⟨83, _⟩ => ⟨S128x8, .f32⟩
  | .hbm, ⟨84, _⟩ => ⟨S1x1x128x8x1, .f32⟩
  | .hbm, ⟨85, _⟩ => ⟨S2x128x128x8x256, .f32⟩
  | .hbm, ⟨86, _⟩ => ⟨S2x128x128x8x256, .f32⟩
  | .hbm, ⟨87, _⟩ => ⟨S2x16384x2048, .f32⟩
  | .hbm, ⟨88, _⟩ => ⟨S2x16384x2048, .f32⟩
  | .hbm, ⟨89, _⟩ => ⟨S2x16384x2048, .f32⟩
  | .hbm, ⟨90, _⟩ => ⟨S2x16384x2048, .f32⟩
  | .hbm, ⟨91, _⟩ => ⟨S_, .f32⟩
  | .hbm, ⟨92, _⟩ => ⟨S2x16384x2048, .f32⟩
  | .hbm, ⟨93, _⟩ => ⟨S2x16384x2048, .f32⟩
  | .hbm, ⟨94, _⟩ => ⟨S_, .f32⟩
  | .hbm, ⟨95, _⟩ => ⟨S2x16384x2048, .f32⟩
  | .hbm, ⟨96, _⟩ => ⟨S2x16384x2048, .f32⟩
  | .hbm, ⟨97, _⟩ => ⟨S2x16384x2048, .f32⟩
  | .hbm, ⟨98, _⟩ => ⟨S2x16384x2048, .f32⟩
  | .hbm, ⟨99, _⟩ => ⟨S2x16384x1024, .f32⟩
  | .hbm, ⟨100, _⟩ => ⟨S2x16384x1024, .f32⟩
  | .hbm, ⟨101, _⟩ => ⟨S2x16384x1024, .f32⟩
  | .hbm, ⟨102, _⟩ => ⟨S_, .f32⟩
  | .hbm, ⟨103, _⟩ => ⟨S2x16384, .f32⟩
  | .hbm, ⟨104, _⟩ => ⟨S2x16384x1, .f32⟩
  | .hbm, ⟨105, _⟩ => ⟨S_, .f32⟩
  | .hbm, ⟨106, _⟩ => ⟨S2x16384x1, .f32⟩
  | .hbm, ⟨107, _⟩ => ⟨S2x16384x1, .f32⟩
  | .hbm, ⟨108, _⟩ => ⟨S_, .f32⟩
  | .hbm, ⟨109, _⟩ => ⟨S2x16384x1, .f32⟩
  | .hbm, ⟨110, _⟩ => ⟨S2x16384x1, .f32⟩
  | .hbm, ⟨111, _⟩ => ⟨S2x16384x1, .f32⟩
  | .hbm, ⟨112, _⟩ => ⟨S2x16384x1024, .f32⟩
  | .hbm, ⟨113, _⟩ => ⟨S2x16384x1024, .f32⟩
  | .hbm, ⟨114, _⟩ => ⟨S1x1x1024, .f32⟩
  | .hbm, ⟨115, _⟩ => ⟨S2x16384x1024, .f32⟩
  | .hbm, ⟨116, _⟩ => ⟨S2x16384x1024, .f32⟩
  | .hbm, ⟨117, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_cst : Ref sig .tc := ⟨.hbm, 75, rfl⟩
abbrev main_call0_v5 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_v68 : Ref sig .tc := ⟨.hbm, 103, rfl⟩
abbrev main_v69 : Ref sig .tc := ⟨.hbm, 104, rfl⟩
abbrev main_cst_9 : Ref sig .tc := ⟨.hbm, 105, rfl⟩
abbrev main_v70 : Ref sig .tc := ⟨.hbm, 106, rfl⟩
abbrev main_v71 : Ref sig .tc := ⟨.hbm, 107, rfl⟩
abbrev main_cst_10 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x1024 : Shape := ⟨2, ![2, 1024]⟩
abbrev S1x1024x4680 : Shape := ⟨3, ![1, 1024, 4680]⟩
abbrev S1024x4680 : Shape := ⟨2, ![1024, 4680]⟩
abbrev S_ : Shape := ⟨0, ![]⟩
abbrev S1024x4736 : Shape := ⟨2, ![1024, 4736]⟩
abbrev S1x1024 : Shape := ⟨2, ![1, 1024]⟩
abbrev S2x16384x2048 : Shape := ⟨3, ![2, 16384, 2048]⟩
abbrev S2x8x128x16384 : Shape := ⟨4, ![2, 8, 128, 16384]⟩
abbrev S2x8x144x16384 : Shape := ⟨4, ![2, 8, 144, 16384]⟩
abbrev S2x8x64x16384 : Shape := ⟨4, ![2, 8, 64, 16384]⟩
abbrev S2x16384x64 : Shape := ⟨3, ![2, 16384, 64]⟩
abbrev S2x8x16384 : Shape := ⟨3, ![2, 8, 16384]⟩
abbrev S1x512x1024 : Shape := ⟨3, ![1, 512, 1024]⟩
abbrev S1x512x2048 : Shape := ⟨3, ![1, 512, 2048]⟩
abbrev S1x8x128x512 : Shape := ⟨4, ![1, 8, 128, 512]⟩
abbrev S1x8x144x512 : Shape := ⟨4, ![1, 8, 144, 512]⟩
abbrev S1x8x64x512 : Shape := ⟨4, ![1, 8, 64, 512]⟩
abbrev S1x512x64 : Shape := ⟨3, ![1, 512, 64]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩
abbrev S512x128 : Shape := ⟨2, ![512, 128]⟩
abbrev S128x512 : Shape := ⟨2, ![128, 512]⟩
abbrev S1x1x128x512 : Shape := ⟨4, ![1, 1, 128, 512]⟩
abbrev S16x512 : Shape := ⟨2, ![16, 512]⟩
abbrev S1x1x16x512 : Shape := ⟨4, ![1, 1, 16, 512]⟩
abbrev S64x512 : Shape := ⟨2, ![64, 512]⟩
abbrev S1x1x64x512 : Shape := ⟨4, ![1, 1, 64, 512]⟩
abbrev S1024x128 : Shape := ⟨2, ![1024, 128]⟩
abbrev S512x64 : Shape := ⟨2, ![512, 64]⟩
abbrev S8x512 : Shape := ⟨2, ![8, 512]⟩

abbrev nBuf : Space → Nat
  | .hbm => 16
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S1x1024x4680, .f32⟩
  | .hbm, ⟨3, _⟩ => ⟨S1024x4680, .f32⟩
  | .hbm, ⟨4, _⟩ => ⟨S_, .i32⟩
  | .hbm, ⟨5, _⟩ => ⟨S_, .f32⟩
  | .hbm, ⟨6, _⟩ => ⟨S1024x4736, .f32⟩
  | .hbm, ⟨7, _⟩ => ⟨S1024x4736, .bf16⟩
  | .hbm, ⟨8, _⟩ => ⟨S1x1024, .f32⟩
  | .hbm, ⟨9, _⟩ => ⟨S2x16384x2048, .bf16⟩
  | .hbm, ⟨10, _⟩ => ⟨S2x8x128x16384, .bf16⟩
  | .hbm, ⟨11, _⟩ => ⟨S2x8x144x16384, .bf16⟩
  | .hbm, ⟨12, _⟩ => ⟨S2x16384x1024, .f32⟩
  | .hbm, ⟨13, _⟩ => ⟨S2x8x64x16384, .bf16⟩
  | .hbm, ⟨14, _⟩ => ⟨S2x16384x64, .bf16⟩
  | .hbm, ⟨15, _⟩ => ⟨S2x8x16384, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4736, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x8x128x512, .bf16⟩
  | .local _ .vmem, ⟨7, _⟩ => ⟨S1x8x128x512, .bf16⟩
  | .local _ .vmem, ⟨8, _⟩ => ⟨S1x8x144x512, .bf16⟩
  | .local _ .vmem, ⟨9, _⟩ => ⟨S1x8x144x512, .bf16⟩
  | .local _ .vmem, ⟨10, _⟩ => ⟨S1x512x1024, .f32⟩
  | .local _ .vmem, ⟨11, _⟩ => ⟨S1x512x1024, .f32⟩
  | .local _ .vmem, ⟨12, _⟩ => ⟨S1x8x64x512, .bf16⟩
  | .local _ .vmem, ⟨13, _⟩ => ⟨S1x8x64x512, .bf16⟩
  | .local _ .vmem, ⟨14, _⟩ => ⟨S1x512x64, .bf16⟩
  | .local _ .vmem, ⟨15, _⟩ => ⟨S1x512x64, .bf16⟩
  | .local _ .vmem, ⟨16, _⟩ => ⟨S1x8x512, .f32⟩
  | .local _ .vmem, ⟨17, _⟩ => ⟨S1x8x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev main_v4_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x144x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel3Ideal.lean ====
variable {F : FTy → Type} [FloatOps F] [Named F]
def κ : String → Option EReal := fun
  | "q_scale" => some ((143571859112449 / 1125899906842624 : ℝ) : EReal)
  | _ => none
-- ==== Reference3Ideal.lean ====
abbrev S2x16384x1024 : Shape := ⟨3, ![2, 16384, 1024]⟩
abbrev S2x1024 : Shape := ⟨2, ![2, 1024]⟩
abbrev S1x1024x4680 : Shape := ⟨3, ![1, 1024, 4680]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x4680 : Shape := ⟨2, ![1024, 4680]⟩
abbrev S2x16384x4680 : Shape := ⟨3, ![2, 16384, 4680]⟩
abbrev S2x16384x512 : Shape := ⟨3, ![2, 16384, 512]⟩
abbrev S2x16384x64 : Shape := ⟨3, ![2, 16384, 64]⟩
abbrev S2x16384x8 : Shape := ⟨3, ![2, 16384, 8]⟩
abbrev S2x16384x8x128 : Shape := ⟨4, ![2, 16384, 8, 128]⟩
abbrev S2x8x128x16384 : Shape := ⟨4, ![2, 8, 128, 16384]⟩
abbrev S2x8x1x16384 : Shape := ⟨4, ![2, 8, 1, 16384]⟩
abbrev S2x8x15x16384 : Shape := ⟨4, ![2, 8, 15, 16384]⟩
abbrev S2x16384x8x64 : Shape := ⟨4, ![2, 16384, 8, 64]⟩
abbrev S2x8x64x16384 : Shape := ⟨4, ![2, 8, 64, 16384]⟩
abbrev S2x16384x2048 : Shape := ⟨3, ![2, 16384, 2048]⟩
abbrev S2x8x144x16384 : Shape := ⟨4, ![2, 8, 144, 16384]⟩
abbrev S2x8x16384 : Shape := ⟨3, ![2, 8, 16384]⟩

abbrev nBuf : Space → Nat
  | .hbm => 54
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S1x1024x4680, .f32⟩
  | .hbm, ⟨3, _⟩ => ⟨S1x1024, .f32⟩
  | .hbm, ⟨4, _⟩ => ⟨S1024, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S1024x4680, .f32⟩
  | .hbm, ⟨22, _⟩ => ⟨S2x16384x4680, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x512, .f32⟩
  | .hbm, ⟨28, _⟩ => ⟨S2x16384x64, .f32⟩
  | .hbm, ⟨29, _⟩ => ⟨S2x16384x8, .f32⟩
  | .hbm, ⟨30, _⟩ => ⟨S_, .f32⟩
  | .hbm, ⟨31, _⟩ => ⟨S2x16384x1024, .f32⟩
  | .hbm, ⟨32, _⟩ => ⟨S2x16384x1024, .f32⟩
  | .hbm, ⟨33, _⟩ => ⟨S_, .f32⟩
  | .hbm, ⟨34, _⟩ => ⟨S2x16384x1024, .f32⟩
  | .hbm, ⟨35, _⟩ => ⟨S2x16384x1024, .f32⟩
  | .hbm, ⟨36, _⟩ => ⟨S2x16384x8x128, .f32⟩
  | .hbm, ⟨37, _⟩ => ⟨S2x8x128x16384, .f32⟩
  | .hbm, ⟨38, _⟩ => ⟨S2x16384x8x128, .f32⟩
  | .hbm, ⟨39, _⟩ => ⟨S2x8x128x16384, .f32⟩
  | .hbm, ⟨40, _⟩ => ⟨S_, .f32⟩
  | .hbm, ⟨41, _⟩ => ⟨S2x8x1x16384, .f32⟩
  | .hbm, ⟨42, _⟩ => ⟨S_, .f32⟩
  | .hbm, ⟨43, _⟩ => ⟨S2x8x15x16384, .f32⟩
  | .hbm, ⟨44, _⟩ => ⟨S2x16384x8x64, .f32⟩
  | .hbm, ⟨45, _⟩ => ⟨S2x8x64x16384, .f32⟩
  | .hbm, ⟨46, _⟩ => ⟨S2x16384x2048, .f32⟩
  | .hbm, ⟨47, _⟩ => ⟨S2x16384x2048, .bf16⟩
  | .hbm, ⟨48, _⟩ => ⟨S2x8x128x16384, .bf16⟩
  | .hbm, ⟨49, _⟩ => ⟨S2x8x144x16384, .f32⟩
  | .hbm, ⟨50, _⟩ => ⟨S2x8x144x16384, .bf16⟩
  | .hbm, ⟨51, _⟩ => ⟨S2x8x64x16384, .bf16⟩
  | .hbm, ⟨52, _⟩ => ⟨S2x16384x64, .bf16⟩
  | .hbm, ⟨53, _⟩ => ⟨S2x8x16384, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Proof.Safe.lean ====
/-
  Programs that only load from and store into buffers they own.

  A kernel body whose effects are loads and stores runs from the ownership of those buffers back to it, whatever
  values it computes: the rules below go through such a program by its structure — a return, a sequence, a load, a
  store, a counted loop, a branch.
-/
module

public import Idealize.ShloMosaic.Lib.Tactic
public import Idealize.ShloMosaic.Lib.Pipeline.Frame
public import Idealize.ShloMosaic.Lib.Memref
public import Idealize.ShloMosaic.Lib.Scf

@[expose] public section

noncomputable section

namespace Cert.Proof.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds

variable {nD : Nat} {τ : Topo} {sig : RefSig} {Val : EltTy → Type}
variable {Λ : Labels} {defs : Defs nD τ sig Val Λ}

local notation "𝕄" => MT nD τ sig Unit Val ℕ (UR sig nD τ) ℕ

/-- The program `e`, from `I`, runs to its return and holds `I` again. -/
def Safe (defs : Defs nD τ sig Val Λ) (c : Dev nD) (I : sProp 𝕄) {α : Type} (e : Prog (TpuEff nD τ sig Val Λ .tc) α) : Prop :=
  I ⊢ wp frame (wpE defs Variants.none (c : Thread nD τ) none) Set.univ e (fun _ => I)

/-- `I` owns the elements of the memref `M`, at some contents. -/
def Has (c : Dev nD) (I : sProp 𝕄) {sp : Space} {s : Shape} {e : EltTy} (M : Memref sig .tc sp s e) : Prop :=
  I ⊢ iprop((∃ f, M.view.loc (c : Thread nD τ) ↦[M.view.set]{fullShare} f)
    ∗ ((∃ f, M.view.loc (c : Thread nD τ) ↦[M.view.set]{fullShare} f) -∗ I))

variable {c : Dev nD} {α β : Type}

theorem Safe.ret {I : sProp 𝕄} (a : α) : Safe defs c I (.ret a) := by
  unfold Safe; rw [wp_ret]; exact BI.fupd_intro

theorem Safe.pure {I : sProp 𝕄} (a : α) : Safe defs c I (Pure.pure a) := Safe.ret a

theorem Safe.bind {I : sProp 𝕄} {e : Prog (TpuEff nD τ sig Val Λ .tc) α} {k : α → Prog (TpuEff nD τ sig Val Λ .tc) β}
    (he : Safe defs c I e) (hk : ∀ a, Safe defs c I (k a)) : Safe defs c I (e >>= k) := by
  unfold Safe; rw [wp_bind]
  exact BIBase.Entails.trans he (wp_mono _ _ _ hk)

theorem Safe.load {I : sProp 𝕄} {sp : CoreSpace} {s : Shape} {e : EltTy} {M : Memref sig .tc sp s e} {r : LoadRect s}
    {hl : M.view.LoadsAt r} (h : Has c I M) : Safe defs c I (Prog.lift (.load M r hl)) := by
  unfold Safe Prog.lift
  refine BIBase.Entails.trans h ?_
  iintro ⟨⟨%f, H⟩, Hk⟩
  iapply (wp_load Variants.none (c : Thread nD τ) none Set.univ (hl := hl) (M.view.setOn_subset_set _)) $$ H
  iintro H
  rw [wp_ret]
  imodintro
  iapply Hk
  iexists f
  iexact H

theorem Safe.store {I : sProp 𝕄} {sp : CoreSpace} {s : Shape} {e : EltTy} {M : Memref sig .tc sp s e} {r : Rect s}
    {w : r.shape.Idx → Val e} {Mk : Finset r.shape.Idx} {hx : (M.access r).Stores Mk}
    {hm : Mk = Finset.univ ∨ ∀ a, r.stride a = 1} (h : Has c I M) :
    Safe defs c I (Prog.lift (.store M r w Mk hx hm)) := by
  unfold Safe Prog.lift
  refine BIBase.Entails.trans h ?_
  iintro ⟨⟨%f, H⟩, Hk⟩
  iapply (wp_store Variants.none (c : Thread nD τ) none Set.univ (hx := hx) (hm := hm)
    (((M.access r).setOn_subset_set Mk).trans (M.view.set_slice_subset r))) $$ H
  iintro H
  rw [wp_ret]
  imodintro
  iapply Hk
  iexists _
  iexact H

theorem Safe.forFrom {I : sProp 𝕄} {n : Nat} {σ : Type} {body : Fin n → σ → Prog (TpuEff nD τ sig Val Λ .tc) σ}
    (h : ∀ k acc, Safe defs c I (body k acc)) : ∀ ks acc, Safe defs c I (Scf.forFrom body ks acc)
  | [], acc => Safe.ret acc
  | k :: ks, acc => Safe.bind (h k acc) fun acc' => Safe.forFrom h ks acc'

theorem Safe.loop {I : sProp 𝕄} {w : Nat} {σ : Type} (l : Scf.Loop w) (hok : l.OK) (init : σ)
    {body : Fin l.trips → σ → Prog (TpuEff nD τ sig Val Λ .tc) σ}
    (h : ∀ k acc, Safe defs c I (body k acc)) : Safe defs c I (Scf.Loop.for l hok init body) := by
  unfold Scf.Loop.for; rw [Scf.for_eq]; exact Safe.forFrom h _ _

theorem Safe.dite {I : sProp 𝕄} {p : Prop} [Decidable p] {a : p → Prog (TpuEff nD τ sig Val Λ .tc) α}
    {b : ¬p → Prog (TpuEff nD τ sig Val Λ .tc) α}
    (ha : ∀ h, Safe defs c I (a h)) (hb : ∀ h, Safe defs c I (b h)) : Safe defs c I (if h : p then a h else b h) := by
  split
  · exact ha _
  · exact hb _

theorem Safe.ite {I : sProp 𝕄} {p : Prop} [Decidable p] {a b : Prog (TpuEff nD τ sig Val Λ .tc) α}
    (ha : Safe defs c I a) (hb : Safe defs c I b) : Safe defs c I (if p then a else b) := by
  split
  · exact ha
  · exact hb

end Cert.Proof.Safe

end
-- ==== Proof.Parts0.lean ====
/-
  Pieces of the indexer kernel that only load from and store into buffers they own.
-/
module

public import proofs.«01_k».proof.Kernel
public import proofs.«01_k».proof.Proof.Safe

@[expose] public section

set_option maxRecDepth 16384

noncomputable section

namespace Cert.Proof.Kernel

open Cert.Kernel Cert.Proof.Safe
open Idealize.ShloMosaic Idealize.ShloMosaic.TcCoe
open Idealize.SL Idealize.SL.RA Idealize.SL.BI Idealize.ShloMosaic.Rounds

variable {F : FTy → Type} [BitOps F] [Cert.Kernel.Facts]

local notation "𝕄" => MT nD τ sig Unit (Elt F) ℕ (UR sig nD τ) ℕ
set_option maxHeartbeats 0
theorem safe_k0_part1681 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (arg1 : BitVec 32) (v0 : BitVec 32) (v7 : BitVec 32) (k0_h3 : k0_cond3 i = 1#1)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1681 i arg2 harg2 arg3 harg3 arg4 harg4 arg5 harg5 arg6 harg6 arg7 harg7 arg8 harg8 arg9 harg9 arg10 harg10 arg11 harg11 arg12 harg12 arg13 harg13 arg1 v0 v7 k0_h3) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1761 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v0 : BitVec 32) (v732_0 : IVec S8x128 32) (v805 : IVec S8x128 32) (c0_i32_497 : BitVec 32) (c1_i32_498 : BitVec 32) (k0_t13 : Fin k0_t13_loop.trips) (arg15 : IVec S8x128 32) (arg16 : IVec S8x128 32) (arg17 : IVec S8x128 32) (arg18 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1761 i arg2 harg2 arg3 harg3 arg4 harg4 arg5 harg5 arg6 harg6 arg7 harg7 arg8 harg8 arg9 harg9 arg10 harg10 arg11 harg11 arg12 harg12 arg13 harg13 v0 v732_0 v805 c0_i32_497 c1_i32_498 k0_t13 arg15 arg16 arg17 arg18) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part617 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (arg1 : BitVec 32) (v4 : FVec F S8x512 .f32) (v7 : BitVec 32) (c0_i32_426 : BitVec 32) (c1_i32_428 : BitVec 32) (k0_t2 : Fin (k0_t2_loop i).trips)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part617 i arg2 harg2 arg3 harg3 arg4 harg4 arg5 harg5 arg6 harg6 arg7 harg7 arg8 harg8 arg9 harg9 arg10 harg10 arg11 harg11 arg12 harg12 arg13 harg13 arg1 v4 v7 c0_i32_426 c1_i32_428 k0_t2) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part621 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t2 : Fin (k0_t2_loop i).trips) (v10247 : BitVec 32) (v10249 : BitVec 32) (v10252 : Vec F S8x128 .i32) (v10255 : Vec F S8x128 .i32) (v10258 : Vec F S8x128 .i32) (v10300 : Vec F S8x128 .i32) (v10303 : Vec F S8x128 .i32) (v10306 : Vec F S8x128 .i32) (v10351 : IVec S8x128 32) (v10354 : IVec S8x128 32) (v10360 : IVec S8x128 32) (v10363 : IVec S8x128 32) (v10369 : IVec S8x128 32) (v10372 : IVec S8x128 32) (v10378 : IVec S8x128 32) (v10381 : IVec S8x128 32) (v10387 : IVec S8x128 32) (v10390 : IVec S8x128 32) (v10396 : IVec S8x128 32) (v10399 : IVec S8x128 32) (v10405 : IVec S8x128 32) (v10408 : IVec S8x128 32) (v10414 : IVec S8x128 32) (v10417 : IVec S8x128 32) (v10423 : IVec S8x128 32) (v10426 : IVec S8x128 32) (v10432 : IVec S8x128 32) (v10435 : IVec S8x128 32) (v10441 : IVec S8x128 32) (v10444 : IVec S8x128 32) (v10450 : IVec S8x128 32) (v10453 : IVec S8x128 32) (v10459 : IVec S8x128 32) (v10462 : IVec S8x128 32) (v10467 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part621 i arg2 harg2 arg3 harg3 arg4 harg4 arg5 harg5 arg6 harg6 arg7 harg7 arg8 harg8 arg9 harg9 arg10 harg10 arg11 harg11 arg12 harg12 arg13 harg13 v7 k0_t2 v10247 v10249 v10252 v10255 v10258 v10300 v10303 v10306 v10351 v10354 v10360 v10363 v10369 v10372 v10378 v10381 v10387 v10390 v10396 v10399 v10405 v10408 v10414 v10417 v10423 v10426 v10432 v10435 v10441 v10444 v10450 v10453 v10459 v10462 v10467) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1056 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (arg1 : BitVec 32) (v4 : FVec F S8x512 .f32) (v7 : BitVec 32) (v684 : BitVec 32) (c1_i32_429 : BitVec 32) (k0_t3 : Fin (k0_t3_loop i).trips)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1056 i arg2 harg2 arg3 harg3 arg4 harg4 arg5 harg5 arg6 harg6 arg7 harg7 arg8 harg8 arg9 harg9 arg10 harg10 arg11 harg11 arg12 harg12 arg13 harg13 arg1 v4 v7 v684 c1_i32_429 k0_t3) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1060 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t3 : Fin (k0_t3_loop i).trips) (v10247 : BitVec 32) (v10249 : BitVec 32) (v10252 : Vec F S8x128 .i32) (v10255 : Vec F S8x128 .i32) (v10258 : Vec F S8x128 .i32) (v10300 : Vec F S8x128 .i32) (v10303 : Vec F S8x128 .i32) (v10306 : Vec F S8x128 .i32) (v10351 : IVec S8x128 32) (v10354 : IVec S8x128 32) (v10360 : IVec S8x128 32) (v10363 : IVec S8x128 32) (v10369 : IVec S8x128 32) (v10372 : IVec S8x128 32) (v10378 : IVec S8x128 32) (v10381 : IVec S8x128 32) (v10387 : IVec S8x128 32) (v10390 : IVec S8x128 32) (v10396 : IVec S8x128 32) (v10399 : IVec S8x128 32) (v10405 : IVec S8x128 32) (v10408 : IVec S8x128 32) (v10414 : IVec S8x128 32) (v10417 : IVec S8x128 32) (v10423 : IVec S8x128 32) (v10426 : IVec S8x128 32) (v10432 : IVec S8x128 32) (v10435 : IVec S8x128 32) (v10441 : IVec S8x128 32) (v10444 : IVec S8x128 32) (v10450 : IVec S8x128 32) (v10453 : IVec S8x128 32) (v10459 : IVec S8x128 32) (v10462 : IVec S8x128 32) (v10467 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1060 i arg2 harg2 arg3 harg3 arg4 harg4 arg5 harg5 arg6 harg6 arg7 harg7 arg8 harg8 arg9 harg9 arg10 harg10 arg11 harg11 arg12 harg12 arg13 harg13 v7 k0_t3 v10247 v10249 v10252 v10255 v10258 v10300 v10303 v10306 v10351 v10354 v10360 v10363 v10369 v10372 v10378 v10381 v10387 v10390 v10396 v10399 v10405 v10408 v10414 v10417 v10423 v10426 v10432 v10435 v10441 v10444 v10450 v10453 v10459 v10462 v10467) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1477 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (arg1 : BitVec 32) (v0 : BitVec 32) (v4 : FVec F S8x512 .f32) (v7 : BitVec 32) (k0_h2 : k0_cond2 i = 1#1)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1477 i arg2 harg2 arg3 harg3 arg4 harg4 arg5 harg5 arg6 harg6 arg7 harg7 arg8 harg8 arg9 harg9 arg10 harg10 arg11 harg11 arg12 harg12 arg13 harg13 arg1 v0 v4 v7 k0_h2) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1481 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_h2 : k0_cond2 i = 1#1) (v9577 : BitVec 32) (v9579 : BitVec 32) (v10257 : IVec S8x128 32) (v10260 : IVec S8x128 32) (v10266 : IVec S8x128 32) (v10398 : IVec S8x128 32) (v10568 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1481 i arg2 harg2 arg3 harg3 arg4 harg4 arg5 harg5 arg6 harg6 arg7 harg7 arg8 harg8 arg9 harg9 arg10 harg10 arg11 harg11 arg12 harg12 arg13 harg13 v7 k0_h2 v9577 v9579 v10257 v10260 v10266 v10398 v10568) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

end Cert.Proof.Kernel

end
-- ==== Proof.Parts1.lean ====
/-
  Pieces of the indexer kernel that only load from and store into buffers they own.
-/
module

public import proofs.«01_k».proof.Kernel
public import proofs.«01_k».proof.Proof.Safe

@[expose] public section

set_option maxRecDepth 16384

noncomputable section

namespace Cert.Proof.Kernel

open Cert.Kernel Cert.Proof.Safe
open Idealize.ShloMosaic Idealize.ShloMosaic.TcCoe
open Idealize.SL Idealize.SL.RA Idealize.SL.BI Idealize.ShloMosaic.Rounds

variable {F : FTy → Type} [BitOps F] [Cert.Kernel.Facts]

local notation "𝕄" => MT nD τ sig Unit (Elt F) ℕ (UR sig nD τ) ℕ
set_option maxHeartbeats 0
theorem safe_k0_part1682 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_h3 : k0_cond3 i = 1#1) (v819 : BitVec 32) (v821 : BitVec 32) (v3119 : IVec S8x128 32) (v3155 : IVec S8x128 32) (v3161 : IVec S8x128 32) (v3164 : IVec S8x128 32) (v3170 : IVec S8x128 32) (v3173 : IVec S8x128 32) (v3179 : IVec S8x128 32) (v3182 : IVec S8x128 32) (v3188 : IVec S8x128 32) (v3191 : IVec S8x128 32) (v3197 : IVec S8x128 32) (v3200 : IVec S8x128 32) (v3206 : IVec S8x128 32) (v3209 : IVec S8x128 32) (v3215 : IVec S8x128 32) (v3218 : IVec S8x128 32) (v3224 : IVec S8x128 32) (v3227 : IVec S8x128 32) (v3233 : IVec S8x128 32) (v3236 : IVec S8x128 32) (v3242 : IVec S8x128 32) (v3245 : IVec S8x128 32) (v3251 : IVec S8x128 32) (v3254 : IVec S8x128 32) (v3260 : IVec S8x128 32) (v3263 : IVec S8x128 32) (v3269 : IVec S8x128 32) (v3272 : IVec S8x128 32) (v3278 : IVec S8x128 32) (v3281 : IVec S8x128 32) (v3287 : IVec S8x128 32) (v3290 : IVec S8x128 32) (v3293 : IVec S8x128 32) (v3294 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1682 i arg2 harg2 arg3 harg3 arg4 harg4 arg5 harg5 arg6 harg6 arg7 harg7 arg8 harg8 arg9 harg9 arg10 harg10 arg11 harg11 arg12 harg12 arg13 harg13 v7 k0_h3 v819 v821 v3119 v3155 v3161 v3164 v3170 v3173 v3179 v3182 v3188 v3191 v3197 v3200 v3206 v3209 v3215 v3218 v3224 v3227 v3233 v3236 v3242 v3245 v3251 v3254 v3260 v3263 v3269 v3272 v3278 v3281 v3287 v3290 v3293 v3294) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part183 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (k0_h1 : k0_cond1 i = 1#1)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part183 i arg2 harg2 arg3 harg3 arg4 harg4 arg5 harg5 arg6 harg6 arg7 harg7 arg8 harg8 arg9 harg9 arg10 harg10 arg11 harg11 arg12 harg12 arg13 harg13 k0_h1) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part618 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t2 : Fin (k0_t2_loop i).trips) (v1487 : BitVec 32) (v1489 : BitVec 32) (v3088 : IVec S8x128 32) (v3091 : IVec S8x128 32) (v3097 : IVec S8x128 32) (v3100 : IVec S8x128 32) (v3106 : IVec S8x128 32) (v3109 : IVec S8x128 32) (v3115 : IVec S8x128 32) (v3118 : IVec S8x128 32) (v3124 : IVec S8x128 32) (v3127 : IVec S8x128 32) (v3133 : IVec S8x128 32) (v3136 : IVec S8x128 32) (v3142 : IVec S8x128 32) (v3145 : IVec S8x128 32) (v3151 : IVec S8x128 32) (v3154 : IVec S8x128 32) (v3160 : IVec S8x128 32) (v3163 : IVec S8x128 32) (v3169 : IVec S8x128 32) (v3172 : IVec S8x128 32) (v3178 : IVec S8x128 32) (v3181 : IVec S8x128 32) (v3187 : IVec S8x128 32) (v3190 : IVec S8x128 32) (v3196 : IVec S8x128 32) (v3199 : IVec S8x128 32) (v3205 : IVec S8x128 32) (v3208 : IVec S8x128 32) (v3214 : IVec S8x128 32) (v3217 : IVec S8x128 32) (v3223 : IVec S8x128 32) (v3226 : IVec S8x128 32) (v3227 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part618 i arg2 harg2 arg3 harg3 arg4 harg4 arg5 harg5 arg6 harg6 arg7 harg7 arg8 harg8 arg9 harg9 arg10 harg10 arg11 harg11 arg12 harg12 arg13 harg13 v7 k0_t2 v1487 v1489 v3088 v3091 v3097 v3100 v3106 v3109 v3115 v3118 v3124 v3127 v3133 v3136 v3142 v3145 v3151 v3154 v3160 v3163 v3169 v3172 v3178 v3181 v3187 v3190 v3196 v3199 v3205 v3208 v3214 v3217 v3223 v3226 v3227) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part622 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t2 : Fin (k0_t2_loop i).trips) (v10247 : BitVec 32) (v10249 : BitVec 32) (v12826 : IVec S8x128 32) (v12832 : IVec S8x128 32) (v12835 : IVec S8x128 32) (v12841 : IVec S8x128 32) (v12844 : IVec S8x128 32) (v12850 : IVec S8x128 32) (v12853 : IVec S8x128 32) (v12859 : IVec S8x128 32) (v12862 : IVec S8x128 32) (v12868 : IVec S8x128 32) (v12871 : IVec S8x128 32) (v12877 : IVec S8x128 32) (v12880 : IVec S8x128 32) (v12886 : IVec S8x128 32) (v12889 : IVec S8x128 32) (v12895 : IVec S8x128 32) (v12898 : IVec S8x128 32) (v12904 : IVec S8x128 32) (v12907 : IVec S8x128 32) (v12913 : IVec S8x128 32) (v12916 : IVec S8x128 32) (v12922 : IVec S8x128 32) (v12925 : IVec S8x128 32) (v12931 : IVec S8x128 32) (v12934 : IVec S8x128 32) (v12940 : IVec S8x128 32) (v12943 : IVec S8x128 32) (v12949 : IVec S8x128 32) (v12952 : IVec S8x128 32) (v12958 : IVec S8x128 32) (v12961 : IVec S8x128 32) (v12967 : IVec S8x128 32) (v12969 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part622 i arg2 harg2 arg3 harg3 arg4 harg4 arg5 harg5 arg6 harg6 arg7 harg7 arg8 harg8 arg9 harg9 arg10 harg10 arg11 harg11 arg12 harg12 arg13 harg13 v7 k0_t2 v10247 v10249 v12826 v12832 v12835 v12841 v12844 v12850 v12853 v12859 v12862 v12868 v12871 v12877 v12880 v12886 v12889 v12895 v12898 v12904 v12907 v12913 v12916 v12922 v12925 v12931 v12934 v12940 v12943 v12949 v12952 v12958 v12961 v12967 v12969) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1057 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t3 : Fin (k0_t3_loop i).trips) (v1487 : BitVec 32) (v1489 : BitVec 32) (v3088 : IVec S8x128 32) (v3091 : IVec S8x128 32) (v3097 : IVec S8x128 32) (v3100 : IVec S8x128 32) (v3106 : IVec S8x128 32) (v3109 : IVec S8x128 32) (v3115 : IVec S8x128 32) (v3118 : IVec S8x128 32) (v3124 : IVec S8x128 32) (v3127 : IVec S8x128 32) (v3133 : IVec S8x128 32) (v3136 : IVec S8x128 32) (v3142 : IVec S8x128 32) (v3145 : IVec S8x128 32) (v3151 : IVec S8x128 32) (v3154 : IVec S8x128 32) (v3160 : IVec S8x128 32) (v3163 : IVec S8x128 32) (v3169 : IVec S8x128 32) (v3172 : IVec S8x128 32) (v3178 : IVec S8x128 32) (v3181 : IVec S8x128 32) (v3187 : IVec S8x128 32) (v3190 : IVec S8x128 32) (v3196 : IVec S8x128 32) (v3199 : IVec S8x128 32) (v3205 : IVec S8x128 32) (v3208 : IVec S8x128 32) (v3214 : IVec S8x128 32) (v3217 : IVec S8x128 32) (v3223 : IVec S8x128 32) (v3226 : IVec S8x128 32) (v3227 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1057 i arg2 harg2 arg3 harg3 arg4 harg4 arg5 harg5 arg6 harg6 arg7 harg7 arg8 harg8 arg9 harg9 arg10 harg10 arg11 harg11 arg12 harg12 arg13 harg13 v7 k0_t3 v1487 v1489 v3088 v3091 v3097 v3100 v3106 v3109 v3115 v3118 v3124 v3127 v3133 v3136 v3142 v3145 v3151 v3154 v3160 v3163 v3169 v3172 v3178 v3181 v3187 v3190 v3196 v3199 v3205 v3208 v3214 v3217 v3223 v3226 v3227) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1061 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t3 : Fin (k0_t3_loop i).trips) (v10247 : BitVec 32) (v10249 : BitVec 32) (v12826 : IVec S8x128 32) (v12832 : IVec S8x128 32) (v12835 : IVec S8x128 32) (v12841 : IVec S8x128 32) (v12844 : IVec S8x128 32) (v12850 : IVec S8x128 32) (v12853 : IVec S8x128 32) (v12859 : IVec S8x128 32) (v12862 : IVec S8x128 32) (v12868 : IVec S8x128 32) (v12871 : IVec S8x128 32) (v12877 : IVec S8x128 32) (v12880 : IVec S8x128 32) (v12886 : IVec S8x128 32) (v12889 : IVec S8x128 32) (v12895 : IVec S8x128 32) (v12898 : IVec S8x128 32) (v12904 : IVec S8x128 32) (v12907 : IVec S8x128 32) (v12913 : IVec S8x128 32) (v12916 : IVec S8x128 32) (v12922 : IVec S8x128 32) (v12925 : IVec S8x128 32) (v12931 : IVec S8x128 32) (v12934 : IVec S8x128 32) (v12940 : IVec S8x128 32) (v12943 : IVec S8x128 32) (v12949 : IVec S8x128 32) (v12952 : IVec S8x128 32) (v12958 : IVec S8x128 32) (v12961 : IVec S8x128 32) (v12967 : IVec S8x128 32) (v12969 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1061 i arg2 harg2 arg3 harg3 arg4 harg4 arg5 harg5 arg6 harg6 arg7 harg7 arg8 harg8 arg9 harg9 arg10 harg10 arg11 harg11 arg12 harg12 arg13 harg13 v7 k0_t3 v10247 v10249 v12826 v12832 v12835 v12841 v12844 v12850 v12853 v12859 v12862 v12868 v12871 v12877 v12880 v12886 v12889 v12895 v12898 v12904 v12907 v12913 v12916 v12922 v12925 v12931 v12934 v12940 v12943 v12949 v12952 v12958 v12961 v12967 v12969) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1478 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_h2 : k0_cond2 i = 1#1) (v1486 : BitVec 32) (v1488 : BitVec 32) (v3087 : IVec S8x128 32) (v3090 : IVec S8x128 32) (v3096 : IVec S8x128 32) (v3099 : IVec S8x128 32) (v3105 : IVec S8x128 32) (v3108 : IVec S8x128 32) (v3114 : IVec S8x128 32) (v3117 : IVec S8x128 32) (v3123 : IVec S8x128 32) (v3126 : IVec S8x128 32) (v3132 : IVec S8x128 32) (v3135 : IVec S8x128 32) (v3141 : IVec S8x128 32) (v3144 : IVec S8x128 32) (v3150 : IVec S8x128 32) (v3153 : IVec S8x128 32) (v3159 : IVec S8x128 32) (v3162 : IVec S8x128 32) (v3168 : IVec S8x128 32) (v3171 : IVec S8x128 32) (v3177 : IVec S8x128 32) (v3180 : IVec S8x128 32) (v3186 : IVec S8x128 32) (v3189 : IVec S8x128 32) (v3195 : IVec S8x128 32) (v3198 : IVec S8x128 32) (v3204 : IVec S8x128 32) (v3207 : IVec S8x128 32) (v3213 : IVec S8x128 32) (v3216 : IVec S8x128 32) (v3222 : IVec S8x128 32) (v3225 : IVec S8x128 32) (v3228 : IVec S8x128 32) (c1431655765_i32_1582 : BitVec 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1478 i arg2 harg2 arg3 harg3 arg4 harg4 arg5 harg5 arg6 harg6 arg7 harg7 arg8 harg8 arg9 harg9 arg10 harg10 arg11 harg11 arg12 harg12 arg13 harg13 v7 k0_h2 v1486 v1488 v3087 v3090 v3096 v3099 v3105 v3108 v3114 v3117 v3123 v3126 v3132 v3135 v3141 v3144 v3150 v3153 v3159 v3162 v3168 v3171 v3177 v3180 v3186 v3189 v3195 v3198 v3204 v3207 v3213 v3216 v3222 v3225 v3228 c1431655765_i32_1582) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1482 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_h2 : k0_cond2 i = 1#1) (v9577 : BitVec 32) (v9579 : BitVec 32) (v12861 : IVec S8x128 32) (v12870 : IVec S8x128 32) (v12879 : IVec S8x128 32) (v12888 : IVec S8x128 32) (v12897 : IVec S8x128 32) (v12906 : IVec S8x128 32) (v12915 : IVec S8x128 32) (v12924 : IVec S8x128 32) (v12930 : IVec S8x128 32) (v12933 : IVec S8x128 32) (v12939 : IVec S8x128 32) (v12942 : IVec S8x128 32) (v12948 : IVec S8x128 32) (v12951 : IVec S8x128 32) (v12957 : IVec S8x128 32) (v12960 : IVec S8x128 32) (v12966 : IVec S8x128 32) (v12969 : IVec S8x128 32) (v12975 : IVec S8x128 32) (v12978 : IVec S8x128 32) (v12984 : IVec S8x128 32) (v12987 : IVec S8x128 32) (v12993 : IVec S8x128 32) (v12996 : IVec S8x128 32) (v13002 : IVec S8x128 32) (v13005 : IVec S8x128 32) (v13011 : IVec S8x128 32) (v13014 : IVec S8x128 32) (v13020 : IVec S8x128 32) (v13023 : IVec S8x128 32) (v13029 : IVec S8x128 32) (v13032 : IVec S8x128 32) (v13037 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1482 i arg2 harg2 arg3 harg3 arg4 harg4 arg5 harg5 arg6 harg6 arg7 harg7 arg8 harg8 arg9 harg9 arg10 harg10 arg11 harg11 arg12 harg12 arg13 harg13 v7 k0_h2 v9577 v9579 v12861 v12870 v12879 v12888 v12897 v12906 v12915 v12924 v12930 v12933 v12939 v12942 v12948 v12951 v12957 v12960 v12966 v12969 v12975 v12978 v12984 v12987 v12993 v12996 v13002 v13005 v13011 v13014 v13020 v13023 v13029 v13032 v13037) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

end Cert.Proof.Kernel

end
-- ==== Proof.Parts2.lean ====
/-
  Pieces of the indexer kernel that only load from and store into buffers they own.
-/
module

public import proofs.«01_k».proof.Kernel
public import proofs.«01_k».proof.Proof.Safe

@[expose] public section

set_option maxRecDepth 16384

noncomputable section

namespace Cert.Proof.Kernel

open Cert.Kernel Cert.Proof.Safe
open Idealize.ShloMosaic Idealize.ShloMosaic.TcCoe
open Idealize.SL Idealize.SL.RA Idealize.SL.BI Idealize.ShloMosaic.Rounds

variable {F : FTy → Type} [BitOps F] [Cert.Kernel.Facts]

local notation "𝕄" => MT nD τ sig Unit (Elt F) ℕ (UR sig nD τ) ℕ
set_option maxHeartbeats 0
theorem safe_k0_part1683 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_h3 : k0_cond3 i = 1#1) (v819 : BitVec 32) (v821 : BitVec 32) (v5543 : IVec S8x128 32) (v5546 : IVec S8x128 32) (v5552 : IVec S8x128 32) (v5555 : IVec S8x128 32) (v5561 : IVec S8x128 32) (v5564 : IVec S8x128 32) (v5570 : IVec S8x128 32) (v5573 : IVec S8x128 32) (v5579 : IVec S8x128 32) (v5582 : IVec S8x128 32) (v5588 : IVec S8x128 32) (v5591 : IVec S8x128 32) (v5597 : IVec S8x128 32) (v5600 : IVec S8x128 32) (v5606 : IVec S8x128 32) (v5609 : IVec S8x128 32) (v5615 : IVec S8x128 32) (v5618 : IVec S8x128 32) (v5684 : IVec S8x128 32) (v5764 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1683 i arg2 harg2 arg3 harg3 arg4 harg4 arg5 harg5 arg6 harg6 arg7 harg7 arg8 harg8 arg9 harg9 arg10 harg10 arg11 harg11 arg12 harg12 arg13 harg13 v7 k0_h3 v819 v821 v5543 v5546 v5552 v5555 v5561 v5564 v5570 v5573 v5579 v5582 v5588 v5591 v5597 v5600 v5606 v5609 v5615 v5618 v5684 v5764) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part184 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v820 : IVec S8x128 32) (v821 : IVec S8x128 32) (v2899 : IVec S8x128 32) (v3520 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part184 i arg2 harg2 arg3 harg3 arg4 harg4 arg5 harg5 arg6 harg6 arg7 harg7 arg8 harg8 arg9 harg9 arg10 harg10 arg11 harg11 arg12 harg12 arg13 harg13 v820 v821 v2899 v3520) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part619 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t2 : Fin (k0_t2_loop i).trips) (v1487 : BitVec 32) (v1489 : BitVec 32) (v5536 : Vec F S8x128 .i32) (v5539 : Vec F S8x128 .i32) (v5542 : Vec F S8x128 .i32) (v5545 : Vec F S8x128 .i32) (v5548 : Vec F S8x128 .i32) (v5551 : Vec F S8x128 .i32) (v5554 : Vec F S8x128 .i32) (v5557 : Vec F S8x128 .i32) (v5560 : Vec F S8x128 .i32) (v5563 : Vec F S8x128 .i32) (v5566 : Vec F S8x128 .i32) (v5569 : Vec F S8x128 .i32) (v5572 : Vec F S8x128 .i32) (v5575 : Vec F S8x128 .i32) (v5578 : Vec F S8x128 .i32) (v5581 : Vec F S8x128 .i32) (v5584 : Vec F S8x128 .i32) (v5587 : Vec F S8x128 .i32) (v5590 : Vec F S8x128 .i32) (v5593 : Vec F S8x128 .i32) (v5596 : Vec F S8x128 .i32) (v5599 : Vec F S8x128 .i32) (v5602 : Vec F S8x128 .i32) (v5605 : Vec F S8x128 .i32) (v5608 : Vec F S8x128 .i32) (v5611 : Vec F S8x128 .i32) (v5614 : Vec F S8x128 .i32) (v5617 : Vec F S8x128 .i32) (v5620 : Vec F S8x128 .i32) (v5623 : Vec F S8x128 .i32) (v5626 : Vec F S8x128 .i32) (v5629 : Vec F S8x128 .i32) (v5630 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part619 i arg2 harg2 arg3 harg3 arg4 harg4 arg5 harg5 arg6 harg6 arg7 harg7 arg8 harg8 arg9 harg9 arg10 harg10 arg11 harg11 arg12 harg12 arg13 harg13 v7 k0_t2 v1487 v1489 v5536 v5539 v5542 v5545 v5548 v5551 v5554 v5557 v5560 v5563 v5566 v5569 v5572 v5575 v5578 v5581 v5584 v5587 v5590 v5593 v5596 v5599 v5602 v5605 v5608 v5611 v5614 v5617 v5620 v5623 v5626 v5629 v5630) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part623 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t2 : Fin (k0_t2_loop i).trips) (v10247 : BitVec 32) (v10249 : BitVec 32) (v15307 : Vec F S8x128 .i32) (v15310 : Vec F S8x128 .i32) (v15313 : Vec F S8x128 .i32) (v15316 : Vec F S8x128 .i32) (v15319 : Vec F S8x128 .i32) (v15322 : Vec F S8x128 .i32) (v15325 : Vec F S8x128 .i32) (v15328 : Vec F S8x128 .i32) (v15331 : Vec F S8x128 .i32) (v15334 : Vec F S8x128 .i32) (v15337 : Vec F S8x128 .i32) (v15340 : Vec F S8x128 .i32) (v15343 : Vec F S8x128 .i32) (v15346 : Vec F S8x128 .i32) (v15349 : Vec F S8x128 .i32) (v15352 : Vec F S8x128 .i32) (v15355 : Vec F S8x128 .i32) (v15358 : Vec F S8x128 .i32) (v15361 : Vec F S8x128 .i32) (v15364 : Vec F S8x128 .i32) (v15367 : Vec F S8x128 .i32) (v15370 : Vec F S8x128 .i32) (v15373 : Vec F S8x128 .i32) (v15376 : Vec F S8x128 .i32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part623 i arg2 harg2 arg3 harg3 arg4 harg4 arg5 harg5 arg6 harg6 arg7 harg7 arg8 harg8 arg9 harg9 arg10 harg10 arg11 harg11 arg12 harg12 arg13 harg13 v7 k0_t2 v10247 v10249 v15307 v15310 v15313 v15316 v15319 v15322 v15325 v15328 v15331 v15334 v15337 v15340 v15343 v15346 v15349 v15352 v15355 v15358 v15361 v15364 v15367 v15370 v15373 v15376) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1058 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t3 : Fin (k0_t3_loop i).trips) (v1487 : BitVec 32) (v1489 : BitVec 32) (v5536 : Vec F S8x128 .i32) (v5539 : Vec F S8x128 .i32) (v5542 : Vec F S8x128 .i32) (v5545 : Vec F S8x128 .i32) (v5548 : Vec F S8x128 .i32) (v5551 : Vec F S8x128 .i32) (v5554 : Vec F S8x128 .i32) (v5557 : Vec F S8x128 .i32) (v5560 : Vec F S8x128 .i32) (v5563 : Vec F S8x128 .i32) (v5566 : Vec F S8x128 .i32) (v5569 : Vec F S8x128 .i32) (v5572 : Vec F S8x128 .i32) (v5575 : Vec F S8x128 .i32) (v5578 : Vec F S8x128 .i32) (v5581 : Vec F S8x128 .i32) (v5584 : Vec F S8x128 .i32) (v5587 : Vec F S8x128 .i32) (v5590 : Vec F S8x128 .i32) (v5593 : Vec F S8x128 .i32) (v5596 : Vec F S8x128 .i32) (v5599 : Vec F S8x128 .i32) (v5602 : Vec F S8x128 .i32) (v5605 : Vec F S8x128 .i32) (v5608 : Vec F S8x128 .i32) (v5611 : Vec F S8x128 .i32) (v5614 : Vec F S8x128 .i32) (v5617 : Vec F S8x128 .i32) (v5620 : Vec F S8x128 .i32) (v5623 : Vec F S8x128 .i32) (v5626 : Vec F S8x128 .i32) (v5629 : Vec F S8x128 .i32) (v5630 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1058 i arg2 harg2 arg3 harg3 arg4 harg4 arg5 harg5 arg6 harg6 arg7 harg7 arg8 harg8 arg9 harg9 arg10 harg10 arg11 harg11 arg12 harg12 arg13 harg13 v7 k0_t3 v1487 v1489 v5536 v5539 v5542 v5545 v5548 v5551 v5554 v5557 v5560 v5563 v5566 v5569 v5572 v5575 v5578 v5581 v5584 v5587 v5590 v5593 v5596 v5599 v5602 v5605 v5608 v5611 v5614 v5617 v5620 v5623 v5626 v5629 v5630) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1062 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_t3 : Fin (k0_t3_loop i).trips) (v10247 : BitVec 32) (v10249 : BitVec 32) (v15307 : Vec F S8x128 .i32) (v15310 : Vec F S8x128 .i32) (v15313 : Vec F S8x128 .i32) (v15316 : Vec F S8x128 .i32) (v15319 : Vec F S8x128 .i32) (v15322 : Vec F S8x128 .i32) (v15325 : Vec F S8x128 .i32) (v15328 : Vec F S8x128 .i32) (v15331 : Vec F S8x128 .i32) (v15334 : Vec F S8x128 .i32) (v15337 : Vec F S8x128 .i32) (v15340 : Vec F S8x128 .i32) (v15343 : Vec F S8x128 .i32) (v15346 : Vec F S8x128 .i32) (v15349 : Vec F S8x128 .i32) (v15352 : Vec F S8x128 .i32) (v15355 : Vec F S8x128 .i32) (v15358 : Vec F S8x128 .i32) (v15361 : Vec F S8x128 .i32) (v15364 : Vec F S8x128 .i32) (v15367 : Vec F S8x128 .i32) (v15370 : Vec F S8x128 .i32) (v15373 : Vec F S8x128 .i32) (v15376 : Vec F S8x128 .i32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1062 i arg2 harg2 arg3 harg3 arg4 harg4 arg5 harg5 arg6 harg6 arg7 harg7 arg8 harg8 arg9 harg9 arg10 harg10 arg11 harg11 arg12 harg12 arg13 harg13 v7 k0_t3 v10247 v10249 v15307 v15310 v15313 v15316 v15319 v15322 v15325 v15328 v15331 v15334 v15337 v15340 v15343 v15346 v15349 v15352 v15355 v15358 v15361 v15364 v15367 v15370 v15373 v15376) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1479 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_h2 : k0_cond2 i = 1#1) (v1486 : BitVec 32) (v1488 : BitVec 32) (v5535 : Vec F S8x128 .i32) (v5538 : Vec F S8x128 .i32) (v5541 : Vec F S8x128 .i32) (v5544 : Vec F S8x128 .i32) (v5547 : Vec F S8x128 .i32) (v5550 : Vec F S8x128 .i32) (v5553 : Vec F S8x128 .i32) (v5556 : Vec F S8x128 .i32) (v5559 : Vec F S8x128 .i32) (v5562 : Vec F S8x128 .i32) (v5565 : Vec F S8x128 .i32) (v5568 : Vec F S8x128 .i32) (v5571 : Vec F S8x128 .i32) (v5574 : Vec F S8x128 .i32) (v5577 : Vec F S8x128 .i32) (v5580 : Vec F S8x128 .i32) (v5583 : Vec F S8x128 .i32) (v5586 : Vec F S8x128 .i32) (v5589 : Vec F S8x128 .i32) (v5592 : Vec F S8x128 .i32) (v5595 : Vec F S8x128 .i32) (v5598 : Vec F S8x128 .i32) (v5601 : Vec F S8x128 .i32) (v5604 : Vec F S8x128 .i32) (v5607 : Vec F S8x128 .i32) (v5610 : Vec F S8x128 .i32) (v5613 : Vec F S8x128 .i32) (v5616 : Vec F S8x128 .i32) (v5619 : Vec F S8x128 .i32) (v5622 : Vec F S8x128 .i32) (v5625 : Vec F S8x128 .i32) (v5628 : Vec F S8x128 .i32) (v5631 : IVec S8x128 32) (c65535_i32_2681 : BitVec 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1479 i arg2 harg2 arg3 harg3 arg4 harg4 arg5 harg5 arg6 harg6 arg7 harg7 arg8 harg8 arg9 harg9 arg10 harg10 arg11 harg11 arg12 harg12 arg13 harg13 v7 k0_h2 v1486 v1488 v5535 v5538 v5541 v5544 v5547 v5550 v5553 v5556 v5559 v5562 v5565 v5568 v5571 v5574 v5577 v5580 v5583 v5586 v5589 v5592 v5595 v5598 v5601 v5604 v5607 v5610 v5613 v5616 v5619 v5622 v5625 v5628 v5631 c65535_i32_2681) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1483 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v7 : BitVec 32) (k0_h2 : k0_cond2 i = 1#1) (v9577 : BitVec 32) (v9579 : BitVec 32) (v15312 : IVec S8x128 32) (v15315 : IVec S8x128 32) (v15321 : IVec S8x128 32) (v15324 : IVec S8x128 32) (v15330 : IVec S8x128 32) (v15333 : IVec S8x128 32) (v15339 : IVec S8x128 32) (v15342 : IVec S8x128 32) (v15348 : IVec S8x128 32) (v15351 : IVec S8x128 32) (v15357 : IVec S8x128 32) (v15360 : IVec S8x128 32) (v15366 : IVec S8x128 32) (v15369 : IVec S8x128 32) (v15375 : IVec S8x128 32) (v15378 : IVec S8x128 32) (v15384 : IVec S8x128 32) (v15387 : IVec S8x128 32) (v15393 : IVec S8x128 32) (v15396 : IVec S8x128 32) (v15402 : IVec S8x128 32) (v15453 : IVec S8x128 32) (v15515 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1483 i arg2 harg2 arg3 harg3 arg4 harg4 arg5 harg5 arg6 harg6 arg7 harg7 arg8 harg8 arg9 harg9 arg10 harg10 arg11 harg11 arg12 harg12 arg13 harg13 v7 k0_h2 v9577 v9579 v15312 v15315 v15321 v15324 v15330 v15333 v15339 v15342 v15348 v15351 v15357 v15360 v15366 v15369 v15375 v15378 v15384 v15387 v15393 v15396 v15402 v15453 v15515) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

end Cert.Proof.Kernel

end
-- ==== Proof.Parts3.lean ====
/-
  Pieces of the indexer kernel that only load from and store into buffers they own.
-/
module

public import proofs.«01_k».proof.Kernel
public import proofs.«01_k».proof.Proof.Safe

@[expose] public section

set_option maxRecDepth 16384

noncomputable section

namespace Cert.Proof.Kernel

open Cert.Kernel Cert.Proof.Safe
open Idealize.ShloMosaic Idealize.ShloMosaic.TcCoe
open Idealize.SL Idealize.SL.RA Idealize.SL.BI Idealize.ShloMosaic.Rounds

variable {F : FTy → Type} [BitOps F] [Cert.Kernel.Facts]

local notation "𝕄" => MT nD τ sig Unit (Elt F) ℕ (UR sig nD τ) ℕ
set_option maxHeartbeats 0
theorem safe_k0_part1746 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v697 : BitVec 32) (c0_i32_455 : BitVec 32) (c1_i32_457 : BitVec 32) (k0_t8 : Fin k0_t8_loop.trips) (arg15 : IVec S8x128 32) (arg16 : IVec S8x128 32) (arg17 : IVec S8x128 32) (arg18 : IVec S8x128 32) (arg23 : IVec S8x128 32) (arg24 : IVec S8x128 32) (arg25 : IVec S8x128 32) (arg26 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1746 i arg2 harg2 arg3 harg3 arg4 harg4 arg5 harg5 arg6 harg6 arg7 harg7 arg8 harg8 arg9 harg9 arg10 harg10 arg11 harg11 arg12 harg12 arg13 harg13 v697 c0_i32_455 c1_i32_457 k0_t8 arg15 arg16 arg17 arg18 arg23 arg24 arg25 arg26) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part185 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v820 : IVec S8x128 32) (v821 : IVec S8x128 32) (v5977 : IVec S8x128 32) (v6195 : IVec S8x128 32) (v6199 : IVec S8x128 32) (v6213 : IVec S8x128 1) (v6217 : IVec S8x128 1)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part185 i arg2 harg2 arg3 harg3 arg4 harg4 arg5 harg5 arg6 harg6 arg7 harg7 arg8 harg8 arg9 harg9 arg10 harg10 arg11 harg11 arg12 harg12 arg13 harg13 v820 v821 v5977 v6195 v6199 v6213 v6217) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part620 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (arg1 : BitVec 32) (v4 : FVec F S8x512 .f32) (v7 : BitVec 32) (k0_t2 : Fin (k0_t2_loop i).trips) (arg14 : BitVec 32) (v1487 : BitVec 32) (v1489 : BitVec 32) (v7984 : IVec S8x128 32) (v7990 : IVec S8x128 32) (v7993 : IVec S8x128 32) (v8002 : IVec S8x128 32) (v8008 : IVec S8x128 32) (v8011 : IVec S8x128 32) (v8017 : IVec S8x128 32) (v8020 : IVec S8x128 32) (v8026 : IVec S8x128 32) (v8029 : IVec S8x128 32) (v8035 : IVec S8x128 32) (v8038 : IVec S8x128 32) (v8044 : IVec S8x128 32) (v8047 : IVec S8x128 32) (v8053 : IVec S8x128 32) (v8056 : IVec S8x128 32) (v8062 : IVec S8x128 32) (v8065 : IVec S8x128 32) (v8071 : IVec S8x128 32) (v8074 : IVec S8x128 32) (v8080 : IVec S8x128 32) (v8083 : IVec S8x128 32) (v8089 : IVec S8x128 32) (v8092 : IVec S8x128 32) (v8098 : IVec S8x128 32) (v8101 : IVec S8x128 32) (v8107 : IVec S8x128 32) (v8110 : IVec S8x128 32) (v8116 : IVec S8x128 32) (v8119 : IVec S8x128 32) (v8125 : IVec S8x128 32) (v8128 : IVec S8x128 32) (v8131 : IVec S8x128 32) (v8132 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part620 i arg2 harg2 arg3 harg3 arg4 harg4 arg5 harg5 arg6 harg6 arg7 harg7 arg8 harg8 arg9 harg9 arg10 harg10 arg11 harg11 arg12 harg12 arg13 harg13 arg1 v4 v7 k0_t2 arg14 v1487 v1489 v7984 v7990 v7993 v8002 v8008 v8011 v8017 v8020 v8026 v8029 v8035 v8038 v8044 v8047 v8053 v8056 v8062 v8065 v8071 v8074 v8080 v8083 v8089 v8092 v8098 v8101 v8107 v8110 v8116 v8119 v8125 v8128 v8131 v8132) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part624 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (k0_t2 : Fin (k0_t2_loop i).trips) (v10247 : BitVec 32) (v10249 : BitVec 32) (v17719 : IVec S8x128 32) (v17728 : IVec S8x128 32) (v17737 : IVec S8x128 32) (v17746 : IVec S8x128 32) (v17752 : IVec S8x128 32) (v17755 : IVec S8x128 32) (v17761 : IVec S8x128 32) (v17764 : IVec S8x128 32) (v17770 : IVec S8x128 32) (v17773 : IVec S8x128 32) (v17779 : IVec S8x128 32) (v17782 : IVec S8x128 32) (v17788 : IVec S8x128 32) (v17791 : IVec S8x128 32) (v17797 : IVec S8x128 32) (v17800 : IVec S8x128 32) (v17806 : IVec S8x128 32) (v17809 : IVec S8x128 32) (v17815 : IVec S8x128 32) (v17818 : IVec S8x128 32) (v17824 : IVec S8x128 32) (v17827 : IVec S8x128 32) (v17833 : IVec S8x128 32) (v17836 : IVec S8x128 32) (v17842 : IVec S8x128 32) (v17845 : IVec S8x128 32) (v17851 : IVec S8x128 32) (v17854 : IVec S8x128 32) (v17860 : IVec S8x128 32) (v17863 : IVec S8x128 32) (v17869 : IVec S8x128 32) (v17872 : IVec S8x128 32) (v17874 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part624 i arg2 harg2 arg3 harg3 arg4 harg4 arg5 harg5 arg6 harg6 arg7 harg7 arg8 harg8 arg9 harg9 arg10 harg10 arg11 harg11 arg12 harg12 arg13 harg13 k0_t2 v10247 v10249 v17719 v17728 v17737 v17746 v17752 v17755 v17761 v17764 v17770 v17773 v17779 v17782 v17788 v17791 v17797 v17800 v17806 v17809 v17815 v17818 v17824 v17827 v17833 v17836 v17842 v17845 v17851 v17854 v17860 v17863 v17869 v17872 v17874) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1059 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (arg1 : BitVec 32) (v4 : FVec F S8x512 .f32) (v7 : BitVec 32) (k0_t3 : Fin (k0_t3_loop i).trips) (arg14 : BitVec 32) (v1487 : BitVec 32) (v1489 : BitVec 32) (v7984 : IVec S8x128 32) (v7990 : IVec S8x128 32) (v7993 : IVec S8x128 32) (v8002 : IVec S8x128 32) (v8008 : IVec S8x128 32) (v8011 : IVec S8x128 32) (v8017 : IVec S8x128 32) (v8020 : IVec S8x128 32) (v8026 : IVec S8x128 32) (v8029 : IVec S8x128 32) (v8035 : IVec S8x128 32) (v8038 : IVec S8x128 32) (v8044 : IVec S8x128 32) (v8047 : IVec S8x128 32) (v8053 : IVec S8x128 32) (v8056 : IVec S8x128 32) (v8062 : IVec S8x128 32) (v8065 : IVec S8x128 32) (v8071 : IVec S8x128 32) (v8074 : IVec S8x128 32) (v8080 : IVec S8x128 32) (v8083 : IVec S8x128 32) (v8089 : IVec S8x128 32) (v8092 : IVec S8x128 32) (v8098 : IVec S8x128 32) (v8101 : IVec S8x128 32) (v8107 : IVec S8x128 32) (v8110 : IVec S8x128 32) (v8116 : IVec S8x128 32) (v8119 : IVec S8x128 32) (v8125 : IVec S8x128 32) (v8128 : IVec S8x128 32) (v8131 : IVec S8x128 32) (v8132 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1059 i arg2 harg2 arg3 harg3 arg4 harg4 arg5 harg5 arg6 harg6 arg7 harg7 arg8 harg8 arg9 harg9 arg10 harg10 arg11 harg11 arg12 harg12 arg13 harg13 arg1 v4 v7 k0_t3 arg14 v1487 v1489 v7984 v7990 v7993 v8002 v8008 v8011 v8017 v8020 v8026 v8029 v8035 v8038 v8044 v8047 v8053 v8056 v8062 v8065 v8071 v8074 v8080 v8083 v8089 v8092 v8098 v8101 v8107 v8110 v8116 v8119 v8125 v8128 v8131 v8132) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1063 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (k0_t3 : Fin (k0_t3_loop i).trips) (v10247 : BitVec 32) (v10249 : BitVec 32) (v17719 : IVec S8x128 32) (v17728 : IVec S8x128 32) (v17737 : IVec S8x128 32) (v17746 : IVec S8x128 32) (v17752 : IVec S8x128 32) (v17755 : IVec S8x128 32) (v17761 : IVec S8x128 32) (v17764 : IVec S8x128 32) (v17770 : IVec S8x128 32) (v17773 : IVec S8x128 32) (v17779 : IVec S8x128 32) (v17782 : IVec S8x128 32) (v17788 : IVec S8x128 32) (v17791 : IVec S8x128 32) (v17797 : IVec S8x128 32) (v17800 : IVec S8x128 32) (v17806 : IVec S8x128 32) (v17809 : IVec S8x128 32) (v17815 : IVec S8x128 32) (v17818 : IVec S8x128 32) (v17824 : IVec S8x128 32) (v17827 : IVec S8x128 32) (v17833 : IVec S8x128 32) (v17836 : IVec S8x128 32) (v17842 : IVec S8x128 32) (v17845 : IVec S8x128 32) (v17851 : IVec S8x128 32) (v17854 : IVec S8x128 32) (v17860 : IVec S8x128 32) (v17863 : IVec S8x128 32) (v17869 : IVec S8x128 32) (v17872 : IVec S8x128 32) (v17874 : IVec S8x128 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1063 i arg2 harg2 arg3 harg3 arg4 harg4 arg5 harg5 arg6 harg6 arg7 harg7 arg8 harg8 arg9 harg9 arg10 harg10 arg11 harg11 arg12 harg12 arg13 harg13 k0_t3 v10247 v10249 v17719 v17728 v17737 v17746 v17752 v17755 v17761 v17764 v17770 v17773 v17779 v17782 v17788 v17791 v17797 v17800 v17806 v17809 v17815 v17818 v17824 v17827 v17833 v17836 v17842 v17845 v17851 v17854 v17860 v17863 v17869 v17872 v17874) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

theorem safe_k0_part1480 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (arg1 : BitVec 32) (v0 : BitVec 32) (v7 : BitVec 32) (k0_h2 : k0_cond2 i = 1#1) (v1486 : BitVec 32) (v1488 : BitVec 32) (v7983 : IVec S8x128 32) (v7992 : IVec S8x128 32) (v8001 : IVec S8x128 32) (v8007 : IVec S8x128 32) (v8010 : IVec S8x128 32) (v8016 : IVec S8x128 32) (v8019 : IVec S8x128 32) (v8025 : IVec S8x128 32) (v8028 : IVec S8x128 32) (v8034 : IVec S8x128 32) (v8037 : IVec S8x128 32) (v8043 : IVec S8x128 32) (v8046 : IVec S8x128 32) (v8052 : IVec S8x128 32) (v8055 : IVec S8x128 32) (v8061 : IVec S8x128 32) (v8064 : IVec S8x128 32) (v8070 : IVec S8x128 32) (v8073 : IVec S8x128 32) (v8079 : IVec S8x128 32) (v8082 : IVec S8x128 32) (v8088 : IVec S8x128 32) (v8091 : IVec S8x128 32) (v8097 : IVec S8x128 32) (v8100 : IVec S8x128 32) (v8106 : IVec S8x128 32) (v8109 : IVec S8x128 32) (v8115 : IVec S8x128 32) (v8118 : IVec S8x128 32) (v8124 : IVec S8x128 32) (v8127 : IVec S8x128 32) (v8132 : IVec S8x128 32) (v8133 : IVec S8x128 32) (c2_i32_3715 : BitVec 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1480 i arg2 harg2 arg3 harg3 arg4 harg4 arg5 harg5 arg6 harg6 arg7 harg7 arg8 harg8 arg9 harg9 arg10 harg10 arg11 harg11 arg12 harg12 arg13 harg13 arg1 v0 v7 k0_h2 v1486 v1488 v7983 v7992 v8001 v8007 v8010 v8016 v8019 v8025 v8028 v8034 v8037 v8043 v8046 v8052 v8055 v8061 v8064 v8070 v8073 v8079 v8082 v8088 v8091 v8097 v8100 v8106 v8109 v8115 v8118 v8124 v8127 v8132 v8133 c2_i32_3715) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | refine Safe.bind ?_ fun _ => ?_
    | exact Safe.pure _)

end Cert.Proof.Kernel

end
-- ==== Proof.Parts.lean ====
/-
  The indexer kernel only loads from and stores into buffers it owns: its outer pieces, and the whole body.
-/
module

public import proofs.«01_k».proof.Kernel
public import proofs.«01_k».proof.Proof.Safe
public import proofs.«01_k».proof.Proof.Parts0
public import proofs.«01_k».proof.Proof.Parts1
public import proofs.«01_k».proof.Proof.Parts2
public import proofs.«01_k».proof.Proof.Parts3

@[expose] public section

set_option maxRecDepth 16384

noncomputable section

namespace Cert.Proof.Kernel

open Cert.Kernel Cert.Proof.Safe
open Idealize.ShloMosaic Idealize.ShloMosaic.TcCoe
open Idealize.SL Idealize.SL.RA Idealize.SL.BI Idealize.ShloMosaic.Rounds

variable {F : FTy → Type} [BitOps F] [Cert.Kernel.Facts]

local notation "𝕄" => MT nD τ sig Unit (Elt F) ℕ (UR sig nD τ) ℕ
set_option maxHeartbeats 0
theorem safe_k0_part1778 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1778 i arg2 harg2 arg3 harg3 arg4 harg4 arg5 harg5 arg6 harg6 arg7 harg7 arg8 harg8 arg9 harg9 arg10 harg10 arg11 harg11 arg12 harg12 arg13 harg13) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | with_reducible apply safe_k0_part185 <;> assumption
    | with_reducible apply safe_k0_part183 <;> assumption
    | with_reducible apply safe_k0_part184 <;> assumption
    | refine Safe.bind ?_ fun _ => ?_
    | exact Safe.pure _)

theorem safe_k0_part1797 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (arg1 : BitVec 32) (v0 : BitVec 32) (v4 : FVec F S8x512 .f32) (v7 : BitVec 32) (v679 : BitVec 32) (c0_i32_426 : BitVec 32) (v680 : BitVec 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1797 i arg2 harg2 arg3 harg3 arg4 harg4 arg5 harg5 arg6 harg6 arg7 harg7 arg8 harg8 arg9 harg9 arg10 harg10 arg11 harg11 arg12 harg12 arg13 harg13 arg1 v0 v4 v7 v679 c0_i32_426 v680) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | with_reducible apply safe_k0_part1481 <;> assumption
    | with_reducible apply safe_k0_part1681 <;> assumption
    | with_reducible apply safe_k0_part1682 <;> assumption
    | with_reducible apply safe_k0_part1057 <;> assumption
    | with_reducible apply safe_k0_part621 <;> assumption
    | with_reducible apply safe_k0_part1483 <;> assumption
    | with_reducible apply safe_k0_part619 <;> assumption
    | with_reducible apply safe_k0_part617 <;> assumption
    | with_reducible apply safe_k0_part1482 <;> assumption
    | with_reducible apply safe_k0_part1058 <;> assumption
    | with_reducible apply safe_k0_part1479 <;> assumption
    | with_reducible apply safe_k0_part1059 <;> assumption
    | with_reducible apply safe_k0_part622 <;> assumption
    | with_reducible apply safe_k0_part1478 <;> assumption
    | with_reducible apply safe_k0_part1480 <;> assumption
    | with_reducible apply safe_k0_part1056 <;> assumption
    | with_reducible apply safe_k0_part624 <;> assumption
    | with_reducible apply safe_k0_part620 <;> assumption
    | with_reducible apply safe_k0_part623 <;> assumption
    | with_reducible apply safe_k0_part1062 <;> assumption
    | with_reducible apply safe_k0_part618 <;> assumption
    | with_reducible apply safe_k0_part1060 <;> assumption
    | with_reducible apply safe_k0_part1061 <;> assumption
    | with_reducible apply safe_k0_part1683 <;> assumption
    | with_reducible apply safe_k0_part1063 <;> assumption
    | with_reducible apply safe_k0_part1477 <;> assumption
    | refine Safe.bind ?_ fun _ => ?_
    | exact Safe.pure _)

theorem safe_k0_part1798 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole) (v0 : BitVec 32) (v697 : BitVec 32) (v705 : IVec S8x128 32) (v706 : IVec S8x128 32) (v707 : IVec S8x128 32) (c0_i32_447 : BitVec 32) (v711 : BitVec 32)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1798 i arg2 harg2 arg3 harg3 arg4 harg4 arg5 harg5 arg6 harg6 arg7 harg7 arg8 harg8 arg9 harg9 arg10 harg10 arg11 harg11 arg12 harg12 arg13 harg13 v0 v697 v705 v706 v707 c0_i32_447 v711) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | with_reducible apply safe_k0_part1746 <;> assumption
    | refine Safe.bind ?_ fun _ => ?_
    | exact Safe.pure _)

theorem safe_k0_part1800 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole)  (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13) :
  Safe defs c I (k0_part1800 i arg2 harg2 arg3 harg3 arg4 harg4 arg5 harg5 arg6 harg6 arg7 harg7 arg8 harg8 arg9 harg9 arg10 harg10 arg11 harg11 arg12 harg12 arg13 harg13) := by
   repeat' (first
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | with_reducible apply safe_k0_part1797 <;> assumption
    | with_reducible apply safe_k0_part1761 <;> assumption
    | with_reducible apply safe_k0_part1798 <;> assumption
    | with_reducible apply safe_k0_part1778 <;> assumption
    | refine Safe.bind ?_ fun _ => ?_
    | exact Safe.pure _)

end Cert.Proof.Kernel

end
-- ==== Proof.Frame.lean ====
/-
  The frame of the indexer call.

  The body is handed the four windows' staging buffers and the eight scratch buffers, each at contents nothing names,
  and runs from them back to them (`Parts`): so every grid point keeps the pipeline's invariant, the inputs are as
  launched when the run ends, and every semaphore counter is zero.
-/
module

public import proofs.«01_k».proof.Proof.Parts
public import proofs.«01_k».proof.Proof.Gen.Kernel
public import proofs.«01_k».proof.Proof.Gen.Kernel.Launch
public import proofs.«01_k».proof.Proof.Gen.Kernel.Points
public import proofs.«01_k».proof.Proof.Gen.Kernel.Frame
public import Idealize.ShloMosaic.Lib.Pipeline.FrameBody

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Proof.Safe

variable {nD : Nat} {τ : Topo} {sig : RefSig} {Val : EltTy → Type} {c : Dev nD}

local notation "𝕄" => MT nD τ sig Unit Val ℕ (UR sig nD τ) ℕ

/-! ## Which buffers an assertion owns -/

/-- Owning a memref, whatever it reads. -/
theorem Has.owns {sp : Space} {s : Shape} {e : EltTy} (M : Memref sig .tc sp s e) :
    Has (Val := Val) c iprop(∃ X, owns (c : Thread nD τ) M fullShare X) M := by
  unfold Has Idealize.ShloMosaic.owns
  iintro ⟨%X, %f, -, H⟩
  isplitl [H]
  · iexists f
    iexact H
  · iintro ⟨%g, H⟩
    iexists (M.view.read Val g)
    iexists g
    isplitr
    · ipureintro; rfl
    · iexact H

/-- Owning a whole buffer, at some contents. -/
theorem Has.whole (b : Ref sig .tc) :
    Has (Val := Val) c iprop(∃ f : Buf Val ((c : Thread nD τ).loc b), ((c : Thread nD τ).loc b) ↦{fullShare} f) (Memref.whole b) := by
  unfold Has
  simp only [Memref.view_whole, View.set_whole]
  iintro H
  isplitl [H]
  · iexact H
  · iintro H
    iexact H

theorem Has.left {A B : sProp 𝕄} {sp : Space} {s : Shape} {e : EltTy} {M : Memref sig .tc sp s e} (h : Has c A M) :
    Has c iprop(A ∗ B) M := by
  unfold Has at *
  refine BIBase.Entails.trans (sep_mono h .rfl) ?_
  iintro ⟨⟨H, Hk⟩, HB⟩
  isplitl [H]
  · iexact H
  · iintro H
    isplitl [H Hk]
    · iapply Hk; iexact H
    · iexact HB

theorem Has.right {A B : sProp 𝕄} {sp : Space} {s : Shape} {e : EltTy} {M : Memref sig .tc sp s e} (h : Has c B M) :
    Has c iprop(A ∗ B) M := by
  unfold Has at *
  refine BIBase.Entails.trans (sep_mono .rfl h) ?_
  iintro ⟨HA, H, Hk⟩
  isplitl [H]
  · iexact H
  · iintro H
    isplitl [HA]
    · iexact HA
    · iapply Hk; iexact H

end Cert.Proof.Safe

namespace Cert.Proof.Kernel

open Cert.Kernel Cert.Kernel.Gen Cert.Proof.Safe
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as launched, the scratch buffers owned at some contents,
    nothing owed, full shares; what the body leaves in a staging buffer isn't named. -/
def dats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- What the body at point `t` is handed and hands back: the scratch buffers and the current staging buffers. -/
def bodyInv (c : Dev nD) (t : Fin cfg0.N) (O : sProp 𝕄) : sProp 𝕄 :=
  iprop(Pipeline.ΦA spec0 c ∗ O
    ∗ (∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X))

theorem has_scratch (c : Dev nD) (t : Fin cfg0.N) (O : sProp 𝕄) {sp : Space} {s : Shape} {e : EltTy}
    {M : Memref sig .tc sp s e} (h : Has c (Pipeline.scopedRest (Ix := Unit) (Name := ℕ) (U := UR sig nD τ) (Lvl := ℕ) (Val := Elt F) spec0 c) M) :
    Has c (bodyInv c t O) M := by
  unfold bodyInv Pipeline.ΦA
  exact h.left.left

theorem safe_body (c : Dev nD) (t : Fin cfg0.N) (O : sProp 𝕄) :
    Safe (defs₀ (F := F)) c (bodyInv c t O) (bodyAt0 t) := by
  refine Safe.bind (safe_k0_part1800 defs₀ c _ _ _ _ _ _ _ _ _ _ _ _ _ _ _ _ _ _ _ _ _ _ _ _ _ _
    ?_ ?_ ?_ ?_ ?_ ?_ ?_ ?_ ?_ ?_ ?_ ?_) fun _ => Safe.pure _
  · exact (Has.owns _).left.right.right
  · exact (Has.owns _).left.right.right.right
  · exact (Has.owns _).left.right.right.right.right
  · exact (Has.owns _).right.right.right.right.right
  all_goals (apply has_scratch; rw [scopedRest0_eq])
  · exact (Has.whole _).left
  · exact (Has.whole _).left.right
  · exact (Has.whole _).left.right.right
  · exact (Has.whole _).left.right.right.right
  · exact (Has.whole _).left.right.right.right.right
  · exact (Has.whole _).left.right.right.right.right.right
  · exact (Has.whole _).left.right.right.right.right.right.right
  · exact (Has.whole _).right.right.right.right.right.right.right

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ (fun _ => true) := fun t => by
  rw [bigSep_W0, defs₀_row]
  exact triple_restated (safe_body c t ((dats (F := F) m 0 c).owesAt () t.castSucc)) rfl .rfl fun _ => .rfl

set_option backward.isDefEq.respectTransparency.types false in
/-- The run: the arrays as the pipeline leaves them, every counter at zero. -/
theorem run_main : θ_run defs (onTc (τ := τ) (main (F := F))) (s₀ m ρ)
    (fun r => Pipeline.RDat.FramePost cfg0 (fun c => (dats m 0 c).toRForget fun _ => true) (V m) r ∧ r.2.sem = fun _ => 0) :=
  Pipeline.θ_run_frame_forget (Q' := _) cfgs (dats m) (0 : Fin 1) launch0 defs₀ Variants.none (fun _ => true) m ρ main
    (hbody := fun c => (body_obligation m c).loose) (hshare := fun c => (dats m 0 c).share_full fun _ => rfl)
    (howed := fun _ _ => rfl) (V := V m) (hmain := hmain m Variants.none) (hA := fun _ _ => rfl)
    (hΦ := fun _ _ => rfl)

/-- The frame: the three arguments are as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨h.1.arr_in c 0 rfl, h.1.arr_in c 1 rfl, h.1.arr_in c 2 rfl⟩, h.2⟩) (run_main m ρ)

end Cert.Proof.Kernel

end
-- ==== Proof.Later.lean ====
/-
  Programs that store one word over parts of a buffer, and what the buffer holds of it afterwards.

  `Runs I e J` says that the program `e` runs from `I` to its return and holds `J` there. `Filled R M z Z` owns the
  memref `M` at contents that are the word `z` wherever `Z` says, beside the assertion `R`: a store of `z` over a
  rectangle adds the rectangle to `Z`.
-/
module

public import proofs.«01_k».proof.Proof.Safe

@[expose] public section

noncomputable section

namespace Cert.Proof.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds

variable {nD : Nat} {τ : Topo} {sig : RefSig} {Val : EltTy → Type}
variable {Λ : Labels} {defs : Defs nD τ sig Val Λ}

local notation "𝕄" => MT nD τ sig Unit Val ℕ (UR sig nD τ) ℕ

/-- The program `e`, from `I`, runs to its return and holds `J` there. -/
def Runs (defs : Defs nD τ sig Val Λ) (c : Dev nD) (I : sProp 𝕄) {α : Type} (e : Prog (TpuEff nD τ sig Val Λ .tc) α)
    (J : sProp 𝕄) : Prop :=
  I ⊢ wp frame (wpE defs Variants.none (c : Thread nD τ) none) Set.univ e (fun _ => J)

variable {c : Dev nD} {α β : Type}

theorem Safe.runs {I : sProp 𝕄} {e : Prog (TpuEff nD τ sig Val Λ .tc) α} (h : Safe defs c I e) : Runs defs c I e I := h

theorem Runs.bind {I J K : sProp 𝕄} {e : Prog (TpuEff nD τ sig Val Λ .tc) α}
    {k : α → Prog (TpuEff nD τ sig Val Λ .tc) β}
    (he : Runs defs c I e J) (hk : ∀ a, Runs defs c J (k a) K) : Runs defs c I (e >>= k) K := by
  unfold Runs; rw [wp_bind]
  exact BIBase.Entails.trans he (wp_mono _ _ _ hk)

/-- A program that keeps `I`, then one from `I` to `K`. -/
theorem Runs.after {I K : sProp 𝕄} {e : Prog (TpuEff nD τ sig Val Λ .tc) α}
    {k : α → Prog (TpuEff nD τ sig Val Λ .tc) β}
    (he : Safe defs c I e) (hk : ∀ a, Runs defs c I (k a) K) : Runs defs c I (e >>= k) K := Runs.bind he.runs hk

theorem Runs.weaken {I I' J J' : sProp 𝕄} {e : Prog (TpuEff nD τ sig Val Λ .tc) α} (h : Runs defs c I' e J')
    (hi : I ⊢ I') (hj : J' ⊢ J) : Runs defs c I e J :=
  BIBase.Entails.trans hi (BIBase.Entails.trans h (wp_mono _ _ _ fun _ => hj))

/-- A counted loop, by what holds before each trip. -/
theorem Runs.loop {w : Nat} {σ : Type} (l : Scf.Loop w) (hok : l.OK) (init : σ)
    {body : Fin l.trips → σ → Prog (TpuEff nD τ sig Val Λ .tc) σ} (Inv : Nat → sProp 𝕄)
    (h : ∀ (k : Fin l.trips) acc, Runs defs c (Inv k.val) (body k acc) (Inv (k.val + 1))) :
    Runs defs c (Inv 0) (Scf.Loop.for l hok init body) (Inv l.trips) := by
  unfold Runs Scf.Loop.for
  refine BIBase.Entails.trans ?_ (Scf.wp_for frame (wpE defs Variants.none (c : Thread nD τ) none) Set.univ
    l.lb l.ub l.st hok init body (fun k _ => Inv k) h)
  iintro H
  isplitl [H]
  · iexact H
  · iintro %a H
    iexact H

/-- `R`, and the memref `M` owned at contents that are `z` wherever `Z` says. -/
def Filled (c : Dev nD) (R : sProp 𝕄) {sp : Space} {s : Shape} {e : EltTy} (M : Memref sig .tc sp s e) (z : Val e)
    (Z : s.Idx → Prop) : sProp 𝕄 :=
  iprop(R ∗ ∃ X, ⌜∀ y, Z y → X y = z⌝ ∗ owns (c : Thread nD τ) M fullShare X)

theorem Filled.mono {R : sProp 𝕄} {sp : Space} {s : Shape} {e : EltTy} {M : Memref sig .tc sp s e} {z : Val e}
    {Z Z' : s.Idx → Prop} (h : ∀ y, Z' y → Z y) : Filled c R M z Z ⊢ Filled c R M z Z' := by
  unfold Filled
  iintro ⟨HR, %X, %hX, H⟩
  isplitl [HR]
  · iexact HR
  · iexists X
    isplitr
    · ipureintro; exact fun y hy => hX y (h y hy)
    · iexact H

/-- A load keeps what is known. -/
theorem Filled.load {R : sProp 𝕄} {sp : CoreSpace} {s : Shape} {e : EltTy} {M : Memref sig .tc sp s e} {z : Val e}
    {Z : s.Idx → Prop} {r : LoadRect s} {hl : M.view.LoadsAt r} :
    Safe defs c (Filled c R M z Z) (Prog.lift (.load M r hl)) := by
  unfold Safe Prog.lift Filled owns
  iintro ⟨HR, %X, %hX, %f, %hf, H⟩
  iapply (wp_load Variants.none (c : Thread nD τ) none Set.univ (hl := hl) (M.view.setOn_subset_set _)) $$ H
  iintro H
  rw [wp_ret]
  imodintro
  isplitl [HR]
  · iexact HR
  · iexists X
    isplitr
    · ipureintro; exact hX
    · iexists f
      isplitr
      · ipureintro; exact hf
      · iexact H

/-- A store of `z` over a rectangle adds the rectangle to what is known to be `z`. -/
theorem Filled.store {R : sProp 𝕄} {sp : CoreSpace} {s : Shape} {e : EltTy} {M : Memref sig .tc sp s e} {z : Val e}
    {Z : s.Idx → Prop} {r : Rect s} {w : r.shape.Idx → Val e} {hx : (M.access r).Stores Finset.univ}
    {hm : Finset.univ = Finset.univ ∨ ∀ a, r.stride a = 1} (hw : ∀ j, w j = z) :
    Runs defs c (Filled c R M z Z) (Prog.lift (.store M r w Finset.univ hx hm))
      (Filled c R M z fun y => Z y ∨ ∃ j, r.emb j = y) := by
  unfold Runs Prog.lift Filled owns
  iintro ⟨HR, %X, %hX, %f, %hf, H⟩
  iapply (wp_store Variants.none (c : Thread nD τ) none Set.univ (hx := hx) (hm := hm)
    (((M.access r).setOn_subset_set Finset.univ).trans (M.view.set_slice_subset r))) $$ H
  iintro H
  rw [wp_ret]
  imodintro
  isplitl [HR]
  · iexact HR
  · iexists (M.view.read Val ((M.access r).write Val f w Finset.univ))
    isplitr
    · ipureintro
      intro y hy
      by_cases hj : ∃ j, r.emb j = y
      · obtain ⟨j, rfl⟩ := hj
        exact (View.read_slice_write_emb r f w (Finset.mem_univ j)).trans (hw j)
      · have hn : y ∉ (Finset.univ : Finset r.shape.Idx).map r.emb := fun h => by
          obtain ⟨j, -, e⟩ := Finset.mem_map.mp h
          exact hj ⟨j, e⟩
        refine (View.read_slice_write_of_not_mem r f w Finset.univ hn).trans ?_
        rw [hf]
        exact hX y (hy.resolve_right hj)
    · iexists _
      isplitr
      rotate_left
      · iexact H
      · ipureintro; rfl

/-- The same over a rectangle of unit strides, read off the coordinates. -/
theorem Filled.store_unit {R : sProp 𝕄} {sp : CoreSpace} {s : Shape} {e : EltTy} {M : Memref sig .tc sp s e} {z : Val e}
    {Z : s.Idx → Prop} {off size : Fin s.rank → Nat} {inb : ∀ a, off a + size a ≤ s.size a}
    {w : (Rect.unit off size inb).shape.Idx → Val e} {hx : (M.access (Rect.unit off size inb)).Stores Finset.univ}
    {hm : Finset.univ = Finset.univ ∨ ∀ a, (Rect.unit off size inb).stride a = 1} (hw : ∀ j, w j = z) :
    Runs defs c (Filled c R M z Z) (Prog.lift (.store M (Rect.unit off size inb) w Finset.univ hx hm))
      (Filled c R M z fun y => Z y ∨ ∀ a, off a ≤ (y a).val ∧ (y a).val < off a + size a) := by
  refine Runs.weaken (Filled.store hw) .rfl (Filled.mono fun y hy => hy.imp_right fun h => ?_)
  refine ⟨fun a => ⟨(y a).val - off a, ?_⟩, ?_⟩
  · have := h a
    show _ < size a
    omega
  · funext a
    apply Fin.ext
    rw [Rect.emb_apply]
    have := h a
    show off a + 1 * ((y a).val - off a) = _
    omega

theorem Runs.ite {I J : sProp 𝕄} {p : Prop} [Decidable p] {a b : Prog (TpuEff nD τ sig Val Λ .tc) α}
    (ha : Runs defs c I a J) (hb : Runs defs c I b J) : Runs defs c I (if p then a else b) J := by
  split
  · exact ha
  · exact hb

/-- A return, from what gives its postcondition. -/
theorem Runs.pure {I J : sProp 𝕄} {a : α} (h : I ⊢ J) :
    Runs defs c I (Pure.pure a : Prog (TpuEff nD τ sig Val Λ .tc) α) J :=
  Runs.weaken (Safe.pure a).runs .rfl h

end Cert.Proof.Safe

end
-- ==== Proof.LaterBody.lean ====
/-
  The last loop of the indexer's body: it stores the zero word over the key tiles after the grid point's own query tile.

  So the words' window holds zero at every key tile past the query tile when the body ends, whatever the body stored
  before; the residual loop after it makes no trip.
-/
module

public import proofs.«01_k».proof.Proof.Parts
public import proofs.«01_k».proof.Proof.Later
public import proofs.«01_k».proof.Proof.Gen.Kernel

@[expose] public section

set_option maxRecDepth 16384

noncomputable section

namespace Cert.Proof.Kernel

open Cert.Kernel Cert.Kernel.Gen Cert.Proof.Safe
open Idealize.ShloMosaic Idealize.ShloMosaic.TcCoe
open Idealize.SL Idealize.SL.RA Idealize.SL.BI Idealize.ShloMosaic.Rounds
open scoped Idealize.SL.BI
open Idealize.SL.BI.BIBase Idealize.SL.BI.Laws Idealize.SL.Sem

variable {F : FTy → Type} [BitOps F]

local notation "𝕄" => MT nD τ sig Unit (Elt F) ℕ (UR sig nD τ) ℕ

/-- The clearing loop makes a trip for every key tile after the query tile. -/
theorem clear_trips (i : grid0.Coords) : 31 - (i 1).val ≤ (k0_t18_loop i).trips := by
  have h : ∀ n : Fin 32, 31 - n.val ≤ Scf.trips (Scalar.addi (BitVec.ofNat 32 n.val) 1#32)
      (Scalar.addi (Scalar.addi (BitVec.ofNat 32 n.val) 1#32)
        (Scalar.muli (Scalar.divsi (Scalar.subi 32#32 (Scalar.addi (BitVec.ofNat 32 n.val) 1#32)) 1#32) 1#32)) 1#32 := by
    decide
  exact h (i 1)

/-- The offsets of a lane group's store, as bounds on an index: the group and the key tile are its coordinates. -/
theorem in_rect {y : S1x4x32x2x8x128.Idx} {off : Fin 6 → Nat} {g n : Nat} (ho : off = ![0, g, n, 0, 0, 0])
    (hg : (y 1).val = g) (hn : (y 2).val = n) (a : Fin 6) :
    off a ≤ (y a).val ∧ (y a).val < off a + S1x1x1x2x8x128.size a := by
  subst ho
  have h0 : (y 0).val < 1 := (y 0).isLt
  have h3 : (y 3).val < 2 := (y 3).isLt
  have h4 : (y 4).val < 8 := (y 4).isLt
  have h5 : (y 5).val < 128 := (y 5).isLt
  match a with
  | 0 => exact ⟨Nat.zero_le _, h0⟩
  | 1 => exact ⟨hg.ge, by show _ < g + 1; omega⟩
  | 2 => exact ⟨hn.ge, by show _ < n + 1; omega⟩
  | 3 => exact ⟨Nat.zero_le _, by show _ < 0 + 2; omega⟩
  | 4 => exact ⟨Nat.zero_le _, by show _ < 0 + 8; omega⟩
  | 5 => exact ⟨Nat.zero_le _, by show _ < 0 + 128; omega⟩

/-- The indices of the window at the key tiles after the query tile. -/
def Late (i : grid0.Coords) (y : S1x4x32x2x8x128.Idx) : Prop := (i 1).val + 1 ≤ (y 2).val

/-- The indices of the window cleared before trip `k`. -/
def Cleared (i : grid0.Coords) (k : Nat) (y : S1x4x32x2x8x128.Idx) : Prop :=
  (i 1).val + 1 ≤ (y 2).val ∧ (y 2).val < (i 1).val + 1 + k

/-- A trip of the clearing loop clears one more key tile, lane group by lane group. -/
theorem cleared_step {i : grid0.Coords} {k : Fin (k0_t18_loop i).trips} {y : S1x4x32x2x8x128.Idx}
    (h : Cleared i (k.val + 1) y) :
    (((Cleared i k.val y ∨ ∀ a, k0_off1740 i k a ≤ (y a).val ∧ (y a).val < k0_off1740 i k a + S1x1x1x2x8x128.size a)
      ∨ ∀ a, k0_off1741 i k a ≤ (y a).val ∧ (y a).val < k0_off1741 i k a + S1x1x1x2x8x128.size a)
      ∨ ∀ a, k0_off1742 i k a ≤ (y a).val ∧ (y a).val < k0_off1742 i k a + S1x1x1x2x8x128.size a)
      ∨ ∀ a, k0_off1743 i k a ≤ (y a).val ∧ (y a).val < k0_off1743 i k a + S1x1x1x2x8x128.size a := by
  unfold Cleared at *
  by_cases hk : (y 2).val < (i 1).val + 1 + k.val
  · exact .inl (.inl (.inl (.inl ⟨h.1, hk⟩)))
  · have hn : (y 2).val = (i 1).val + k.val + 1 := by omega
    have hy : (y 1).val < 4 := (y 1).isLt
    have hc : (y 1).val = 0 ∨ (y 1).val = 1 ∨ (y 1).val = 2 ∨ (y 1).val = 3 := by omega
    rcases hc with hg | hg | hg | hg
    · exact .inl (.inl (.inl (.inr (in_rect (k0_off1740_eq i k) hg hn))))
    · exact .inl (.inl (.inr (in_rect (k0_off1741_eq i k) hg hn)))
    · exact .inl (.inr (in_rect (k0_off1742_eq i k) hg hn))
    · exact .inr (in_rect (k0_off1743_eq i k) hg hn)

/-- The clearing loop, from the window owned at some contents. -/
theorem clear_loop (defs : Defs nD τ sig (Elt F) Λ₀) (c : Dev nD) (i : grid0.Coords)
    (arg5 : Memref sig .tc .vmem S1x4x32x2x8x128 .i32) (R : sProp 𝕄) {I : sProp 𝕄}
    {body : Fin (k0_t18_loop i).trips → PUnit → Prog (TpuEff nD τ sig (Elt F) Λ₀ .tc) PUnit}
    (hI : I ⊢ Filled c R arg5 (0#32 : Elt F .i32) fun _ => False)
    (hbody : ∀ k acc, Runs defs c (Filled c R arg5 (0#32 : Elt F .i32) (Cleared i k.val)) (body k acc)
      (Filled c R arg5 (0#32 : Elt F .i32) (Cleared i (k.val + 1)))) :
    Runs defs c I (Scf.Loop.for (k0_t18_loop i) (k0_t18_ok i) ⟨⟩ body) (Filled c R arg5 (0#32 : Elt F .i32) (Late i)) := by
  refine Runs.weaken (Runs.loop (k0_t18_loop i) (k0_t18_ok i) ⟨⟩
    (fun k => Filled c R arg5 (0#32 : Elt F .i32) (Cleared i k)) hbody)
    (BIBase.Entails.trans hI (Filled.mono fun y hy => ?start)) (Filled.mono fun y hy => ?last)
  case start =>
    unfold Cleared at hy
    omega
  case last =>
    unfold Late at hy
    unfold Cleared
    have := clear_trips i
    have h2 : (y 2).val < 32 := (y 2).isLt
    omega

/-- The residual loop makes no trip. -/
theorem no_rest (i : grid0.Coords) (k : Fin (k0_t19_loop i).trips) {p : Prop} : p :=
  absurd k.isLt (Nat.not_lt_of_le ((k0_t19_abs i).2.1.trans (Nat.zero_le _)))

set_option maxHeartbeats 0 in
/-- The whole body: from the buffers owned at some contents to the words' window zero at the key tiles after the
    query tile. `R` is what is owned beside the window. -/
theorem clears_k0_part1800 (defs : Defs nD τ sig (Elt F) Λ₀) (c : Dev nD) (I : sProp 𝕄) (i : grid0.Coords) (arg2 : Memref sig .tc .vmem S1x16384x64 .bf16) (harg2 : arg2.IsWhole) (arg3 : Memref sig .tc .vmem S1x8x64x512 .bf16) (harg3 : arg3.IsWhole) (arg4 : Memref sig .tc .vmem S1x8x512 .f32) (harg4 : arg4.IsWhole) (arg5 : Memref sig .tc .vmem S1x4x32x2x8x128 .i32) (harg5 : arg5.IsWhole) (arg6 : Memref sig .tc .vmem S32x2x4x256x128 .i32) (harg6 : arg6.IsWhole) (arg7 : Memref sig .tc .vmem S32x2x4x8x128 .i32) (harg7 : arg7.IsWhole) (arg8 : Memref sig .tc .vmem S32x2x4x8x128 .i32) (harg8 : arg8.IsWhole) (arg9 : Memref sig .tc .vmem S2x2x4x8x128 .i32) (harg9 : arg9.IsWhole) (arg10 : Memref sig .tc .vmem S264x512 .i32) (harg10 : arg10.IsWhole) (arg11 : Memref sig .tc .vmem S264x512 .i32) (harg11 : arg11.IsWhole) (arg12 : Memref sig .tc .vmem S264x512 .i32) (harg12 : arg12.IsWhole) (arg13 : Memref sig .tc .vmem S264x512 .i32) (harg13 : arg13.IsWhole)
    (o_arg2 : Has c I arg2) (o_arg3 : Has c I arg3) (o_arg4 : Has c I arg4) (o_arg5 : Has c I arg5) (o_arg6 : Has c I arg6) (o_arg7 : Has c I arg7) (o_arg8 : Has c I arg8) (o_arg9 : Has c I arg9) (o_arg10 : Has c I arg10) (o_arg11 : Has c I arg11) (o_arg12 : Has c I arg12) (o_arg13 : Has c I arg13)
    (R : sProp 𝕄) (hI : I ⊢ Filled c R arg5 (0#32 : Elt F .i32) fun _ => False) :
    Runs defs c I (k0_part1800 i arg2 harg2 arg3 harg3 arg4 harg4 arg5 harg5 arg6 harg6 arg7 harg7 arg8 harg8 arg9 harg9 arg10 harg10 arg11 harg11 arg12 harg12 arg13 harg13)
      (Filled c R arg5 (0#32 : Elt F .i32) (Late i)) := by
  unfold k0_part1800
  repeat' (first
    | with_reducible refine Runs.bind (clear_loop defs c i arg5 R hI fun k _ => ?_) fun _ => ?_
    | with_reducible refine Runs.after Filled.load fun _ => ?_
    | with_reducible refine Runs.bind (Filled.store_unit fun _ => ?_) fun _ => ?_
    | with_reducible exact Runs.pure (Filled.mono fun y hy => cleared_step hy)
    | with_reducible refine Runs.after (Safe.loop (k0_t19_loop i) _ _ fun k _ => no_rest i k) fun _ => ?_
    | with_reducible exact Runs.pure .rfl
    | with_reducible refine Runs.after (I := I) ?_ fun _ => ?_
    | with_reducible refine Runs.ite ?_ ?_
    | with_reducible exact Safe.pure _
    | with_reducible refine Safe.bind ?_ fun _ => ?_
    | with_reducible exact Safe.load ‹_›
    | with_reducible exact Safe.store ‹_›
    | with_reducible refine Safe.dite (fun _ => ?_) (fun _ => ?_)
    | with_reducible refine Safe.ite ?_ ?_
    | with_reducible refine Safe.loop _ _ _ (fun _ _ => ?_)
    | with_reducible apply safe_k0_part1797 <;> assumption
    | with_reducible apply safe_k0_part1761 <;> assumption
    | with_reducible apply safe_k0_part1798 <;> assumption
    | with_reducible apply safe_k0_part1778 <;> assumption
    | rfl
    | refine Runs.after (I := I) ?_ fun _ => ?_
    | refine Safe.bind ?_ fun _ => ?_
    | exact Safe.pure _)

end Cert.Proof.Kernel

end
-- ==== Proof.LaterFrame.lean ====
/-
  The words of the key tiles after a query's own tile are zero when the indexer call ends.

  What the body leaves in the words' window is said as a relation: zero at the key tiles after the grid point's query
  tile, anything elsewhere. Every block of the array is written once, so the array has it of every query.
-/
module

public import proofs.«01_k».proof.Proof.Frame
public import proofs.«01_k».proof.Proof.LaterBody
public import Idealize.ShloMosaic.Lib.Pipeline.ArrRel
public import Idealize.ShloMosaic.Lib.Pipeline.ValueKit

@[expose] public section

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Proof.Safe
open Idealize.ShloMosaic.Pipeline (Dat RDat Cfg Window BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the body may leave in a window's staging buffer at a point: in the words' window zero at the key tiles after
    the point's query tile, in the others anything. -/
def left : (w : Fin cfg0.W) → Fin cfg0.N → ((cfg0.win w).block.Idx → Elt F (cfg0.win w).elt)
    → ((cfg0.win w).block.Idx → Elt F (cfg0.win w).elt) → Prop
  | ⟨3, _⟩ => fun t _ X => ∀ y : S1x4x32x2x8x128.Idx, Late (grid0.coords t) y → X y = (0#32 : Elt F .i32)
  | _ => fun _ _ _ => True

/-- The proof data of the pipeline on core `c`, what the body leaves being related as `left` says. -/
def rdat (c : Dev nD) : RDat τ (Elt F) Unit ℕ (UR sig nD τ) ℕ cfg0 c where
  A w := V m c (Pipeline.arrRef spec0 w)
  after := left
  Φ _ := Pipeline.ΦA spec0 c
  q _ := fullShare
  owed _ := 0

/-- What is owned beside the words' window while the body runs. -/
def beside (c : Dev nD) (t : Fin cfg0.N) (O : sProp 𝕄) : sProp 𝕄 :=
  iprop(Pipeline.ΦA spec0 c ∗ O
    ∗ (∃ X, owns (c : Thread nD τ) (st0_0 t) fullShare X) ∗ (∃ X, owns (c : Thread nD τ) (st0_1 t) fullShare X)
    ∗ (∃ X, owns (c : Thread nD τ) (st0_2 t) fullShare X))

theorem bodyInv_filled (c : Dev nD) (t : Fin cfg0.N) (O : sProp 𝕄) :
    bodyInv c t O ⊢ Filled c (beside c t O) (st0_3 t) (0#32 : Elt F .i32) fun _ => False := by
  unfold bodyInv beside Filled
  iintro ⟨HA, HO, H0, H1, H2, %X, H3⟩
  isplitl [HA HO H0 H1 H2]
  · isplitl [HA]; · iexact HA
    isplitl [HO]; · iexact HO
    isplitl [H0]; · iexact H0
    isplitl [H1]; · iexact H1
    iexact H2
  · iexists X
    isplitr
    · ipureintro; exact fun _ h => h.elim
    · iexact H3

theorem clears_body (c : Dev nD) (t : Fin cfg0.N) (O : sProp 𝕄) :
    Runs (defs₀ (F := F)) c (bodyInv c t O) (bodyAt0 t)
      (Filled c (beside c t O) (st0_3 t) (0#32 : Elt F .i32) (Late (grid0.coords t))) := by
  refine Runs.bind (clears_k0_part1800 defs₀ c _ _ _ _ _ _ _ _ _ _ _ _ _ _ _ _ _ _ _ _ _ _ _ _ _ _
    ?_ ?_ ?_ ?_ ?_ ?_ ?_ ?_ ?_ ?_ ?_ ?_ (beside c t O) (bodyInv_filled c t O)) fun _ => Runs.pure .rfl
  · exact (Has.owns _).left.right.right
  · exact (Has.owns _).left.right.right.right
  · exact (Has.owns _).left.right.right.right.right
  · exact (Has.owns _).right.right.right.right.right
  all_goals (apply has_scratch; rw [scopedRest0_eq])
  · exact (Has.whole _).left
  · exact (Has.whole _).left.right
  · exact (Has.whole _).left.right.right
  · exact (Has.whole _).left.right.right.right
  · exact (Has.whole _).left.right.right.right.right
  · exact (Has.whole _).left.right.right.right.right.right
  · exact (Has.whole _).left.right.right.right.right.right.right
  · exact (Has.whole _).right.right.right.right.right.right.right

theorem body_related (c : Dev nD) : (rdat (F := F) m c).BodyObligation (defs₀ (F := F)) Variants.none () Set.univ :=
  fun t Y _ => by
  have hΦ : ∀ n, (rdat (F := F) m c).Φ n = Pipeline.ΦA spec0 c := fun _ => rfl
  rw [bigSep_W0, defs₀_row]
  simp only [hΦ]
  refine triple_restated (clears_body c t ((rdat (F := F) m c).owesAt () t.castSucc)) rfl ?_ fun _ => ?_
  · unfold bodyInv
    iintro ⟨HA, HO, H0, H1, H2, H3⟩
    isplitl [HA]; · iexact HA
    isplitl [HO]; · iexact HO
    isplitl [H0]; · iexists (Y 0); iexact H0
    isplitl [H1]; · iexists (Y 1); iexact H1
    isplitl [H2]; · iexists (Y 2); iexact H2
    iexists (Y 3); iexact H3
  · rw [bigSep_W0]
    unfold Filled beside
    iintro ⟨⟨HA, HO, ⟨%X0, H0⟩, ⟨%X1, H1⟩, ⟨%X2, H2⟩⟩, %X, %hX, H3⟩
    isplitl [HA]; · iexact HA
    isplitl [HO]; · iexact HO
    isplitl [H0]
    · iexists X0; isplitr; · ipureintro; exact trivial
      iexact H0
    isplitl [H1]
    · iexists X1; isplitr; · ipureintro; exact trivial
      iexact H1
    isplitl [H2]
    · iexists X2; isplitr; · ipureintro; exact trivial
      iexact H2
    iexists X; isplitr; · ipureintro; exact hX
    iexact H3

set_option backward.isDefEq.respectTransparency.types false in
/-- The run, with what the arrays may hold at its end. -/
theorem run_related : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := fun c => body_related m c) (hshare := fun c => (dats m 0 c).share_full fun _ => rfl)
    (howed := fun _ _ => rfl) (V := V m) (hmain := hmain m Variants.none) (hA := fun _ _ => rfl)
    (hΦ := fun _ _ => rfl)

/-- The words' block at a point is the batch row and query tile of the point. -/
theorem words_index : ∀ t : Fin cfg0.N, win0_3.index t 1 = (grid0.coords t 1).val ∧ win0_3.index t 2 = 0 := by
  decide +kernel

/-- A word of the array at a key tile after its query's tile is zero: lane group `q` belongs to query tile `q / 4`. -/
theorem word_zero {r : PUnit × MemSt nD τ sig (Elt F)} (h : RDat.FramePost cfg0 (rdat m) (V m) r) (c : Dev nD)
    (i : S2x128x32x2x8x128.Idx) (hi : (i 1).val < (i 2).val * 4) :
    (r.2.mem ((c.tc : Thread nD τ).loc main_v0) : S2x128x32x2x8x128.Idx → BitVec 32) i = 0#32 := by
  obtain ⟨after, hL, hA⟩ := RDat.FramePost.exists_exact h c
  have e := hA 3
  refine (congrFun e i).trans ?_
  refine Dat.arrAt_forall_of_covers ((rdat m c).withAfter after) 3
    (fun (i : S2x128x32x2x8x128.Idx) (v : BitVec 32) => (i 1).val < (i 2).val * 4 → v = 0#32) (by decide +kernel)
    (fun t hf y => ?_) i
    (Memref.isWhole_whole _) hi
  obtain ⟨Y, -, hX⟩ := hL 3 t hf
  blk_simp
  intro hy
  refine hX _ ?_
  unfold Late
  have hx := words_index t
  rw [hx.1, hx.2] at hy
  omega

end Cert.Proof.Kernel

end
-- ==== Proof.LaterClaim.lean ====
/-
  The stated postcondition of the indexer call: its predicate, read at an index, asks that the word be zero where four
  times the key tile exceeds the lane group, which `LaterFrame` gives of the array after the run.
-/
module

public import proofs.«01_k».proof.Defs
public import proofs.«01_k».proof.Proof.LaterFrame

@[expose] public section

noncomputable section

namespace Cert.Proof.Kernel

open Idealize.ShloMosaic Idealize.ShloMosaic.TcCoe Idealize.SL.Sem
open Cert.Kernel Cert.Kernel.Gen

/-- The predicate's side condition: a scalar broadcasts to the words' shape. -/
theorem postFacts : Cert.Post_later_tiles_empty.Facts := ⟨by decide⟩

/-- Small indices compare as signed words the way they do as numbers. -/
theorem later_iff : ∀ (q : Fin 128) (k : Fin 32),
    IntOp.cmpi .sgt (IntOp.muli (BitVec.ofNat 32 k.val) 4#32) (BitVec.ofNat 32 q.val) = 1#1 ↔ q.val < k.val * 4 := by
  decide +kernel

/-- The predicate is all ones of words that are zero at the key tiles after their query's tile. -/
theorem post_ones (h : Cert.Post_later_tiles_empty.Facts) (a0 a1 a2)
    (W : IVec S2x128x32x2x8x128 32) (hW : ∀ i, (i 1).val < (i 2).val * 4 → W i = 0#32) :
    Cert.Post_later_tiles_empty.fn (F := Bits) a0 a1 a2 W = fun _ => 1#1 := by
  funext i
  have hi := later_iff (i 1) (i 2)
  have hz : Scalar.select (IntOp.cmpi .sgt (IntOp.muli (BitVec.ofNat 32 (i 2).val) 4#32) (BitVec.ofNat 32 (i 1).val))
      (W i) 0#32 = 0#32 := by
    unfold Scalar.select
    split
    · next hc => exact hW i (hi.mp hc)
    · rfl
  show IntOp.cmpi .eq (Scalar.select (IntOp.cmpi .sgt (IntOp.muli (BitVec.ofNat 32 (i 2).val) 4#32)
    (BitVec.ofNat 32 (i 1).val)) (W i) 0#32) 0#32 = 1#1
  rw [hz]
  rfl

theorem later_tiles_empty : @Cert.holds_Kernel_later_tiles_empty facts postFacts := fun m ρ _ =>
  (θ_run defs _ _).mono (fun _ h c =>
    ⟨h.1.arr_in c 0 rfl, h.1.arr_in c 1 rfl, h.1.arr_in c 2 rfl, post_ones _ _ _ _ _ (word_zero m h.1 c)⟩)
    (run_related m ρ)

end Cert.Proof.Kernel

end
-- ==== Proof.Sgu.lean ====
module

public import proofs.«01_k».proof.Proof.Gen.Kernel2Ideal.Value
public import Idealize.ShloMosaic.Lib.Pointwise
public import Idealize.ShloMosaic.Lib.Tactic.WordOmega
public import Idealize.ShloMosaic.Lib.Pipeline.ValueKit

/-! # The gated spatial mixer over the reals, and what one block of the kernel computes

`layer` is the mixer with both norms, of one chunk of 128 rows, as a function of the chunk's rows.
The kernel works on blocks of 512 rows, four chunks, and in eight groups of columns. -/

@[expose] public section

open Idealize.ShloMosaic

namespace Cert.Proof.Sgu

set_option maxRecDepth 16384

/-- A choice by comparing two small words. -/
theorem sel_le (a b : ℕ) (ha : a < 128) (hb : b < 128) (x y : EReal) :
    Scalar.select (IntOp.cmpi CmpIPredicate.sge (BitVec.ofNat 32 a) (BitVec.ofNat 32 b)) x y
      = if b ≤ a then x else y := by
  have h : IntOp.cmpi CmpIPredicate.sge (BitVec.ofNat 32 a) (BitVec.ofNat 32 b) = BitVec.ofBool (decide (b ≤ a)) := by
    word_omega
  by_cases hb : b ≤ a
  · rw [h]; simp [hb, Scalar.select]
  · rw [h]; simp [hb, Scalar.select]

/-- A row divided by its root mean square, times a gain. -/
noncomputable def rms (x g : Fin 1024 → EReal) (k : Fin 1024) : EReal :=
  x k * Ideal.rsqrt (Ideal.div (∑ i, x i * x i) (Ideal.ofBits FTy.f32 1149239296#32)
    + Ideal.ofBits FTy.f32 897988541#32) * g k

/-- The mean of a row of 2048. -/
noncomputable def mean (v : Fin 2048 → EReal) : EReal :=
  Ideal.div (∑ i, v i) (Ideal.ofBits FTy.f32 1157627904#32)

/-- A row normalised by its mean and variance, with gain and offset. -/
noncomputable def ln (v g b : Fin 2048 → EReal) (j : Fin 2048) : EReal :=
  (v j - mean v) * Ideal.rsqrt (mean (fun i => (v i - mean v) * (v i - mean v))
    + Ideal.ofBits FTy.f32 925353388#32) * g j + b j

/-- A row times a matrix. -/
noncomputable def proj {N : ℕ} {M : ℕ} (h : Fin N → EReal) (w : Fin N → Fin M → EReal) (j : Fin M) : EReal :=
  ∑ k, h k * w k j

/-- The group of a column. -/
def grp (j : Fin 2048) : Fin 8 := ⟨j.val / 256, by omega⟩

/-- The mixing of a chunk's rows: row `t` from the rows up to it, with one matrix for each group. -/
noncomputable def mix (v : Fin 128 → EReal) (w : Fin 128 → EReal) (b : EReal) (t : Fin 128) : EReal :=
  ∑ s, (if s ≤ t then w s * v s else 0) + b

/-- The gate. -/
noncomputable def silu (z : EReal) : EReal := Ideal.div z (1 + Ideal.exp (-z))

theorem one_add_exp_ne (y : EReal) : 1 + Ideal.exp y ≠ 0 := by
  have h : 0 ≤ Ideal.exp y := by
    induction y using EReal.rec with
    | bot => exact le_refl _
    | coe r => exact EReal.coe_nonneg.mpr (Real.exp_pos r).le
    | top => exact le_top
  intro e
  have : (1 : EReal) ≤ 1 + Ideal.exp y := le_add_of_nonneg_right h
  rw [e] at this
  exact absurd this (by norm_num)

theorem mul_div_one (z y : EReal) : z * Ideal.div 1 (1 + Ideal.exp y) = Ideal.div z (1 + Ideal.exp y) := by
  unfold Ideal.div
  rw [if_neg (one_add_exp_ne y), if_neg (one_add_exp_ne y), one_mul]

/-- The weights of the layer. -/
structure Wts where
  g : Fin 1024 → EReal
  w : Fin 1024 → Fin 6144 → EReal
  lg : Fin 2048 → EReal
  lb : Fin 2048 → EReal
  ws : Fin 8 → Fin 128 → Fin 128 → EReal
  bs : Fin 8 → Fin 128 → EReal
  wo : Fin 2048 → Fin 1024 → EReal
  fg : Fin 1024 → EReal

/-- The columns of the projection that make `u`, `v` and `z`. -/
def col0 (j : Fin 2048) : Fin 6144 := ⟨j.val, by omega⟩
def col1 (j : Fin 2048) : Fin 6144 := ⟨2048 + j.val, by omega⟩
def col2 (j : Fin 2048) : Fin 6144 := ⟨4096 + j.val, by omega⟩

/-- The normalised values of a row. -/
noncomputable def vals (W : Wts) (x : Fin 1024 → EReal) : Fin 2048 → EReal :=
  ln (fun j => proj (rms x W.g) W.w (col1 j)) W.lg W.lb

/-- A row of the gated mixing of a chunk `X` of rows. -/
noncomputable def gated (W : Wts) (X : Fin 128 → Fin 1024 → EReal) (t : Fin 128) (j : Fin 2048) : EReal :=
  proj (rms (X t) W.g) W.w (col0 j)
    * mix (fun s => vals W (X s) j) (W.ws (grp j) t) (W.bs (grp j) t) t
    * silu (proj (rms (X t) W.g) W.w (col2 j))

/-- The layer and the last norm, of a chunk `X` of rows. -/
noncomputable def layer (W : Wts) (X : Fin 128 → Fin 1024 → EReal) (t : Fin 128) : Fin 1024 → EReal :=
  rms (fun k => X t k + proj (gated W X t) W.wo k) W.fg

end Cert.Proof.Sgu

end
-- ==== Proof.SguKernel.lean ====
module

public import proofs.«01_k».proof.Proof.Sgu

/-! # What one block of the mixer kernel computes -/

@[expose] public section

open Idealize.ShloMosaic

namespace Cert.Proof.Sgu

open Cert.Kernel2Ideal Cert.Kernel2Ideal.Gen

set_option maxRecDepth 16384

/-- The chunk of 128 rows in which row `r` of a block lies, and the row's place in it. -/
def chunk (r : Fin 512) (s : Fin 128) : Fin 512 := ⟨r.val / 128 * 128 + s.val, by omega⟩
def place (r : Fin 512) : Fin 128 := ⟨r.val % 128, by omega⟩

theorem pay3_apply (x : Vec Ideal S512x1024 .f32) (g : Vec Ideal S1x1024 .f32) (r : Fin 512) (k : Fin 1024) :
    k0_pay3 x g (ix2 r k) = rms (fun k => x (ix2 r k)) (fun k => g (ix2 0 k)) k := by
  pointwise [k0_pay3, k0_pay2]
  rfl

theorem pay1_apply (x : FVec Ideal S512x1024 .f32) (g : FVec Ideal S1x1024 .f32) (r : Fin 512) (k : Fin 1024) :
    k0_pay1 x g (ix2 r k) = rms (fun k => x (ix2 r k)) (fun k => g (ix2 0 k)) k := by
  pointwise [k0_pay1]
  rfl

theorem pay5_apply (x : Vec Ideal S512x1024 .f32) (g : Vec Ideal S1x1024 .f32) (w : Vec Ideal S1024x2048 .bf16)
    (l b : Vec Ideal S1x2048 .f32) (r : Fin 512) (j : Fin 2048) :
    k0_pay5 (k0_pay4 x g w l) b (ix2 r j)
      = ln (proj (rms (fun k => x (ix2 r k)) (fun k => g (ix2 0 k))) (fun k j => w (ix2 k j)))
          (fun j => l (ix2 0 j)) (fun j => b (ix2 0 j)) j := by
  have e : ∀ k, k0_pay3 x g (ix2 r k) = rms (fun k => x (ix2 r k)) (fun k => g (ix2 0 k)) k :=
    pay3_apply x g r
  unfold k0_pay4 k0_pay5
  generalize k0_pay3 x g = h at *
  pointwise
  simp only [e]
  rfl

/-- Four chunks of a group's columns, each mixed by the group's matrix, one under the other. -/
theorem ladder (L : Fin 128 → Fin 128 → EReal) (B : Fin 128 → EReal) (V : Fin 512 → EReal) (r : Fin 512) :
    (if h : r.val < 128 then
      ∑ x : Fin 128, Scalar.select (IntOp.cmpi CmpIPredicate.sge (BitVec.ofNat 32 r.val) (BitVec.ofNat 32 x.val))
        (L ⟨r.val, h⟩ x * V ⟨x.val, by omega⟩) 0 + B ⟨r.val, h⟩
    else if h : r.val - 128 < 128 then
      ∑ x : Fin 128, Scalar.select (IntOp.cmpi CmpIPredicate.sge (BitVec.ofNat 32 (r.val - 128)) (BitVec.ofNat 32 x.val))
        (L ⟨r.val - 128, h⟩ x * V ⟨128 + x.val, by omega⟩) 0 + B ⟨r.val - 128, h⟩
    else if h : r.val - 128 - 128 < 128 then
      ∑ x : Fin 128, Scalar.select (IntOp.cmpi CmpIPredicate.sge (BitVec.ofNat 32 (r.val - 128 - 128)) (BitVec.ofNat 32 x.val))
        (L ⟨r.val - 128 - 128, h⟩ x * V ⟨256 + x.val, by omega⟩) 0 + B ⟨r.val - 128 - 128, h⟩
    else
      ∑ x : Fin 128, Scalar.select (IntOp.cmpi CmpIPredicate.sge (BitVec.ofNat 32 (r.val - 128 - 128 - 128)) (BitVec.ofNat 32 x.val))
        (L ⟨r.val - 128 - 128 - 128, by omega⟩ x * V ⟨384 + x.val, by omega⟩) 0 + B ⟨r.val - 128 - 128 - 128, by omega⟩)
    = mix (fun s => V (chunk r s)) (L (place r)) (B (place r)) (place r) := by
  have key : ∀ (n a : ℕ) (ha : a < 128) (hn : n = r.val / 128 * 128) (hr : a = r.val % 128)
      (f : Fin 128 → Fin 512) (hf : ∀ x, (f x).val = n + x.val),
      ∑ x : Fin 128, Scalar.select (IntOp.cmpi CmpIPredicate.sge (BitVec.ofNat 32 a) (BitVec.ofNat 32 x.val))
        (L ⟨a, ha⟩ x * V (f x)) 0 + B ⟨a, ha⟩
      = mix (fun s => V (chunk r s)) (L (place r)) (B (place r)) (place r) := by
    intro n a ha hn hr f hf
    subst hr
    unfold mix
    refine congrArg (· + _) (Finset.sum_congr rfl fun x _ => ?_)
    rw [sel_le _ _ ha x.isLt]
    have : f x = chunk r x := Fin.ext (by rw [hf, hn]; rfl)
    rw [this]
    rfl
  have := r.isLt
  split
  · exact key 0 _ _ (by omega) (by omega) _ fun x => by simp
  split
  · exact key 128 _ _ (by omega) (by omega) _ fun x => by simp
  split
  · exact key 256 _ _ (by omega) (by omega) _ fun x => by simp
  · exact key 384 _ _ (by omega) (by omega) _ fun x => by simp

/-- The mixing of group `g` at a row and a column of the block. -/
noncomputable def mixAt (v : FVec Ideal S512x2048 .bf16) (l : Vec Ideal S1x128x128 .f32) (bs : FVec Ideal S128x8 .f32)
    (g : Fin 8) (r : Fin 512) (j : Fin 2048) : EReal :=
  mix (fun s => v (ix2 (chunk r s) j)) (fun s => l (ix3 0 (place r) s)) (bs (ix2 (place r) g)) (place r)

abbrev rowsI : IVec S128x128 32 := iota .tc S128x128 32 [0] iota_S128x128_d0_w32
abbrev colsI : IVec S128x128 32 := iota .tc S128x128 32 [1] iota_S128x128_d1_w32

section
variable (v : FVec Ideal S512x2048 .bf16) (v38 : FVec Ideal S512x2048 .f32) (b : Vec Ideal S1x2048 .f32)
  (l : Vec Ideal S1x128x128 .f32) (bs : FVec Ideal S128x8 .f32)
  (r : Fin 512) (k : Fin 256) (j : Fin 2048)

theorem mix0 (hj : j.val = k.val) : k0_pay7 v38 b bs l (ix2 r k) = mixAt (k0_pay5 v38 b) l bs 0 r j := by
  rw [show j = ⟨k.val, by omega⟩ from Fin.ext hj]
  unfold k0_pay7
  generalize k0_pay5 v38 b = h
  pointwise [k0_pay6]
  exact ladder (fun a s => l (ix3 0 a s)) (fun a => bs (ix2 a 0)) (fun a => h (ix2 a _)) r

theorem mix1 (hj : j.val = 256 + k.val) :
    k0_pay12 (k0_pay5 v38 b) (k0_pay8 l) (k0_pay9 bs) (k0_pay10 v38 b bs l) (k0_pay11 v38 b l) (ix2 r k)
      = mixAt (k0_pay5 v38 b) l bs 1 r j := by
  rw [show j = ⟨256 + k.val, by omega⟩ from Fin.ext hj]
  unfold k0_pay12 k0_pay10 k0_pay11
  generalize k0_pay5 v38 b = h
  pointwise [k0_pay6, k0_pay8, k0_pay9]
  exact ladder (fun a s => l (ix3 0 a s)) (fun a => bs (ix2 a 1)) (fun a => h (ix2 a _)) r

theorem mix2 (hj : j.val = 512 + k.val) : k0_pay13 v rowsI colsI bs l (ix2 r k) = mixAt v l bs 2 r j := by
  rw [show j = ⟨512 + k.val, by omega⟩ from Fin.ext hj]
  pointwise [k0_pay13]
  exact ladder (fun a s => l (ix3 0 a s)) (fun a => bs (ix2 a 2)) (fun a => v (ix2 a _)) r

theorem mix3 (hj : j.val = 768 + k.val) :
    k0_pay18 v (k0_pay14 rowsI colsI l) (k0_pay15 bs) (k0_pay16 v rowsI colsI l) (k0_pay17 bs) (ix2 r k)
      = mixAt v l bs 3 r j := by
  rw [show j = ⟨768 + k.val, by omega⟩ from Fin.ext hj]
  pointwise [k0_pay18, k0_pay14, k0_pay15, k0_pay16, k0_pay17]
  exact ladder (fun a s => l (ix3 0 a s)) (fun a => bs (ix2 a 3)) (fun a => v (ix2 a _)) r

theorem mix4 (hj : j.val = 1024 + k.val) : k0_pay19 v rowsI colsI bs l (ix2 r k) = mixAt v l bs 4 r j := by
  rw [show j = ⟨1024 + k.val, by omega⟩ from Fin.ext hj]
  pointwise [k0_pay19]
  exact ladder (fun a s => l (ix3 0 a s)) (fun a => bs (ix2 a 4)) (fun a => v (ix2 a _)) r

theorem mix5 (hj : j.val = 1280 + k.val) :
    k0_pay22 v (k0_pay20 rowsI colsI l) (k0_pay21 bs) (ix2 r k) = mixAt v l bs 5 r j := by
  rw [show j = ⟨1280 + k.val, by omega⟩ from Fin.ext hj]
  pointwise [k0_pay22, k0_pay20, k0_pay21]
  exact ladder (fun a s => l (ix3 0 a s)) (fun a => bs (ix2 a 5)) (fun a => v (ix2 a _)) r

theorem mix6 (hj : j.val = 1536 + k.val) : k0_pay23 v rowsI colsI bs l (ix2 r k) = mixAt v l bs 6 r j := by
  rw [show j = ⟨1536 + k.val, by omega⟩ from Fin.ext hj]
  pointwise [k0_pay23]
  exact ladder (fun a s => l (ix3 0 a s)) (fun a => bs (ix2 a 6)) (fun a => v (ix2 a _)) r

end

/-- One column of the eight groups side by side. -/
theorem mixes {v70 v94 v118 v142 v166 v190 v214 : FVec Ideal S512x256 .f32}
    (v : FVec Ideal S512x2048 .bf16) (bs : FVec Ideal S128x8 .f32) (r : Fin 512)
    (x : FVec Ideal S512x1024 .f32) (h : FVec Ideal S512x1024 .bf16) (l : Vec Ideal S1x128x128 .f32)
    (w0 w2 : Vec Ideal S1024x2048 .bf16) (wo : Vec Ideal S2048x1024 .bf16) (k : Fin 1024)
    (M : Fin 2048 → EReal)
    (h0 : ∀ (k : Fin 256) (j : Fin 2048), j.val = k.val → v70 (ix2 r k) = M j)
    (h1 : ∀ (k : Fin 256) (j : Fin 2048), j.val = 256 + k.val → v94 (ix2 r k) = M j)
    (h2 : ∀ (k : Fin 256) (j : Fin 2048), j.val = 512 + k.val → v118 (ix2 r k) = M j)
    (h3 : ∀ (k : Fin 256) (j : Fin 2048), j.val = 768 + k.val → v142 (ix2 r k) = M j)
    (h4 : ∀ (k : Fin 256) (j : Fin 2048), j.val = 1024 + k.val → v166 (ix2 r k) = M j)
    (h5 : ∀ (k : Fin 256) (j : Fin 2048), j.val = 1280 + k.val → v190 (ix2 r k) = M j)
    (h6 : ∀ (k : Fin 256) (j : Fin 2048), j.val = 1536 + k.val → v214 (ix2 r k) = M j)
    (h7 : ∀ (k : Fin 256) (j : Fin 2048), j.val = 1792 + k.val → mixAt v l bs 7 r j = M j) :
    k0_pay26 x h v bs v70 v94 v118 v142 v166 v190 v214 (k0_pay24 rowsI colsI) (k0_pay25 l)
      (Scalar.ofBits .f32 0x00000000#32) w0 w2 wo (ix2 r k)
    = x (ix2 r k) + proj (fun j => proj (fun k => h (ix2 r k)) (fun k j => w0 (ix2 k j)) j * M j
        * silu (proj (fun k => h (ix2 r k)) (fun k j => w2 (ix2 k j)) j)) (fun j k => wo (ix2 j k)) k := by
  unfold k0_pay26
  generalize hp : concatenate S512x256 0 _ _ = p
  have h7' : ∀ (k : Fin 256) (j : Fin 2048), j.val = 1792 + k.val → p (ix2 r k) = M j := by
    intro k j hj
    rw [← h7 k j hj, ← hp, show j = ⟨1792 + k.val, by omega⟩ from Fin.ext hj]
    pointwise [k0_pay24, k0_pay25]
    exact ladder (fun a s => l (ix3 0 a s)) (fun a => bs (ix2 a 7)) (fun a => v (ix2 a _)) r
  clear hp
  generalize hq : concatenate S512x2048 1 _ _ = q
  have hM : ∀ j, q (ix2 r j) = M j := by
    intro j
    rw [← hq]
    pointwise
    have := j.isLt
    split
    · exact h0 _ _ rfl
    split
    · exact h1 _ _ (by simp only []; omega)
    split
    · exact h2 _ _ (by simp only []; omega)
    split
    · exact h3 _ _ (by simp only []; omega)
    split
    · exact h4 _ _ (by simp only []; omega)
    split
    · exact h5 _ _ (by simp only []; omega)
    split
    · exact h6 _ _ (by simp only []; omega)
    · exact h7' _ _ (by simp only []; omega)
  clear hq
  pointwise
  simp only [hM, proj, silu, sub_eq_add_neg, zero_add]

/-- The layer's weights from the blocks of the weight windows. -/
noncomputable def blkWts (x1 : Vec Ideal S1x1024 .f32) (x2 : Vec Ideal S1024x6144 .bf16) (x3 x4 : Vec Ideal S1x2048 .f32)
    (x5 : Vec Ideal S8x128x128 .f32) (x6 : Vec Ideal S128x8 .f32) (x7 : Vec Ideal S2048x1024 .bf16)
    (x8 : Vec Ideal S1x1024 .f32) : Wts where
  g k := x1 (ix2 0 k)
  w k j := x2 (ix2 k j)
  lg j := x3 (ix2 0 j)
  lb j := x4 (ix2 0 j)
  ws g t s := x5 (ix3 g t s)
  bs g t := x6 (ix2 t g)
  wo j k := x7 (ix2 j k)
  fg k := x8 (ix2 0 k)

theorem out_apply (x0 : Vec Ideal S512x1024 .f32) (x1 : Vec Ideal S1x1024 .f32) (x2 : Vec Ideal S1024x6144 .bf16)
    (x3 x4 : Vec Ideal S1x2048 .f32) (x5 : Vec Ideal S8x128x128 .f32) (x6 : Vec Ideal S128x8 .f32)
    (x7 : Vec Ideal S2048x1024 .bf16) (x8 : Vec Ideal S1x1024 .f32) (r : Fin 512) (k : Fin 1024) :
    out0_9 x0 x1 x2 x3 x4 x5 x6 x7 x8 (ix2 r k)
      = layer (blkWts x1 x2 x3 x4 x5 x6 x7 x8) (fun s k => x0 (ix2 (chunk r s) k)) (place r) k := by
  have e2 : k0_pay2 x0 = x0 := by
    funext y; idx_vars y; pointwise [k0_pay2]
  have e6 : k0_pay6 x6 = x6 := by
    funext y; idx_vars y; pointwise [k0_pay6]
  have e27 : k0_pay27 x8 = x8 := by
    funext y; idx_vars y; pointwise [k0_pay27]
  unfold_out out0_9
  frame_out
  rw [pay1_apply]
  rw [e2, e6, e27]
  have w0 : ∀ k j, View.ld x2 r0_13 (ix2 k j) = x2 (ix2 k (col0 j)) := fun k j => by pointwise; rfl
  have w1 : ∀ k j, View.ld x2 r0_2 (ix2 k j) = x2 (ix2 k (col1 j)) := fun k j => by pointwise; rfl
  have w2 : ∀ k j, View.ld x2 r0_14 (ix2 k j) = x2 (ix2 k (col2 j)) := fun k j => by pointwise; rfl
  have hM : ∀ (g : Fin 8) (l : Vec Ideal S1x128x128 .f32) (hl : ∀ a s, l (ix3 0 a s) = x5 (ix3 g a s))
      (j : Fin 2048), grp j = g →
      mixAt (k0_pay5 (k0_pay4 x0 x1 (View.ld x2 r0_2) x3) x4) l x6 g r j
        = mix (fun s => vals (blkWts x1 x2 x3 x4 x5 x6 x7 x8) (fun k => x0 (ix2 (chunk r s) k)) j)
            ((blkWts x1 x2 x3 x4 x5 x6 x7 x8).ws (grp j) (place r))
            ((blkWts x1 x2 x3 x4 x5 x6 x7 x8).bs (grp j) (place r)) (place r) := by
    rintro g l hl j rfl
    unfold mixAt
    simp only [pay5_apply, hl, w1]
    rfl
  unfold layer
  refine congrArg (fun f => rms f _ k) (funext fun k => ?_)
  have hr : chunk r (place r) = r := Fin.ext (by simp only [chunk, place]; omega)
  rw [mixes (M := fun j => mix (fun s => vals (blkWts x1 x2 x3 x4 x5 x6 x7 x8) (fun k => x0 (ix2 (chunk r s) k)) j)
            ((blkWts x1 x2 x3 x4 x5 x6 x7 x8).ws (grp j) (place r))
            ((blkWts x1 x2 x3 x4 x5 x6 x7 x8).bs (grp j) (place r)) (place r))]
  · simp only [pay3_apply, w0, w2]
    unfold gated
    simp only [hr]
    rfl
  · intro k j hj
    exact (mix0 _ _ _ _ _ _ _ hj).trans (hM 0 _ (fun a s => by pointwise) _ (Fin.ext (by simp [grp]; omega)))
  · intro k j hj
    exact (mix1 _ _ _ _ _ _ _ hj).trans (hM 1 _ (fun a s => by pointwise) _ (Fin.ext (by simp [grp]; omega)))
  · intro k j hj
    exact (mix2 _ _ _ _ _ _ hj).trans (hM 2 _ (fun a s => by pointwise) _ (Fin.ext (by simp [grp]; omega)))
  · intro k j hj
    exact (mix3 _ _ _ _ _ _ hj).trans (hM 3 _ (fun a s => by pointwise) _ (Fin.ext (by simp [grp]; omega)))
  · intro k j hj
    exact (mix4 _ _ _ _ _ _ hj).trans (hM 4 _ (fun a s => by pointwise) _ (Fin.ext (by simp [grp]; omega)))
  · intro k j hj
    exact (mix5 _ _ _ _ _ _ hj).trans (hM 5 _ (fun a s => by pointwise) _ (Fin.ext (by simp [grp]; omega)))
  · intro k j hj
    exact (mix6 _ _ _ _ _ _ hj).trans (hM 6 _ (fun a s => by pointwise) _ (Fin.ext (by simp [grp]; omega)))
  · intro k j hj
    exact hM 7 _ (fun a s => by pointwise) _ (Fin.ext (by simp [grp]; omega))

end Cert.Proof.Sgu

end
-- ==== Proof.SguRef.lean ====
module

public import proofs.«01_k».proof.Proof.Sgu
public import proofs.«01_k».proof.Proof.Gen.Reference2Ideal.Run

/-! # The reference's mixer, read at an index -/

@[expose] public section

open Idealize.ShloMosaic

namespace Cert.Proof.Sgu

open Cert.Reference2Ideal Cert.Reference2Ideal.Gen Idealize.ShloMosaic.TcCoe Idealize.SL.Sem

set_option maxRecDepth 16384

/-- The mean square norm of every row. -/
noncomputable def refRms (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf
    (broadcastInDim S2x16384x1 ![0, 1] bcast_S2x16384_S2x16384x1_0_1
      (Host.reduceAdd (mulf x x) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

theorem refRms_apply (x : FVec Ideal S2x16384x1024 .f32) (g : FVec Ideal S1024 .f32) (b : Fin 2) (s : Fin 16384)
    (k : Fin 1024) : refRms x g (ix3 b s k) = rms (fun k => x (ix3 b s k)) (fun k => g (ix1 k)) k := by
  pointwise [refRms]
  rfl

/-- Every row less its mean. -/
noncomputable def refCent (v : FVec Ideal S2x16384x2048 .f32) : FVec Ideal S2x16384x2048 .f32 :=
  subf v (broadcastInDim S2x16384x2048 ![0, 1, 2] bcast_S2x16384x1_S2x16384x2048_0_1_2 (Host.divf
    (broadcastInDim S2x16384x1 ![0, 1] bcast_S2x16384_S2x16384x1_0_1
      (Host.reduceAdd v (constant S_ .f32 0x00000000#32) reducesTo_S2x16384x2048_S2x16384_d2 h_S_))
    (broadcastInDim S2x16384x1 ![] bcast_S_S2x16384x1 (constant S_ .f32 0x45000000#32))))

/-- The layer norm of every row. -/
noncomputable def refLn (v : FVec Ideal S2x16384x2048 .f32) (g b : FVec Ideal S2048 .f32) : FVec Ideal S2x16384x2048 .f32 :=
  addf (mulf (mulf (refCent v) (broadcastInDim S2x16384x2048 ![0, 1, 2] bcast_S2x16384x1_S2x16384x2048_0_1_2 (Host.rsqrt (addf (Host.divf
    (broadcastInDim S2x16384x1 ![0, 1] bcast_S2x16384_S2x16384x1_0_1
      (Host.reduceAdd (mulf (refCent v) (refCent v)) (constant S_ .f32 0x00000000#32) reducesTo_S2x16384x2048_S2x16384_d2 h_S_))
    (broadcastInDim S2x16384x1 ![] bcast_S_S2x16384x1 (constant S_ .f32 0x45000000#32)))
    (broadcastInDim S2x16384x1 ![] bcast_S_S2x16384x1 (constant S_ .f32 0x3727C5AC#32))))))
    (broadcastInDim S2x16384x2048 ![0, 1, 2] bcast_S1x1x2048_S2x16384x2048_0_1_2 (broadcastInDim S1x1x2048 ![2] bcast_S2048_S1x1x2048_2 g)))
    (broadcastInDim S2x16384x2048 ![0, 1, 2] bcast_S1x1x2048_S2x16384x2048_0_1_2 (broadcastInDim S1x1x2048 ![2] bcast_S2048_S1x1x2048_2 b))

theorem refCent_apply (v : FVec Ideal S2x16384x2048 .f32) (b : Fin 2) (s : Fin 16384) (j : Fin 2048) :
    refCent v (ix3 b s j) = v (ix3 b s j) - mean (fun j => v (ix3 b s j)) := by
  pointwise [refCent]
  rfl

theorem refLn_apply (v : FVec Ideal S2x16384x2048 .f32) (g o : FVec Ideal S2048 .f32) (b : Fin 2) (s : Fin 16384)
    (j : Fin 2048) : refLn v g o (ix3 b s j) = ln (fun j => v (ix3 b s j)) (fun j => g (ix1 j)) (fun j => o (ix1 j)) j := by
  have e := fun j => refCent_apply v b s j
  unfold refLn
  generalize refCent v = w at *
  pointwise
  simp only [e]
  rfl

/-- The mixing of every chunk by its groups' lower triangles. -/
noncomputable def refMix (v : FVec Ideal S2x16384x2048 .f32) (w : FVec Ideal S8x128x128 .f32) (b : FVec Ideal S8x128 .f32) :
    FVec Ideal S2x16384x2048 .f32 :=
  shapeCast _ (addf (transpose S2x128x128x8x256 [1, 2, 4, 0, 3]
    (Host.dotGeneral dot_S2x128x128x8x256_S8x128x128_S8x2x128x256x128_2_2_014_1_3_0 none
      (shapeCast _ v shapeCasts_S2x16384x2048_S2x128x128x8x256)
      (mulf w (broadcastInDim S8x128x128 ![0, 1, 2] bcast_S1x128x128_S8x128x128_0_1_2
        (broadcastInDim S1x128x128 ![1, 2] bcast_S128x128_S1x128x128_1_2
          (select (cmpi .sge (addi (iotaInDim S128x128 32 0) (broadcastInDim S128x128 ![] bcast_S_S128x128 (constantI S_ 32 0#32)))
              (iotaInDim S128x128 32 1))
            (broadcastInDim S128x128 ![] bcast_S_S128x128 (constant S_ .f32 0x3F800000#32))
            (broadcastInDim S128x128 ![] bcast_S_S128x128 (constant S_ .f32 0x00000000#32)))))))
    transposes_S8x2x128x256x128_S2x128x128x8x256_1_2_4_0_3)
    (broadcastInDim S2x128x128x8x256 ![0, 1, 2, 3, 4] bcast_S1x1x128x8x1_S2x128x128x8x256_0_1_2_3_4
      (broadcastInDim S1x1x128x8x1 ![2, 3] bcast_S128x8_S1x1x128x8x1_2_3
        (transpose S128x8 [1, 0] b transposes_S8x128_S128x8_1_0))))
    shapeCasts_S2x128x128x8x256_S2x16384x2048

/-- The chunk of row `s`, and the row's place in it. -/
def rchunk (s : Fin 16384) (s' : Fin 128) : Fin 16384 := ⟨s.val / 128 * 128 + s'.val, by omega⟩
def rplace (s : Fin 16384) : Fin 128 := ⟨s.val % 128, by omega⟩

theorem refMix_apply (v : FVec Ideal S2x16384x2048 .f32) (w : FVec Ideal S8x128x128 .f32) (o : FVec Ideal S8x128 .f32)
    (b : Fin 2) (s : Fin 16384) (j : Fin 2048) :
    refMix v w o (ix3 b s j) = mix (fun s' => v (ix3 b (rchunk s s') j)) (fun s' => w (ix3 (grp j) (rplace s) s'))
      (o (ix2 (grp j) (rplace s))) (rplace s) := by
  pointwise [refMix]
  unfold mix
  refine congrArg (· + _) (Finset.sum_congr rfl fun x _ => ?_)
  rw [show IntOp.addi (BitVec.ofNat 32 (s.val % 128)) 0#32 = BitVec.ofNat 32 (s.val % 128) from by simp [IntOp.addi],
    sel_le _ _ (by omega) x.isLt, mul_comm]
  rfl

/-- The layer's weights from the arguments. -/
noncomputable def argWts (a1 : FVec Ideal S2x1024 .f32) (a2 : FVec Ideal S1024 .f32) (a3 : FVec Ideal S1x1024x6144 .f32)
    (a4 a5 : FVec Ideal S1x2048 .f32) (a6 : FVec Ideal S1x8x128x128 .f32) (a7 : FVec Ideal S1x8x128 .f32)
    (a8 : FVec Ideal S1x2048x1024 .f32) : Wts where
  g k := a1 (ix2 1 k)
  w k j := a3 (ix3 0 k j)
  lg j := a4 (ix2 0 j)
  lb j := a5 (ix2 0 j)
  ws g t s := a6 (ix4 0 g t s)
  bs g t := a7 (ix3 0 g t)
  wo j k := a8 (ix3 0 j k)
  fg k := a2 (ix1 k)

/-- The sum of the input and the mixer, of which the last norm is taken. -/
noncomputable def refGated (p : FVec Ideal S2x16384x6144 .f32) (q : FVec Ideal S2x16384x2048 .f32) : FVec Ideal S2x16384x2048 .f32 :=
  mulf (mulf (extractStridedSlice S2x16384x2048 ![0, 0, 0] p slices_S2x16384x6144_S2x16384x2048_0_0_0) q)
    (mulf (extractStridedSlice S2x16384x2048 ![0, 0, 4096] p slices_S2x16384x6144_S2x16384x2048_0_0_4096)
      (Host.divf (broadcastInDim S2x16384x2048 ![] bcast_S_S2x16384x2048 (constant S_ .f32 0x3F800000#32))
        (addf (broadcastInDim S2x16384x2048 ![] bcast_S_S2x16384x2048 (constant S_ .f32 0x3F800000#32))
          (Host.exp (Host.negf (extractStridedSlice S2x16384x2048 ![0, 0, 4096] p slices_S2x16384x6144_S2x16384x2048_0_0_4096))))))

theorem refGated_apply (p : FVec Ideal S2x16384x6144 .f32) (q : FVec Ideal S2x16384x2048 .f32) (b : Fin 2) (s : Fin 16384)
    (j : Fin 2048) : refGated p q (ix3 b s j) = p (ix3 b s (col0 j)) * q (ix3 b s j) * silu (p (ix3 b s (col2 j))) := by
  pointwise [refGated]
  rw [mul_div_one]
  rfl

noncomputable def refProj (h : FVec Ideal S2x16384x1024 .f32) (w : FVec Ideal S1024x6144 .f32) : FVec Ideal S2x16384x6144 .f32 :=
  Host.dotGeneral dot_S2x16384x1024_S1024x6144_S2x16384x6144_2_0_01_1_n_n none h w

noncomputable def refWhole (a0 : FVec Ideal S2x16384x1024 .f32) (a1 : FVec Ideal S2x1024 .f32) (a2 : FVec Ideal S1024 .f32)
    (a3 : FVec Ideal S1x1024x6144 .f32) (a4 a5 : FVec Ideal S1x2048 .f32) (a6 : FVec Ideal S1x8x128x128 .f32)
    (a7 : FVec Ideal S1x8x128 .f32) (a8 : FVec Ideal S1x2048x1024 .f32) : FVec Ideal S32768x1024 .f32 :=
  shapeCast _ (refRms (addf a0 (Host.dotGeneral dot_S2x16384x2048_S2048x1024_S2x16384x1024_2_0_01_1_n_n none
    (refGated (refProj (refRms a0 (shapeCast _ (extractStridedSlice S1x1024 ![1, 0] a1 slices_S2x1024_S1x1024_1_0) shapeCasts_S1x1024_S1024))
        (shapeCast _ a3 shapeCasts_S1x1024x6144_S1024x6144))
      (refMix (refLn (extractStridedSlice S2x16384x2048 ![0, 0, 2048]
          (refProj (refRms a0 (shapeCast _ (extractStridedSlice S1x1024 ![1, 0] a1 slices_S2x1024_S1x1024_1_0) shapeCasts_S1x1024_S1024))
            (shapeCast _ a3 shapeCasts_S1x1024x6144_S1024x6144)) slices_S2x16384x6144_S2x16384x2048_0_0_2048)
        (shapeCast _ a4 shapeCasts_S1x2048_S2048) (shapeCast _ a5 shapeCasts_S1x2048_S2048))
      (shapeCast _ a6 shapeCasts_S1x8x128x128_S8x128x128) (shapeCast _ a7 shapeCasts_S1x8x128_S8x128)))
      (shapeCast _ a8 shapeCasts_S1x2048x1024_S2048x1024))) a2) shapeCasts_S2x16384x1024_S32768x1024

theorem res_eq (m : (ℓ : Loc nD τ sig) → Buf (Elt Ideal) ℓ) (c : Dev nD) :
    Value.res_main_v80 m c = refWhole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := rfl

theorem refWhole_apply (a0 : FVec Ideal S2x16384x1024 .f32) (a1 : FVec Ideal S2x1024 .f32) (a2 : FVec Ideal S1024 .f32)
    (a3 : FVec Ideal S1x1024x6144 .f32) (a4 a5 : FVec Ideal S1x2048 .f32) (a6 : FVec Ideal S1x8x128x128 .f32)
    (a7 : FVec Ideal S1x8x128 .f32) (a8 : FVec Ideal S1x2048x1024 .f32) (R : Fin 32768) (k : Fin 1024)
    (b : Fin 2) (s : Fin 16384) (hR : R.val = b.val * 16384 + s.val) :
    refWhole a0 a1 a2 a3 a4 a5 a6 a7 a8 (ix2 R k)
      = layer (argWts a1 a2 a3 a4 a5 a6 a7 a8) (fun s' k => a0 (ix3 b (rchunk s s') k)) (rplace s) k := by
  have hb : (⟨R.val / 16384, by omega⟩ : Fin 2) = b := Fin.ext (by simp only []; omega)
  have hs : (⟨R.val % 16384, by omega⟩ : Fin 16384) = s := Fin.ext (by simp only []; omega)
  unfold refWhole
  generalize hp : refProj _ _ = p
  generalize hq : refMix _ _ _ = q
  have hr : rchunk s (rplace s) = s := Fin.ext (by simp only [rchunk, rplace]; omega)
  have ep : ∀ s j, p (ix3 b s j) = proj (rms (fun k => a0 (ix3 b s k)) (argWts a1 a2 a3 a4 a5 a6 a7 a8).g)
      (argWts a1 a2 a3 a4 a5 a6 a7 a8).w j := by
    intro s j
    rw [← hp]
    pointwise [refProj]
    simp only [refRms_apply]
    pointwise
    rfl
  clear hp
  have eq : ∀ s j, q (ix3 b s j) = mix (fun s' => vals (argWts a1 a2 a3 a4 a5 a6 a7 a8) (fun k => a0 (ix3 b (rchunk s s') k)) j)
      ((argWts a1 a2 a3 a4 a5 a6 a7 a8).ws (grp j) (rplace s)) ((argWts a1 a2 a3 a4 a5 a6 a7 a8).bs (grp j) (rplace s)) (rplace s) := by
    intro s j
    rw [← hq, refMix_apply]
    simp only [refLn_apply]
    pointwise
    simp only [vals, ← ep]
    rfl
  clear hq
  pointwise
  rw [hb, hs, refRms_apply]
  unfold layer
  refine congrArg (fun f => rms f _ k) (funext fun k => ?_)
  pointwise
  simp only [refGated_apply, ep, eq, hr]
  simp only [proj, gated, hr]
  rfl

end Cert.Proof.Sgu

end
-- ==== Proof.SguClaim.lean ====
module

public import proofs.«01_k».proof.Defs
public import proofs.«01_k».proof.Proof.SguKernel
public import proofs.«01_k».proof.Proof.SguRef
public import Idealize.ShloMosaic.Lib.Claim

/-! # The mixer kernel and its reference compute the same array -/

@[expose] public section

open Idealize.ShloMosaic Idealize.ShloMosaic.TcCoe Idealize.SL.Sem

namespace Cert.Proof.Sgu

open Cert.Kernel2Ideal Cert.Kernel2Ideal.Gen

set_option maxRecDepth 16384

variable (m : (ℓ : Loc nD τ sig) → Buf (Elt Ideal) ℓ)

/-- Where each window's block lies at a grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0, 0]
    ∧ win0_6.index t = ![0, 0]
    ∧ win0_7.index t = ![0, 0]
    ∧ win0_8.index t = ![0, 0]
    ∧ win0_9.index t = ![t.val, 0] :=
  (by decide +kernel : ∀ t : Fin grid0.N, _)

/-- The reference's result of the kernel's arguments. -/
noncomputable def want (c : Dev nD) : FVec Ideal S32768x1024 .f32 :=
  refWhole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

set_option maxHeartbeats 2000000 in
/-- The weights a grid point reads are the arguments' weights. -/
theorem wts_eq (c : Dev nD) (t : Fin cfg0.N) :
    blkWts (iblk m c 1 t) (iblk m c 2 t) (iblk m c 3 t) (iblk m c 4 t) (iblk m c 5 t) (iblk m c 6 t) (iblk m c 7 t) (iblk m c 8 t)
      = argWts (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  unfold blkWts argWts
  simp only [Wts.mk.injEq]
  refine ⟨?_, ?_, ?_, ?_, ?_, ?_, ?_, ?_⟩
  all_goals
    (repeat' (refine funext fun _ => ?_))
    blk_simp [iblk, V, idx t]
    entry_read
    pointwise
    blk_ext [idx t]

theorem rows_eq (c : Dev nD) (t : Fin cfg0.N) (r : Fin 512) (k : Fin 1024) (b : Fin 2) (s : Fin 16384)
    (h : t.val * 512 + r.val = b.val * 16384 + s.val) :
    iblk m c 0 t (ix2 r k) = m ((c : Thread nD τ).loc main_arg0) (ix3 b s k) := by
  blk_ext! [iblk, V, idx t]

theorem point (c : Dev nD) (t : Fin cfg0.N) (y) :
    out0_9 (iblk m c 0 t) (iblk m c 1 t) (iblk m c 2 t) (iblk m c 3 t) (iblk m c 4 t) (iblk m c 5 t) (iblk m c 6 t)
      (iblk m c 7 t) (iblk m c 8 t) y = want m c (((cfg0.win 9).blk t).view.emb y) := by
  obtain ⟨r, k, rfl⟩ : ∃ (r : Fin 512) (k : Fin 1024), y = ix2 r k := ⟨y 0, y 1, eq_ix2 y⟩
  have ht : t.val < 64 := t.isLt
  have hr := r.isLt
  have he : ((cfg0.win 9).blk t).view.emb (ix2 r k) = ix2 (⟨t.val * 512 + r.val, by omega⟩ : Fin 32768) k := by
    blk_ext [idx t]
  rw [he, out_apply, wts_eq]
  unfold want
  rw [refWhole_apply (b := ⟨(t.val * 512 + r.val) / 16384, by omega⟩) (s := ⟨(t.val * 512 + r.val) % 16384, by omega⟩)
    (hR := by simp only []; omega)]
  have hp : place r = rplace ⟨(t.val * 512 + r.val) % 16384, by omega⟩ := Fin.ext (by simp only [place, rplace]; omega)
  rw [hp]
  refine congrArg (fun X => layer _ X _ k) (funext fun s' => funext fun k => ?_)
  exact rows_eq m c t _ k _ _ (by simp only [chunk, rchunk]; omega)

theorem final (c : Dev nD) : (dats m 0 c).arrAt 9 cfg0.N = want m c := by
  refine (dats m 0 c).arrAt_eq_of_covers 9 _ (by decide +kernel) fun t hf y => ?_
  blk_simp; rw [after0_9]
  exact point m c t y

theorem algebraic : Cert.algebraic_Kernel2Ideal_Reference2Ideal := by
  intro m g m' g' _ hagree
  refine ⟨want m, ?_, ?_⟩
  · exact (θ_run _ _ _).mono (fun r h c => ⟨(h c).1.trans (final m c), (h c).2⟩) (Cert.Kernel2Ideal.Value.run_blocks m g)
  · refine (θ_run _ _ _).mono (fun r h c => ⟨(h c).1.trans ?_, (h c).2⟩) (Cert.Reference2Ideal.Value.run m' g')
    obtain ⟨e0, e1, e2, e3, e4, e5, e6, e7, e8⟩ := hagree c
    rw [res_eq, e0, e1, e2, e3, e4, e5, e6, e7, e8]
    rfl

end Cert.Proof.Sgu

end
-- ==== Proof.Proj.lean ====
module

public import proofs.«01_k».proof.Proof.Gen.Kernel3Ideal.Value
public import Idealize.ShloMosaic.Lib.Pointwise
public import Idealize.ShloMosaic.Lib.Tactic.WordOmega
public import Idealize.ShloMosaic.Lib.Pipeline.ValueKit

/-! # The input projection over the reals, and what one block of the kernel computes

A block is 512 rows of one sequence. Its rows are normalised and multiplied by the weight matrix's columns, 512 at a
time, and the products are stored as they are, scaled, or turned, each in its own array. -/

@[expose] public section

open Idealize.ShloMosaic

namespace Cert.Proof.Proj

open Cert.Kernel3Ideal Cert.Kernel3Ideal.Gen Idealize.ShloMosaic.TcCoe Idealize.SL.Sem
set_option maxRecDepth 16384
variable (m : (ℓ : Loc nD τ sig) → Buf (Elt Ideal) ℓ)

/-- A row divided by its root mean square, times a gain. -/
noncomputable def rms (x g : Fin 1024 → EReal) (k : Fin 1024) : EReal :=
  x k * Ideal.rsqrt (Ideal.div (∑ i, x i * x i) (Ideal.ofBits FTy.f32 1149239296#32)
    + Ideal.ofBits FTy.f32 897988541#32) * g k

/-- Row `r` of a block times column `j` of the weights. -/
noncomputable def T (h : FVec Ideal S512x1024 .bf16) (W : Vec Ideal S1024x4736 .bf16) (r : Fin 512) (j : Fin 4736) : EReal :=
  ∑ k : Fin 1024, h (ix2 r k) * W (ix2 k j)

theorem T_congr (h : FVec Ideal S512x1024 .bf16) (W : Vec Ideal S1024x4736 .bf16) {r r' : Fin 512} {j j' : Fin 4736}
    (hr : r.val = r'.val) (hj : j.val = j'.val) : T h W r j = T h W r' j' := by
  rw [Fin.ext hr, Fin.ext hj]

/-- The scale of the queries. -/
noncomputable def qs : EReal := Named.named (F := Ideal) κ "q_scale" (φ := .f32) 0x3E0293EE#32

/-- The normalised rows of a block. -/
noncomputable def hid (c : Dev nD) (t : Fin cfg0.N) : FVec Ideal S512x1024 .bf16 :=
  k0_pay3 (iblk m c 0 t) (iblk m c 1 t)

/-- The gate. -/
theorem z_blk (c : Dev nD) (t : Fin cfg0.N) (y : S1x512x1024.Idx) (r : Fin 512) (j : Fin 4736)
    (hr : r.val = (y 1).val) (hj : j.val = 3072 + (y 2).val) :
    (outsAt0 m c t).2.2.2.1 y = T (hid m c t) (iblk m c 2 t) r j := by
  unfold outsAt0 hid
  dsimp only
  frame_out
  generalize k0_pay3 (iblk m c 0 t) (iblk m c 1 t) = H
  generalize iblk m c 2 t = W
  canon_tiles x h
  all_goals (idx_vars x; open_payloads; pointwise)
  all_goals exact T_congr H W (by first | omega | (dsimp only; omega)) (by first | omega | (dsimp only; omega))

set_option maxHeartbeats 2000000 in
/-- The queries, turned. -/
theorem qt_blk (c : Dev nD) (t : Fin cfg0.N) (y : S1x8x128x512.Idx) (h : Fin 8) (d : Fin 128) (r : Fin 512) (j : Fin 4736)
    (hh : h.val = (y 1).val) (hd : d.val = (y 2).val) (hr : r.val = (y 3).val) (hj : j.val = h.val * 128 + d.val) :
    (outsAt0 m c t).2.1 y = T (hid m c t) (iblk m c 2 t) r j * qs := by
  unfold outsAt0 hid
  dsimp only
  frame_out
  unfold k0_pay7 k0_pay6 k0_pay4
  generalize k0_pay3 (iblk m c 0 t) (iblk m c 1 t) = H
  generalize iblk m c 2 t = W
  canon_tiles x e
  all_goals (idx_vars x; open_payloads; pointwise)
  all_goals exact congrArg (· * qs) (T_congr H W (by first | omega | (dsimp only; omega)) (by first | omega | (dsimp only; omega)))

/-- A one in row zero of sixteen rows, and zeros below. -/
theorem ones (n : Fin 16) : Scalar.select (IntOp.cmpi CmpIPredicate.eq (BitVec.ofNat 32 n.val) 0#32) (1 : EReal) 0
    = if n.val = 0 then 1 else 0 := by
  fin_cases n <;> rfl

set_option maxHeartbeats 2000000 in
/-- The queries and keys. -/
theorem qk_blk (c : Dev nD) (t : Fin cfg0.N) (y : S1x512x2048.Idx) (r : Fin 512) (j : Fin 4736)
    (hr : r.val = (y 1).val) (hj : j.val = (y 2).val) :
    (outsAt0 m c t).1 y = if (y 2).val < 1024 then T (hid m c t) (iblk m c 2 t) r j * qs else T (hid m c t) (iblk m c 2 t) r j := by
  unfold outsAt0 hid
  dsimp only
  frame_out
  unfold k0_pay5 k0_pay4
  generalize k0_pay3 (iblk m c 0 t) (iblk m c 1 t) = H
  generalize iblk m c 2 t = W
  canon_tiles x h
  all_goals (idx_vars x; open_payloads; pointwise)
  · exact (T_congr H W (by first | omega | (dsimp only; omega)) (by first | omega | (dsimp only; omega))).trans (if_neg (by omega)).symm
  · exact (T_congr H W (by first | omega | (dsimp only; omega)) (by first | omega | (dsimp only; omega))).trans (if_neg (by omega)).symm
  · exact (congrArg (· * qs) (T_congr H W (by first | omega | (dsimp only; omega)) (by first | omega | (dsimp only; omega)))).trans (if_pos (by omega)).symm
  · exact (congrArg (· * qs) (T_congr H W (by first | omega | (dsimp only; omega)) (by first | omega | (dsimp only; omega)))).trans (if_pos (by omega)).symm

/-- The values, turned, with a row of ones below and rows of zeros. -/
theorem vt_blk (c : Dev nD) (t : Fin cfg0.N) (y : S1x8x144x512.Idx) (h : Fin 8) (d : Fin 144) (r : Fin 512) (j : Fin 4736)
    (hh : h.val = (y 1).val) (hd : d.val = (y 2).val) (hr : r.val = (y 3).val)
    (hj : d.val < 128 → j.val = 2048 + h.val * 128 + d.val) :
    (outsAt0 m c t).2.2.1 y = if d.val < 128 then T (hid m c t) (iblk m c 2 t) r j else if d.val = 128 then 1 else 0 := by
  unfold outsAt0 hid
  dsimp only
  frame_out
  generalize k0_pay3 (iblk m c 0 t) (iblk m c 1 t) = H
  generalize iblk m c 2 t = W
  canon_tiles x e using View.cover_of_tiledBy _ ![1, 1, 16, 512] (by sl_kernel_rfl) _
  all_goals (idx_vars x; open_payloads; pointwise)
  all_goals
    by_cases hd' : d.val < 128
    · have hj := hj hd'
      rw [if_pos hd']
      first
        | (exfalso; omega)
        | exact T_congr H W (by first | omega | (dsimp only; omega)) (by first | omega | (dsimp only; omega))
    · rw [if_neg hd']
      first
        | (exfalso; omega)
        | exact (ones x2).trans (if_congr (by omega) rfl rfl)

/-- The indexer's queries, turned. -/
theorem qit_blk (c : Dev nD) (t : Fin cfg0.N) (y : S1x8x64x512.Idx) (h : Fin 8) (d : Fin 64) (r : Fin 512) (j : Fin 4736)
    (hh : h.val = (y 1).val) (hd : d.val = (y 2).val) (hr : r.val = (y 3).val) (hj : j.val = 4096 + h.val * 64 + d.val) :
    (outsAt0 m c t).2.2.2.2.1 y = T (hid m c t) (iblk m c 2 t) r j := by
  unfold outsAt0 hid
  dsimp only
  frame_out
  generalize k0_pay3 (iblk m c 0 t) (iblk m c 1 t) = H
  generalize iblk m c 2 t = W
  canon_tiles x e
  all_goals (idx_vars x; open_payloads; pointwise)
  all_goals exact T_congr H W (by first | omega | (dsimp only; omega)) (by first | omega | (dsimp only; omega))

/-- The indexer's keys. -/
theorem ki_blk (c : Dev nD) (t : Fin cfg0.N) (y : S1x512x64.Idx) (r : Fin 512) (j : Fin 4736)
    (hr : r.val = (y 1).val) (hj : j.val = 4608 + (y 2).val) :
    (outsAt0 m c t).2.2.2.2.2.1 y = T (hid m c t) (iblk m c 2 t) r j := by
  unfold outsAt0 hid
  dsimp only
  frame_out
  generalize k0_pay3 (iblk m c 0 t) (iblk m c 1 t) = H
  generalize iblk m c 2 t = W
  idx_vars y
  open_payloads
  pointwise
  exact T_congr H W (by first | omega | (dsimp only; omega)) (by first | omega | (dsimp only; omega))

/-- The indexer's head weights, turned. -/
theorem wi_blk (c : Dev nD) (t : Fin cfg0.N) (y : S1x8x512.Idx) (r : Fin 512) (j : Fin 4736)
    (hr : r.val = (y 2).val) (hj : j.val = 4672 + (y 1).val) :
    (outsAt0 m c t).2.2.2.2.2.2 y = T (hid m c t) (iblk m c 2 t) r j := by
  unfold outsAt0 hid
  dsimp only
  frame_out
  generalize k0_pay3 (iblk m c 0 t) (iblk m c 1 t) = H
  generalize iblk m c 2 t = W
  idx_vars y
  open_payloads
  pointwise
  exact T_congr H W (by first | omega | (dsimp only; omega)) (by first | omega | (dsimp only; omega))

theorem hid_apply (c : Dev nD) (t : Fin cfg0.N) (r : Fin 512) (k : Fin 1024) :
    hid m c t (ix2 r k) = rms (fun k => iblk m c 0 t (ix3 0 r k)) (fun k => iblk m c 1 t (ix2 0 k)) k := by
  unfold hid
  generalize iblk m c 0 t = X
  generalize iblk m c 1 t = G
  open_payloads
  pointwise
  rfl

end Cert.Proof.Proj

end
-- ==== Proof.ProjRef.lean ====
module

public import proofs.«01_k».proof.Proof.Proj
public import proofs.«01_k».proof.Proof.Gen.Reference3Ideal.Run

/-! # The reference's projections, read at an index -/

@[expose] public section

open Idealize.ShloMosaic

namespace Cert.Proof.Proj

open Cert.Reference3Ideal Cert.Reference3Ideal.Gen Idealize.ShloMosaic.TcCoe Idealize.SL.Sem

set_option maxRecDepth 16384

/-- The normalised row times a column of the weights. -/
noncomputable def pr (x : FVec Ideal S2x16384x1024 .f32) (g : FVec Ideal S2x1024 .f32) (w : FVec Ideal S1x1024x4680 .f32)
    (b : Fin 2) (s : Fin 16384) (j : Fin 4680) : EReal :=
  ∑ k : Fin 1024, rms (fun k => x (ix3 b s k)) (fun k => g (ix2 0 k)) k * w (ix3 0 k j)

theorem pr_congr (x : FVec Ideal S2x16384x1024 .f32) (g : FVec Ideal S2x1024 .f32) (w : FVec Ideal S1x1024x4680 .f32)
    {b b' : Fin 2} {s s' : Fin 16384} {j j' : Fin 4680} (hb : b.val = b'.val) (hs : s.val = s'.val) (hj : j.val = j'.val) :
    pr x g w b s j = pr x g w b' s' j' := by
  rw [Fin.ext hb, Fin.ext hs, Fin.ext hj]

/-- The mean square norm of every row. -/
noncomputable def refRms (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf
    (broadcastInDim S2x16384x1 ![0, 1] bcast_S2x16384_S2x16384x1_0_1
      (Host.reduceAdd (mulf x x) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

theorem refRms_apply (x : FVec Ideal S2x16384x1024 .f32) (g : FVec Ideal S1024 .f32) (b : Fin 2) (s : Fin 16384)
    (k : Fin 1024) : refRms x g (ix3 b s k) = rms (fun k => x (ix3 b s k)) (fun k => g (ix1 k)) k := by
  pointwise [refRms]
  rfl

/-- All the products. -/
noncomputable def refAll (x : FVec Ideal S2x16384x1024 .f32) (g : FVec Ideal S2x1024 .f32) (w : FVec Ideal S1x1024x4680 .f32) :
    FVec Ideal S2x16384x4680 .f32 :=
  Host.dotGeneral dot_S2x16384x1024_S1024x4680_S2x16384x4680_2_0_01_1_n_n none
    (refRms x (shapeCast _ (extractStridedSlice S1x1024 ![0, 0] g slices_S2x1024_S1x1024_0_0) shapeCasts_S1x1024_S1024))
    (shapeCast _ w shapeCasts_S1x1024x4680_S1024x4680)

theorem refAll_apply (x : FVec Ideal S2x16384x1024 .f32) (g : FVec Ideal S2x1024 .f32) (w : FVec Ideal S1x1024x4680 .f32)
    (b : Fin 2) (s : Fin 16384) (j : Fin 4680) : refAll x g w (ix3 b s j) = pr x g w b s j := by
  have e := fun k => refRms_apply x (shapeCast _ (extractStridedSlice S1x1024 ![0, 0] g slices_S2x1024_S1x1024_0_0) shapeCasts_S1x1024_S1024) b s k
  unfold refAll pr
  generalize refRms x _ = h at *
  pointwise
  simp only [e]
  refine Finset.sum_congr rfl fun k _ => ?_
  refine congrArg (· * _) ?_
  refine congrArg (fun g => rms _ g k) (funext fun k => ?_)
  pointwise

/-- The two constants that scale the queries, as one. -/
theorem scale_eq : Ideal.ofBits .f32 0x3DB504F3#32 * Ideal.ofBits .f32 0x3FB8AA3B#32 = qs := by
  have h : qs = ((143571859112449 / 1125899906842624 : ℝ) : EReal) := IdealRules.named_const.ideal_named_scalar _ _ _ _ rfl
  have h1 : Ideal.ofBits .f32 0x3DB504F3#32 = ((11863283 / 134217728 : ℝ) : EReal) := by
    simp [Ideal.ofBits, Ideal.ieee, -EReal.coe_mul]; norm_num
  have h2 : Ideal.ofBits .f32 0x3FB8AA3B#32 = ((12102203 / 8388608 : ℝ) : EReal) := by
    simp [Ideal.ofBits, Ideal.ieee, -EReal.coe_mul]; norm_num
  rw [h, h1, h2, ← EReal.coe_mul]
  congr 1
  norm_num

/-- The queries, scaled. -/
noncomputable def refQ (p : FVec Ideal S2x16384x4680 .f32) : FVec Ideal S2x16384x1024 .f32 :=
  mulf (mulf (extractStridedSlice S2x16384x1024 ![0, 0, 0] p slices_S2x16384x4680_S2x16384x1024_0_0_0)
    (broadcastInDim S2x16384x1024 ![] bcast_S_S2x16384x1024 (constant S_ .f32 0x3DB504F3#32)))
    (broadcastInDim S2x16384x1024 ![] bcast_S_S2x16384x1024 (constant S_ .f32 0x3FB8AA3B#32))

theorem refQ_apply (p : FVec Ideal S2x16384x4680 .f32) (b : Fin 2) (s : Fin 16384) (k : Fin 1024) :
    refQ p (ix3 b s k) = p (ix3 b s ⟨k.val, by omega⟩) * qs := by
  rw [← scale_eq, ← mul_assoc]
  pointwise [refQ]

/-- The queries and keys, side by side. -/
noncomputable def refQk (p : FVec Ideal S2x16384x4680 .f32) : FVec Ideal S2x16384x2048 .bf16 :=
  truncf .bf16 (concatenate S2x16384x2048 2 [⟨S2x16384x1024, refQ p⟩,
    ⟨S2x16384x1024, (extractStridedSlice S2x16384x1024 ![0, 0, 1024] p slices_S2x16384x4680_S2x16384x1024_0_0_1024)⟩]
    concatenates_S2x16384x1024_S2x16384x1024_S2x16384x2048_d2) bitsLt_bf16_f32

theorem refQk_apply (p : FVec Ideal S2x16384x4680 .f32) (b : Fin 2) (s : Fin 16384) (k : Fin 2048) :
    refQk p (ix3 b s k) = if k.val < 1024 then p (ix3 b s ⟨k.val, by omega⟩) * qs else p (ix3 b s ⟨k.val, by omega⟩) := by
  have e := fun k => refQ_apply p b s k
  unfold refQk
  generalize refQ p = q at *
  pointwise
  by_cases h : k.val < 1024
  · rw [dif_pos h, if_pos h]
    exact e _
  · rw [dif_neg h, if_neg h]
    exact congrArg (fun j => p (ix3 b s j)) (Fin.ext (by simp only []; omega))

/-- The queries, turned. -/
noncomputable def refQt (p : FVec Ideal S2x16384x4680 .f32) : FVec Ideal S2x8x128x16384 .bf16 :=
  truncf .bf16 (transpose S2x8x128x16384 [0, 2, 3, 1] (shapeCast _ (refQ p) shapeCasts_S2x16384x1024_S2x16384x8x128)
    transposes_S2x16384x8x128_S2x8x128x16384_0_2_3_1) bitsLt_bf16_f32

theorem refQt_apply (p : FVec Ideal S2x16384x4680 .f32) (b : Fin 2) (h : Fin 8) (d : Fin 128) (s : Fin 16384) :
    refQt p (ix4 b h d s) = p (ix3 b s ⟨h.val * 128 + d.val, by omega⟩) * qs := by
  have e := fun k => refQ_apply p b s k
  unfold refQt
  generalize refQ p = q at *
  pointwise
  simp only [e]

/-- The values, turned, over a row of ones and rows of zeros. -/
noncomputable def refVt (p : FVec Ideal S2x16384x4680 .f32) : FVec Ideal S2x8x144x16384 .bf16 :=
  truncf .bf16 (concatenate S2x8x144x16384 2 [⟨S2x8x128x16384, transpose S2x8x128x16384 [0, 2, 3, 1]
      (shapeCast _ (extractStridedSlice S2x16384x1024 ![0, 0, 2048] p slices_S2x16384x4680_S2x16384x1024_0_0_2048)
        shapeCasts_S2x16384x1024_S2x16384x8x128) transposes_S2x16384x8x128_S2x8x128x16384_0_2_3_1⟩,
    ⟨S2x8x1x16384, broadcastInDim S2x8x1x16384 ![] bcast_S_S2x8x1x16384 (constant S_ .f32 0x3F800000#32)⟩,
    ⟨S2x8x15x16384, broadcastInDim S2x8x15x16384 ![] bcast_S_S2x8x15x16384 (constant S_ .f32 0x00000000#32)⟩]
    concatenates_S2x8x128x16384_S2x8x1x16384_S2x8x15x16384_S2x8x144x16384_d2) bitsLt_bf16_f32

theorem refVt_apply (p : FVec Ideal S2x16384x4680 .f32) (b : Fin 2) (h : Fin 8) (d : Fin 144) (s : Fin 16384) :
    refVt p (ix4 b h d s) = if hd : d.val < 128 then p (ix3 b s ⟨2048 + h.val * 128 + d.val, by omega⟩)
      else if d.val = 128 then 1 else 0 := by
  unfold refVt
  pointwise
  by_cases hd : d.val < 128
  · rw [dif_pos hd, dif_pos hd]
    exact congrArg (fun j => p (ix3 b s j)) (Fin.ext (by simp only []; omega))
  · rw [dif_neg hd, dif_neg hd]
    by_cases h1 : d.val = 128
    · rw [dif_pos (by omega), if_pos h1]
    · rw [dif_neg (by omega), if_neg h1]

/-- The gate. -/
noncomputable def refZ (p : FVec Ideal S2x16384x4680 .f32) : FVec Ideal S2x16384x1024 .f32 :=
  extractStridedSlice S2x16384x1024 ![0, 0, 3072] p slices_S2x16384x4680_S2x16384x1024_0_0_3072

theorem refZ_apply (p : FVec Ideal S2x16384x4680 .f32) (b : Fin 2) (s : Fin 16384) (k : Fin 1024) :
    refZ p (ix3 b s k) = p (ix3 b s ⟨3072 + k.val, by omega⟩) := by
  pointwise [refZ]

/-- The indexer's queries, turned. -/
noncomputable def refQit (p : FVec Ideal S2x16384x4680 .f32) : FVec Ideal S2x8x64x16384 .bf16 :=
  truncf .bf16 (transpose S2x8x64x16384 [0, 2, 3, 1] (shapeCast _
    (extractStridedSlice S2x16384x512 ![0, 0, 4096] p slices_S2x16384x4680_S2x16384x512_0_0_4096)
    shapeCasts_S2x16384x512_S2x16384x8x64) transposes_S2x16384x8x64_S2x8x64x16384_0_2_3_1) bitsLt_bf16_f32

theorem refQit_apply (p : FVec Ideal S2x16384x4680 .f32) (b : Fin 2) (h : Fin 8) (d : Fin 64) (s : Fin 16384) :
    refQit p (ix4 b h d s) = p (ix3 b s ⟨4096 + (h.val * 64 + d.val), by omega⟩) := by
  pointwise [refQit]

/-- The indexer's keys. -/
noncomputable def refKi (p : FVec Ideal S2x16384x4680 .f32) : FVec Ideal S2x16384x64 .bf16 :=
  truncf .bf16 (extractStridedSlice S2x16384x64 ![0, 0, 4608] p slices_S2x16384x4680_S2x16384x64_0_0_4608) bitsLt_bf16_f32

theorem refKi_apply (p : FVec Ideal S2x16384x4680 .f32) (b : Fin 2) (s : Fin 16384) (k : Fin 64) :
    refKi p (ix3 b s k) = p (ix3 b s ⟨4608 + k.val, by omega⟩) := by
  pointwise [refKi]

/-- The indexer's head weights, turned. -/
noncomputable def refWi (p : FVec Ideal S2x16384x4680 .f32) : FVec Ideal S2x8x16384 .f32 :=
  transpose S2x8x16384 [0, 2, 1] (extractStridedSlice S2x16384x8 ![0, 0, 4672] p slices_S2x16384x4680_S2x16384x8_0_0_4672)
    transposes_S2x16384x8_S2x8x16384_0_2_1

theorem refWi_apply (p : FVec Ideal S2x16384x4680 .f32) (b : Fin 2) (h : Fin 8) (s : Fin 16384) :
    refWi p (ix3 b h s) = p (ix3 b s ⟨4672 + h.val, by omega⟩) := by
  pointwise [refWi]

end Cert.Proof.Proj

end
-- ==== Proof.ProjClaim.lean ====
module

public import proofs.«01_k».proof.Defs
public import proofs.«01_k».proof.Proof.ProjRef
public import Idealize.ShloMosaic.Lib.Claim

/-! # The projection kernel and its reference compute the same seven arrays -/

@[expose] public section

open Idealize.ShloMosaic Idealize.ShloMosaic.TcCoe Idealize.SL.Sem

namespace Cert.Proof.Proj

open Cert.Kernel3Ideal Cert.Kernel3Ideal.Gen

set_option maxRecDepth 16384

variable (m : (ℓ : Loc nD τ sig) → Buf (Elt Ideal) ℓ)

/-- Where each window's block lies at a grid point. -/
theorem idx : ∀ t : Fin cfg0.N, win0_0.index t = ![t.val / 32, t.val % 32, 0]
    ∧ win0_1.index t = ![0, 0]
    ∧ win0_2.index t = ![0, 0]
    ∧ win0_3.index t = ![t.val / 32, t.val % 32, 0]
    ∧ win0_4.index t = ![t.val / 32, 0, 0, t.val % 32]
    ∧ win0_5.index t = ![t.val / 32, 0, 0, t.val % 32]
    ∧ win0_6.index t = ![t.val / 32, t.val % 32, 0]
    ∧ win0_7.index t = ![t.val / 32, 0, 0, t.val % 32]
    ∧ win0_8.index t = ![t.val / 32, t.val % 32, 0]
    ∧ win0_9.index t = ![t.val / 32, 0, t.val % 32] :=
  (by decide +kernel : ∀ t : Fin grid0.N, _)

/-- The product the reference takes, of the kernel's arguments. -/
noncomputable def all (c : Dev nD) : FVec Ideal Cert.Reference3Ideal.S2x16384x4680 .f32 :=
  refAll (m ((c : Thread nD τ).loc main_arg0)) (m ((c : Thread nD τ).loc main_arg1)) (m ((c : Thread nD τ).loc main_arg2))

theorem rows_eq (c : Dev nD) (t : Fin cfg0.N) (r : Fin 512) (k : Fin 1024) (b : Fin 2) (s : Fin 16384)
    (hb : b.val = t.val / 32) (hs : s.val = t.val % 32 * 512 + r.val) :
    iblk m c 0 t (ix3 0 r k) = m ((c : Thread nD τ).loc main_arg0) (ix3 b s k) := by
  blk_ext! [iblk, V, idx t]

set_option maxHeartbeats 2000000 in
theorem gain_eq (c : Dev nD) (t : Fin cfg0.N) (k : Fin 1024) :
    iblk m c 1 t (ix2 0 k) = m ((c : Thread nD τ).loc main_arg1) (ix2 0 k) := by
  blk_simp [iblk, V, idx t]
  dsimp only [hostOps0, hostOps0_1, hostOps0_2, List.flatten_cons, List.flatten_nil, List.cons_append, List.nil_append]
  entry_read
  pointwise
  blk_ext [idx t]

/-- The weights padded with zero columns, as the call is given them. -/
noncomputable def padW (w : FVec Ideal S1x1024x4680 .f32) : FVec Ideal S1024x4736 .bf16 :=
  truncf .bf16 (pad S1024x4736 ![0, 0] ![0, 56] ![0, 0] (shapeCast S1024x4680 w shapeCasts_S1x1024x4680_S1024x4680)
    (sitofp .f32 (constantI S_ 32 0#32)) pads_S1024x4680_S1024x4736_000_0560 h_S_) bitsLt_bf16_f32

theorem padW_apply (w : FVec Ideal S1x1024x4680 .f32) (k : Fin 1024) (j : Fin 4736) (hj : j.val < 4680) :
    padW w (ix2 k j) = w (ix3 0 k ⟨j.val, hj⟩) := by
  pointwise [padW]
  exact dif_pos hj

set_option maxHeartbeats 2000000 in
theorem wt_eq (c : Dev nD) (t : Fin cfg0.N) (k : Fin 1024) (j : Fin 4736) (hj : j.val < 4680) :
    iblk m c 2 t (ix2 k j) = m ((c : Thread nD τ).loc main_arg2) (ix3 0 k ⟨j.val, hj⟩) := by
  have he : ((cfg0.win 2).blk t).view.emb (ix2 k j) = ix2 k j := by
    blk_ext [idx t]
  have hv : V m c main_v2 = padW (m ((c : Thread nD τ).loc main_arg2)) := by
    unfold V
    dsimp only [hostOps0, hostOps0_1, hostOps0_2, List.flatten_cons, List.flatten_nil, List.cons_append, List.nil_append]
    entry_read
    rfl
  refine Eq.trans ?_ (padW_apply _ k j hj)
  rw [← hv]
  exact congrArg (V m c main_v2) he

/-- A block's product is the reference's, at the block's rows. -/
theorem T_eq (c : Dev nD) (t : Fin cfg0.N) (r : Fin 512) (j : Fin 4736) (b : Fin 2) (s : Fin 16384) (j' : Fin 4680)
    (hb : b.val = t.val / 32) (hs : s.val = t.val % 32 * 512 + r.val) (hj : j.val = j'.val) :
    T (hid m c t) (iblk m c 2 t) r j = all m c (ix3 b s j') := by
  unfold all
  rw [refAll_apply]
  unfold T pr
  refine Finset.sum_congr rfl fun k _ => ?_
  have hw := wt_eq m c t k j (by omega)
  rw [hid_apply, hw, show (⟨j.val, by omega⟩ : Fin 4680) = j' from Fin.ext hj]
  simp only [rows_eq m c t r _ b s hb hs, gain_eq]

set_option maxHeartbeats 2000000 in
theorem final_z (c : Dev nD) : (dats m 0 c).arrAt 6 cfg0.N = refZ (all m c) := by
  refine (dats m 0 c).arrAt_eq_of_covers 6 _ (by decide +kernel) fun t hf y => ?_
  blk_simp; rw [after0_6]
  obtain ⟨a, r, k, rfl⟩ : ∃ (a : Fin 1) (r : Fin 512) (k : Fin 1024), y = ix3 a r k := ⟨y 0, y 1, y 2, eq_ix3 y⟩
  have ht : t.val < 64 := t.isLt
  have ha := a.isLt
  have hr := r.isLt
  have hk := k.isLt
  have he : ((cfg0.win 6).blk t).view.emb (ix3 a r k) = ix3 (⟨t.val / 32, by omega⟩ : Fin 2) (⟨t.val % 32 * 512 + r.val, by omega⟩ : Fin 16384) k := by
    blk_ext [idx t]
  rw [he, refZ_apply]
  exact (z_blk m c t _ r ⟨3072 + k.val, by omega⟩ rfl (by rfl)).trans (T_eq m c t r ⟨3072 + k.val, by omega⟩ ⟨t.val / 32, by omega⟩ ⟨t.val % 32 * 512 + r.val, by omega⟩ ⟨3072 + k.val, by omega⟩ rfl rfl rfl)

set_option maxHeartbeats 2000000 in
theorem final_qt (c : Dev nD) : (dats m 0 c).arrAt 4 cfg0.N = refQt (all m c) := by
  refine (dats m 0 c).arrAt_eq_of_covers 4 _ (by decide +kernel) fun t hf y => ?_
  blk_simp; rw [after0_4]
  obtain ⟨a, h, d, r, rfl⟩ : ∃ (a : Fin 1) (h : Fin 8) (d : Fin 128) (r : Fin 512), y = ix4 a h d r := ⟨y 0, y 1, y 2, y 3, eq_ix4 y⟩
  have ht : t.val < 64 := t.isLt
  have ha := a.isLt
  have hh := h.isLt
  have hd := d.isLt
  have hr := r.isLt
  have he : ((cfg0.win 4).blk t).view.emb (ix4 a h d r) = ix4 (⟨t.val / 32, by omega⟩ : Fin 2) h d (⟨t.val % 32 * 512 + r.val, by omega⟩ : Fin 16384) := by
    blk_ext [idx t]
  rw [he, refQt_apply]
  exact (qt_blk m c t _ h d r ⟨h.val * 128 + d.val, by omega⟩ rfl rfl rfl rfl).trans (congrArg (· * qs) (T_eq m c t r ⟨h.val * 128 + d.val, by omega⟩ ⟨t.val / 32, by omega⟩ ⟨t.val % 32 * 512 + r.val, by omega⟩ ⟨h.val * 128 + d.val, by omega⟩ rfl rfl rfl))

set_option maxHeartbeats 2000000 in
theorem final_qk (c : Dev nD) : (dats m 0 c).arrAt 3 cfg0.N = refQk (all m c) := by
  refine (dats m 0 c).arrAt_eq_of_covers 3 _ (by decide +kernel) fun t hf y => ?_
  blk_simp; rw [after0_3]
  obtain ⟨a, r, k, rfl⟩ : ∃ (a : Fin 1) (r : Fin 512) (k : Fin 2048), y = ix3 a r k := ⟨y 0, y 1, y 2, eq_ix3 y⟩
  have ht : t.val < 64 := t.isLt
  have ha := a.isLt
  have hr := r.isLt
  have hk := k.isLt
  have he : ((cfg0.win 3).blk t).view.emb (ix3 a r k) = ix3 (⟨t.val / 32, by omega⟩ : Fin 2) (⟨t.val % 32 * 512 + r.val, by omega⟩ : Fin 16384) k := by
    blk_ext [idx t]
  rw [he, refQk_apply]
  refine (qk_blk m c t _ r ⟨k.val, by omega⟩ rfl rfl).trans ?_
  rw [T_eq m c t r ⟨k.val, by omega⟩ ⟨t.val / 32, by omega⟩ ⟨t.val % 32 * 512 + r.val, by omega⟩ ⟨k.val, by omega⟩ rfl rfl rfl]
  rfl

set_option maxHeartbeats 2000000 in
theorem final_vt (c : Dev nD) : (dats m 0 c).arrAt 5 cfg0.N = refVt (all m c) := by
  refine (dats m 0 c).arrAt_eq_of_covers 5 _ (by decide +kernel) fun t hf y => ?_
  blk_simp; rw [after0_5]
  obtain ⟨a, h, d, r, rfl⟩ : ∃ (a : Fin 1) (h : Fin 8) (d : Fin 144) (r : Fin 512), y = ix4 a h d r := ⟨y 0, y 1, y 2, y 3, eq_ix4 y⟩
  have ht : t.val < 64 := t.isLt
  have ha := a.isLt
  have hh := h.isLt
  have hd := d.isLt
  have hr := r.isLt
  have he : ((cfg0.win 5).blk t).view.emb (ix4 a h d r) = ix4 (⟨t.val / 32, by omega⟩ : Fin 2) h d (⟨t.val % 32 * 512 + r.val, by omega⟩ : Fin 16384) := by
    blk_ext [idx t]
  rw [he, refVt_apply]
  by_cases hd' : d.val < 128
  · refine (vt_blk m c t _ h d r ⟨2048 + h.val * 128 + d.val, by omega⟩ rfl rfl rfl fun _ => rfl).trans ?_
    rw [dif_pos hd']
    exact (if_pos hd').trans (T_eq m c t r ⟨2048 + h.val * 128 + d.val, by omega⟩ ⟨t.val / 32, by omega⟩ ⟨t.val % 32 * 512 + r.val, by omega⟩ ⟨2048 + h.val * 128 + d.val, by omega⟩ rfl rfl rfl)
  · refine (vt_blk m c t _ h d r 0 rfl rfl rfl fun h' => absurd h' hd').trans ?_
    rw [dif_neg hd']
    exact if_neg hd'

set_option maxHeartbeats 2000000 in
theorem final_qit (c : Dev nD) : (dats m 0 c).arrAt 7 cfg0.N = refQit (all m c) := by
  refine (dats m 0 c).arrAt_eq_of_covers 7 _ (by decide +kernel) fun t hf y => ?_
  blk_simp; rw [after0_7]
  obtain ⟨a, h, d, r, rfl⟩ : ∃ (a : Fin 1) (h : Fin 8) (d : Fin 64) (r : Fin 512), y = ix4 a h d r := ⟨y 0, y 1, y 2, y 3, eq_ix4 y⟩
  have ht : t.val < 64 := t.isLt
  have ha := a.isLt
  have hh := h.isLt
  have hd := d.isLt
  have hr := r.isLt
  have he : ((cfg0.win 7).blk t).view.emb (ix4 a h d r) = ix4 (⟨t.val / 32, by omega⟩ : Fin 2) h d (⟨t.val % 32 * 512 + r.val, by omega⟩ : Fin 16384) := by
    blk_ext [idx t]
  rw [he, refQit_apply]
  exact (qit_blk m c t _ h d r ⟨4096 + h.val * 64 + d.val, by omega⟩ rfl rfl rfl rfl).trans (T_eq m c t r ⟨4096 + h.val * 64 + d.val, by omega⟩ ⟨t.val / 32, by omega⟩ ⟨t.val % 32 * 512 + r.val, by omega⟩ ⟨4096 + (h.val * 64 + d.val), by omega⟩ rfl rfl
    (by simp only []; omega))

set_option maxHeartbeats 2000000 in
theorem final_ki (c : Dev nD) : (dats m 0 c).arrAt 8 cfg0.N = refKi (all m c) := by
  refine (dats m 0 c).arrAt_eq_of_covers 8 _ (by decide +kernel) fun t hf y => ?_
  blk_simp; rw [after0_8]
  obtain ⟨a, r, k, rfl⟩ : ∃ (a : Fin 1) (r : Fin 512) (k : Fin 64), y = ix3 a r k := ⟨y 0, y 1, y 2, eq_ix3 y⟩
  have ht : t.val < 64 := t.isLt
  have ha := a.isLt
  have hr := r.isLt
  have hk := k.isLt
  have he : ((cfg0.win 8).blk t).view.emb (ix3 a r k) = ix3 (⟨t.val / 32, by omega⟩ : Fin 2) (⟨t.val % 32 * 512 + r.val, by omega⟩ : Fin 16384) k := by
    blk_ext [idx t]
  rw [he, refKi_apply]
  exact (ki_blk m c t _ r ⟨4608 + k.val, by omega⟩ rfl (by rfl)).trans (T_eq m c t r ⟨4608 + k.val, by omega⟩ ⟨t.val / 32, by omega⟩ ⟨t.val % 32 * 512 + r.val, by omega⟩ ⟨4608 + k.val, by omega⟩ rfl rfl rfl)

set_option maxHeartbeats 2000000 in
theorem final_wi (c : Dev nD) : (dats m 0 c).arrAt 9 cfg0.N = refWi (all m c) := by
  refine (dats m 0 c).arrAt_eq_of_covers 9 _ (by decide +kernel) fun t hf y => ?_
  blk_simp; rw [after0_9]
  obtain ⟨a, h, r, rfl⟩ : ∃ (a : Fin 1) (h : Fin 8) (r : Fin 512), y = ix3 a h r := ⟨y 0, y 1, y 2, eq_ix3 y⟩
  have ht : t.val < 64 := t.isLt
  have ha := a.isLt
  have hh := h.isLt
  have hr := r.isLt
  have he : ((cfg0.win 9).blk t).view.emb (ix3 a h r) = ix3 (⟨t.val / 32, by omega⟩ : Fin 2) h (⟨t.val % 32 * 512 + r.val, by omega⟩ : Fin 16384) := by
    blk_ext [idx t]
  rw [he, refWi_apply]
  exact (wi_blk m c t _ r ⟨4672 + h.val, by omega⟩ rfl (by rfl)).trans (T_eq m c t r ⟨4672 + h.val, by omega⟩ ⟨t.val / 32, by omega⟩ ⟨t.val % 32 * 512 + r.val, by omega⟩ ⟨4672 + h.val, by omega⟩ rfl rfl rfl)

theorem algebraic : Cert.algebraic_Kernel3Ideal_Reference3Ideal := by
  intro m g m' g' _ hagree
  refine ⟨fun c => refQk (all m c), fun c => refQt (all m c), fun c => refVt (all m c), fun c => refZ (all m c), fun c => refQit (all m c), fun c => refKi (all m c), fun c => refWi (all m c), ?_, ?_⟩
  · refine (θ_run _ _ _).mono (fun r h c => ?_) (Cert.Kernel3Ideal.Value.run_blocks m g)
    have h := h c
    exact ⟨h.1.trans (final_qk m c), h.2.1.trans (final_qt m c), h.2.2.1.trans (final_vt m c), h.2.2.2.1.trans (final_z m c), h.2.2.2.2.1.trans (final_qit m c), h.2.2.2.2.2.1.trans (final_ki m c), h.2.2.2.2.2.2.1.trans (final_wi m c), h.2.2.2.2.2.2.2⟩
  · refine (θ_run _ _ _).mono (fun r h c => ?_) (Cert.Reference3Ideal.Value.run m' g')
    have h := h c
    obtain ⟨e0, e1, e2⟩ := hagree c
    have e : refAll (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = all m c := by
      rw [e0, e1, e2]; rfl
    exact ⟨h.1.trans (congrArg refQk e), h.2.1.trans (congrArg refQt e), h.2.2.1.trans (congrArg refVt e), h.2.2.2.1.trans (congrArg refZ e), h.2.2.2.2.1.trans (congrArg refQit e), h.2.2.2.2.2.1.trans (congrArg refKi e), h.2.2.2.2.2.2.1.trans (congrArg refWi e), h.2.2.2.2.2.2.2⟩

theorem preserves : Cert.preserves_Kernel3_Kernel3Ideal :=
  IdealRules.named_const.statement Cert.Kernel3Ideal.κ "q_scale" .f32 0x3E0293EE#32
    ((143571859112449 / 1125899906842624 : ℝ) : EReal) rfl

end Cert.Proof.Proj

end
-- ==== Proof.lean ====
/-
  The proof of `Cert.Claim`.

  The indexer call keeps its arguments, runs without a fault, and ends with every semaphore counter at zero
  (`Proof.Frame`), and the words it writes for the key tiles after a query's tile are zero (`Proof.LaterClaim`). The
  mixer call and the projection call keep their arguments and run without a fault too, and over the reals their arrays
  are their references' (`Proof.SguClaim`, `Proof.ProjClaim`).
-/
module

public import proofs.«01_k».proof.Defs
public import proofs.«01_k».proof.Proof.Gen.Kernel
public import proofs.«01_k».proof.Proof.Frame
public import proofs.«01_k».proof.Proof.LaterClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.SguClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.ProjClaim
public import Idealize.ShloMosaic.Lib.Claim

@[expose] public section

noncomputable section

open Idealize.ShloMosaic Idealize.SL.Sem

namespace Cert.Proof

/-- The mixer's reference runs without a fault, keeps its arguments, and declares no semaphore. -/
theorem refFrame2 : Cert.quiescent_Reference2Ideal := by
  intro m ρ _
  exact (θ_run _ _ _).mono (fun r h => ⟨fun c => (h c).2, sem_eq_zero_of_no_sems (by decide) r.2⟩)
    (Cert.Reference2Ideal.Value.run m ρ)

/-- The projection's reference runs without a fault, keeps its arguments, and declares no semaphore. -/
theorem refFrame3 : Cert.quiescent_Reference3Ideal := by
  intro m ρ _
  exact (θ_run _ _ _).mono (fun r h => ⟨fun c => (h c).2.2.2.2.2.2.2, sem_eq_zero_of_no_sems (by decide) r.2⟩)
    (Cert.Reference3Ideal.Value.run m ρ)

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Proof.Kernel.postFacts,
    fun m ρ _ => Cert.Proof.Kernel.frame m ρ,
    fun m ρ _ => Cert.Kernel2.Gen.frame m ρ, fun m ρ _ => Cert.Kernel2Ideal.Gen.frame m ρ, refFrame2,
    fun m ρ _ => Cert.Kernel3.Gen.frame m ρ, fun m ρ _ => Cert.Kernel3Ideal.Gen.frame m ρ, refFrame3,
    Cert.Proof.Kernel.later_tiles_empty,
    trivial, Cert.Proof.Sgu.algebraic, Cert.Proof.Proj.preserves, Cert.Proof.Proj.algebraic⟩

end Cert.Proof

end
